-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mix [hPre_finite_mix : Cert.Pre_finite_mix.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mix [hPre_finite_mix : Cert.Pre_finite_mix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ffn [hPre_finite_ffn : Cert.Pre_finite_ffn.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ffn [hPre_finite_ffn : Cert.Pre_finite_ffn.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_ffnf [hPre_finite_ffnf : Cert.Pre_finite_ffnf.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_ffnf.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_ffnf [hPre_finite_ffnf : Cert.Pre_finite_ffnf.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_ffnf.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_dbias [hPre_finite_dbias : Cert.Pre_finite_dbias.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_dbias.fn (F := Ideal) (m ((c.tc : Thread Cert.Kernel23Ideal.nD Cert.Kernel23Ideal.τ).loc Cert.Kernel23Ideal.main_arg0))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_dbias [hPre_finite_dbias : Cert.Pre_finite_dbias.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_dbias.fn (F := Ideal) (m ((c.tc : Thread Cert.Reference23Ideal.nD Cert.Reference23Ideal.τ).loc Cert.Reference23Ideal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_mix [hKernelIdeal : Cert.KernelIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_mix [hReferenceIdeal : Cert.ReferenceIdeal.Facts] [hPre_finite_mix : Cert.Pre_finite_mix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_ffn [hKernel7Ideal : Cert.Kernel7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ffn m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_ffn [hReference7Ideal : Cert.Reference7Ideal.Facts] [hPre_finite_ffn : Cert.Pre_finite_ffn.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ffn m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Kernel15Ideal_pre_finite_ffnf [hKernel15Ideal : Cert.Kernel15Ideal.Facts] [hPre_finite_ffnf : Cert.Pre_finite_ffnf.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_ffnf m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Reference15Ideal_pre_finite_ffnf [hReference15Ideal : Cert.Reference15Ideal.Facts] [hPre_finite_ffnf : Cert.Pre_finite_ffnf.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_ffnf m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Kernel23Ideal_pre_finite_dbias [hKernel23Ideal : Cert.Kernel23Ideal.Facts] [hPre_finite_dbias : Cert.Pre_finite_dbias.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_dbias m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Reference23Ideal_pre_finite_dbias [hReference23Ideal : Cert.Reference23Ideal.Facts] [hPre_finite_dbias : Cert.Pre_finite_dbias.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_dbias m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def preserves_Kernel_KernelIdeal : Prop :=
  True

def algebraic_KernelIdeal_ReferenceIdeal_pre_finite_mix [hKernelIdeal : Cert.KernelIdeal.Facts] [hReferenceIdeal : Cert.ReferenceIdeal.Facts] [hPre_finite_mix : Cert.Pre_finite_mix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_v31_4) = v4 c
          ∧ r.2.mem ((c.tc : Thread Cert.KernelIdeal.nD Cert.KernelIdeal.τ).loc Cert.KernelIdeal.main_v31_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_v87) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_v45) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v51) = v1 c
          ∧ r.2.mem ((c.tc : Thread Cert.Reference11Ideal.nD Cert.Reference11Ideal.τ).loc Cert.Reference11Ideal.main_v52) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_v53) = v2 c
          ∧ r.2.mem ((c.tc : Thread Cert.Reference8Ideal.nD Cert.Reference8Ideal.τ).loc Cert.Reference8Ideal.main_v54) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v46)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v46) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v113) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_finite_ffn [hKernel7Ideal : Cert.Kernel7Ideal.Facts] [hReference7Ideal : Cert.Reference7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ffn m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v30)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v30) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_v16) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite_ffnf [hKernel15Ideal : Cert.Kernel15Ideal.Facts] [hReference15Ideal : Cert.Reference15Ideal.Facts] [hPre_finite_ffnf : Cert.Pre_finite_ffnf.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_ffnf m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5_0)) (v1 : (c : Dev Cert.Kernel17Ideal.nD) → Buf (Elt Ideal) ((c.tc : Thread Cert.Kernel17Ideal.nD Cert.Kernel17Ideal.τ).loc Cert.Kernel17Ideal.main_v5_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5_0) = v0 c
          ∧ r.2.mem ((c.tc : Thread Cert.Kernel17Ideal.nD Cert.Kernel17Ideal.τ).loc Cert.Kernel17Ideal.main_v5_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v17) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5_0)) (v1 : (c : Dev Cert.Kernel21Ideal.nD) → Buf (Elt Ideal) ((c.tc : Thread Cert.Kernel21Ideal.nD Cert.Kernel21Ideal.τ).loc Cert.Kernel21Ideal.main_v5_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5_0) = v0 c
          ∧ r.2.mem ((c.tc : Thread Cert.Kernel21Ideal.nD Cert.Kernel21Ideal.τ).loc Cert.Kernel21Ideal.main_v5_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v15) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v22)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v22) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v77) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite_dbias [hKernel23Ideal : Cert.Kernel23Ideal.Facts] [hReference23Ideal : Cert.Reference23Ideal.Facts] [hPre_finite_dbias : Cert.Pre_finite_dbias.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_dbias m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v56)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v56) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v68) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel2_Kernel2Ideal : Prop :=
  True

def preserves_Kernel3_Kernel3Ideal : Prop :=
  True

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel17 : Cert.Kernel17.Facts) (hKernel17Ideal : Cert.Kernel17Ideal.Facts) (hReference17Ideal : Cert.Reference17Ideal.Facts) (hKernel21 : Cert.Kernel21.Facts) (hKernel21Ideal : Cert.Kernel21Ideal.Facts) (hReference21Ideal : Cert.Reference21Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel12 : Cert.Kernel12.Facts) (hKernel12Ideal : Cert.Kernel12Ideal.Facts) (hReference12Ideal : Cert.Reference12Ideal.Facts) (hKernel18 : Cert.Kernel18.Facts) (hKernel18Ideal : Cert.Kernel18Ideal.Facts) (hReference18Ideal : Cert.Reference18Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel2 : Cert.Kernel2.Facts) (hKernel2Ideal : Cert.Kernel2Ideal.Facts) (hKernel3 : Cert.Kernel3.Facts) (hKernel3Ideal : Cert.Kernel3Ideal.Facts) (hKernel4 : Cert.Kernel4.Facts) (hKernel4Ideal : Cert.Kernel4Ideal.Facts) (hKernel5 : Cert.Kernel5.Facts) (hKernel5Ideal : Cert.Kernel5Ideal.Facts) (hPre_finite_mix : Cert.Pre_finite_mix.Facts) (hPre_finite_ffn : Cert.Pre_finite_ffn.Facts) (hPre_finite_ffnf : Cert.Pre_finite_ffnf.Facts) (hPre_finite_dbias : Cert.Pre_finite_dbias.Facts),
    quiescent_Kernel (hKernel := hKernel)
    ∧ quiescent_KernelIdeal (hKernelIdeal := hKernelIdeal)
    ∧ quiescent_KernelIdeal_pre_finite_mix (hKernelIdeal := hKernelIdeal) (hPre_finite_mix := hPre_finite_mix)
    ∧ quiescent_ReferenceIdeal (hReferenceIdeal := hReferenceIdeal)
    ∧ quiescent_ReferenceIdeal_pre_finite_mix (hReferenceIdeal := hReferenceIdeal) (hPre_finite_mix := hPre_finite_mix)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_ffn (hKernel7Ideal := hKernel7Ideal) (hPre_finite_ffn := hPre_finite_ffn)
    ∧ quiescent_Reference7Ideal (hReference7Ideal := hReference7Ideal)
    ∧ quiescent_Reference7Ideal_pre_finite_ffn (hReference7Ideal := hReference7Ideal) (hPre_finite_ffn := hPre_finite_ffn)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_ffnf (hKernel15Ideal := hKernel15Ideal) (hPre_finite_ffnf := hPre_finite_ffnf)
    ∧ quiescent_Reference15Ideal (hReference15Ideal := hReference15Ideal)
    ∧ quiescent_Reference15Ideal_pre_finite_ffnf (hReference15Ideal := hReference15Ideal) (hPre_finite_ffnf := hPre_finite_ffnf)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_dbias (hKernel23Ideal := hKernel23Ideal) (hPre_finite_dbias := hPre_finite_dbias)
    ∧ quiescent_Reference23Ideal (hReference23Ideal := hReference23Ideal)
    ∧ quiescent_Reference23Ideal_pre_finite_dbias (hReference23Ideal := hReference23Ideal) (hPre_finite_dbias := hPre_finite_dbias)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite_mix (hKernelIdeal := hKernelIdeal) (hReferenceIdeal := hReferenceIdeal) (hPre_finite_mix := hPre_finite_mix)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_ffn (hKernel7Ideal := hKernel7Ideal) (hReference7Ideal := hReference7Ideal) (hPre_finite_ffn := hPre_finite_ffn)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_ffnf (hKernel15Ideal := hKernel15Ideal) (hReference15Ideal := hReference15Ideal) (hPre_finite_ffnf := hPre_finite_ffnf)
    ∧ preserves_Kernel17_Kernel17Ideal
    ∧ algebraic_Kernel17Ideal_Reference17Ideal (hKernel17Ideal := hKernel17Ideal) (hReference17Ideal := hReference17Ideal)
    ∧ preserves_Kernel21_Kernel21Ideal
    ∧ algebraic_Kernel21Ideal_Reference21Ideal (hKernel21Ideal := hKernel21Ideal) (hReference21Ideal := hReference21Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel12_Kernel12Ideal
    ∧ algebraic_Kernel12Ideal_Reference12Ideal (hKernel12Ideal := hKernel12Ideal) (hReference12Ideal := hReference12Ideal)
    ∧ preserves_Kernel18_Kernel18Ideal
    ∧ algebraic_Kernel18Ideal_Reference18Ideal (hKernel18Ideal := hKernel18Ideal) (hReference18Ideal := hReference18Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_dbias (hKernel23Ideal := hKernel23Ideal) (hReference23Ideal := hReference23Ideal) (hPre_finite_dbias := hPre_finite_dbias)
    ∧ preserves_Kernel2_Kernel2Ideal
    ∧ preserves_Kernel3_Kernel3Ideal
    ∧ preserves_Kernel4_Kernel4Ideal
    ∧ preserves_Kernel5_Kernel5Ideal
-- ==== Pre_finite_dbias.lean ====
abbrev S4x8x512x128 : Shape := ⟨4, ![4, 8, 512, 128]⟩
abbrev S_ : Shape := ⟨0, ![]⟩

class Facts : Prop where
  bcast_S_S4x8x512x128 : S_.BroadcastsInDim S4x8x512x128 (![] : Fin 0 → Fin S4x8x512x128.rank)
  reducesTo_S4x8x512x128_S_d0_1_2_3 : S4x8x512x128.ReducesTo [0, 1, 2, 3] S_
  h_S_ : 0 < S_.numel

variable [Facts]

def fn {F : FTy → Type} [FloatOps F] (main_arg0 : FVec F S4x8x512x128 .f32) : IVec S_ 1 :=
  let main_v0 : FVec F S4x8x512x128 .f32 := Host.absf main_arg0
  let main_cst : FVec F S_ .f32 := constant S_ .f32 0x7F800000#32
  let main_v1 : FVec F S4x8x512x128 .f32 := broadcastInDim S4x8x512x128 ![] bcast_S_S4x8x512x128 main_cst
  let main_v2 : IVec S4x8x512x128 1 := cmpf .olt main_v0 main_v1
  let main_c : IVec S_ 1 := constantI S_ 1 1#1
  let main_v3 : IVec S_ 1 := (fun x v => Host.reduce IntOp.andi x v reducesTo_S4x8x512x128_S_d0_1_2_3 h_S_) main_v2 main_c
  main_v3
-- ==== Pre_finite_ffn.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x1024 .f32) (main_arg2 : FVec F S1024x5632 .f32) (main_arg3 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_v3 main_v7 main_v11 main_v15
-- ==== Pre_finite_ffnf.lean ====
abbrev S4096x1024 : Shape := ⟨2, ![4096, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1024x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Pre_finite_mix.lean ====
abbrev S2x2048x256 : Shape := ⟨3, ![2, 2048, 256]⟩
abbrev S3x2x4x2048x64 : Shape := ⟨5, ![3, 2, 4, 2048, 64]⟩
abbrev S3x2x4x2048 : Shape := ⟨4, ![3, 2, 4, 2048]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S3x2x4x2048x64 : S_.BroadcastsInDim S3x2x4x2048x64 (![] : Fin 0 → Fin S3x2x4x2048x64.rank)
  reducesTo_S3x2x4x2048x64_S_d0_1_2_3_4 : S3x2x4x2048x64.ReducesTo [0, 1, 2, 3, 4] S_
  bcast_S_S3x2x4x2048 : S_.BroadcastsInDim S3x2x4x2048 (![] : Fin 0 → Fin S3x2x4x2048.rank)
  reducesTo_S3x2x4x2048_S_d0_1_2_3 : S3x2x4x2048.ReducesTo [0, 1, 2, 3] S_

variable [Facts]

def fn {F : FTy → Type} [FloatOps F] (main_arg0 : FVec F S2x2048x256 .f32) (main_arg1 : FVec F S3x2x4x2048x64 .f32) (main_arg2 : FVec F S3x2x4x2048 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S3x2x4x2048x64 .f32 := Host.absf main_arg1
  let main_cst_0 : FVec F S_ .f32 := constant S_ .f32 0x7F800000#32
  let main_v5 : FVec F S3x2x4x2048x64 .f32 := broadcastInDim S3x2x4x2048x64 ![] bcast_S_S3x2x4x2048x64 main_cst_0
  let main_v6 : IVec S3x2x4x2048x64 1 := cmpf .olt main_v4 main_v5
  let main_c_1 : IVec S_ 1 := constantI S_ 1 1#1
  let main_v7 : IVec S_ 1 := (fun x v => Host.reduce IntOp.andi x v reducesTo_S3x2x4x2048x64_S_d0_1_2_3_4 h_S_) main_v6 main_c_1
  let main_v8 : FVec F S3x2x4x2048 .f32 := Host.absf main_arg2
  let main_cst_2 : FVec F S_ .f32 := constant S_ .f32 0x7F800000#32
  let main_v9 : FVec F S3x2x4x2048 .f32 := broadcastInDim S3x2x4x2048 ![] bcast_S_S3x2x4x2048 main_cst_2
  let main_v10 : IVec S3x2x4x2048 1 := cmpf .olt main_v8 main_v9
  let main_c_3 : IVec S_ 1 := constantI S_ 1 1#1
  let main_v11 : IVec S_ 1 := (fun x v => Host.reduce IntOp.andi x v reducesTo_S3x2x4x2048_S_d0_1_2_3 h_S_) main_v10 main_c_3
  let main_v12 : IVec S_ 1 := andi main_v3 main_v7
  let main_v13 : IVec S_ 1 := andi main_v12 main_v11
  main_v13
-- ==== Kernel.lean ====
abbrev S2x2048x256 : Shape := ⟨3, ![2, 2048, 256]⟩
abbrev S3x2x4x2048x64 : Shape := ⟨5, ![3, 2, 4, 2048, 64]⟩
abbrev S3x2x4x2048 : Shape := ⟨4, ![3, 2, 4, 2048]⟩
abbrev S4096x256 : Shape := ⟨2, ![4096, 256]⟩
abbrev S1x2x4x2048x64 : Shape := ⟨5, ![1, 2, 4, 2048, 64]⟩
abbrev S2x4x2048x64 : Shape := ⟨4, ![2, 4, 2048, 64]⟩
abbrev S2x2048x4x64 : Shape := ⟨4, ![2, 2048, 4, 64]⟩
abbrev S1x2x4x2048 : Shape := ⟨4, ![1, 2, 4, 2048]⟩
abbrev S2x4x2048 : Shape := ⟨3, ![2, 4, 2048]⟩
abbrev S2x4x2048x1 : Shape := ⟨4, ![2, 4, 2048, 1]⟩
abbrev S1024x256 : Shape := ⟨2, ![1024, 256]⟩
abbrev S256x256 : Shape := ⟨2, ![256, 256]⟩

abbrev nBuf : Space → Nat
  | .hbm => 40
  | .vmem => 26
  | .smem => 0
  | _ => 0

abbrev bufTy : (tb : Table) → Fin (tcTables nBuf tb) → BufTy
  | .hbm, ⟨0, _⟩ => ⟨S2x2048x256, .f32⟩
  | .hbm, ⟨1, _⟩ => ⟨S3x2x4x2048x64, .f32⟩
  | .hbm, ⟨2, _⟩ => ⟨S3x2x4x2048, .f32⟩
  | .hbm, ⟨3, _⟩ => ⟨S4096x256, .f32⟩
  | .hbm, ⟨4, _⟩ => ⟨S1x2x4x2048x64, .f32⟩
  | .hbm, ⟨5, _⟩ => ⟨S2x4x2048x64, .f32⟩
  | .hbm, ⟨6, _⟩ => ⟨S2x2048x4x64, .f32⟩
  | .hbm, ⟨7, _⟩ => ⟨S4096x256, .f32⟩
  | .hbm, ⟨8, _⟩ => ⟨S1x2x4x2048x64, .f32⟩
  | .hbm, ⟨9, _⟩ => ⟨S2x4x2048x64, .f32⟩
  | .hbm, ⟨10, _⟩ => ⟨S2x2048x4x64, .f32⟩
  | .hbm, ⟨11, _⟩ => ⟨S4096x256, .f32⟩
  | .hbm, ⟨12, _⟩ => ⟨S1x2x4x2048x64, .f32⟩
  | .hbm, ⟨13, _⟩ => ⟨S2x4x2048x64, .f32⟩
  | .hbm, ⟨14, _⟩ => ⟨S2x2048x4x64, .f32⟩
  | .hbm, ⟨15, _⟩ => ⟨S4096x256, .f32⟩
  | .hbm, ⟨16, _⟩ => ⟨S1x2x4x2048, .f32⟩
  | .hbm, ⟨17, _⟩ => ⟨S2x4x2048, .f32⟩
  | .hbm, ⟨18, _⟩ => ⟨S2x4x2048x1, .f32⟩
  | .hbm, ⟨19, _⟩ => ⟨S2x4x2048x64, .f32⟩
  | .hbm, ⟨20, _⟩ => ⟨S2x2048x4x64, .f32⟩
  | .hbm, ⟨21, _⟩ => ⟨S4096x256, .f32⟩
  | .hbm, ⟨22, _⟩ => ⟨S1x2x4x2048, .f32⟩
  | .hbm, ⟨23, _⟩ => ⟨S2x4x2048, .f32⟩
  | .hbm, ⟨24, _⟩ => ⟨S2x4x2048x1, .f32⟩
  | .hbm, ⟨25, _⟩ => ⟨S2x4x2048x64, .f32⟩
  | .hbm, ⟨26, _⟩ => ⟨S2x2048x4x64, .f32⟩
  | .hbm, ⟨27, _⟩ => ⟨S4096x256, .f32⟩
  | .hbm, ⟨28, _⟩ => ⟨S1x2x4x2048, .f32⟩
  | .hbm, ⟨29, _⟩ => ⟨S2x4x2048, .f32⟩
  | .hbm, ⟨30, _⟩ => ⟨S2x4x2048x1, .f32⟩
  | .hbm, ⟨31, _⟩ => ⟨S2x4x2048x64, .f32⟩
  | .hbm, ⟨32, _⟩ => ⟨S2x2048x4x64, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31_0 : Ref sig .tc := ⟨.hbm, 34, rfl⟩
abbrev main_v31_1 : Ref sig .tc := ⟨.hbm, 35, rfl⟩
abbrev main_v31_2 : Ref sig .tc := ⟨.hbm, 36, rfl⟩
abbrev main_v31_3 : Ref sig .tc := ⟨.hbm, 37, rfl⟩
abbrev main_v31_4 : Ref sig .tc := ⟨.hbm, 38, rfl⟩
abbrev main_v31_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x2048x256 : Shape := ⟨3, ![2, 2048, 256]⟩
abbrev S3x2x4x2048x64 : Shape := ⟨5, ![3, 2, 4, 2048, 64]⟩
abbrev S3x2x4x2048 : Shape := ⟨4, ![3, 2, 4, 2048]⟩
abbrev S_ : Shape := ⟨0, ![]⟩
abbrev S2x4x2048 : Shape := ⟨3, ![2, 4, 2048]⟩
abbrev S1x2x4x2048 : Shape := ⟨4, ![1, 2, 4, 2048]⟩
abbrev S3x2x4x2048x1 : Shape := ⟨5, ![3, 2, 4, 2048, 1]⟩
abbrev S2x4x2048x64 : Shape := ⟨4, ![2, 4, 2048, 64]⟩
abbrev S2x2048x4x64 : Shape := ⟨4, ![2, 2048, 4, 64]⟩
abbrev S1x2x4x2048x64 : Shape := ⟨5, ![1, 2, 4, 2048, 64]⟩
abbrev S4096x256 : Shape := ⟨2, ![4096, 256]⟩
abbrev S2x4x2048x1 : Shape := ⟨4, ![2, 4, 2048, 1]⟩

abbrev nBuf : Space → Nat
  | .hbm => 107
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S3x2x4x2048x64, .f32⟩
  | .hbm, ⟨2, _⟩ => ⟨S3x2x4x2048, .f32⟩
  | .hbm, ⟨3, _⟩ => ⟨S_, .f32⟩
  | .hbm, ⟨4, _⟩ => ⟨S2x4x2048, .f32⟩
  | .hbm, ⟨5, _⟩ => ⟨S1x2x4x2048, .f32⟩
  | .hbm, ⟨6, _⟩ => ⟨S3x2x4x2048, .f32⟩
  | .hbm, ⟨7, _⟩ => ⟨S3x2x4x2048, .i1⟩
  | .hbm, ⟨8, _⟩ => ⟨S3x2x4x2048, .f32⟩
  | .hbm, ⟨9, _⟩ => ⟨S_, .f32⟩
  | .hbm, ⟨10, _⟩ => ⟨S2x4x2048, .f32⟩
  | .hbm, ⟨11, _⟩ => ⟨S_, .f32⟩
  | .hbm, ⟨12, _⟩ => ⟨S2x4x2048, .f32⟩
  | .hbm, ⟨13, _⟩ => ⟨S2x4x2048, .f32⟩
  | .hbm, ⟨14, _⟩ => ⟨S_, .f32⟩
  | .hbm, ⟨15, _⟩ => ⟨S2x4x2048, .f32⟩
  | .hbm, ⟨16, _⟩ => ⟨S2x4x2048, .i1⟩
  | .hbm, ⟨17, _⟩ => ⟨S_, .f32⟩
  | .hbm, ⟨18, _⟩ => ⟨S2x4x2048, .f32⟩
  | .hbm, ⟨19, _⟩ => ⟨S2x4x2048, .i1⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .f32⟩
  | .hbm, ⟨27, _⟩ => ⟨S2x4x2048, .f32⟩
  | .hbm, ⟨28, _⟩ => ⟨S1x2x4x2048, .f32⟩
  | .hbm, ⟨29, _⟩ => ⟨S3x2x4x2048, .f32⟩
  | .hbm, ⟨30, _⟩ => ⟨S3x2x4x2048, .f32⟩
  | .hbm, ⟨31, _⟩ => ⟨S3x2x4x2048, .f32⟩
  | .hbm, ⟨32, _⟩ => ⟨S_, .f32⟩
  | .hbm, ⟨33, _⟩ => ⟨S2x4x2048, .f32⟩
  | .hbm, ⟨34, _⟩ => ⟨S1x2x4x2048, .f32⟩
  | .hbm, ⟨35, _⟩ => ⟨S3x2x4x2048, .f32⟩
  | .hbm, ⟨36, _⟩ => ⟨S3x2x4x2048, .f32⟩
  | .hbm, ⟨37, _⟩ => ⟨S1x2x4x2048, .f32⟩
  | .hbm, ⟨38, _⟩ => ⟨S_, .f32⟩
  | .hbm, ⟨39, _⟩ => ⟨S1x2x4x2048, .f32⟩
  | .hbm, ⟨40, _⟩ => ⟨S1x2x4x2048, .f32⟩
  | .hbm, ⟨41, _⟩ => ⟨S3x2x4x2048x1, .f32⟩
  | .hbm, ⟨42, _⟩ => ⟨S3x2x4x2048x64, .f32⟩
  | .hbm, ⟨43, _⟩ => ⟨S3x2x4x2048x64, .f32⟩
  | .hbm, ⟨44, _⟩ => ⟨S_, .f32⟩
  | .hbm, ⟨45, _⟩ => ⟨S2x4x2048x64, .f32⟩
  | .hbm, ⟨46, _⟩ => ⟨S2x2048x4x64, .f32⟩
  | .hbm, ⟨47, _⟩ => ⟨S2x2048x256, .f32⟩
  | .hbm, ⟨48, _⟩ => ⟨S2x2048x4x64, .f32⟩
  | .hbm, ⟨49, _⟩ => ⟨S2x4x2048x64, .f32⟩
  | .hbm, ⟨50, _⟩ => ⟨S3x2x4x2048x64, .f32⟩
  | .hbm, ⟨51, _⟩ => ⟨S3x2x4x2048x64, .f32⟩
  | .hbm, ⟨52, _⟩ => ⟨S3x2x4x2048x64, .f32⟩
  | .hbm, ⟨53, _⟩ => ⟨S3x2x4x2048x64, .f32⟩
  | .hbm, ⟨54, _⟩ => ⟨S_, .f32⟩
  | .hbm, ⟨55, _⟩ => ⟨S3x2x4x2048, .f32⟩
  | .hbm, ⟨56, _⟩ => ⟨S3x2x4x2048x1, .f32⟩
  | .hbm, ⟨57, _⟩ => ⟨S_, .f32⟩
  | .hbm, ⟨58, _⟩ => ⟨S3x2x4x2048, .f32⟩
  | .hbm, ⟨59, _⟩ => ⟨S3x2x4x2048, .f32⟩
  | .hbm, ⟨60, _⟩ => ⟨S3x2x4x2048, .f32⟩
  | .hbm, ⟨61, _⟩ => ⟨S3x2x4x2048, .f32⟩
  | .hbm, ⟨62, _⟩ => ⟨S_, .f32⟩
  | .hbm, ⟨63, _⟩ => ⟨S2x4x2048, .f32⟩
  | .hbm, ⟨64, _⟩ => ⟨S1x2x4x2048, .f32⟩
  | .hbm, ⟨65, _⟩ => ⟨S1x2x4x2048, .f32⟩
  | .hbm, ⟨66, _⟩ => ⟨S3x2x4x2048, .f32⟩
  | .hbm, ⟨67, _⟩ => ⟨S3x2x4x2048, .f32⟩
  | .hbm, ⟨68, _⟩ => ⟨S_, .f32⟩
  | .hbm, ⟨69, _⟩ => ⟨S2x4x2048, .f32⟩
  | .hbm, ⟨70, _⟩ => ⟨S3x2x4x2048, .f32⟩
  | .hbm, ⟨71, _⟩ => ⟨S3x2x4x2048, .f32⟩
  | .hbm, ⟨72, _⟩ => ⟨S3x2x4x2048, .f32⟩
  | .hbm, ⟨73, _⟩ => ⟨S3x2x4x2048x64, .f32⟩
  | .hbm, ⟨74, _⟩ => ⟨S_, .f32⟩
  | .hbm, ⟨75, _⟩ => ⟨S3x2x4x2048, .f32⟩
  | .hbm, ⟨76, _⟩ => ⟨S3x2x4x2048, .f32⟩
  | .hbm, ⟨77, _⟩ => ⟨S1x2x4x2048x64, .f32⟩
  | .hbm, ⟨78, _⟩ => ⟨S2x4x2048x64, .f32⟩
  | .hbm, ⟨79, _⟩ => ⟨S2x2048x4x64, .f32⟩
  | .hbm, ⟨80, _⟩ => ⟨S4096x256, .f32⟩
  | .hbm, ⟨81, _⟩ => ⟨S1x2x4x2048x64, .f32⟩
  | .hbm, ⟨82, _⟩ => ⟨S2x4x2048x64, .f32⟩
  | .hbm, ⟨83, _⟩ => ⟨S2x2048x4x64, .f32⟩
  | .hbm, ⟨84, _⟩ => ⟨S4096x256, .f32⟩
  | .hbm, ⟨85, _⟩ => ⟨S1x2x4x2048x64, .f32⟩
  | .hbm, ⟨86, _⟩ => ⟨S2x4x2048x64, .f32⟩
  | .hbm, ⟨87, _⟩ => ⟨S2x2048x4x64, .f32⟩
  | .hbm, ⟨88, _⟩ => ⟨S4096x256, .f32⟩
  | .hbm, ⟨89, _⟩ => ⟨S1x2x4x2048, .f32⟩
  | .hbm, ⟨90, _⟩ => ⟨S2x4x2048, .f32⟩
  | .hbm, ⟨91, _⟩ => ⟨S2x4x2048x1, .f32⟩
  | .hbm, ⟨92, _⟩ => ⟨S2x4x2048x64, .f32⟩
  | .hbm, ⟨93, _⟩ => ⟨S2x2048x4x64, .f32⟩
  | .hbm, ⟨94, _⟩ => ⟨S4096x256, .f32⟩
  | .hbm, ⟨95, _⟩ => ⟨S1x2x4x2048, .f32⟩
  | .hbm, ⟨96, _⟩ => ⟨S2x4x2048, .f32⟩
  | .hbm, ⟨97, _⟩ => ⟨S2x4x2048x1, .f32⟩
  | .hbm, ⟨98, _⟩ => ⟨S2x4x2048x64, .f32⟩
  | .hbm, ⟨99, _⟩ => ⟨S2x2048x4x64, .f32⟩
  | .hbm, ⟨100, _⟩ => ⟨S4096x256, .f32⟩
  | .hbm, ⟨101, _⟩ => ⟨S1x2x4x2048, .f32⟩
  | .hbm, ⟨102, _⟩ => ⟨S2x4x2048, .f32⟩
  | .hbm, ⟨103, _⟩ => ⟨S2x4x2048x1, .f32⟩
  | .hbm, ⟨104, _⟩ => ⟨S2x4x2048x64, .f32⟩
  | .hbm, ⟨105, _⟩ => ⟨S2x2048x4x64, .f32⟩
  | .hbm, ⟨106, _⟩ => ⟨S4096x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩

abbrev nD : Nat := 1
abbrev τ : Topo := Topo.v7x

variable {F : FTy → Type} [FloatOps F]
-- ==== Kernel10.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S1x1024 : Shape := ⟨2, ![1, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S2x4096x2816, .bf16⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x4096x2816, .f32⟩
  | .hbm, ⟨6, _⟩ => ⟨S4096x2816, .f32⟩
  | .hbm, ⟨7, _⟩ => ⟨S1x4096x2816, .f32⟩
  | .hbm, ⟨8, _⟩ => ⟨S4096x2816, .f32⟩
  | .hbm, ⟨9, _⟩ => ⟨S4096x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel11.lean ====
abbrev S1x4096x2304 : Shape := ⟨3, ![1, 4096, 2304]⟩
abbrev S3x4096x512 : Shape := ⟨3, ![3, 4096, 512]⟩
abbrev S2x4096x1024 : Shape := ⟨3, ![2, 4096, 1024]⟩
abbrev S1024x5888 : Shape := ⟨2, ![1024, 5888]⟩
abbrev S4096x1024 : Shape := ⟨2, ![4096, 1024]⟩
abbrev S1024 : Shape := ⟨1, ![1024]⟩
abbrev S5888x1024 : Shape := ⟨2, ![5888, 1024]⟩
abbrev S1x1024 : Shape := ⟨2, ![1, 1024]⟩
abbrev S1x512x2304 : Shape := ⟨3, ![1, 512, 2304]⟩
abbrev S3x512x512 : Shape := ⟨3, ![3, 512, 512]⟩
abbrev S2x512x1024 : Shape := ⟨3, ![2, 512, 1024]⟩
abbrev S512x1024 : Shape := ⟨2, ![512, 1024]⟩
abbrev S512x2304 : Shape := ⟨2, ![512, 2304]⟩
abbrev S2304x1024 : Shape := ⟨2, ![2304, 1024]⟩
abbrev S1x512x512 : Shape := ⟨3, ![1, 512, 512]⟩
abbrev S512x512 : Shape := ⟨2, ![512, 512]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S1x4096x2304, .f32⟩
  | .hbm, ⟨1, _⟩ => ⟨S3x4096x512, .f32⟩
  | .hbm, ⟨2, _⟩ => ⟨S2x4096x1024, .f32⟩
  | .hbm, ⟨3, _⟩ => ⟨S1024x5888, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1x4096x2304, .bf16⟩
  | .hbm, ⟨8, _⟩ => ⟨S2x4096x1024, .bf16⟩
  | .hbm, ⟨9, _⟩ => ⟨S5888x1024, .f32⟩
  | .hbm, ⟨10, _⟩ => ⟨S5888x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S1x512x2304, .bf16⟩
  | .local _ .vmem, ⟨1, _⟩ => ⟨S1x512x2304, .bf16⟩
  | .local _ .vmem, ⟨2, _⟩ => ⟨S3x512x512, .f32⟩
  | .local _ .vmem, ⟨3, _⟩ => ⟨S3x512x512, .f32⟩
  | .local _ .vmem, ⟨4, _⟩ => ⟨S2x512x1024, .bf16⟩
  | .local _ .vmem, ⟨5, _⟩ => ⟨S2x512x1024, .bf16⟩
  | .local _ .vmem, ⟨6, _⟩ => ⟨S5888x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S1x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5888x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S1x4096x2304 : Shape := ⟨3, ![1, 4096, 2304]⟩
abbrev S3x4096x512 : Shape := ⟨3, ![3, 4096, 512]⟩
abbrev S2x4096x1024 : Shape := ⟨3, ![2, 4096, 1024]⟩
abbrev S1024x5888 : Shape := ⟨2, ![1024, 5888]⟩
abbrev S4096x1024 : Shape := ⟨2, ![4096, 1024]⟩
abbrev S1024 : Shape := ⟨1, ![1024]⟩
abbrev S4096x2304 : Shape := ⟨2, ![4096, 2304]⟩
abbrev S1x4096x512 : Shape := ⟨3, ![1, 4096, 512]⟩
abbrev S4096x512 : Shape := ⟨2, ![4096, 512]⟩
abbrev S1x4096x1024 : Shape := ⟨3, ![1, 4096, 1024]⟩
abbrev S4096x5888 : Shape := ⟨2, ![4096, 5888]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x4096x2304, .f32⟩
  | .hbm, ⟨1, _⟩ => ⟨S3x4096x512, .f32⟩
  | .hbm, ⟨2, _⟩ => ⟨S2x4096x1024, .f32⟩
  | .hbm, ⟨3, _⟩ => ⟨S1024x5888, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x2304, .f32⟩
  | .hbm, ⟨8, _⟩ => ⟨S1x4096x512, .f32⟩
  | .hbm, ⟨9, _⟩ => ⟨S4096x512, .f32⟩
  | .hbm, ⟨10, _⟩ => ⟨S1x4096x512, .f32⟩
  | .hbm, ⟨11, _⟩ => ⟨S4096x512, .f32⟩
  | .hbm, ⟨12, _⟩ => ⟨S1x4096x512, .f32⟩
  | .hbm, ⟨13, _⟩ => ⟨S4096x512, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S4096x5888, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x5888, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S1x1024, .f32⟩
  | _, _ => ⟨S1x4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel8.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1x128, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x128 : Shape := ⟨2, ![1, 128]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x128, .f32⟩
  | .hbm, ⟨73, _⟩ => ⟨S4096x1024, .bf16⟩
  | .hbm, ⟨74, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel9.lean ====
abbrev S2x12x2048x64 : Shape := ⟨4, ![2, 12, 2048, 64]⟩
abbrev S2x4x2048x64 : Shape := ⟨4, ![2, 4, 2048, 64]⟩
abbrev S2x2048x4x64 : Shape := ⟨4, ![2, 2048, 4, 64]⟩
abbrev S4096x256 : Shape := ⟨2, ![4096, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x4096x2304 : Shape := ⟨3, ![1, 4096, 2304]⟩
abbrev S1024x256 : Shape := ⟨2, ![1024, 256]⟩
abbrev S1024x128 : Shape := ⟨2, ![1024, 128]⟩
abbrev S1x1024x2304 : Shape := ⟨3, ![1, 1024, 2304]⟩
abbrev S1x1024x128 : Shape := ⟨3, ![1, 1024, 128]⟩
abbrev S1x1024x256 : Shape := ⟨3, ![1, 1024, 256]⟩

abbrev nBuf : Space → Nat
  | .hbm => 52
  | .vmem => 24
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x4x2048x64, .f32⟩
  | .hbm, ⟨4, _⟩ => ⟨S2x2048x4x64, .f32⟩
  | .hbm, ⟨5, _⟩ => ⟨S4096x256, .f32⟩
  | .hbm, ⟨6, _⟩ => ⟨S2x4x2048x64, .f32⟩
  | .hbm, ⟨7, _⟩ => ⟨S2x2048x4x64, .f32⟩
  | .hbm, ⟨8, _⟩ => ⟨S4096x256, .f32⟩
  | .hbm, ⟨9, _⟩ => ⟨S2x4x2048x64, .f32⟩
  | .hbm, ⟨10, _⟩ => ⟨S2x2048x4x64, .f32⟩
  | .hbm, ⟨11, _⟩ => ⟨S4096x256, .f32⟩
  | .hbm, ⟨12, _⟩ => ⟨S2x4x2048x64, .f32⟩
  | .hbm, ⟨13, _⟩ => ⟨S2x2048x4x64, .f32⟩
  | .hbm, ⟨14, _⟩ => ⟨S4096x256, .f32⟩
  | .hbm, ⟨15, _⟩ => ⟨S2x4x2048x64, .f32⟩
  | .hbm, ⟨16, _⟩ => ⟨S2x2048x4x64, .f32⟩
  | .hbm, ⟨17, _⟩ => ⟨S4096x256, .f32⟩
  | .hbm, ⟨18, _⟩ => ⟨S2x4x2048x64, .f32⟩
  | .hbm, ⟨19, _⟩ => ⟨S2x2048x4x64, .f32⟩
  | .hbm, ⟨20, _⟩ => ⟨S4096x256, .f32⟩
  | .hbm, ⟨21, _⟩ => ⟨S2x4x2048x64, .f32⟩
  | .hbm, ⟨22, _⟩ => ⟨S2x2048x4x64, .f32⟩
  | .hbm, ⟨23, _⟩ => ⟨S4096x256, .f32⟩
  | .hbm, ⟨24, _⟩ => ⟨S2x4x2048x64, .f32⟩
  | .hbm, ⟨25, _⟩ => ⟨S2x2048x4x64, .f32⟩
  | .hbm, ⟨26, _⟩ => ⟨S4096x256, .f32⟩
  | .hbm, ⟨27, _⟩ => ⟨S2x4x2048x64, .f32⟩
  | .hbm, ⟨28, _⟩ => ⟨S2x2048x4x64, .f32⟩
  | .hbm, ⟨29, _⟩ => ⟨S4096x256, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .i32⟩
  | .hbm, ⟨39, _⟩ => ⟨S2048, .f32⟩
  | .hbm, ⟨40, _⟩ => ⟨S2048x1, .f32⟩
  | .hbm, ⟨41, _⟩ => ⟨S1x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x128, .f32⟩
  | .hbm, ⟨48, _⟩ => ⟨S2048x32, .f32⟩
  | .hbm, ⟨49, _⟩ => ⟨S2048x32, .f32⟩
  | .hbm, ⟨50, _⟩ => ⟨S2048x128, .f32⟩
  | .hbm, ⟨51, _⟩ => ⟨S1x4096x2304, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x1024x2304, .bf16⟩
  | .local _ .vmem, ⟨23, _⟩ => ⟨S1x1024x2304, .bf16⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S2x12x2048x64 : Shape := ⟨4, ![2, 12, 2048, 64]⟩
abbrev S_ : Shape := ⟨0, ![]⟩
abbrev S2x2048x2304 : Shape := ⟨3, ![2, 2048, 2304]⟩
abbrev S2x2048x768 : Shape := ⟨3, ![2, 2048, 768]⟩
abbrev S2x2048x12x64 : Shape := ⟨4, ![2, 2048, 12, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2x12x2048x32 : Shape := ⟨4, ![2, 12, 2048, 32]⟩
abbrev S1x1x2048x32 : Shape := ⟨4, ![1, 1, 2048, 32]⟩
abbrev S1x4096x2304 : Shape := ⟨3, ![1, 4096, 2304]⟩

abbrev nBuf : Space → Nat
  | .hbm => 126
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S_, .f32⟩
  | .hbm, ⟨4, _⟩ => ⟨S2x2048x2304, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x12x64, .f32⟩
  | .hbm, ⟨9, _⟩ => ⟨S2x12x2048x64, .f32⟩
  | .hbm, ⟨10, _⟩ => ⟨S2x2048x12x64, .f32⟩
  | .hbm, ⟨11, _⟩ => ⟨S2x12x2048x64, .f32⟩
  | .hbm, ⟨12, _⟩ => ⟨S2x2048x12x64, .f32⟩
  | .hbm, ⟨13, _⟩ => ⟨S2x12x2048x64, .f32⟩
  | .hbm, ⟨14, _⟩ => ⟨S2048, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2x12x2048x32, .f32⟩
  | .hbm, ⟨32, _⟩ => ⟨S2x12x2048x32, .f32⟩
  | .hbm, ⟨33, _⟩ => ⟨S1x1x2048x32, .f32⟩
  | .hbm, ⟨34, _⟩ => ⟨S2x12x2048x32, .f32⟩
  | .hbm, ⟨35, _⟩ => ⟨S2x12x2048x32, .f32⟩
  | .hbm, ⟨36, _⟩ => ⟨S1x1x2048x32, .f32⟩
  | .hbm, ⟨37, _⟩ => ⟨S2x12x2048x32, .f32⟩
  | .hbm, ⟨38, _⟩ => ⟨S2x12x2048x32, .f32⟩
  | .hbm, ⟨39, _⟩ => ⟨S2x12x2048x32, .f32⟩
  | .hbm, ⟨40, _⟩ => ⟨S1x1x2048x32, .f32⟩
  | .hbm, ⟨41, _⟩ => ⟨S2x12x2048x32, .f32⟩
  | .hbm, ⟨42, _⟩ => ⟨S2x12x2048x32, .f32⟩
  | .hbm, ⟨43, _⟩ => ⟨S1x1x2048x32, .f32⟩
  | .hbm, ⟨44, _⟩ => ⟨S2x12x2048x32, .f32⟩
  | .hbm, ⟨45, _⟩ => ⟨S2x12x2048x32, .f32⟩
  | .hbm, ⟨46, _⟩ => ⟨S2x12x2048x32, .f32⟩
  | .hbm, ⟨47, _⟩ => ⟨S2x12x2048x64, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2048, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2x12x2048x32, .f32⟩
  | .hbm, ⟨65, _⟩ => ⟨S2x12x2048x32, .f32⟩
  | .hbm, ⟨66, _⟩ => ⟨S1x1x2048x32, .f32⟩
  | .hbm, ⟨67, _⟩ => ⟨S2x12x2048x32, .f32⟩
  | .hbm, ⟨68, _⟩ => ⟨S2x12x2048x32, .f32⟩
  | .hbm, ⟨69, _⟩ => ⟨S1x1x2048x32, .f32⟩
  | .hbm, ⟨70, _⟩ => ⟨S2x12x2048x32, .f32⟩
  | .hbm, ⟨71, _⟩ => ⟨S2x12x2048x32, .f32⟩
  | .hbm, ⟨72, _⟩ => ⟨S2x12x2048x32, .f32⟩
  | .hbm, ⟨73, _⟩ => ⟨S1x1x2048x32, .f32⟩
  | .hbm, ⟨74, _⟩ => ⟨S2x12x2048x32, .f32⟩
  | .hbm, ⟨75, _⟩ => ⟨S2x12x2048x32, .f32⟩
  | .hbm, ⟨76, _⟩ => ⟨S1x1x2048x32, .f32⟩
  | .hbm, ⟨77, _⟩ => ⟨S2x12x2048x32, .f32⟩
  | .hbm, ⟨78, _⟩ => ⟨S2x12x2048x32, .f32⟩
  | .hbm, ⟨79, _⟩ => ⟨S2x12x2048x32, .f32⟩
  | .hbm, ⟨80, _⟩ => ⟨S2x12x2048x64, .f32⟩
  | .hbm, ⟨81, _⟩ => ⟨S2x12x2048x32, .f32⟩
  | .hbm, ⟨82, _⟩ => ⟨S2x12x2048x32, .f32⟩
  | .hbm, ⟨83, _⟩ => ⟨S2x12x2048x32, .f32⟩
  | .hbm, ⟨84, _⟩ => ⟨S2x12x2048x32, .f32⟩
  | .hbm, ⟨85, _⟩ => ⟨S2x12x2048x32, .f32⟩
  | .hbm, ⟨86, _⟩ => ⟨S2x12x2048x32, .f32⟩
  | .hbm, ⟨87, _⟩ => ⟨S2x12x2048x32, .f32⟩
  | .hbm, ⟨88, _⟩ => ⟨S2x12x2048x32, .f32⟩
  | .hbm, ⟨89, _⟩ => ⟨S2x12x2048x32, .f32⟩
  | .hbm, ⟨90, _⟩ => ⟨S2x12x2048x32, .f32⟩
  | .hbm, ⟨91, _⟩ => ⟨S2x12x2048x32, .f32⟩
  | .hbm, ⟨92, _⟩ => ⟨S2x12x2048x32, .f32⟩
  | .hbm, ⟨93, _⟩ => ⟨S2x12x2048x32, .f32⟩
  | .hbm, ⟨94, _⟩ => ⟨S_, .f32⟩
  | .hbm, ⟨95, _⟩ => ⟨S2x12x2048x64, .f32⟩
  | .hbm, ⟨96, _⟩ => ⟨S_, .f32⟩
  | .hbm, ⟨97, _⟩ => ⟨S2x12x2048x64, .f32⟩
  | .hbm, ⟨98, _⟩ => ⟨S2x12x2048x64, .f32⟩
  | .hbm, ⟨99, _⟩ => ⟨S2x12x2048x32, .f32⟩
  | .hbm, ⟨100, _⟩ => ⟨S2x12x2048x32, .f32⟩
  | .hbm, ⟨101, _⟩ => ⟨S2x12x2048x32, .f32⟩
  | .hbm, ⟨102, _⟩ => ⟨S2x12x2048x32, .f32⟩
  | .hbm, ⟨103, _⟩ => ⟨S2x12x2048x32, .f32⟩
  | .hbm, ⟨104, _⟩ => ⟨S2x12x2048x32, .f32⟩
  | .hbm, ⟨105, _⟩ => ⟨S2x12x2048x32, .f32⟩
  | .hbm, ⟨106, _⟩ => ⟨S2x12x2048x32, .f32⟩
  | .hbm, ⟨107, _⟩ => ⟨S2x12x2048x32, .f32⟩
  | .hbm, ⟨108, _⟩ => ⟨S2x12x2048x32, .f32⟩
  | .hbm, ⟨109, _⟩ => ⟨S2x12x2048x32, .f32⟩
  | .hbm, ⟨110, _⟩ => ⟨S2x12x2048x32, .f32⟩
  | .hbm, ⟨111, _⟩ => ⟨S2x12x2048x32, .f32⟩
  | .hbm, ⟨112, _⟩ => ⟨S_, .f32⟩
  | .hbm, ⟨113, _⟩ => ⟨S2x12x2048x64, .f32⟩
  | .hbm, ⟨114, _⟩ => ⟨S_, .f32⟩
  | .hbm, ⟨115, _⟩ => ⟨S2x12x2048x64, .f32⟩
  | .hbm, ⟨116, _⟩ => ⟨S2x12x2048x64, .f32⟩
  | .hbm, ⟨117, _⟩ => ⟨S2x2048x12x64, .f32⟩
  | .hbm, ⟨118, _⟩ => ⟨S2x2048x768, .f32⟩
  | .hbm, ⟨119, _⟩ => ⟨S2x2048x12x64, .f32⟩
  | .hbm, ⟨120, _⟩ => ⟨S2x2048x768, .f32⟩
  | .hbm, ⟨121, _⟩ => ⟨S2x2048x12x64, .f32⟩
  | .hbm, ⟨122, _⟩ => ⟨S2x2048x768, .f32⟩
  | .hbm, ⟨123, _⟩ => ⟨S2x2048x2304, .f32⟩
  | .hbm, ⟨124, _⟩ => ⟨S1x4096x2304, .f32⟩
  | .hbm, ⟨125, _⟩ => ⟨S1x4096x2304, .bf16⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_cst_4 : Ref sig .tc := ⟨.hbm, 94, rfl⟩
abbrev main_v86 : Ref sig .tc := ⟨.hbm, 95, rfl⟩
abbrev main_cst_5 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_cst_6 : Ref sig .tc := ⟨.hbm, 112, rfl⟩
abbrev main_v102 : Ref sig .tc := ⟨.hbm, 113, rfl⟩
abbrev main_cst_7 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩

abbrev nD : Nat := 1
abbrev τ : Topo := Topo.v7x

variable {F : FTy → Type} [FloatOps F]
-- ==== Kernel6.lean ====
abbrev S4096x1024 : Shape := ⟨2, ![4096, 1024]⟩
abbrev S4096x256 : Shape := ⟨2, ![4096, 256]⟩
abbrev S4096x512 : Shape := ⟨2, ![4096, 512]⟩
abbrev S4096x5888 : Shape := ⟨2, ![4096, 5888]⟩
abbrev S256x1024 : Shape := ⟨2, ![256, 1024]⟩
abbrev S512x1024 : Shape := ⟨2, ![512, 1024]⟩
abbrev S1024x1024 : Shape := ⟨2, ![1024, 1024]⟩
abbrev S1024x256 : Shape := ⟨2, ![1024, 256]⟩
abbrev S1024x512 : Shape := ⟨2, ![1024, 512]⟩
abbrev S2048x256 : Shape := ⟨2, ![2048, 256]⟩
abbrev S2048x512 : Shape := ⟨2, ![2048, 512]⟩
abbrev S256x256 : Shape := ⟨2, ![256, 256]⟩
abbrev S256x512 : Shape := ⟨2, ![256, 512]⟩
abbrev S2x4096x1024 : Shape := ⟨3, ![2, 4096, 1024]⟩
abbrev S2048x1024 : Shape := ⟨2, ![2048, 1024]⟩
abbrev S2x2048x256 : Shape := ⟨3, ![2, 2048, 256]⟩
abbrev S1x2048x256 : Shape := ⟨3, ![1, 2048, 256]⟩

abbrev nBuf : Space → Nat
  | .hbm => 19
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x512, .f32⟩
  | .hbm, ⟨3, _⟩ => ⟨S4096x5888, .f32⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S1024x256, .f32⟩
  | .hbm, ⟨8, _⟩ => ⟨S1024x256, .bf16⟩
  | .hbm, ⟨9, _⟩ => ⟨S1024x512, .f32⟩
  | .hbm, ⟨10, _⟩ => ⟨S1024x512, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S1024x1024, .bf16⟩
  | .hbm, ⟨16, _⟩ => ⟨S4096x1024, .bf16⟩
  | .hbm, ⟨17, _⟩ => ⟨S4096x1024, .bf16⟩
  | .hbm, ⟨18, _⟩ => ⟨S2x4096x1024, .bf16⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x512, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x1024, .bf16⟩
  | .local _ .vmem, ⟨19, _⟩ => ⟨S2048x1024, .bf16⟩
  | .local _ .vmem, ⟨20, _⟩ => ⟨S256x1024, .bf16⟩
  | .local _ .vmem, ⟨21, _⟩ => ⟨S256x1024, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x256, .bf16⟩
  | .local _ .vmem, ⟨34, _⟩ => ⟨S2x2048x256, .bf16⟩
  | .local _ .vmem, ⟨35, _⟩ => ⟨S2x2048x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2x2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== Reference6Ideal.lean ====
abbrev S4096x1024 : Shape := ⟨2, ![4096, 1024]⟩
abbrev S4096x256 : Shape := ⟨2, ![4096, 256]⟩
abbrev S4096x512 : Shape := ⟨2, ![4096, 512]⟩
abbrev S4096x5888 : Shape := ⟨2, ![4096, 5888]⟩
abbrev S256x1024 : Shape := ⟨2, ![256, 1024]⟩
abbrev S512x1024 : Shape := ⟨2, ![512, 1024]⟩
abbrev S1024x1024 : Shape := ⟨2, ![1024, 1024]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x512, .f32⟩
  | .hbm, ⟨3, _⟩ => ⟨S4096x5888, .f32⟩
  | .hbm, ⟨4, _⟩ => ⟨S256x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2048, .f32⟩
  | .hbm, ⟨34, _⟩ => ⟨S4096x2048, .f32⟩
  | .hbm, ⟨35, _⟩ => ⟨S4096x1024, .bf16⟩
  | .hbm, ⟨36, _⟩ => ⟨S4096x1024, .bf16⟩
  | .hbm, ⟨37, _⟩ => ⟨S4096x1024, .f32⟩
  | .hbm, ⟨38, _⟩ => ⟨S4096x1024, .f32⟩
  | .hbm, ⟨39, _⟩ => ⟨S1x4096x1024, .f32⟩
  | .hbm, ⟨40, _⟩ => ⟨S1x4096x1024, .f32⟩
  | .hbm, ⟨41, _⟩ => ⟨S2x4096x1024, .f32⟩
  | .hbm, ⟨42, _⟩ => ⟨S2x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S2816x1024 : Shape := ⟨2, ![2816, 1024]⟩
abbrev S5632x1024 : Shape := ⟨2, ![5632, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S1024x1024 : Shape := ⟨2, ![1024, 1024]⟩
abbrev S2x1408x1024 : Shape := ⟨3, ![2, 1408, 1024]⟩
abbrev S2x1024x1408 : Shape := ⟨3, ![2, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S1x1024x1408 : Shape := ⟨3, ![1, 1024, 1408]⟩
abbrev S_ : Shape := ⟨0, ![]⟩
abbrev S8x128 : Shape := ⟨2, ![8, 128]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x1024, .bf16⟩
  | .hbm, ⟨5, _⟩ => ⟨S5632x1024, .f32⟩
  | .hbm, ⟨6, _⟩ => ⟨S2x2816x1024, .f32⟩
  | .hbm, ⟨7, _⟩ => ⟨S2x2816x1024, .bf16⟩
  | .hbm, ⟨8, _⟩ => ⟨S2x4096x2816, .bf16⟩
  | .hbm, ⟨9, _⟩ => ⟨S4096x2816, .bf16⟩
  | .hbm, ⟨10, _⟩ => ⟨S4096x1024, .bf16⟩
  | .hbm, ⟨11, _⟩ => ⟨S2816x1024, .bf16⟩
  | .hbm, ⟨12, _⟩ => ⟨S_, .f32⟩
  | .hbm, ⟨13, _⟩ => ⟨S8x128, .f32⟩
  | .hbm, ⟨14, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1408x1024, .bf16⟩
  | .local _ .vmem, ⟨11, _⟩ => ⟨S1408x1024, .bf16⟩
  | .local _ .vmem, ⟨12, _⟩ => ⟨S2x1024x1408, .bf16⟩
  | .local _ .vmem, ⟨13, _⟩ => ⟨S2x1024x1408, .bf16⟩
  | .local _ .vmem, ⟨14, _⟩ => ⟨S8x128, .f32⟩
  | .local _ .vmem, ⟨15, _⟩ => ⟨S2x1024x1408, .bf16⟩
  | .local _ .vmem, ⟨16, _⟩ => ⟨S2x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference7Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S3x2x4x2048x64 : Shape := ⟨5, ![3, 2, 4, 2048, 64]⟩
abbrev S3x2x4x2048 : Shape := ⟨4, ![3, 2, 4, 2048]⟩
abbrev S1x2x4x2048x64 : Shape := ⟨5, ![1, 2, 4, 2048, 64]⟩
abbrev S2x4x2048x64 : Shape := ⟨4, ![2, 4, 2048, 64]⟩
abbrev S2x2048x4x64 : Shape := ⟨4, ![2, 2048, 4, 64]⟩
abbrev S4096x256 : Shape := ⟨2, ![4096, 256]⟩
abbrev S1x2x4x2048 : Shape := ⟨4, ![1, 2, 4, 2048]⟩
abbrev S2x4x2048 : Shape := ⟨3, ![2, 4, 2048]⟩
abbrev S2x4x2048x1 : Shape := ⟨4, ![2, 4, 2048, 1]⟩
abbrev S1024x256 : Shape := ⟨2, ![1024, 256]⟩

abbrev nBuf : Space → Nat
  | .hbm => 33
  | .vmem => 14
  | .smem => 0
  | _ => 0

abbrev bufTy : (tb : Table) → Fin (tcTables nBuf tb) → BufTy
  | .hbm, ⟨0, _⟩ => ⟨S3x2x4x2048x64, .f32⟩
  | .hbm, ⟨1, _⟩ => ⟨S3x2x4x2048, .f32⟩
  | .hbm, ⟨2, _⟩ => ⟨S1x2x4x2048x64, .f32⟩
  | .hbm, ⟨3, _⟩ => ⟨S2x4x2048x64, .f32⟩
  | .hbm, ⟨4, _⟩ => ⟨S2x2048x4x64, .f32⟩
  | .hbm, ⟨5, _⟩ => ⟨S4096x256, .f32⟩
  | .hbm, ⟨6, _⟩ => ⟨S1x2x4x2048x64, .f32⟩
  | .hbm, ⟨7, _⟩ => ⟨S2x4x2048x64, .f32⟩
  | .hbm, ⟨8, _⟩ => ⟨S2x2048x4x64, .f32⟩
  | .hbm, ⟨9, _⟩ => ⟨S4096x256, .f32⟩
  | .hbm, ⟨10, _⟩ => ⟨S1x2x4x2048x64, .f32⟩
  | .hbm, ⟨11, _⟩ => ⟨S2x4x2048x64, .f32⟩
  | .hbm, ⟨12, _⟩ => ⟨S2x2048x4x64, .f32⟩
  | .hbm, ⟨13, _⟩ => ⟨S4096x256, .f32⟩
  | .hbm, ⟨14, _⟩ => ⟨S1x2x4x2048, .f32⟩
  | .hbm, ⟨15, _⟩ => ⟨S2x4x2048, .f32⟩
  | .hbm, ⟨16, _⟩ => ⟨S2x4x2048x1, .f32⟩
  | .hbm, ⟨17, _⟩ => ⟨S2x4x2048x64, .f32⟩
  | .hbm, ⟨18, _⟩ => ⟨S2x2048x4x64, .f32⟩
  | .hbm, ⟨19, _⟩ => ⟨S4096x256, .f32⟩
  | .hbm, ⟨20, _⟩ => ⟨S1x2x4x2048, .f32⟩
  | .hbm, ⟨21, _⟩ => ⟨S2x4x2048, .f32⟩
  | .hbm, ⟨22, _⟩ => ⟨S2x4x2048x1, .f32⟩
  | .hbm, ⟨23, _⟩ => ⟨S2x4x2048x64, .f32⟩
  | .hbm, ⟨24, _⟩ => ⟨S2x2048x4x64, .f32⟩
  | .hbm, ⟨25, _⟩ => ⟨S4096x256, .f32⟩
  | .hbm, ⟨26, _⟩ => ⟨S1x2x4x2048, .f32⟩
  | .hbm, ⟨27, _⟩ => ⟨S2x4x2048, .f32⟩
  | .hbm, ⟨28, _⟩ => ⟨S2x4x2048x1, .f32⟩
  | .hbm, ⟨29, _⟩ => ⟨S2x4x2048x64, .f32⟩
  | .hbm, ⟨30, _⟩ => ⟨S2x2048x4x64, .f32⟩
  | .hbm, ⟨31, _⟩ => ⟨S4096x256, .f32⟩
  | .hbm, ⟨32, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S3x2x4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S3x2x4x2048x64 : Shape := ⟨5, ![3, 2, 4, 2048, 64]⟩
abbrev S3x2x4x2048 : Shape := ⟨4, ![3, 2, 4, 2048]⟩
abbrev S_ : Shape := ⟨0, ![]⟩
abbrev S2x4x2048 : Shape := ⟨3, ![2, 4, 2048]⟩
abbrev S1x2x4x2048 : Shape := ⟨4, ![1, 2, 4, 2048]⟩
abbrev S3x2x4x2048x1 : Shape := ⟨5, ![3, 2, 4, 2048, 1]⟩
abbrev S2x4x2048x64 : Shape := ⟨4, ![2, 4, 2048, 64]⟩
abbrev S2x2048x4x64 : Shape := ⟨4, ![2, 2048, 4, 64]⟩
abbrev S4096x256 : Shape := ⟨2, ![4096, 256]⟩

abbrev nBuf : Space → Nat
  | .hbm => 23
  | .vmem => 0
  | .smem => 0
  | _ => 0

abbrev bufTy : (tb : Table) → Fin (tcTables nBuf tb) → BufTy
  | .hbm, ⟨0, _⟩ => ⟨S3x2x4x2048x64, .f32⟩
  | .hbm, ⟨1, _⟩ => ⟨S3x2x4x2048, .f32⟩
  | .hbm, ⟨2, _⟩ => ⟨S_, .f32⟩
  | .hbm, ⟨3, _⟩ => ⟨S2x4x2048, .f32⟩
  | .hbm, ⟨4, _⟩ => ⟨S_, .f32⟩
  | .hbm, ⟨5, _⟩ => ⟨S2x4x2048, .f32⟩
  | .hbm, ⟨6, _⟩ => ⟨S2x4x2048, .f32⟩
  | .hbm, ⟨7, _⟩ => ⟨S1x2x4x2048, .f32⟩
  | .hbm, ⟨8, _⟩ => ⟨S3x2x4x2048, .f32⟩
  | .hbm, ⟨9, _⟩ => ⟨S3x2x4x2048, .f32⟩
  | .hbm, ⟨10, _⟩ => ⟨S3x2x4x2048, .f32⟩
  | .hbm, ⟨11, _⟩ => ⟨S_, .f32⟩
  | .hbm, ⟨12, _⟩ => ⟨S2x4x2048, .f32⟩
  | .hbm, ⟨13, _⟩ => ⟨S1x2x4x2048, .f32⟩
  | .hbm, ⟨14, _⟩ => ⟨S3x2x4x2048, .f32⟩
  | .hbm, ⟨15, _⟩ => ⟨S3x2x4x2048, .f32⟩
  | .hbm, ⟨16, _⟩ => ⟨S3x2x4x2048x1, .f32⟩
  | .hbm, ⟨17, _⟩ => ⟨S3x2x4x2048x64, .f32⟩
  | .hbm, ⟨18, _⟩ => ⟨S3x2x4x2048x64, .f32⟩
  | .hbm, ⟨19, _⟩ => ⟨S_, .f32⟩
  | .hbm, ⟨20, _⟩ => ⟨S2x4x2048x64, .f32⟩
  | .hbm, ⟨21, _⟩ => ⟨S2x2048x4x64, .f32⟩
  | .hbm, ⟨22, _⟩ => ⟨S4096x256, .f32⟩
  | _, _ => ⟨S3x2x4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel14.lean ====
abbrev S4096x256 : Shape := ⟨2, ![4096, 256]⟩
abbrev S4096x512 : Shape := ⟨2, ![4096, 512]⟩
abbrev S4096x5888 : Shape := ⟨2, ![4096, 5888]⟩
abbrev S256x1024 : Shape := ⟨2, ![256, 1024]⟩
abbrev S512x1024 : Shape := ⟨2, ![512, 1024]⟩
abbrev S1024x256 : Shape := ⟨2, ![1024, 256]⟩
abbrev S1024x512 : Shape := ⟨2, ![1024, 512]⟩
abbrev S4096x1024 : Shape := ⟨2, ![4096, 1024]⟩
abbrev S2048x256 : Shape := ⟨2, ![2048, 256]⟩
abbrev S2048x512 : Shape := ⟨2, ![2048, 512]⟩
abbrev S256x256 : Shape := ⟨2, ![256, 256]⟩
abbrev S256x512 : Shape := ⟨2, ![256, 512]⟩

abbrev nBuf : Space → Nat
  | .hbm => 12
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x5888, .f32⟩
  | .hbm, ⟨3, _⟩ => ⟨S256x1024, .f32⟩
  | .hbm, ⟨4, _⟩ => ⟨S512x1024, .f32⟩
  | .hbm, ⟨5, _⟩ => ⟨S1024x256, .f32⟩
  | .hbm, ⟨6, _⟩ => ⟨S1024x256, .bf16⟩
  | .hbm, ⟨7, _⟩ => ⟨S1024x512, .f32⟩
  | .hbm, ⟨8, _⟩ => ⟨S1024x512, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S2048x512, .f32⟩
  | .local _ .vmem, ⟨3, _⟩ => ⟨S2048x512, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x512, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4096x256 : Shape := ⟨2, ![4096, 256]⟩
abbrev S4096x512 : Shape := ⟨2, ![4096, 512]⟩
abbrev S4096x5888 : Shape := ⟨2, ![4096, 5888]⟩
abbrev S256x1024 : Shape := ⟨2, ![256, 1024]⟩
abbrev S512x1024 : Shape := ⟨2, ![512, 1024]⟩
abbrev S4096x2048 : Shape := ⟨2, ![4096, 2048]⟩
abbrev S_ : Shape := ⟨0, ![]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x512, .f32⟩
  | .hbm, ⟨2, _⟩ => ⟨S4096x5888, .f32⟩
  | .hbm, ⟨3, _⟩ => ⟨S256x1024, .f32⟩
  | .hbm, ⟨4, _⟩ => ⟨S512x1024, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | .hbm, ⟨23, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4096x1024 : Shape := ⟨2, ![4096, 1024]⟩
abbrev S1024x5632 : Shape := ⟨2, ![1024, 5632]⟩
abbrev S5632x1024 : Shape := ⟨2, ![5632, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S1024x1024 : Shape := ⟨2, ![1024, 1024]⟩
abbrev S2x1408x1024 : Shape := ⟨3, ![2, 1408, 1024]⟩
abbrev S2x1024x1408 : Shape := ⟨3, ![2, 1024, 1408]⟩
abbrev S1024x1408 : Shape := ⟨2, ![1024, 1408]⟩
abbrev S1x1408x1024 : Shape := ⟨3, ![1, 1408, 1024]⟩
abbrev S1408x1024 : Shape := ⟨2, ![1408, 1024]⟩
abbrev S1x1024x1408 : Shape := ⟨3, ![1, 1024, 1408]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S2x2816x1024, .f32⟩
  | .hbm, ⟨5, _⟩ => ⟨S2x2816x1024, .bf16⟩
  | .hbm, ⟨6, _⟩ => ⟨S2x4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x1408, .bf16⟩
  | .local _ .vmem, ⟨7, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x4096x2816, .f32⟩
  | .hbm, ⟨28, _⟩ => ⟨S1x4096x2816, .f32⟩
  | .hbm, ⟨29, _⟩ => ⟨S2x4096x2816, .f32⟩
  | .hbm, ⟨30, _⟩ => ⟨S2x4096x2816, .bf16⟩
  | .hbm, ⟨31, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel17.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x4096x2816 : Shape := ⟨3, ![1, 4096, 2816]⟩
abbrev S1x2816x1024 : Shape := ⟨3, ![1, 2816, 1024]⟩
abbrev S1x1024 : Shape := ⟨2, ![1, 1024]⟩
abbrev S1x512x2816 : Shape := ⟨3, ![1, 512, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S1x4096x2816, .bf16⟩
  | .hbm, ⟨6, _⟩ => ⟨S2816x1024, .bf16⟩
  | .hbm, ⟨7, _⟩ => ⟨S1x2816x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference17Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S1024 : Shape := ⟨1, ![1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1x4096x1024, .bf16⟩
  | .hbm, ⟨6, _⟩ => ⟨S1024x1024, .bf16⟩
  | .hbm, ⟨7, _⟩ => ⟨S1x1024x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference21Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel19.lean ====
abbrev S4096x1024 : Shape := ⟨2, ![4096, 1024]⟩
abbrev S512x1024 : Shape := ⟨2, ![512, 1024]⟩
abbrev S1x4096x1024 : Shape := ⟨3, ![1, 4096, 1024]⟩
abbrev S1024x512 : Shape := ⟨2, ![1024, 512]⟩
abbrev S1x1024x512 : Shape := ⟨3, ![1, 1024, 512]⟩
abbrev S4096x512 : Shape := ⟨2, ![4096, 512]⟩
abbrev S1x1024x1024 : Shape := ⟨3, ![1, 1024, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S4096x1024, .bf16⟩
  | .hbm, ⟨3, _⟩ => ⟨S1x4096x1024, .bf16⟩
  | .hbm, ⟨4, _⟩ => ⟨S1024x512, .f32⟩
  | .hbm, ⟨5, _⟩ => ⟨S1024x512, .bf16⟩
  | .hbm, ⟨6, _⟩ => ⟨S1x1024x512, .bf16⟩
  | .hbm, ⟨7, _⟩ => ⟨S4096x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S1024x512, .f32⟩
  | .hbm, ⟨3, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S2x4096x2816, .bf16⟩
  | .hbm, ⟨3, _⟩ => ⟨S4096x1024, .bf16⟩
  | .hbm, ⟨4, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S2x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S5632x4096 : Shape := ⟨2, ![5632, 4096]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2816, .f32⟩
  | .hbm, ⟨1, _⟩ => ⟨S4096x1024, .f32⟩
  | .hbm, ⟨2, _⟩ => ⟨S1x4096x2816, .f32⟩
  | .hbm, ⟨3, _⟩ => ⟨S4096x2816, .f32⟩
  | .hbm, ⟨4, _⟩ => ⟨S1x4096x2816, .f32⟩
  | .hbm, ⟨5, _⟩ => ⟨S4096x2816, .f32⟩
  | .hbm, ⟨6, _⟩ => ⟨S4096x5632, .f32⟩
  | .hbm, ⟨7, _⟩ => ⟨S5632x4096, .f32⟩
  | .hbm, ⟨8, _⟩ => ⟨S5632x1024, .f32⟩
  | .hbm, ⟨9, _⟩ => ⟨S5632x1024, .bf16⟩
  | _, _ => ⟨S2x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S1x120x128 : Shape := ⟨3, ![1, 120, 128]⟩
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x120x128, .f32⟩
  | .hbm, ⟨1, _⟩ => ⟨S1x120x128, .f32⟩
  | .hbm, ⟨2, _⟩ => ⟨S1x120x128, .f32⟩
  | .hbm, ⟨3, _⟩ => ⟨S1x120x128, .f32⟩
  | .hbm, ⟨4, _⟩ => ⟨S1x120x128, .f32⟩
  | .hbm, ⟨5, _⟩ => ⟨S1x120x128, .f32⟩
  | .hbm, ⟨6, _⟩ => ⟨S1x120x128, .f32⟩
  | .local _ .vmem, ⟨0, _⟩ => ⟨S1x120x128, .f32⟩
  | .local _ .vmem, ⟨1, _⟩ => ⟨S1x120x128, .f32⟩
  | .local _ .vmem, ⟨2, _⟩ => ⟨S1x120x128, .f32⟩
  | .local _ .vmem, ⟨3, _⟩ => ⟨S1x120x128, .f32⟩
  | .local _ .vmem, ⟨4, _⟩ => ⟨S1x120x128, .f32⟩
  | .local _ .vmem, ⟨5, _⟩ => ⟨S1x120x128, .f32⟩
  | .local _ .vmem, ⟨6, _⟩ => ⟨S1x120x128, .f32⟩
  | _, _ => ⟨S1x120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference12Ideal.lean ====
abbrev S1x120x128 : Shape := ⟨3, ![1, 120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x120x128, .f32⟩
  | .hbm, ⟨1, _⟩ => ⟨S1x120x128, .f32⟩
  | .hbm, ⟨2, _⟩ => ⟨S1x120x128, .f32⟩
  | .hbm, ⟨3, _⟩ => ⟨S1x120x128, .f32⟩
  | .hbm, ⟨4, _⟩ => ⟨S_, .f32⟩
  | .hbm, ⟨5, _⟩ => ⟨S1x120x128, .f32⟩
  | .hbm, ⟨6, _⟩ => ⟨S1x120x128, .f32⟩
  | .hbm, ⟨7, _⟩ => ⟨S_, .f32⟩
  | .hbm, ⟨8, _⟩ => ⟨S1x120x128, .f32⟩
  | .hbm, ⟨9, _⟩ => ⟨S1x120x128, .f32⟩
  | .hbm, ⟨10, _⟩ => ⟨S1x120x128, .f32⟩
  | .hbm, ⟨11, _⟩ => ⟨S_, .f32⟩
  | .hbm, ⟨12, _⟩ => ⟨S1x120x128, .f32⟩
  | .hbm, ⟨13, _⟩ => ⟨S1x120x128, .f32⟩
  | .hbm, ⟨14, _⟩ => ⟨S1x120x128, .f32⟩
  | .hbm, ⟨15, _⟩ => ⟨S_, .f32⟩
  | .hbm, ⟨16, _⟩ => ⟨S1x120x128, .f32⟩
  | .hbm, ⟨17, _⟩ => ⟨S1x120x128, .f32⟩
  | .hbm, ⟨18, _⟩ => ⟨S1x120x128, .f32⟩
  | .hbm, ⟨19, _⟩ => ⟨S_, .f32⟩
  | .hbm, ⟨20, _⟩ => ⟨S1x120x128, .f32⟩
  | .hbm, ⟨21, _⟩ => ⟨S1x120x128, .f32⟩
  | .hbm, ⟨22, _⟩ => ⟨S_, .f32⟩
  | .hbm, ⟨23, _⟩ => ⟨S1x120x128, .f32⟩
  | .hbm, ⟨24, _⟩ => ⟨S1x120x128, .f32⟩
  | .hbm, ⟨25, _⟩ => ⟨S1x120x128, .f32⟩
  | .hbm, ⟨26, _⟩ => ⟨S_, .f32⟩
  | .hbm, ⟨27, _⟩ => ⟨S1x120x128, .f32⟩
  | .hbm, ⟨28, _⟩ => ⟨S1x120x128, .f32⟩
  | .hbm, ⟨29, _⟩ => ⟨S1x120x128, .f32⟩
  | .hbm, ⟨30, _⟩ => ⟨S_, .f32⟩
  | .hbm, ⟨31, _⟩ => ⟨S1x120x128, .f32⟩
  | .hbm, ⟨32, _⟩ => ⟨S1x120x128, .f32⟩
  | .hbm, ⟨33, _⟩ => ⟨S1x120x128, .f32⟩
  | .hbm, ⟨34, _⟩ => ⟨S_, .f32⟩
  | .hbm, ⟨35, _⟩ => ⟨S1x120x128, .f32⟩
  | .hbm, ⟨36, _⟩ => ⟨S1x120x128, .f32⟩
  | _, _ => ⟨S1x120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8x736x1024 : Shape := ⟨3, ![8, 736, 1024]⟩
abbrev S2x736x1024 : Shape := ⟨3, ![2, 736, 1024]⟩
abbrev S8x368x1024 : Shape := ⟨3, ![8, 368, 1024]⟩
abbrev S1x368x1024 : Shape := ⟨3, ![1, 368, 1024]⟩
abbrev S368x1024 : Shape := ⟨2, ![368, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x736x1024, .bf16⟩
  | .hbm, ⟨1, _⟩ => ⟨S8x736x1024, .bf16⟩
  | .hbm, ⟨2, _⟩ => ⟨S2x736x1024, .f32⟩
  | .hbm, ⟨3, _⟩ => ⟨S2x736x1024, .f32⟩
  | .hbm, ⟨4, _⟩ => ⟨S2x736x1024, .f32⟩
  | .hbm, ⟨5, _⟩ => ⟨S2x736x1024, .f32⟩
  | .hbm, ⟨6, _⟩ => ⟨S2x736x1024, .f32⟩
  | .hbm, ⟨7, _⟩ => ⟨S2x736x1024, .f32⟩
  | .hbm, ⟨8, _⟩ => ⟨S2x736x1024, .f32⟩
  | .local _ .vmem, ⟨0, _⟩ => ⟨S8x368x1024, .bf16⟩
  | .local _ .vmem, ⟨1, _⟩ => ⟨S8x368x1024, .bf16⟩
  | .local _ .vmem, ⟨2, _⟩ => ⟨S8x368x1024, .bf16⟩
  | .local _ .vmem, ⟨3, _⟩ => ⟨S8x368x1024, .bf16⟩
  | .local _ .vmem, ⟨4, _⟩ => ⟨S1x368x1024, .f32⟩
  | .local _ .vmem, ⟨5, _⟩ => ⟨S1x368x1024, .f32⟩
  | .local _ .vmem, ⟨6, _⟩ => ⟨S1x368x1024, .f32⟩
  | .local _ .vmem, ⟨7, _⟩ => ⟨S1x368x1024, .f32⟩
  | .local _ .vmem, ⟨8, _⟩ => ⟨S1x368x1024, .f32⟩
  | .local _ .vmem, ⟨9, _⟩ => ⟨S1x368x1024, .f32⟩
  | .local _ .vmem, ⟨10, _⟩ => ⟨S1x368x1024, .f32⟩
  | .local _ .vmem, ⟨11, _⟩ => ⟨S1x368x1024, .f32⟩
  | .local _ .vmem, ⟨12, _⟩ => ⟨S1x368x1024, .f32⟩
  | .local _ .vmem, ⟨13, _⟩ => ⟨S1x368x1024, .f32⟩
  | .local _ .vmem, ⟨14, _⟩ => ⟨S1x368x1024, .f32⟩
  | .local _ .vmem, ⟨15, _⟩ => ⟨S1x368x1024, .f32⟩
  | .local _ .vmem, ⟨16, _⟩ => ⟨S1x368x1024, .f32⟩
  | .local _ .vmem, ⟨17, _⟩ => ⟨S1x368x1024, .f32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x368x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x368x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x736x1024 : Shape := ⟨3, ![8, 736, 1024]⟩
abbrev S2x736x1024 : Shape := ⟨3, ![2, 736, 1024]⟩
abbrev S1x8x736x1024 : Shape := ⟨4, ![1, 8, 736, 1024]⟩
abbrev S2x8x736x1024 : Shape := ⟨4, ![2, 8, 736, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S8x736x1024, .bf16⟩
  | .hbm, ⟨2, _⟩ => ⟨S2x736x1024, .f32⟩
  | .hbm, ⟨3, _⟩ => ⟨S2x736x1024, .f32⟩
  | .hbm, ⟨4, _⟩ => ⟨S2x736x1024, .f32⟩
  | .hbm, ⟨5, _⟩ => ⟨S1x8x736x1024, .bf16⟩
  | .hbm, ⟨6, _⟩ => ⟨S1x8x736x1024, .bf16⟩
  | .hbm, ⟨7, _⟩ => ⟨S2x8x736x1024, .bf16⟩
  | .hbm, ⟨8, _⟩ => ⟨S2x8x736x1024, .f32⟩
  | .hbm, ⟨9, _⟩ => ⟨S_, .f32⟩
  | .hbm, ⟨10, _⟩ => ⟨S2x736x1024, .f32⟩
  | .hbm, ⟨11, _⟩ => ⟨S_, .f32⟩
  | .hbm, ⟨12, _⟩ => ⟨S2x736x1024, .f32⟩
  | .hbm, ⟨13, _⟩ => ⟨S2x736x1024, .f32⟩
  | .hbm, ⟨14, _⟩ => ⟨S_, .f32⟩
  | .hbm, ⟨15, _⟩ => ⟨S2x736x1024, .f32⟩
  | .hbm, ⟨16, _⟩ => ⟨S2x736x1024, .f32⟩
  | .hbm, ⟨17, _⟩ => ⟨S2x736x1024, .f32⟩
  | .hbm, ⟨18, _⟩ => ⟨S_, .f32⟩
  | .hbm, ⟨19, _⟩ => ⟨S2x736x1024, .f32⟩
  | .hbm, ⟨20, _⟩ => ⟨S2x736x1024, .f32⟩
  | .hbm, ⟨21, _⟩ => ⟨S2x736x1024, .f32⟩
  | .hbm, ⟨22, _⟩ => ⟨S_, .f32⟩
  | .hbm, ⟨23, _⟩ => ⟨S2x736x1024, .f32⟩
  | .hbm, ⟨24, _⟩ => ⟨S2x736x1024, .f32⟩
  | .hbm, ⟨25, _⟩ => ⟨S2x736x1024, .f32⟩
  | .hbm, ⟨26, _⟩ => ⟨S_, .f32⟩
  | .hbm, ⟨27, _⟩ => ⟨S2x736x1024, .f32⟩
  | .hbm, ⟨28, _⟩ => ⟨S2x736x1024, .f32⟩
  | .hbm, ⟨29, _⟩ => ⟨S_, .f32⟩
  | .hbm, ⟨30, _⟩ => ⟨S2x736x1024, .f32⟩
  | .hbm, ⟨31, _⟩ => ⟨S2x736x1024, .f32⟩
  | .hbm, ⟨32, _⟩ => ⟨S2x736x1024, .f32⟩
  | .hbm, ⟨33, _⟩ => ⟨S_, .f32⟩
  | .hbm, ⟨34, _⟩ => ⟨S2x736x1024, .f32⟩
  | .hbm, ⟨35, _⟩ => ⟨S2x736x1024, .f32⟩
  | .hbm, ⟨36, _⟩ => ⟨S2x736x1024, .f32⟩
  | .hbm, ⟨37, _⟩ => ⟨S_, .f32⟩
  | .hbm, ⟨38, _⟩ => ⟨S2x736x1024, .f32⟩
  | .hbm, ⟨39, _⟩ => ⟨S2x736x1024, .f32⟩
  | .hbm, ⟨40, _⟩ => ⟨S2x736x1024, .f32⟩
  | .hbm, ⟨41, _⟩ => ⟨S_, .f32⟩
  | .hbm, ⟨42, _⟩ => ⟨S2x736x1024, .f32⟩
  | .hbm, ⟨43, _⟩ => ⟨S2x736x1024, .f32⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel22.lean ====
abbrev S4096x1024 : Shape := ⟨2, ![4096, 1024]⟩
abbrev S1024x5888 : Shape := ⟨2, ![1024, 5888]⟩
abbrev S5888x1024 : Shape := ⟨2, ![5888, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S4096x5888 : Shape := ⟨2, ![4096, 5888]⟩
abbrev S1024x1024 : Shape := ⟨2, ![1024, 1024]⟩
abbrev S2944x1024 : Shape := ⟨2, ![2944, 1024]⟩
abbrev S1024x128 : Shape := ⟨2, ![1024, 128]⟩
abbrev S1024x2944 : Shape := ⟨2, ![1024, 2944]⟩

abbrev nBuf : Space → Nat
  | .hbm => 27
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5888, .f32⟩
  | .hbm, ⟨2, _⟩ => ⟨S4096x1024, .bf16⟩
  | .hbm, ⟨3, _⟩ => ⟨S5888x1024, .f32⟩
  | .hbm, ⟨4, _⟩ => ⟨S5888x1024, .bf16⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S2048x32, .f32⟩
  | .hbm, ⟨24, _⟩ => ⟨S2048x32, .f32⟩
  | .hbm, ⟨25, _⟩ => ⟨S2048x128, .f32⟩
  | .hbm, ⟨26, _⟩ => ⟨S4096x5888, .f32⟩
  | .local _ .vmem, ⟨0, _⟩ => ⟨S1024x1024, .bf16⟩
  | .local _ .vmem, ⟨1, _⟩ => ⟨S1024x1024, .bf16⟩
  | .local _ .vmem, ⟨2, _⟩ => ⟨S2944x1024, .bf16⟩
  | .local _ .vmem, ⟨3, _⟩ => ⟨S2944x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2944, .f32⟩
  | .local _ .vmem, ⟨9, _⟩ => ⟨S1024x2944, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2944 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference22Ideal.lean ====
abbrev S4096x1024 : Shape := ⟨2, ![4096, 1024]⟩
abbrev S1024x5888 : Shape := ⟨2, ![1024, 5888]⟩
abbrev S4096x5888 : Shape := ⟨2, ![4096, 5888]⟩
abbrev S4096x2304 : Shape := ⟨2, ![4096, 2304]⟩
abbrev S4096x768 : Shape := ⟨2, ![4096, 768]⟩
abbrev S2048 : Shape := ⟨1, ![2048]⟩
abbrev S2x2048x12x64 : Shape := ⟨4, ![2, 2048, 12, 64]⟩
abbrev S2x12x2048x64 : Shape := ⟨4, ![2, 12, 2048, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2x12x2048x32 : Shape := ⟨4, ![2, 12, 2048, 32]⟩
abbrev S1x1x2048x32 : Shape := ⟨4, ![1, 1, 2048, 32]⟩
abbrev S4096x3584 : Shape := ⟨2, ![4096, 3584]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5888, .f32⟩
  | .hbm, ⟨2, _⟩ => ⟨S4096x5888, .f32⟩
  | .hbm, ⟨3, _⟩ => ⟨S4096x2304, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S2048, .i32⟩
  | .hbm, ⟨8, _⟩ => ⟨S2x2048x12x64, .f32⟩
  | .hbm, ⟨9, _⟩ => ⟨S2x12x2048x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2x12x2048x32, .f32⟩
  | .hbm, ⟨27, _⟩ => ⟨S2x12x2048x32, .f32⟩
  | .hbm, ⟨28, _⟩ => ⟨S1x1x2048x32, .f32⟩
  | .hbm, ⟨29, _⟩ => ⟨S2x12x2048x32, .f32⟩
  | .hbm, ⟨30, _⟩ => ⟨S2x12x2048x32, .f32⟩
  | .hbm, ⟨31, _⟩ => ⟨S1x1x2048x32, .f32⟩
  | .hbm, ⟨32, _⟩ => ⟨S2x12x2048x32, .f32⟩
  | .hbm, ⟨33, _⟩ => ⟨S2x12x2048x32, .f32⟩
  | .hbm, ⟨34, _⟩ => ⟨S2x12x2048x32, .f32⟩
  | .hbm, ⟨35, _⟩ => ⟨S1x1x2048x32, .f32⟩
  | .hbm, ⟨36, _⟩ => ⟨S2x12x2048x32, .f32⟩
  | .hbm, ⟨37, _⟩ => ⟨S2x12x2048x32, .f32⟩
  | .hbm, ⟨38, _⟩ => ⟨S1x1x2048x32, .f32⟩
  | .hbm, ⟨39, _⟩ => ⟨S2x12x2048x32, .f32⟩
  | .hbm, ⟨40, _⟩ => ⟨S2x12x2048x32, .f32⟩
  | .hbm, ⟨41, _⟩ => ⟨S2x12x2048x32, .f32⟩
  | .hbm, ⟨42, _⟩ => ⟨S2x12x2048x64, .f32⟩
  | .hbm, ⟨43, _⟩ => ⟨S2x2048x12x64, .f32⟩
  | .hbm, ⟨44, _⟩ => ⟨S4096x768, .f32⟩
  | .hbm, ⟨45, _⟩ => ⟨S2x2048x12x64, .f32⟩
  | .hbm, ⟨46, _⟩ => ⟨S2x12x2048x64, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048, .f32⟩
  | .hbm, ⟨56, _⟩ => ⟨S2048x1, .f32⟩
  | .hbm, ⟨57, _⟩ => ⟨S1x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2x12x2048x32, .f32⟩
  | .hbm, ⟨64, _⟩ => ⟨S2x12x2048x32, .f32⟩
  | .hbm, ⟨65, _⟩ => ⟨S1x1x2048x32, .f32⟩
  | .hbm, ⟨66, _⟩ => ⟨S2x12x2048x32, .f32⟩
  | .hbm, ⟨67, _⟩ => ⟨S2x12x2048x32, .f32⟩
  | .hbm, ⟨68, _⟩ => ⟨S1x1x2048x32, .f32⟩
  | .hbm, ⟨69, _⟩ => ⟨S2x12x2048x32, .f32⟩
  | .hbm, ⟨70, _⟩ => ⟨S2x12x2048x32, .f32⟩
  | .hbm, ⟨71, _⟩ => ⟨S2x12x2048x32, .f32⟩
  | .hbm, ⟨72, _⟩ => ⟨S1x1x2048x32, .f32⟩
  | .hbm, ⟨73, _⟩ => ⟨S2x12x2048x32, .f32⟩
  | .hbm, ⟨74, _⟩ => ⟨S2x12x2048x32, .f32⟩
  | .hbm, ⟨75, _⟩ => ⟨S1x1x2048x32, .f32⟩
  | .hbm, ⟨76, _⟩ => ⟨S2x12x2048x32, .f32⟩
  | .hbm, ⟨77, _⟩ => ⟨S2x12x2048x32, .f32⟩
  | .hbm, ⟨78, _⟩ => ⟨S2x12x2048x32, .f32⟩
  | .hbm, ⟨79, _⟩ => ⟨S2x12x2048x64, .f32⟩
  | .hbm, ⟨80, _⟩ => ⟨S2x2048x12x64, .f32⟩
  | .hbm, ⟨81, _⟩ => ⟨S4096x768, .f32⟩
  | .hbm, ⟨82, _⟩ => ⟨S4096x3584, .f32⟩
  | .hbm, ⟨83, _⟩ => ⟨S4096x5888, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩

abbrev nD : Nat := 1
abbrev τ : Topo := Topo.v7x

variable {F : FTy → Type} [FloatOps F]
-- ==== Kernel23.lean ====
abbrev S4x8x512x128 : Shape := ⟨4, ![4, 8, 512, 128]⟩
abbrev S64 : Shape := ⟨1, ![64]⟩
abbrev S1x64 : Shape := ⟨2, ![1, 64]⟩
abbrev S64x1 : Shape := ⟨2, ![64, 1]⟩
abbrev S_ : Shape := ⟨0, ![]⟩
abbrev S64x64 : Shape := ⟨2, ![64, 64]⟩
abbrev S1x64x1x64 : Shape := ⟨4, ![1, 64, 1, 64]⟩
abbrev S8x64x2x64 : Shape := ⟨4, ![8, 64, 2, 64]⟩
abbrev S512x128 : Shape := ⟨2, ![512, 128]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S8x8x512 : Shape := ⟨3, ![8, 8, 512]⟩
abbrev S1x8x512x128 : Shape := ⟨4, ![1, 8, 512, 128]⟩
abbrev S2x8x512 : Shape := ⟨3, ![2, 8, 512]⟩
abbrev S1x1x512x128 : Shape := ⟨4, ![1, 1, 512, 128]⟩
abbrev S128x512 : Shape := ⟨2, ![128, 512]⟩
abbrev S64x512 : Shape := ⟨2, ![64, 512]⟩
abbrev S8x512 : Shape := ⟨2, ![8, 512]⟩
abbrev S1x1x512 : Shape := ⟨3, ![1, 1, 512]⟩
abbrev S1x8x512 : Shape := ⟨3, ![1, 8, 512]⟩

abbrev nBuf : Space → Nat
  | .hbm => 73
  | .vmem => 6
  | .smem => 0
  | _ => 0

abbrev bufTy : (tb : Table) → Fin (tcTables nBuf tb) → BufTy
  | .hbm, ⟨0, _⟩ => ⟨S4x8x512x128, .f32⟩
  | .hbm, ⟨1, _⟩ => ⟨S64, .i32⟩
  | .hbm, ⟨2, _⟩ => ⟨S1x64, .i32⟩
  | .hbm, ⟨3, _⟩ => ⟨S64, .i32⟩
  | .hbm, ⟨4, _⟩ => ⟨S64x1, .i32⟩
  | .hbm, ⟨5, _⟩ => ⟨S_, .i32⟩
  | .hbm, ⟨6, _⟩ => ⟨S1x64, .i32⟩
  | .hbm, ⟨7, _⟩ => ⟨S1x64, .i32⟩
  | .hbm, ⟨8, _⟩ => ⟨S_, .i32⟩
  | .hbm, ⟨9, _⟩ => ⟨S1x64, .i32⟩
  | .hbm, ⟨10, _⟩ => ⟨S1x64, .i32⟩
  | .hbm, ⟨11, _⟩ => ⟨S_, .i32⟩
  | .hbm, ⟨12, _⟩ => ⟨S1x64, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S_, .i32⟩
  | .hbm, ⟨18, _⟩ => ⟨S1x64, .i32⟩
  | .hbm, ⟨19, _⟩ => ⟨S1x64, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S64x64, .i1⟩
  | .hbm, ⟨24, _⟩ => ⟨S1x64x1x64, .i1⟩
  | .hbm, ⟨25, _⟩ => ⟨S8x64x2x64, .i1⟩
  | .hbm, ⟨26, _⟩ => ⟨S512x128, .i1⟩
  | .hbm, ⟨27, _⟩ => ⟨S4x8x512x128, .i1⟩
  | .hbm, ⟨28, _⟩ => ⟨S_, .f32⟩
  | .hbm, ⟨29, _⟩ => ⟨S4x8x512x128, .f32⟩
  | .hbm, ⟨30, _⟩ => ⟨S4x8x512x128, .f32⟩
  | .hbm, ⟨31, _⟩ => ⟨S8x64, .i32⟩
  | .hbm, ⟨32, _⟩ => ⟨S8x64, .i32⟩
  | .hbm, ⟨33, _⟩ => ⟨S_, .i32⟩
  | .hbm, ⟨34, _⟩ => ⟨S8x64, .i32⟩
  | .hbm, ⟨35, _⟩ => ⟨S8x64, .i1⟩
  | .hbm, ⟨36, _⟩ => ⟨S_, .i32⟩
  | .hbm, ⟨37, _⟩ => ⟨S8x64, .i32⟩
  | .hbm, ⟨38, _⟩ => ⟨S_, .i32⟩
  | .hbm, ⟨39, _⟩ => ⟨S8x64, .i32⟩
  | .hbm, ⟨40, _⟩ => ⟨S8x64, .i32⟩
  | .hbm, ⟨41, _⟩ => ⟨S_, .i32⟩
  | .hbm, ⟨42, _⟩ => ⟨S8x64, .i32⟩
  | .hbm, ⟨43, _⟩ => ⟨S8x64, .i32⟩
  | .hbm, ⟨44, _⟩ => ⟨S8x64, .i32⟩
  | .hbm, ⟨45, _⟩ => ⟨S_, .i32⟩
  | .hbm, ⟨46, _⟩ => ⟨S8x64, .i32⟩
  | .hbm, ⟨47, _⟩ => ⟨S8x64, .i1⟩
  | .hbm, ⟨48, _⟩ => ⟨S_, .i32⟩
  | .hbm, ⟨49, _⟩ => ⟨S8x64, .i32⟩
  | .hbm, ⟨50, _⟩ => ⟨S8x64, .i32⟩
  | .hbm, ⟨51, _⟩ => ⟨S_, .i32⟩
  | .hbm, ⟨52, _⟩ => ⟨S8x64, .i32⟩
  | .hbm, ⟨53, _⟩ => ⟨S8x64, .i32⟩
  | .hbm, ⟨54, _⟩ => ⟨S8x64, .i32⟩
  | .hbm, ⟨55, _⟩ => ⟨S_, .i32⟩
  | .hbm, ⟨56, _⟩ => ⟨S8x64, .i32⟩
  | .hbm, ⟨57, _⟩ => ⟨S8x64, .i1⟩
  | .hbm, ⟨58, _⟩ => ⟨S8x64, .i32⟩
  | .hbm, ⟨59, _⟩ => ⟨S_, .i32⟩
  | .hbm, ⟨60, _⟩ => ⟨S8x64, .i32⟩
  | .hbm, ⟨61, _⟩ => ⟨S8x64, .i32⟩
  | .hbm, ⟨62, _⟩ => ⟨S_, .i32⟩
  | .hbm, ⟨63, _⟩ => ⟨S8x64, .i32⟩
  | .hbm, ⟨64, _⟩ => ⟨S8x64, .i32⟩
  | .hbm, ⟨65, _⟩ => ⟨S8x64, .i32⟩
  | .hbm, ⟨66, _⟩ => ⟨S512x1, .i32⟩
  | .hbm, ⟨67, _⟩ => ⟨S1x512, .i32⟩
  | .hbm, ⟨68, _⟩ => ⟨S512x512, .i32⟩
  | .hbm, ⟨69, _⟩ => ⟨S512x512, .i32⟩
  | .hbm, ⟨70, _⟩ => ⟨S512x512, .i1⟩
  | .hbm, ⟨71, _⟩ => ⟨S512x512, .bf16⟩
  | .hbm, ⟨72, _⟩ => ⟨S8x8x512, .f32⟩
  | .local _ .vmem, ⟨0, _⟩ => ⟨S1x8x512x128, .f32⟩
  | .local _ .vmem, ⟨1, _⟩ => ⟨S1x8x512x128, .f32⟩
  | .local _ .vmem, ⟨2, _⟩ => ⟨S512x512, .bf16⟩
  | .local _ .vmem, ⟨3, _⟩ => ⟨S2x8x512, .f32⟩
  | .local _ .vmem, ⟨4, _⟩ => ⟨S2x8x512, .f32⟩
  | .local _ .vmem, ⟨5, _⟩ => ⟨S2x8x512, .f32⟩
  | _, _ => ⟨S4x8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_3 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_v36 : Ref sig .tc := ⟨.hbm, 47, rfl⟩
abbrev main_c_8 : Ref sig .tc := ⟨.hbm, 48, rfl⟩
abbrev main_v37 : Ref sig .tc := ⟨.hbm, 49, rfl⟩
abbrev main_v38 : Ref sig .tc := ⟨.hbm, 50, rfl⟩
abbrev main_c_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_11 : Ref sig .tc := ⟨.hbm, 59, rfl⟩
abbrev main_v45 : Ref sig .tc := ⟨.hbm, 60, rfl⟩
abbrev main_v46 : Ref sig .tc := ⟨.hbm, 61, rfl⟩
abbrev main_c_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4x8x512x128 : Shape := ⟨4, ![4, 8, 512, 128]⟩
abbrev S_ : Shape := ⟨0, ![]⟩
abbrev S8x15x31 : Shape := ⟨3, ![8, 15, 31]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x8x1 : Shape := ⟨3, ![8, 8, 1]⟩
abbrev S15 : Shape := ⟨1, ![15]⟩
abbrev S1x1x15 : Shape := ⟨3, ![1, 1, 15]⟩
abbrev S8x8x15 : Shape := ⟨3, ![8, 8, 15]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S8x8x8x31 : Shape := ⟨4, ![8, 8, 8, 31]⟩
abbrev S8x8x8x64x64 : Shape := ⟨5, ![8, 8, 8, 64, 64]⟩
abbrev S4x2x8x8x64x64 : Shape := ⟨6, ![4, 2, 8, 8, 64, 64]⟩
abbrev S4x8x8x64x2x64 : Shape := ⟨6, ![4, 8, 8, 64, 2, 64]⟩
abbrev S8x31x15 : Shape := ⟨3, ![8, 31, 15]⟩
abbrev S8x16x32 : Shape := ⟨3, ![8, 16, 32]⟩
abbrev S8x1x512 : Shape := ⟨3, ![8, 1, 512]⟩
abbrev S8x8x512 : Shape := ⟨3, ![8, 8, 512]⟩

abbrev nBuf : Space → Nat
  | .hbm => 93
  | .vmem => 0
  | .smem => 0
  | _ => 0

abbrev bufTy : (tb : Table) → Fin (tcTables nBuf tb) → BufTy
  | .hbm, ⟨0, _⟩ => ⟨S4x8x512x128, .f32⟩
  | .hbm, ⟨1, _⟩ => ⟨S_, .f32⟩
  | .hbm, ⟨2, _⟩ => ⟨S8x15x31, .f32⟩
  | .hbm, ⟨3, _⟩ => ⟨S8, .i32⟩
  | .hbm, ⟨4, _⟩ => ⟨S8x1, .i32⟩
  | .hbm, ⟨5, _⟩ => ⟨S8, .i32⟩
  | .hbm, ⟨6, _⟩ => ⟨S1x8, .i32⟩
  | .hbm, ⟨7, _⟩ => ⟨S8x8, .i32⟩
  | .hbm, ⟨8, _⟩ => ⟨S8x8, .i32⟩
  | .hbm, ⟨9, _⟩ => ⟨S8x8, .i32⟩
  | .hbm, ⟨10, _⟩ => ⟨S64, .i32⟩
  | .hbm, ⟨11, _⟩ => ⟨S64x1, .i32⟩
  | .hbm, ⟨12, _⟩ => ⟨S64, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S8x8x1, .i32⟩
  | .hbm, ⟨29, _⟩ => ⟨S15, .i32⟩
  | .hbm, ⟨30, _⟩ => ⟨S1x1x15, .i32⟩
  | .hbm, ⟨31, _⟩ => ⟨S8x8x15, .i32⟩
  | .hbm, ⟨32, _⟩ => ⟨S8x8x15, .i32⟩
  | .hbm, ⟨33, _⟩ => ⟨S8x8x15, .i1⟩
  | .hbm, ⟨34, _⟩ => ⟨S8x8x15, .f32⟩
  | .hbm, ⟨35, _⟩ => ⟨S64x64x1, .i32⟩
  | .hbm, ⟨36, _⟩ => ⟨S31, .i32⟩
  | .hbm, ⟨37, _⟩ => ⟨S1x1x31, .i32⟩
  | .hbm, ⟨38, _⟩ => ⟨S64x64x31, .i32⟩
  | .hbm, ⟨39, _⟩ => ⟨S64x64x31, .i32⟩
  | .hbm, ⟨40, _⟩ => ⟨S64x64x31, .i1⟩
  | .hbm, ⟨41, _⟩ => ⟨S64x64x31, .f32⟩
  | .hbm, ⟨42, _⟩ => ⟨S8x8x8x31, .f32⟩
  | .hbm, ⟨43, _⟩ => ⟨S8x8x8x31, .f32⟩
  | .hbm, ⟨44, _⟩ => ⟨S8x8x8x64x64, .f32⟩
  | .hbm, ⟨45, _⟩ => ⟨S64, .i32⟩
  | .hbm, ⟨46, _⟩ => ⟨S1x64, .i32⟩
  | .hbm, ⟨47, _⟩ => ⟨S64, .i32⟩
  | .hbm, ⟨48, _⟩ => ⟨S64x1, .i32⟩
  | .hbm, ⟨49, _⟩ => ⟨S_, .i32⟩
  | .hbm, ⟨50, _⟩ => ⟨S1x64, .i32⟩
  | .hbm, ⟨51, _⟩ => ⟨S1x64, .i32⟩
  | .hbm, ⟨52, _⟩ => ⟨S_, .i32⟩
  | .hbm, ⟨53, _⟩ => ⟨S1x64, .i32⟩
  | .hbm, ⟨54, _⟩ => ⟨S1x64, .i32⟩
  | .hbm, ⟨55, _⟩ => ⟨S_, .i32⟩
  | .hbm, ⟨56, _⟩ => ⟨S1x64, .i32⟩
  | .hbm, ⟨57, _⟩ => ⟨S1x64, .i32⟩
  | .hbm, ⟨58, _⟩ => ⟨S64x64, .i32⟩
  | .hbm, ⟨59, _⟩ => ⟨S64x64, .i32⟩
  | .hbm, ⟨60, _⟩ => ⟨S64x64, .i1⟩
  | .hbm, ⟨61, _⟩ => ⟨S_, .i32⟩
  | .hbm, ⟨62, _⟩ => ⟨S1x64, .i32⟩
  | .hbm, ⟨63, _⟩ => ⟨S1x64, .i32⟩
  | .hbm, ⟨64, _⟩ => ⟨S64x64, .i32⟩
  | .hbm, ⟨65, _⟩ => ⟨S64x64, .i32⟩
  | .hbm, ⟨66, _⟩ => ⟨S64x64, .i1⟩
  | .hbm, ⟨67, _⟩ => ⟨S64x64, .i1⟩
  | .hbm, ⟨68, _⟩ => ⟨S_, .f32⟩
  | .hbm, ⟨69, _⟩ => ⟨S_, .f32⟩
  | .hbm, ⟨70, _⟩ => ⟨S8x8x8x64x64, .i1⟩
  | .hbm, ⟨71, _⟩ => ⟨S8x8x8x64x64, .f32⟩
  | .hbm, ⟨72, _⟩ => ⟨S8x8x8x64x64, .f32⟩
  | .hbm, ⟨73, _⟩ => ⟨S_, .f32⟩
  | .hbm, ⟨74, _⟩ => ⟨S8x8x8x64x64, .f32⟩
  | .hbm, ⟨75, _⟩ => ⟨S4x2x8x8x64x64, .f32⟩
  | .hbm, ⟨76, _⟩ => ⟨S4x8x8x64x2x64, .f32⟩
  | .hbm, ⟨77, _⟩ => ⟨S4x8x512x128, .f32⟩
  | .hbm, ⟨78, _⟩ => ⟨S4x8x8x64x2x64, .f32⟩
  | .hbm, ⟨79, _⟩ => ⟨S4x2x8x8x64x64, .f32⟩
  | .hbm, ⟨80, _⟩ => ⟨S8x8x8x64x64, .f32⟩
  | .hbm, ⟨81, _⟩ => ⟨S_, .f32⟩
  | .hbm, ⟨82, _⟩ => ⟨S8x8x8x64x64, .f32⟩
  | .hbm, ⟨83, _⟩ => ⟨S8x8x8x64x64, .f32⟩
  | .hbm, ⟨84, _⟩ => ⟨S8x8x8x31, .f32⟩
  | .hbm, ⟨85, _⟩ => ⟨S8x8x8x31, .f32⟩
  | .hbm, ⟨86, _⟩ => ⟨S8x31x15, .f32⟩
  | .hbm, ⟨87, _⟩ => ⟨S8x15x31, .f32⟩
  | .hbm, ⟨88, _⟩ => ⟨S_, .i32⟩
  | .hbm, ⟨89, _⟩ => ⟨S_, .f32⟩
  | .hbm, ⟨90, _⟩ => ⟨S8x16x32, .f32⟩
  | .hbm, ⟨91, _⟩ => ⟨S8x1x512, .f32⟩
  | .hbm, ⟨92, _⟩ => ⟨S8x8x512, .f32⟩
  | _, _ => ⟨S4x8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_call1_v0 : Ref sig .tc := ⟨.hbm, 69, rfl⟩
abbrev main_v54_1 : Ref sig .tc := ⟨.hbm, 70, rfl⟩
abbrev main_call1_v2 : Ref sig .tc := ⟨.hbm, 71, rfl⟩
abbrev main_v54_0 : Ref sig .tc := ⟨.hbm, 72, rfl⟩
abbrev main_call1_cst : Ref sig .tc := ⟨.hbm, 73, rfl⟩
abbrev main_v54_2 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_cst : Ref sig .tc := ⟨.hbm, 81, rfl⟩
abbrev main_call2_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_7 : Ref sig .tc := ⟨.hbm, 88, rfl⟩
abbrev main_call3_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel2.lean ====
abbrev S2x2048x5888 : Shape := ⟨3, ![2, 2048, 5888]⟩
abbrev S2x4x2048x64 : Shape := ⟨4, ![2, 4, 2048, 64]⟩
abbrev S2x4x2048 : Shape := ⟨3, ![2, 4, 2048]⟩
abbrev S2x2048x2304 : Shape := ⟨3, ![2, 2048, 2304]⟩
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S2x4x2048x1x64 : Shape := ⟨5, ![2, 4, 2048, 1, 64]⟩
abbrev S2x4x1x2048x64 : Shape := ⟨5, ![2, 4, 1, 2048, 64]⟩
abbrev S_ : Shape := ⟨0, ![]⟩
abbrev S2x4x1x0x64 : Shape := ⟨5, ![2, 4, 1, 0, 64]⟩
abbrev S2x4x1x32x64x64 : Shape := ⟨6, ![2, 4, 1, 32, 64, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S2x4x1x64x64 : Shape := ⟨5, ![2, 4, 1, 64, 64]⟩
abbrev S2x4x1x2176x64 : Shape := ⟨5, ![2, 4, 1, 2176, 64]⟩
abbrev S32x192x1 : Shape := ⟨3, ![32, 192, 1]⟩
abbrev S2x4x1x32x192x64 : Shape := ⟨6, ![2, 4, 1, 32, 192, 64]⟩
abbrev S64 : Shape := ⟨1, ![64]⟩
abbrev S1x64 : Shape := ⟨2, ![1, 64]⟩
abbrev S32x64 : Shape := ⟨2, ![32, 64]⟩
abbrev S32x1x192 : Shape := ⟨3, ![32, 1, 192]⟩
abbrev S32x64x1 : Shape := ⟨3, ![32, 64, 1]⟩
abbrev S32x64x192 : Shape := ⟨3, ![32, 64, 192]⟩
abbrev S2x4x1x32x64x192 : Shape := ⟨6, ![2, 4, 1, 32, 64, 192]⟩
abbrev S2x4x1x32x64 : Shape := ⟨5, ![2, 4, 1, 32, 64]⟩
abbrev S2x4x1x32x64x1 : Shape := ⟨6, ![2, 4, 1, 32, 64, 1]⟩
abbrev S2x4x1x2048 : Shape := ⟨4, ![2, 4, 1, 2048]⟩
abbrev S2x4x2048x1 : Shape := ⟨4, ![2, 4, 2048, 1]⟩
abbrev S4096x5888 : Shape := ⟨2, ![4096, 5888]⟩
abbrev S2x2048x4x64 : Shape := ⟨4, ![2, 2048, 4, 64]⟩
abbrev S4096x256 : Shape := ⟨2, ![4096, 256]⟩
abbrev S2048x128 : Shape := ⟨2, ![2048, 128]⟩
abbrev S1x128 : Shape := ⟨2, ![1, 128]⟩
abbrev S256x256 : Shape := ⟨2, ![256, 256]⟩
abbrev S128x128 : Shape := ⟨2, ![128, 128]⟩
abbrev S256x128 : Shape := ⟨2, ![256, 128]⟩
abbrev S1x256 : Shape := ⟨2, ![1, 256]⟩

abbrev nBuf : Space → Nat
  | .hbm => 148
  | .vmem => 18
  | .smem => 0
  | _ => 0

abbrev hbmTy0_0 (i : Nat) : BufTy := match i % 128 with
  | 0 => ⟨S2x2048x5888, .f32⟩
  | 1 => ⟨S2x4x2048x64, .f32⟩
  | 2 => ⟨S2x4x2048, .f32⟩
  | 3 => ⟨S2x2048x2304, .f32⟩
  | 4 => ⟨S2x2048x768, .f32⟩
  | 5 => ⟨S2x2048x768, .f32⟩
  | 6 => ⟨S2x2048x768, .f32⟩
  | 7 => ⟨S2x2048x12x64, .f32⟩
  | 8 => ⟨S2x12x2048x64, .f32⟩
  | 9 => ⟨S2x2048x12x64, .f32⟩
  | 10 => ⟨S2x12x2048x64, .f32⟩
  | 11 => ⟨S2x2048x12x64, .f32⟩
  | 12 => ⟨S2x12x2048x64, .f32⟩
  | 13 => ⟨S2x4x2048x64, .f32⟩
  | 14 => ⟨S2x4x2048x64, .f32⟩
  | 15 => ⟨S2x4x2048x64, .f32⟩
  | 16 => ⟨S2x4x2048x1x64, .f32⟩
  | 17 => ⟨S2x4x1x2048x64, .f32⟩
  | 18 => ⟨S_, .f32⟩
  | 19 => ⟨S2x4x1x0x64, .f32⟩
  | 20 => ⟨S_, .f32⟩
  | 21 => ⟨S2x4x1x0x64, .f32⟩
  | 22 => ⟨S2x4x1x2048x64, .f32⟩
  | 23 => ⟨S2x4x1x32x64x64, .f32⟩
  | 24 => ⟨S32, .i32⟩
  | 25 => ⟨S32x1, .i32⟩
  | 26 => ⟨S_, .i32⟩
  | 27 => ⟨S32x1, .i32⟩
  | 28 => ⟨S32x1, .i32⟩
  | 29 => ⟨S192, .i32⟩
  | 30 => ⟨S1x192, .i32⟩
  | 31 => ⟨S32x192, .i32⟩
  | 32 => ⟨S32x192, .i32⟩
  | 33 => ⟨S32x192, .i32⟩
  | 34 => ⟨S2x4x2048x1x64, .f32⟩
  | 35 => ⟨S2x4x1x2048x64, .f32⟩
  | 36 => ⟨S_, .f32⟩
  | 37 => ⟨S2x4x1x64x64, .f32⟩
  | 38 => ⟨S_, .f32⟩
  | 39 => ⟨S2x4x1x64x64, .f32⟩
  | 40 => ⟨S2x4x1x2176x64, .f32⟩
  | 41 => ⟨S_, .i32⟩
  | 42 => ⟨S32x192, .i32⟩
  | 43 => ⟨S32x192, .i1⟩
  | 44 => ⟨S_, .i32⟩
  | 45 => ⟨S32x192, .i32⟩
  | 46 => ⟨S32x192, .i32⟩
  | 47 => ⟨S32x192, .i32⟩
  | 48 => ⟨S32x192x1, .i32⟩
  | 49 => ⟨S2x4x1x32x192x64, .f32⟩
  | 50 => ⟨S2x4x2048x1x64, .f32⟩
  | 51 => ⟨S2x4x1x2048x64, .f32⟩
  | 52 => ⟨S_, .f32⟩
  | 53 => ⟨S2x4x1x64x64, .f32⟩
  | 54 => ⟨S_, .f32⟩
  | 55 => ⟨S2x4x1x64x64, .f32⟩
  | 56 => ⟨S2x4x1x2176x64, .f32⟩
  | 57 => ⟨S_, .i32⟩
  | 58 => ⟨S32x192, .i32⟩
  | 59 => ⟨S32x192, .i1⟩
  | 60 => ⟨S_, .i32⟩
  | 61 => ⟨S32x192, .i32⟩
  | 62 => ⟨S32x192, .i32⟩
  | 63 => ⟨S32x192, .i32⟩
  | 64 => ⟨S32x192x1, .i32⟩
  | 65 => ⟨S2x4x1x32x192x64, .f32⟩
  | 66 => ⟨S32, .i32⟩
  | 67 => ⟨S32x1, .i32⟩
  | 68 => ⟨S_, .i32⟩
  | 69 => ⟨S32x1, .i32⟩
  | 70 => ⟨S32x1, .i32⟩
  | 71 => ⟨S64, .i32⟩
  | 72 => ⟨S1x64, .i32⟩
  | 73 => ⟨S32x64, .i32⟩
  | 74 => ⟨S32x64, .i32⟩
  | 75 => ⟨S32x64, .i32⟩
  | 76 => ⟨S_, .i32⟩
  | 77 => ⟨S32x192, .i32⟩
  | 78 => ⟨S32x192, .i32⟩
  | 79 => ⟨S32x1x192, .i32⟩
  | 80 => ⟨S32x64x1, .i32⟩
  | 81 => ⟨S32x64x192, .i32⟩
  | 82 => ⟨S32x64x192, .i32⟩
  | 83 => ⟨S32x64x192, .i32⟩
  | 84 => ⟨S32x64x192, .i32⟩
  | 85 => ⟨S_, .i32⟩
  | 86 => ⟨S32x64x192, .i32⟩
  | 87 => ⟨S32x64x192, .i1⟩
  | 88 => ⟨S32x1x192, .i32⟩
  | 89 => ⟨S_, .i32⟩
  | 90 => ⟨S32x1x192, .i32⟩
  | 91 => ⟨S32x1x192, .i1⟩
  | 92 => ⟨S32x64x192, .i1⟩
  | 93 => ⟨S32x64x192, .i1⟩
  | 94 => ⟨S32x1x192, .i32⟩
  | 95 => ⟨S_, .i32⟩
  | 96 => ⟨S32x1x192, .i32⟩
  | 97 => ⟨S32x1x192, .i1⟩
  | 98 => ⟨S32x64x192, .i1⟩
  | 99 => ⟨S32x64x192, .i1⟩
  | 100 => ⟨S2x4x1x32x64x192, .f32⟩
  | 101 => ⟨S_, .f32⟩
  | 102 => ⟨S2x4x1x32x64x192, .f32⟩
  | 103 => ⟨S2x4x1x32x64x192, .f32⟩
  | 104 => ⟨S_, .f32⟩
  | 105 => ⟨S_, .f32⟩
  | 106 => ⟨S2x4x1x32x64x192, .i1⟩
  | 107 => ⟨S2x4x1x32x64x192, .f32⟩
  | 108 => ⟨S2x4x1x32x64x192, .f32⟩
  | 109 => ⟨S_, .f32⟩
  | 110 => ⟨S2x4x1x32x64, .f32⟩
  | 111 => ⟨S2x4x1x32x64x1, .f32⟩
  | 112 => ⟨S2x4x1x32x64x192, .f32⟩
  | 113 => ⟨S2x4x1x32x64x192, .f32⟩
  | 114 => ⟨S2x4x1x32x64x192, .f32⟩
  | 115 => ⟨S_, .f32⟩
  | 116 => ⟨S2x4x1x32x64, .f32⟩
  | 117 => ⟨S2x4x1x32x64x64, .f32⟩
  | 118 => ⟨S2x4x1x32x64x1, .f32⟩
  | 119 => ⟨S2x4x1x32x64x64, .f32⟩
  | 120 => ⟨S2x4x1x32x64x64, .f32⟩
  | 121 => ⟨S2x4x1x32x64, .f32⟩
  | 122 => ⟨S2x4x1x32x64, .f32⟩
  | 123 => ⟨S2x4x1x32x64, .f32⟩
  | 124 => ⟨S2x4x1x2048x64, .f32⟩
  | 125 => ⟨S2x4x2048x1x64, .f32⟩
  | 126 => ⟨S2x4x2048x64, .f32⟩
  | 127 => ⟨S2x4x1x2048, .f32⟩
  | _ => ⟨S2x2048x5888, .f32⟩

abbrev hbmTy0_1 (i : Nat) : BufTy := match i % 128 with
  | 0 => ⟨S2x4x2048x1, .f32⟩
  | 1 => ⟨S2x4x2048, .f32⟩
  | 2 => ⟨S2x4x2048x64, .f32⟩
  | 3 => ⟨S_, .f32⟩
  | 4 => ⟨S2x4x2048, .f32⟩
  | 5 => ⟨S2x4x2048, .f32⟩
  | 6 => ⟨S4096x5888, .f32⟩
  | 7 => ⟨S2x2048x4x64, .f32⟩
  | 8 => ⟨S4096x256, .f32⟩
  | 9 => ⟨S2x4x2048x1, .f32⟩
  | 10 => ⟨S2x4x2048x64, .f32⟩
  | 11 => ⟨S2x2048x4x64, .f32⟩
  | 12 => ⟨S4096x256, .f32⟩
  | 13 => ⟨S2x4x2048x1, .f32⟩
  | 14 => ⟨S2x4x2048x64, .f32⟩
  | 15 => ⟨S2x2048x4x64, .f32⟩
  | 16 => ⟨S4096x256, .f32⟩
  | 17 => ⟨S4096x256, .f32⟩
  | 18 => ⟨S4096x256, .f32⟩
  | 19 => ⟨S4096x256, .f32⟩
  | _ => ⟨S2x2048x5888, .f32⟩

abbrev hbmTy (i : Nat) : BufTy := match i / 128 with
  | 0 => hbmTy0_0 i
  | 1 => hbmTy0_1 i
  | _ => ⟨S2x2048x5888, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_12 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_cst_15 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_18 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118_0 : Ref sig .tc := ⟨.hbm, 145, rfl⟩
abbrev main_v118_1 : Ref sig .tc := ⟨.hbm, 146, rfl⟩
abbrev main_v118_2 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_mult1 (k0_t1 : Fin k0_t1_loop.trips) : BitVec 32 :=
  let c128_i32_15 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let c0_i32_7 : BitVec 32 := 0#32
  let v13 : BitVec 32 := Scalar.addi v12 c0_i32_7
  let c16_i32 : BitVec 32 := 16#32
  let c0_i32_8 : BitVec 32 := 0#32
  let v14 : BitVec 1 := Scalar.cmpi .eq c16_i32 c0_i32_8
  let c1_i32_9 : BitVec 32 := 1#32
  let v15 : BitVec 32 := Scalar.select v14 c1_i32_9 c16_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v28 : BitVec 32 := Scalar.muli c128_i32_15 v23
  v28
def k0_mult2 (k0_t1 : Fin k0_t1_loop.trips) : BitVec 32 :=
  let c1792_i32 : BitVec 32 := 1792#32
  let c0_i32_14 : BitVec 32 := 0#32
  let c128_i32 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let c0_i32_7 : BitVec 32 := 0#32
  let v13 : BitVec 32 := Scalar.addi v12 c0_i32_7
  let c16_i32 : BitVec 32 := 16#32
  let c0_i32_8 : BitVec 32 := 0#32
  let v14 : BitVec 1 := Scalar.cmpi .eq c16_i32 c0_i32_8
  let c1_i32_9 : BitVec 32 := 1#32
  let v15 : BitVec 32 := Scalar.select v14 c1_i32_9 c16_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v24 : BitVec 32 := Scalar.muli c128_i32 v23
  let c64_i32_13 : BitVec 32 := 64#32
  let v25 : BitVec 32 := Scalar.subi v24 c64_i32_13
  let v26 : BitVec 32 := Scalar.maxsi c0_i32_14 v25
  let v27 : BitVec 32 := Scalar.minsi c1792_i32 v26
  v27
def k0_mult3 (k0_t1 : Fin k0_t1_loop.trips) : BitVec 32 :=
  let c128_i32_36 : BitVec 32 := 128#32
  let c0_i32 : BitVec 32 := 0#32
  let c1_i32 : BitVec 32 := 1#32
  let arg11 : BitVec 32 := Scf.iv c0_i32 c1_i32 k0_t1
  let c4_i32_24 : BitVec 32 := 4#32
  let v57 : BitVec 32 := Scalar.muli arg11 c4_i32_24
  let c1_i32_25 : BitVec 32 := 1#32
  let v58 : BitVec 32 := Scalar.addi v57 c1_i32_25
  let c16_i32_26 : BitVec 32 := 16#32
  let c0_i32_27 : BitVec 32 := 0#32
  let v59 : BitVec 1 := Scalar.cmpi .eq c16_i32_26 c0_i32_27
  let c1_i32_28 : BitVec 32 := 1#32
  let v60 : BitVec 32 := Scalar.select v59 c1_i32_28 c16_i32_26
  let v61 : BitVec 32 := Scalar.remsi v58 v60
  let c0_i32_30 : BitVec 32 := 0#32
  let v63 : BitVec 1 := Scalar.cmpi .slt v61 c0_i32_30
  let c0_i32_31 : BitVec 32 := 0#32
  let v64 : BitVec 1 := Scalar.cmpi .slt v60 c0_i32_31
  let v65 : BitVec 1 := Scalar.xori v63 v64
  let c0_i32_29 : BitVec 32 := 0#32
  let v62 : BitVec 1 := Scalar.cmpi .ne v61 c0_i32_29
  let v66 : BitVec 1 := Scalar.andi v65 v62
  let v67 : BitVec 32 := Scalar.addi v61 v60
  let v68 : BitVec 32 := Scalar.select v66 v67 v61
  let v73 : BitVec 32 := Scalar.muli c128_i32_36 v68
  v73
def k0_mult4 (k0_t1 : Fin k0_t1_loop.trips) : BitVec 32 :=
  let c1792_i32_35 : BitVec 32 := 1792#32
  let c0_i32_34 : BitVec 32 := 0#32
  let c128_i32_32 : BitVec 32 := 128#32
  let c0_i32 : BitVec 32 := 0#32
  let c1_i32 : BitVec 32 := 1#32
  let arg11 : BitVec 32 := Scf.iv c0_i32 c1_i32 k0_t1
  let c4_i32_24 : BitVec 32 := 4#32
  let v57 : BitVec 32 := Scalar.muli arg11 c4_i32_24
  let c1_i32_25 : BitVec 32 := 1#32
  let v58 : BitVec 32 := Scalar.addi v57 c1_i32_25
  let c16_i32_26 : BitVec 32 := 16#32
  let c0_i32_27 : BitVec 32 := 0#32
  let v59 : BitVec 1 := Scalar.cmpi .eq c16_i32_26 c0_i32_27
  let c1_i32_28 : BitVec 32 := 1#32
  let v60 : BitVec 32 := Scalar.select v59 c1_i32_28 c16_i32_26
  let v61 : BitVec 32 := Scalar.remsi v58 v60
  let c0_i32_30 : BitVec 32 := 0#32
  let v63 : BitVec 1 := Scalar.cmpi .slt v61 c0_i32_30
  let c0_i32_31 : BitVec 32 := 0#32
  let v64 : BitVec 1 := Scalar.cmpi .slt v60 c0_i32_31
  let v65 : BitVec 1 := Scalar.xori v63 v64
  let c0_i32_29 : BitVec 32 := 0#32
  let v62 : BitVec 1 := Scalar.cmpi .ne v61 c0_i32_29
  let v66 : BitVec 1 := Scalar.andi v65 v62
  let v67 : BitVec 32 := Scalar.addi v61 v60
  let v68 : BitVec 32 := Scalar.select v66 v67 v61
  let v69 : BitVec 32 := Scalar.muli c128_i32_32 v68
  let c64_i32_33 : BitVec 32 := 64#32
  let v70 : BitVec 32 := Scalar.subi v69 c64_i32_33
  let v71 : BitVec 32 := Scalar.maxsi c0_i32_34 v70
  let v72 : BitVec 32 := Scalar.minsi c1792_i32_35 v71
  v72
def k0_mult5 (k0_t1 : Fin k0_t1_loop.trips) : BitVec 32 :=
  let c128_i32_56 : BitVec 32 := 128#32
  let c0_i32 : BitVec 32 := 0#32
  let c1_i32 : BitVec 32 := 1#32
  let arg11 : BitVec 32 := Scf.iv c0_i32 c1_i32 k0_t1
  let c4_i32_45 : BitVec 32 := 4#32
  let v102 : BitVec 32 := Scalar.muli arg11 c4_i32_45
  let c2_i32 : BitVec 32 := 2#32
  let v103 : BitVec 32 := Scalar.addi v102 c2_i32
  let c16_i32_46 : BitVec 32 := 16#32
  let c0_i32_47 : BitVec 32 := 0#32
  let v104 : BitVec 1 := Scalar.cmpi .eq c16_i32_46 c0_i32_47
  let c1_i32_48 : BitVec 32 := 1#32
  let v105 : BitVec 32 := Scalar.select v104 c1_i32_48 c16_i32_46
  let v106 : BitVec 32 := Scalar.remsi v103 v105
  let c0_i32_50 : BitVec 32 := 0#32
  let v108 : BitVec 1 := Scalar.cmpi .slt v106 c0_i32_50
  let c0_i32_51 : BitVec 32 := 0#32
  let v109 : BitVec 1 := Scalar.cmpi .slt v105 c0_i32_51
  let v110 : BitVec 1 := Scalar.xori v108 v109
  let c0_i32_49 : BitVec 32 := 0#32
  let v107 : BitVec 1 := Scalar.cmpi .ne v106 c0_i32_49
  let v111 : BitVec 1 := Scalar.andi v110 v107
  let v112 : BitVec 32 := Scalar.addi v106 v105
  let v113 : BitVec 32 := Scalar.select v111 v112 v106
  let v118 : BitVec 32 := Scalar.muli c128_i32_56 v113
  v118
def k0_mult6 (k0_t1 : Fin k0_t1_loop.trips) : BitVec 32 :=
  let c1792_i32_55 : BitVec 32 := 1792#32
  let c0_i32_54 : BitVec 32 := 0#32
  let c128_i32_52 : BitVec 32 := 128#32
  let c0_i32 : BitVec 32 := 0#32
  let c1_i32 : BitVec 32 := 1#32
  let arg11 : BitVec 32 := Scf.iv c0_i32 c1_i32 k0_t1
  let c4_i32_45 : BitVec 32 := 4#32
  let v102 : BitVec 32 := Scalar.muli arg11 c4_i32_45
  let c2_i32 : BitVec 32 := 2#32
  let v103 : BitVec 32 := Scalar.addi v102 c2_i32
  let c16_i32_46 : BitVec 32 := 16#32
  let c0_i32_47 : BitVec 32 := 0#32
  let v104 : BitVec 1 := Scalar.cmpi .eq c16_i32_46 c0_i32_47
  let c1_i32_48 : BitVec 32 := 1#32
  let v105 : BitVec 32 := Scalar.select v104 c1_i32_48 c16_i32_46
  let v106 : BitVec 32 := Scalar.remsi v103 v105
  let c0_i32_50 : BitVec 32 := 0#32
  let v108 : BitVec 1 := Scalar.cmpi .slt v106 c0_i32_50
  let c0_i32_51 : BitVec 32 := 0#32
  let v109 : BitVec 1 := Scalar.cmpi .slt v105 c0_i32_51
  let v110 : BitVec 1 := Scalar.xori v108 v109
  let c0_i32_49 : BitVec 32 := 0#32
  let v107 : BitVec 1 := Scalar.cmpi .ne v106 c0_i32_49
  let v111 : BitVec 1 := Scalar.andi v110 v107
  let v112 : BitVec 32 := Scalar.addi v106 v105
  let v113 : BitVec 32 := Scalar.select v111 v112 v106
  let v114 : BitVec 32 := Scalar.muli c128_i32_52 v113
  let c64_i32_53 : BitVec 32 := 64#32
  let v115 : BitVec 32 := Scalar.subi v114 c64_i32_53
  let v116 : BitVec 32 := Scalar.maxsi c0_i32_54 v115
  let v117 : BitVec 32 := Scalar.minsi c1792_i32_55 v116
  v117
def k0_mult7 (k0_t1 : Fin k0_t1_loop.trips) : BitVec 32 :=
  let c128_i32_76 : BitVec 32 := 128#32
  let c0_i32 : BitVec 32 := 0#32
  let c1_i32 : BitVec 32 := 1#32
  let arg11 : BitVec 32 := Scf.iv c0_i32 c1_i32 k0_t1
  let c4_i32_65 : BitVec 32 := 4#32
  let v147 : BitVec 32 := Scalar.muli arg11 c4_i32_65
  let c3_i32 : BitVec 32 := 3#32
  let v148 : BitVec 32 := Scalar.addi v147 c3_i32
  let c16_i32_66 : BitVec 32 := 16#32
  let c0_i32_67 : BitVec 32 := 0#32
  let v149 : BitVec 1 := Scalar.cmpi .eq c16_i32_66 c0_i32_67
  let c1_i32_68 : BitVec 32 := 1#32
  let v150 : BitVec 32 := Scalar.select v149 c1_i32_68 c16_i32_66
  let v151 : BitVec 32 := Scalar.remsi v148 v150
  let c0_i32_70 : BitVec 32 := 0#32
  let v153 : BitVec 1 := Scalar.cmpi .slt v151 c0_i32_70
  let c0_i32_71 : BitVec 32 := 0#32
  let v154 : BitVec 1 := Scalar.cmpi .slt v150 c0_i32_71
  let v155 : BitVec 1 := Scalar.xori v153 v154
  let c0_i32_69 : BitVec 32 := 0#32
  let v152 : BitVec 1 := Scalar.cmpi .ne v151 c0_i32_69
  let v156 : BitVec 1 := Scalar.andi v155 v152
  let v157 : BitVec 32 := Scalar.addi v151 v150
  let v158 : BitVec 32 := Scalar.select v156 v157 v151
  let v163 : BitVec 32 := Scalar.muli c128_i32_76 v158
  v163
def k0_mult8 (k0_t1 : Fin k0_t1_loop.trips) : BitVec 32 :=
  let c1792_i32_75 : BitVec 32 := 1792#32
  let c0_i32_74 : BitVec 32 := 0#32
  let c128_i32_72 : BitVec 32 := 128#32
  let c0_i32 : BitVec 32 := 0#32
  let c1_i32 : BitVec 32 := 1#32
  let arg11 : BitVec 32 := Scf.iv c0_i32 c1_i32 k0_t1
  let c4_i32_65 : BitVec 32 := 4#32
  let v147 : BitVec 32 := Scalar.muli arg11 c4_i32_65
  let c3_i32 : BitVec 32 := 3#32
  let v148 : BitVec 32 := Scalar.addi v147 c3_i32
  let c16_i32_66 : BitVec 32 := 16#32
  let c0_i32_67 : BitVec 32 := 0#32
  let v149 : BitVec 1 := Scalar.cmpi .eq c16_i32_66 c0_i32_67
  let c1_i32_68 : BitVec 32 := 1#32
  let v150 : BitVec 32 := Scalar.select v149 c1_i32_68 c16_i32_66
  let v151 : BitVec 32 := Scalar.remsi v148 v150
  let c0_i32_70 : BitVec 32 := 0#32
  let v153 : BitVec 1 := Scalar.cmpi .slt v151 c0_i32_70
  let c0_i32_71 : BitVec 32 := 0#32
  let v154 : BitVec 1 := Scalar.cmpi .slt v150 c0_i32_71
  let v155 : BitVec 1 := Scalar.xori v153 v154
  let c0_i32_69 : BitVec 32 := 0#32
  let v152 : BitVec 1 := Scalar.cmpi .ne v151 c0_i32_69
  let v156 : BitVec 1 := Scalar.andi v155 v152
  let v157 : BitVec 32 := Scalar.addi v151 v150
  let v158 : BitVec 32 := Scalar.select v156 v157 v151
  let v159 : BitVec 32 := Scalar.muli c128_i32_72 v158
  let c64_i32_73 : BitVec 32 := 64#32
  let v160 : BitVec 32 := Scalar.subi v159 c64_i32_73
  let v161 : BitVec 32 := Scalar.maxsi c0_i32_74 v160
  let v162 : BitVec 32 := Scalar.minsi c1792_i32_75 v161
  v162
def k0_off1 (k0_t1 : Fin k0_t1_loop.trips) (c0_i32_7 : BitVec 32) : Fin 2 → Nat :=
  let c128_i32_15 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c16_i32 : BitVec 32 := 16#32
  let c0_i32_8 : BitVec 32 := 0#32
  let v14 : BitVec 1 := Scalar.cmpi .eq c16_i32 c0_i32_8
  let c1_i32_9 : BitVec 32 := 1#32
  let v15 : BitVec 32 := Scalar.select v14 c1_i32_9 c16_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v28 : BitVec 32 := Scalar.muli c128_i32_15 v23
  let v29 : BitVec 32 := v28
  let v192 : Index := Scalar.indexCast v29
  let c0_85 : Index := 0#32
  ![v192.toNat, 0]
def k0_off2 (k0_t1 : Fin k0_t1_loop.trips) (c0_i32_7 : BitVec 32) : Fin 2 → Nat :=
  let c1792_i32 : BitVec 32 := 1792#32
  let c0_i32_14 : BitVec 32 := 0#32
  let c128_i32 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c16_i32 : BitVec 32 := 16#32
  let c0_i32_8 : BitVec 32 := 0#32
  let v14 : BitVec 1 := Scalar.cmpi .eq c16_i32 c0_i32_8
  let c1_i32_9 : BitVec 32 := 1#32
  let v15 : BitVec 32 := Scalar.select v14 c1_i32_9 c16_i32
  let v16 : BitVec 32 := Scalar.remsi v13 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let v24 : BitVec 32 := Scalar.muli c128_i32 v23
  let c64_i32_13 : BitVec 32 := 64#32
  let v25 : BitVec 32 := Scalar.subi v24 c64_i32_13
  let v26 : BitVec 32 := Scalar.maxsi c0_i32_14 v25
  let v27 : BitVec 32 := Scalar.minsi c1792_i32 v26
  let v30 : BitVec 32 := v27
  let v228 : Index := Scalar.indexCast v30
  let c0_89 : Index := 0#32
  ![v228.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3.lean ====
abbrev S2x2048x5888 : Shape := ⟨3, ![2, 2048, 5888]⟩
abbrev S2x4x2048x64 : Shape := ⟨4, ![2, 4, 2048, 64]⟩
abbrev S2x4x2048 : Shape := ⟨3, ![2, 4, 2048]⟩
abbrev S2x2048x2304 : Shape := ⟨3, ![2, 2048, 2304]⟩
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S2x4x512x4x64 : Shape := ⟨5, ![2, 4, 512, 4, 64]⟩
abbrev S2x4x4x512x64 : Shape := ⟨5, ![2, 4, 4, 512, 64]⟩
abbrev S_ : Shape := ⟨0, ![]⟩
abbrev S2x4x4x0x64 : Shape := ⟨5, ![2, 4, 4, 0, 64]⟩
abbrev S2x4x4x8x64x64 : Shape := ⟨6, ![2, 4, 4, 8, 64, 64]⟩
abbrev S8 : Shape := ⟨1, ![8]⟩
abbrev S8x1 : Shape := ⟨2, ![8, 1]⟩
abbrev S192 : Shape := ⟨1, ![192]⟩
abbrev S1x192 : Shape := ⟨2, ![1, 192]⟩
abbrev S8x192 : Shape := ⟨2, ![8, 192]⟩
abbrev S2x4x4x64x64 : Shape := ⟨5, ![2, 4, 4, 64, 64]⟩
abbrev S2x4x4x640x64 : Shape := ⟨5, ![2, 4, 4, 640, 64]⟩
abbrev S8x192x1 : Shape := ⟨3, ![8, 192, 1]⟩
abbrev S2x4x4x8x192x64 : Shape := ⟨6, ![2, 4, 4, 8, 192, 64]⟩
abbrev S64 : Shape := ⟨1, ![64]⟩
abbrev S1x64 : Shape := ⟨2, ![1, 64]⟩
abbrev S8x64 : Shape := ⟨2, ![8, 64]⟩
abbrev S8x1x192 : Shape := ⟨3, ![8, 1, 192]⟩
abbrev S8x64x1 : Shape := ⟨3, ![8, 64, 1]⟩
abbrev S8x64x192 : Shape := ⟨3, ![8, 64, 192]⟩
abbrev S2x4x4x8x64x192 : Shape := ⟨6, ![2, 4, 4, 8, 64, 192]⟩
abbrev S2x4x4x8x64 : Shape := ⟨5, ![2, 4, 4, 8, 64]⟩
abbrev S2x4x4x8x64x1 : Shape := ⟨6, ![2, 4, 4, 8, 64, 1]⟩
abbrev S2x4x4x512 : Shape := ⟨4, ![2, 4, 4, 512]⟩
abbrev S2x4x512x4 : Shape := ⟨4, ![2, 4, 512, 4]⟩
abbrev S4096x5888 : Shape := ⟨2, ![4096, 5888]⟩
abbrev S2x2048x4x64 : Shape := ⟨4, ![2, 2048, 4, 64]⟩
abbrev S4096x256 : Shape := ⟨2, ![4096, 256]⟩
abbrev S2x4x2048x1 : Shape := ⟨4, ![2, 4, 2048, 1]⟩
abbrev S2048x128 : Shape := ⟨2, ![2048, 128]⟩
abbrev S1x128 : Shape := ⟨2, ![1, 128]⟩
abbrev S256x256 : Shape := ⟨2, ![256, 256]⟩
abbrev S128x128 : Shape := ⟨2, ![128, 128]⟩
abbrev S256x128 : Shape := ⟨2, ![256, 128]⟩
abbrev S1x256 : Shape := ⟨2, ![1, 256]⟩

abbrev nBuf : Space → Nat
  | .hbm => 148
  | .vmem => 18
  | .smem => 0
  | _ => 0

abbrev hbmTy0_0 (i : Nat) : BufTy := match i % 128 with
  | 0 => ⟨S2x2048x5888, .f32⟩
  | 1 => ⟨S2x4x2048x64, .f32⟩
  | 2 => ⟨S2x4x2048, .f32⟩
  | 3 => ⟨S2x2048x2304, .f32⟩
  | 4 => ⟨S2x2048x768, .f32⟩
  | 5 => ⟨S2x2048x768, .f32⟩
  | 6 => ⟨S2x2048x768, .f32⟩
  | 7 => ⟨S2x2048x12x64, .f32⟩
  | 8 => ⟨S2x12x2048x64, .f32⟩
  | 9 => ⟨S2x2048x12x64, .f32⟩
  | 10 => ⟨S2x12x2048x64, .f32⟩
  | 11 => ⟨S2x2048x12x64, .f32⟩
  | 12 => ⟨S2x12x2048x64, .f32⟩
  | 13 => ⟨S2x4x2048x64, .f32⟩
  | 14 => ⟨S2x4x2048x64, .f32⟩
  | 15 => ⟨S2x4x2048x64, .f32⟩
  | 16 => ⟨S2x4x512x4x64, .f32⟩
  | 17 => ⟨S2x4x4x512x64, .f32⟩
  | 18 => ⟨S_, .f32⟩
  | 19 => ⟨S2x4x4x0x64, .f32⟩
  | 20 => ⟨S_, .f32⟩
  | 21 => ⟨S2x4x4x0x64, .f32⟩
  | 22 => ⟨S2x4x4x512x64, .f32⟩
  | 23 => ⟨S2x4x4x8x64x64, .f32⟩
  | 24 => ⟨S8, .i32⟩
  | 25 => ⟨S8x1, .i32⟩
  | 26 => ⟨S_, .i32⟩
  | 27 => ⟨S8x1, .i32⟩
  | 28 => ⟨S8x1, .i32⟩
  | 29 => ⟨S192, .i32⟩
  | 30 => ⟨S1x192, .i32⟩
  | 31 => ⟨S8x192, .i32⟩
  | 32 => ⟨S8x192, .i32⟩
  | 33 => ⟨S8x192, .i32⟩
  | 34 => ⟨S2x4x512x4x64, .f32⟩
  | 35 => ⟨S2x4x4x512x64, .f32⟩
  | 36 => ⟨S_, .f32⟩
  | 37 => ⟨S2x4x4x64x64, .f32⟩
  | 38 => ⟨S_, .f32⟩
  | 39 => ⟨S2x4x4x64x64, .f32⟩
  | 40 => ⟨S2x4x4x640x64, .f32⟩
  | 41 => ⟨S_, .i32⟩
  | 42 => ⟨S8x192, .i32⟩
  | 43 => ⟨S8x192, .i1⟩
  | 44 => ⟨S_, .i32⟩
  | 45 => ⟨S8x192, .i32⟩
  | 46 => ⟨S8x192, .i32⟩
  | 47 => ⟨S8x192, .i32⟩
  | 48 => ⟨S8x192x1, .i32⟩
  | 49 => ⟨S2x4x4x8x192x64, .f32⟩
  | 50 => ⟨S2x4x512x4x64, .f32⟩
  | 51 => ⟨S2x4x4x512x64, .f32⟩
  | 52 => ⟨S_, .f32⟩
  | 53 => ⟨S2x4x4x64x64, .f32⟩
  | 54 => ⟨S_, .f32⟩
  | 55 => ⟨S2x4x4x64x64, .f32⟩
  | 56 => ⟨S2x4x4x640x64, .f32⟩
  | 57 => ⟨S_, .i32⟩
  | 58 => ⟨S8x192, .i32⟩
  | 59 => ⟨S8x192, .i1⟩
  | 60 => ⟨S_, .i32⟩
  | 61 => ⟨S8x192, .i32⟩
  | 62 => ⟨S8x192, .i32⟩
  | 63 => ⟨S8x192, .i32⟩
  | 64 => ⟨S8x192x1, .i32⟩
  | 65 => ⟨S2x4x4x8x192x64, .f32⟩
  | 66 => ⟨S8, .i32⟩
  | 67 => ⟨S8x1, .i32⟩
  | 68 => ⟨S_, .i32⟩
  | 69 => ⟨S8x1, .i32⟩
  | 70 => ⟨S8x1, .i32⟩
  | 71 => ⟨S64, .i32⟩
  | 72 => ⟨S1x64, .i32⟩
  | 73 => ⟨S8x64, .i32⟩
  | 74 => ⟨S8x64, .i32⟩
  | 75 => ⟨S8x64, .i32⟩
  | 76 => ⟨S_, .i32⟩
  | 77 => ⟨S8x192, .i32⟩
  | 78 => ⟨S8x192, .i32⟩
  | 79 => ⟨S8x1x192, .i32⟩
  | 80 => ⟨S8x64x1, .i32⟩
  | 81 => ⟨S8x64x192, .i32⟩
  | 82 => ⟨S8x64x192, .i32⟩
  | 83 => ⟨S8x64x192, .i32⟩
  | 84 => ⟨S8x64x192, .i32⟩
  | 85 => ⟨S_, .i32⟩
  | 86 => ⟨S8x64x192, .i32⟩
  | 87 => ⟨S8x64x192, .i1⟩
  | 88 => ⟨S8x1x192, .i32⟩
  | 89 => ⟨S_, .i32⟩
  | 90 => ⟨S8x1x192, .i32⟩
  | 91 => ⟨S8x1x192, .i1⟩
  | 92 => ⟨S8x64x192, .i1⟩
  | 93 => ⟨S8x64x192, .i1⟩
  | 94 => ⟨S8x1x192, .i32⟩
  | 95 => ⟨S_, .i32⟩
  | 96 => ⟨S8x1x192, .i32⟩
  | 97 => ⟨S8x1x192, .i1⟩
  | 98 => ⟨S8x64x192, .i1⟩
  | 99 => ⟨S8x64x192, .i1⟩
  | 100 => ⟨S2x4x4x8x64x192, .f32⟩
  | 101 => ⟨S_, .f32⟩
  | 102 => ⟨S2x4x4x8x64x192, .f32⟩
  | 103 => ⟨S2x4x4x8x64x192, .f32⟩
  | 104 => ⟨S_, .f32⟩
  | 105 => ⟨S_, .f32⟩
  | 106 => ⟨S2x4x4x8x64x192, .i1⟩
  | 107 => ⟨S2x4x4x8x64x192, .f32⟩
  | 108 => ⟨S2x4x4x8x64x192, .f32⟩
  | 109 => ⟨S_, .f32⟩
  | 110 => ⟨S2x4x4x8x64, .f32⟩
  | 111 => ⟨S2x4x4x8x64x1, .f32⟩
  | 112 => ⟨S2x4x4x8x64x192, .f32⟩
  | 113 => ⟨S2x4x4x8x64x192, .f32⟩
  | 114 => ⟨S2x4x4x8x64x192, .f32⟩
  | 115 => ⟨S_, .f32⟩
  | 116 => ⟨S2x4x4x8x64, .f32⟩
  | 117 => ⟨S2x4x4x8x64x64, .f32⟩
  | 118 => ⟨S2x4x4x8x64x1, .f32⟩
  | 119 => ⟨S2x4x4x8x64x64, .f32⟩
  | 120 => ⟨S2x4x4x8x64x64, .f32⟩
  | 121 => ⟨S2x4x4x8x64, .f32⟩
  | 122 => ⟨S2x4x4x8x64, .f32⟩
  | 123 => ⟨S2x4x4x8x64, .f32⟩
  | 124 => ⟨S2x4x4x512x64, .f32⟩
  | 125 => ⟨S2x4x512x4x64, .f32⟩
  | 126 => ⟨S2x4x2048x64, .f32⟩
  | 127 => ⟨S2x4x4x512, .f32⟩
  | _ => ⟨S2x2048x5888, .f32⟩

abbrev hbmTy0_1 (i : Nat) : BufTy := match i % 128 with
  | 0 => ⟨S2x4x512x4, .f32⟩
  | 1 => ⟨S2x4x2048, .f32⟩
  | 2 => ⟨S2x4x2048x64, .f32⟩
  | 3 => ⟨S_, .f32⟩
  | 4 => ⟨S2x4x2048, .f32⟩
  | 5 => ⟨S2x4x2048, .f32⟩
  | 6 => ⟨S4096x5888, .f32⟩
  | 7 => ⟨S2x2048x4x64, .f32⟩
  | 8 => ⟨S4096x256, .f32⟩
  | 9 => ⟨S2x4x2048x1, .f32⟩
  | 10 => ⟨S2x4x2048x64, .f32⟩
  | 11 => ⟨S2x2048x4x64, .f32⟩
  | 12 => ⟨S4096x256, .f32⟩
  | 13 => ⟨S2x4x2048x1, .f32⟩
  | 14 => ⟨S2x4x2048x64, .f32⟩
  | 15 => ⟨S2x2048x4x64, .f32⟩
  | 16 => ⟨S4096x256, .f32⟩
  | 17 => ⟨S4096x256, .f32⟩
  | 18 => ⟨S4096x256, .f32⟩
  | 19 => ⟨S4096x256, .f32⟩
  | _ => ⟨S2x2048x5888, .f32⟩

abbrev hbmTy (i : Nat) : BufTy := match i / 128 with
  | 0 => hbmTy0_0 i
  | 1 => hbmTy0_1 i
  | _ => ⟨S2x2048x5888, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_12 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_cst_15 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_18 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118_0 : Ref sig .tc := ⟨.hbm, 145, rfl⟩
abbrev main_v118_1 : Ref sig .tc := ⟨.hbm, 146, rfl⟩
abbrev main_v118_2 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_off1 (k0_t1 : Fin k0_t1_loop.trips) (c0_i32_7 : BitVec 32) : Fin 2 → Nat :=
  let c128_i32_23 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v45 : BitVec 32 := Scalar.muli c128_i32_23 v40
  let c4_i32_24 : BitVec 32 := 4#32
  let v46 : BitVec 32 := Scalar.muli v45 c4_i32_24
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32_8 : BitVec 32 := 4#32
  let c0_i32_11 : BitVec 32 := 0#32
  let v20 : BitVec 1 := Scalar.cmpi .sgt c4_i32_8 c0_i32_11
  let v21 : BitVec 32 := Scalar.extui v20
  let c0_i32_12 : BitVec 32 := 0#32
  let v22 : BitVec 1 := Scalar.cmpi .slt c4_i32_8 c0_i32_12
  let v23 : BitVec 32 := Scalar.extui v22
  let v24 : BitVec 32 := Scalar.subi v21 v23
  let v25 : BitVec 1 := Scalar.cmpi .ne v19 v24
  let v26 : BitVec 32 := Scalar.remsi v13 c4_i32_8
  let c0_i32_13 : BitVec 32 := 0#32
  let v27 : BitVec 1 := Scalar.cmpi .ne v26 c0_i32_13
  let v28 : BitVec 1 := Scalar.andi v25 v27
  let v14 : BitVec 32 := Scalar.divsi v13 c4_i32_8
  let c1_i32_14 : BitVec 32 := 1#32
  let v29 : BitVec 32 := Scalar.subi v14 c1_i32_14
  let v30 : BitVec 32 := Scalar.select v28 v29 v14
  let v47 : BitVec 32 := Scalar.addi v46 v30
  let v268 : Index := Scalar.indexCast v47
  let c0_122 : Index := 0#32
  ![v268.toNat, 0]
def k0_off2 (k0_t1 : Fin k0_t1_loop.trips) (c0_i32_7 : BitVec 32) : Fin 2 → Nat :=
  let c256_i32 : BitVec 32 := 256#32
  let c0_i32_22 : BitVec 32 := 0#32
  let c128_i32 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v41 : BitVec 32 := Scalar.muli c128_i32 v40
  let c64_i32_21 : BitVec 32 := 64#32
  let v42 : BitVec 32 := Scalar.subi v41 c64_i32_21
  let v43 : BitVec 32 := Scalar.maxsi c0_i32_22 v42
  let v44 : BitVec 32 := Scalar.minsi c256_i32 v43
  let c4_i32_25 : BitVec 32 := 4#32
  let v48 : BitVec 32 := Scalar.muli v44 c4_i32_25
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c4_i32_8 : BitVec 32 := 4#32
  let c0_i32_11 : BitVec 32 := 0#32
  let v20 : BitVec 1 := Scalar.cmpi .sgt c4_i32_8 c0_i32_11
  let v21 : BitVec 32 := Scalar.extui v20
  let c0_i32_12 : BitVec 32 := 0#32
  let v22 : BitVec 1 := Scalar.cmpi .slt c4_i32_8 c0_i32_12
  let v23 : BitVec 32 := Scalar.extui v22
  let v24 : BitVec 32 := Scalar.subi v21 v23
  let v25 : BitVec 1 := Scalar.cmpi .ne v19 v24
  let v26 : BitVec 32 := Scalar.remsi v13 c4_i32_8
  let c0_i32_13 : BitVec 32 := 0#32
  let v27 : BitVec 1 := Scalar.cmpi .ne v26 c0_i32_13
  let v28 : BitVec 1 := Scalar.andi v25 v27
  let v14 : BitVec 32 := Scalar.divsi v13 c4_i32_8
  let c1_i32_14 : BitVec 32 := 1#32
  let v29 : BitVec 32 := Scalar.subi v14 c1_i32_14
  let v30 : BitVec 32 := Scalar.select v28 v29 v14
  let v49 : BitVec 32 := Scalar.addi v48 v30
  let v304 : Index := Scalar.indexCast v49
  let c0_126 : Index := 0#32
  ![v304.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4.lean ====
abbrev S2x2048x5888 : Shape := ⟨3, ![2, 2048, 5888]⟩
abbrev S2x4x2048x64 : Shape := ⟨4, ![2, 4, 2048, 64]⟩
abbrev S2x4x2048 : Shape := ⟨3, ![2, 4, 2048]⟩
abbrev S2x2048x2304 : Shape := ⟨3, ![2, 2048, 2304]⟩
abbrev S2x2048x768 : Shape := ⟨3, ![2, 2048, 768]⟩
abbrev S2x2048x12x64 : Shape := ⟨4, ![2, 2048, 12, 64]⟩
abbrev S2x12x2048x64 : Shape := ⟨4, ![2, 12, 2048, 64]⟩
abbrev S2x4x128x16x64 : Shape := ⟨5, ![2, 4, 128, 16, 64]⟩
abbrev S2x4x16x128x64 : Shape := ⟨5, ![2, 4, 16, 128, 64]⟩
abbrev S_ : Shape := ⟨0, ![]⟩
abbrev S2x4x16x0x64 : Shape := ⟨5, ![2, 4, 16, 0, 64]⟩
abbrev S2x4x16x2x64x64 : Shape := ⟨6, ![2, 4, 16, 2, 64, 64]⟩
abbrev S2 : Shape := ⟨1, ![2]⟩
abbrev S2x1 : Shape := ⟨2, ![2, 1]⟩
abbrev S192 : Shape := ⟨1, ![192]⟩
abbrev S1x192 : Shape := ⟨2, ![1, 192]⟩
abbrev S2x192 : Shape := ⟨2, ![2, 192]⟩
abbrev S2x4x16x64x64 : Shape := ⟨5, ![2, 4, 16, 64, 64]⟩
abbrev S2x4x16x256x64 : Shape := ⟨5, ![2, 4, 16, 256, 64]⟩
abbrev S2x192x1 : Shape := ⟨3, ![2, 192, 1]⟩
abbrev S2x4x16x2x192x64 : Shape := ⟨6, ![2, 4, 16, 2, 192, 64]⟩
abbrev S64 : Shape := ⟨1, ![64]⟩
abbrev S1x64 : Shape := ⟨2, ![1, 64]⟩
abbrev S2x64 : Shape := ⟨2, ![2, 64]⟩
abbrev S2x1x192 : Shape := ⟨3, ![2, 1, 192]⟩
abbrev S2x64x1 : Shape := ⟨3, ![2, 64, 1]⟩
abbrev S2x64x192 : Shape := ⟨3, ![2, 64, 192]⟩
abbrev S2x4x16x2x64x192 : Shape := ⟨6, ![2, 4, 16, 2, 64, 192]⟩
abbrev S2x4x16x2x64 : Shape := ⟨5, ![2, 4, 16, 2, 64]⟩
abbrev S2x4x16x2x64x1 : Shape := ⟨6, ![2, 4, 16, 2, 64, 1]⟩
abbrev S2x4x16x128 : Shape := ⟨4, ![2, 4, 16, 128]⟩
abbrev S2x4x128x16 : Shape := ⟨4, ![2, 4, 128, 16]⟩
abbrev S4096x5888 : Shape := ⟨2, ![4096, 5888]⟩
abbrev S2x2048x4x64 : Shape := ⟨4, ![2, 2048, 4, 64]⟩
abbrev S4096x256 : Shape := ⟨2, ![4096, 256]⟩
abbrev S2x4x2048x1 : Shape := ⟨4, ![2, 4, 2048, 1]⟩
abbrev S2048x128 : Shape := ⟨2, ![2048, 128]⟩
abbrev S1x128 : Shape := ⟨2, ![1, 128]⟩
abbrev S128x256 : Shape := ⟨2, ![128, 256]⟩
abbrev S128x128 : Shape := ⟨2, ![128, 128]⟩
abbrev S256x128 : Shape := ⟨2, ![256, 128]⟩
abbrev S1x256 : Shape := ⟨2, ![1, 256]⟩

abbrev nBuf : Space → Nat
  | .hbm => 148
  | .vmem => 18
  | .smem => 0
  | _ => 0

abbrev hbmTy0_0 (i : Nat) : BufTy := match i % 128 with
  | 0 => ⟨S2x2048x5888, .f32⟩
  | 1 => ⟨S2x4x2048x64, .f32⟩
  | 2 => ⟨S2x4x2048, .f32⟩
  | 3 => ⟨S2x2048x2304, .f32⟩
  | 4 => ⟨S2x2048x768, .f32⟩
  | 5 => ⟨S2x2048x768, .f32⟩
  | 6 => ⟨S2x2048x768, .f32⟩
  | 7 => ⟨S2x2048x12x64, .f32⟩
  | 8 => ⟨S2x12x2048x64, .f32⟩
  | 9 => ⟨S2x2048x12x64, .f32⟩
  | 10 => ⟨S2x12x2048x64, .f32⟩
  | 11 => ⟨S2x2048x12x64, .f32⟩
  | 12 => ⟨S2x12x2048x64, .f32⟩
  | 13 => ⟨S2x4x2048x64, .f32⟩
  | 14 => ⟨S2x4x2048x64, .f32⟩
  | 15 => ⟨S2x4x2048x64, .f32⟩
  | 16 => ⟨S2x4x128x16x64, .f32⟩
  | 17 => ⟨S2x4x16x128x64, .f32⟩
  | 18 => ⟨S_, .f32⟩
  | 19 => ⟨S2x4x16x0x64, .f32⟩
  | 20 => ⟨S_, .f32⟩
  | 21 => ⟨S2x4x16x0x64, .f32⟩
  | 22 => ⟨S2x4x16x128x64, .f32⟩
  | 23 => ⟨S2x4x16x2x64x64, .f32⟩
  | 24 => ⟨S2, .i32⟩
  | 25 => ⟨S2x1, .i32⟩
  | 26 => ⟨S_, .i32⟩
  | 27 => ⟨S2x1, .i32⟩
  | 28 => ⟨S2x1, .i32⟩
  | 29 => ⟨S192, .i32⟩
  | 30 => ⟨S1x192, .i32⟩
  | 31 => ⟨S2x192, .i32⟩
  | 32 => ⟨S2x192, .i32⟩
  | 33 => ⟨S2x192, .i32⟩
  | 34 => ⟨S2x4x128x16x64, .f32⟩
  | 35 => ⟨S2x4x16x128x64, .f32⟩
  | 36 => ⟨S_, .f32⟩
  | 37 => ⟨S2x4x16x64x64, .f32⟩
  | 38 => ⟨S_, .f32⟩
  | 39 => ⟨S2x4x16x64x64, .f32⟩
  | 40 => ⟨S2x4x16x256x64, .f32⟩
  | 41 => ⟨S_, .i32⟩
  | 42 => ⟨S2x192, .i32⟩
  | 43 => ⟨S2x192, .i1⟩
  | 44 => ⟨S_, .i32⟩
  | 45 => ⟨S2x192, .i32⟩
  | 46 => ⟨S2x192, .i32⟩
  | 47 => ⟨S2x192, .i32⟩
  | 48 => ⟨S2x192x1, .i32⟩
  | 49 => ⟨S2x4x16x2x192x64, .f32⟩
  | 50 => ⟨S2x4x128x16x64, .f32⟩
  | 51 => ⟨S2x4x16x128x64, .f32⟩
  | 52 => ⟨S_, .f32⟩
  | 53 => ⟨S2x4x16x64x64, .f32⟩
  | 54 => ⟨S_, .f32⟩
  | 55 => ⟨S2x4x16x64x64, .f32⟩
  | 56 => ⟨S2x4x16x256x64, .f32⟩
  | 57 => ⟨S_, .i32⟩
  | 58 => ⟨S2x192, .i32⟩
  | 59 => ⟨S2x192, .i1⟩
  | 60 => ⟨S_, .i32⟩
  | 61 => ⟨S2x192, .i32⟩
  | 62 => ⟨S2x192, .i32⟩
  | 63 => ⟨S2x192, .i32⟩
  | 64 => ⟨S2x192x1, .i32⟩
  | 65 => ⟨S2x4x16x2x192x64, .f32⟩
  | 66 => ⟨S2, .i32⟩
  | 67 => ⟨S2x1, .i32⟩
  | 68 => ⟨S_, .i32⟩
  | 69 => ⟨S2x1, .i32⟩
  | 70 => ⟨S2x1, .i32⟩
  | 71 => ⟨S64, .i32⟩
  | 72 => ⟨S1x64, .i32⟩
  | 73 => ⟨S2x64, .i32⟩
  | 74 => ⟨S2x64, .i32⟩
  | 75 => ⟨S2x64, .i32⟩
  | 76 => ⟨S_, .i32⟩
  | 77 => ⟨S2x192, .i32⟩
  | 78 => ⟨S2x192, .i32⟩
  | 79 => ⟨S2x1x192, .i32⟩
  | 80 => ⟨S2x64x1, .i32⟩
  | 81 => ⟨S2x64x192, .i32⟩
  | 82 => ⟨S2x64x192, .i32⟩
  | 83 => ⟨S2x64x192, .i32⟩
  | 84 => ⟨S2x64x192, .i32⟩
  | 85 => ⟨S_, .i32⟩
  | 86 => ⟨S2x64x192, .i32⟩
  | 87 => ⟨S2x64x192, .i1⟩
  | 88 => ⟨S2x1x192, .i32⟩
  | 89 => ⟨S_, .i32⟩
  | 90 => ⟨S2x1x192, .i32⟩
  | 91 => ⟨S2x1x192, .i1⟩
  | 92 => ⟨S2x64x192, .i1⟩
  | 93 => ⟨S2x64x192, .i1⟩
  | 94 => ⟨S2x1x192, .i32⟩
  | 95 => ⟨S_, .i32⟩
  | 96 => ⟨S2x1x192, .i32⟩
  | 97 => ⟨S2x1x192, .i1⟩
  | 98 => ⟨S2x64x192, .i1⟩
  | 99 => ⟨S2x64x192, .i1⟩
  | 100 => ⟨S2x4x16x2x64x192, .f32⟩
  | 101 => ⟨S_, .f32⟩
  | 102 => ⟨S2x4x16x2x64x192, .f32⟩
  | 103 => ⟨S2x4x16x2x64x192, .f32⟩
  | 104 => ⟨S_, .f32⟩
  | 105 => ⟨S_, .f32⟩
  | 106 => ⟨S2x4x16x2x64x192, .i1⟩
  | 107 => ⟨S2x4x16x2x64x192, .f32⟩
  | 108 => ⟨S2x4x16x2x64x192, .f32⟩
  | 109 => ⟨S_, .f32⟩
  | 110 => ⟨S2x4x16x2x64, .f32⟩
  | 111 => ⟨S2x4x16x2x64x1, .f32⟩
  | 112 => ⟨S2x4x16x2x64x192, .f32⟩
  | 113 => ⟨S2x4x16x2x64x192, .f32⟩
  | 114 => ⟨S2x4x16x2x64x192, .f32⟩
  | 115 => ⟨S_, .f32⟩
  | 116 => ⟨S2x4x16x2x64, .f32⟩
  | 117 => ⟨S2x4x16x2x64x64, .f32⟩
  | 118 => ⟨S2x4x16x2x64x1, .f32⟩
  | 119 => ⟨S2x4x16x2x64x64, .f32⟩
  | 120 => ⟨S2x4x16x2x64x64, .f32⟩
  | 121 => ⟨S2x4x16x2x64, .f32⟩
  | 122 => ⟨S2x4x16x2x64, .f32⟩
  | 123 => ⟨S2x4x16x2x64, .f32⟩
  | 124 => ⟨S2x4x16x128x64, .f32⟩
  | 125 => ⟨S2x4x128x16x64, .f32⟩
  | 126 => ⟨S2x4x2048x64, .f32⟩
  | 127 => ⟨S2x4x16x128, .f32⟩
  | _ => ⟨S2x2048x5888, .f32⟩

abbrev hbmTy0_1 (i : Nat) : BufTy := match i % 128 with
  | 0 => ⟨S2x4x128x16, .f32⟩
  | 1 => ⟨S2x4x2048, .f32⟩
  | 2 => ⟨S2x4x2048x64, .f32⟩
  | 3 => ⟨S_, .f32⟩
  | 4 => ⟨S2x4x2048, .f32⟩
  | 5 => ⟨S2x4x2048, .f32⟩
  | 6 => ⟨S4096x5888, .f32⟩
  | 7 => ⟨S2x2048x4x64, .f32⟩
  | 8 => ⟨S4096x256, .f32⟩
  | 9 => ⟨S2x4x2048x1, .f32⟩
  | 10 => ⟨S2x4x2048x64, .f32⟩
  | 11 => ⟨S2x2048x4x64, .f32⟩
  | 12 => ⟨S4096x256, .f32⟩
  | 13 => ⟨S2x4x2048x1, .f32⟩
  | 14 => ⟨S2x4x2048x64, .f32⟩
  | 15 => ⟨S2x2048x4x64, .f32⟩
  | 16 => ⟨S4096x256, .f32⟩
  | 17 => ⟨S4096x256, .f32⟩
  | 18 => ⟨S4096x256, .f32⟩
  | 19 => ⟨S4096x256, .f32⟩
  | _ => ⟨S2x2048x5888, .f32⟩

abbrev hbmTy (i : Nat) : BufTy := match i / 128 with
  | 0 => hbmTy0_0 i
  | 1 => hbmTy0_1 i
  | _ => ⟨S2x2048x5888, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S2x2048x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev main_c_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_10 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_12 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_c_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_14 : Ref sig .tc := ⟨.hbm, 101, rfl⟩
abbrev main_v82 : Ref sig .tc := ⟨.hbm, 102, rfl⟩
abbrev main_v83 : Ref sig .tc := ⟨.hbm, 103, rfl⟩
abbrev main_cst_15 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_17 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_18 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118_0 : Ref sig .tc := ⟨.hbm, 145, rfl⟩
abbrev main_v118_1 : Ref sig .tc := ⟨.hbm, 146, rfl⟩
abbrev main_v118_2 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v11 : BitVec 32 := Scalar.addi c0_i32 c4_i32
  let c1_i32 : BitVec 32 := 1#32
  ⟨c0_i32, v11, c1_i32⟩
def k0_off1 (k0_t1 : Fin k0_t1_loop.trips) (c0_i32_7 : BitVec 32) : Fin 2 → Nat :=
  let c128_i32_24 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c1_i32_15 : BitVec 32 := 1#32
  let c0_i32_16 : BitVec 32 := 0#32
  let v31 : BitVec 1 := Scalar.cmpi .eq c1_i32_15 c0_i32_16
  let c1_i32_17 : BitVec 32 := 1#32
  let v32 : BitVec 32 := Scalar.select v31 c1_i32_17 c1_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v45 : BitVec 32 := Scalar.muli c128_i32_24 v40
  let c16_i32 : BitVec 32 := 16#32
  let v46 : BitVec 32 := Scalar.muli v45 c16_i32
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c1_i32_8 : BitVec 32 := 1#32
  let c0_i32_11 : BitVec 32 := 0#32
  let v20 : BitVec 1 := Scalar.cmpi .sgt c1_i32_8 c0_i32_11
  let v21 : BitVec 32 := Scalar.extui v20
  let c0_i32_12 : BitVec 32 := 0#32
  let v22 : BitVec 1 := Scalar.cmpi .slt c1_i32_8 c0_i32_12
  let v23 : BitVec 32 := Scalar.extui v22
  let v24 : BitVec 32 := Scalar.subi v21 v23
  let v25 : BitVec 1 := Scalar.cmpi .ne v19 v24
  let v26 : BitVec 32 := Scalar.remsi v13 c1_i32_8
  let c0_i32_13 : BitVec 32 := 0#32
  let v27 : BitVec 1 := Scalar.cmpi .ne v26 c0_i32_13
  let v28 : BitVec 1 := Scalar.andi v25 v27
  let v14 : BitVec 32 := Scalar.divsi v13 c1_i32_8
  let c1_i32_14 : BitVec 32 := 1#32
  let v29 : BitVec 32 := Scalar.subi v14 c1_i32_14
  let v30 : BitVec 32 := Scalar.select v28 v29 v14
  let v47 : BitVec 32 := Scalar.addi v46 v30
  let v268 : Index := Scalar.indexCast v47
  let c0_122 : Index := 0#32
  ![v268.toNat, 0]
def k0_off2 (k0_t1 : Fin k0_t1_loop.trips) (c0_i32_7 : BitVec 32) : Fin 2 → Nat :=
  let c0_i32_23 : BitVec 32 := 0#32
  let c0_i32_22 : BitVec 32 := 0#32
  let c128_i32 : BitVec 32 := 128#32
  let c0_i32 : BitVec 32 := 0#32
  let c1_i32 : BitVec 32 := 1#32
  let arg11 : BitVec 32 := Scf.iv c0_i32 c1_i32 k0_t1
  let c4_i32_6 : BitVec 32 := 4#32
  let v12 : BitVec 32 := Scalar.muli arg11 c4_i32_6
  let v13 : BitVec 32 := Scalar.addi v12 c0_i32_7
  let c1_i32_15 : BitVec 32 := 1#32
  let c0_i32_16 : BitVec 32 := 0#32
  let v31 : BitVec 1 := Scalar.cmpi .eq c1_i32_15 c0_i32_16
  let c1_i32_17 : BitVec 32 := 1#32
  let v32 : BitVec 32 := Scalar.select v31 c1_i32_17 c1_i32_15
  let v33 : BitVec 32 := Scalar.remsi v13 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v41 : BitVec 32 := Scalar.muli c128_i32 v40
  let c64_i32_21 : BitVec 32 := 64#32
  let v42 : BitVec 32 := Scalar.subi v41 c64_i32_21
  let v43 : BitVec 32 := Scalar.maxsi c0_i32_22 v42
  let v44 : BitVec 32 := Scalar.minsi c0_i32_23 v43
  let c16_i32_25 : BitVec 32 := 16#32
  let v48 : BitVec 32 := Scalar.muli v44 c16_i32_25
  let c0_i32_9 : BitVec 32 := 0#32
  let v15 : BitVec 1 := Scalar.cmpi .sgt v13 c0_i32_9
  let v16 : BitVec 32 := Scalar.extui v15
  let c0_i32_10 : BitVec 32 := 0#32
  let v17 : BitVec 1 := Scalar.cmpi .slt v13 c0_i32_10
  let v18 : BitVec 32 := Scalar.extui v17
  let v19 : BitVec 32 := Scalar.subi v16 v18
  let c1_i32_8 : BitVec 32 := 1#32
  let c0_i32_11 : BitVec 32 := 0#32
  let v20 : BitVec 1 := Scalar.cmpi .sgt c1_i32_8 c0_i32_11
  let v21 : BitVec 32 := Scalar.extui v20
  let c0_i32_12 : BitVec 32 := 0#32
  let v22 : BitVec 1 := Scalar.cmpi .slt c1_i32_8 c0_i32_12
  let v23 : BitVec 32 := Scalar.extui v22
  let v24 : BitVec 32 := Scalar.subi v21 v23
  let v25 : BitVec 1 := Scalar.cmpi .ne v19 v24
  let v26 : BitVec 32 := Scalar.remsi v13 c1_i32_8
  let c0_i32_13 : BitVec 32 := 0#32
  let v27 : BitVec 1 := Scalar.cmpi .ne v26 c0_i32_13
  let v28 : BitVec 1 := Scalar.andi v25 v27
  let v14 : BitVec 32 := Scalar.divsi v13 c1_i32_8
  let c1_i32_14 : BitVec 32 := 1#32
  let v29 : BitVec 32 := Scalar.subi v14 c1_i32_14
  let v30 : BitVec 32 := Scalar.select v28 v29 v14
  let v49 : BitVec 32 := Scalar.addi v48 v30
  let v304 : Index := Scalar.indexCast v49
  let c0_126 : Index := 0#32
  ![v304.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel5.lean ====
abbrev S2x2048x5888 : Shape := ⟨3, ![2, 2048, 5888]⟩
abbrev S8x15x31 : Shape := ⟨3, ![8, 15, 31]⟩
abbrev S2x2048x512 : Shape := ⟨3, ![2, 2048, 512]⟩
abbrev S2x2048x1536 : Shape := ⟨3, ![2, 2048, 1536]⟩
abbrev S2x2048x8x64 : Shape := ⟨4, ![2, 2048, 8, 64]⟩
abbrev S2x8x2048x64 : Shape := ⟨4, ![2, 8, 2048, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S32 : Shape := ⟨1, ![32]⟩
abbrev S_ : Shape := ⟨0, ![]⟩
abbrev S32x1 : Shape := ⟨2, ![32, 1]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S8x8x1 : Shape := ⟨3, ![8, 8, 1]⟩
abbrev S8x8x8x31 : Shape := ⟨4, ![8, 8, 8, 31]⟩
abbrev S64x64x1 : Shape := ⟨3, ![64, 64, 1]⟩
abbrev S8x8x8x64x64 : Shape := ⟨5, ![8, 8, 8, 64, 64]⟩
abbrev S2x8x32x64x64 : Shape := ⟨5, ![2, 8, 32, 64, 64]⟩
abbrev S32x8x1 : Shape := ⟨3, ![32, 8, 1]⟩
abbrev S2x8x32x8x64x64 : Shape := ⟨6, ![2, 8, 32, 8, 64, 64]⟩
abbrev S8x32x8x64x64 : Shape := ⟨5, ![8, 32, 8, 64, 64]⟩
abbrev S1x8x32x8x64x64 : Shape := ⟨6, ![1, 8, 32, 8, 64, 64]⟩
abbrev S2x8x32x64 : Shape := ⟨4, ![2, 8, 32, 64]⟩
abbrev S2x8x32x1x64x1 : Shape := ⟨6, ![2, 8, 32, 1, 64, 1]⟩
abbrev S4096x512 : Shape := ⟨2, ![4096, 512]⟩
abbrev S2x4x2x32x64 : Shape := ⟨5, ![2, 4, 2, 32, 64]⟩
abbrev S2x4x32x2x64 : Shape := ⟨5, ![2, 4, 32, 2, 64]⟩
abbrev S2x4x32x128 : Shape := ⟨4, ![2, 4, 32, 128]⟩
abbrev S4x2x8x8x64x64 : Shape := ⟨6, ![4, 2, 8, 8, 64, 64]⟩
abbrev S4x8x8x64x2x64 : Shape := ⟨6, ![4, 8, 8, 64, 2, 64]⟩
abbrev S4x8x512x128 : Shape := ⟨4, ![4, 8, 512, 128]⟩
abbrev S4096x5888 : Shape := ⟨2, ![4096, 5888]⟩
abbrev S3x4096x512 : Shape := ⟨3, ![3, 4096, 512]⟩
abbrev S2048x128 : Shape := ⟨2, ![2048, 128]⟩
abbrev S1x8x512x128 : Shape := ⟨4, ![1, 8, 512, 128]⟩
abbrev S1x1x32x128 : Shape := ⟨4, ![1, 1, 32, 128]⟩
abbrev S3x2048x128 : Shape := ⟨3, ![3, 2048, 128]⟩
abbrev S1x128 : Shape := ⟨2, ![1, 128]⟩
abbrev S8x128 : Shape := ⟨2, ![8, 128]⟩
abbrev S8x512x128 : Shape := ⟨3, ![8, 512, 128]⟩
abbrev S2x2048x128 : Shape := ⟨3, ![2, 2048, 128]⟩
abbrev S64x128 : Shape := ⟨2, ![64, 128]⟩
abbrev S128x128 : Shape := ⟨2, ![128, 128]⟩
abbrev S512x128 : Shape := ⟨2, ![512, 128]⟩
abbrev S1x1x512x128 : Shape := ⟨4, ![1, 1, 512, 128]⟩
abbrev S1x1x1x128 : Shape := ⟨4, ![1, 1, 1, 128]⟩
abbrev S1x64x128 : Shape := ⟨3, ![1, 64, 128]⟩
abbrev S1x512x128 : Shape := ⟨3, ![1, 512, 128]⟩

abbrev nBuf : Space → Nat
  | .hbm => 177
  | .vmem => 18
  | .smem => 0
  | _ => 0

abbrev hbmTy0_0 (i : Nat) : BufTy := match i % 128 with
  | 0 => ⟨S2x2048x5888, .f32⟩
  | 1 => ⟨S8x15x31, .f32⟩
  | 2 => ⟨S2x2048x512, .f32⟩
  | 3 => ⟨S2x2048x1536, .f32⟩
  | 4 => ⟨S2x2048x512, .f32⟩
  | 5 => ⟨S2x2048x512, .f32⟩
  | 6 => ⟨S2x2048x512, .f32⟩
  | 7 => ⟨S2x2048x8x64, .f32⟩
  | 8 => ⟨S2x8x2048x64, .f32⟩
  | 9 => ⟨S2x2048x8x64, .f32⟩
  | 10 => ⟨S2x8x2048x64, .f32⟩
  | 11 => ⟨S2x2048x8x64, .f32⟩
  | 12 => ⟨S2x8x2048x64, .f32⟩
  | 13 => ⟨S8, .i32⟩
  | 14 => ⟨S8x1, .i32⟩
  | 15 => ⟨S8, .i32⟩
  | 16 => ⟨S1x8, .i32⟩
  | 17 => ⟨S8x8, .i32⟩
  | 18 => ⟨S8x8, .i32⟩
  | 19 => ⟨S8x8, .i32⟩
  | 20 => ⟨S32, .i32⟩
  | 21 => ⟨S_, .i32⟩
  | 22 => ⟨S32, .i32⟩
  | 23 => ⟨S32, .i32⟩
  | 24 => ⟨S_, .i32⟩
  | 25 => ⟨S_, .i32⟩
  | 26 => ⟨S_, .i32⟩
  | 27 => ⟨S32, .i32⟩
  | 28 => ⟨S32, .i32⟩
  | 29 => ⟨S_, .i32⟩
  | 30 => ⟨S32, .i32⟩
  | 31 => ⟨S32, .i32⟩
  | 32 => ⟨S32x1, .i32⟩
  | 33 => ⟨S8, .i32⟩
  | 34 => ⟨S1x8, .i32⟩
  | 35 => ⟨S32x8, .i32⟩
  | 36 => ⟨S32x8, .i32⟩
  | 37 => ⟨S32x8, .i32⟩
  | 38 => ⟨S64, .i32⟩
  | 39 => ⟨S1x64, .i32⟩
  | 40 => ⟨S64, .i32⟩
  | 41 => ⟨S64x1, .i32⟩
  | 42 => ⟨S64x64, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S_, .i32⟩
  | 50 => ⟨S_, .i32⟩
  | 51 => ⟨S64x64, .i32⟩
  | 52 => ⟨S64x64, .i32⟩
  | 53 => ⟨S_, .i32⟩
  | 54 => ⟨S64x64, .i32⟩
  | 55 => ⟨S64x64, .i32⟩
  | 56 => ⟨S64, .i32⟩
  | 57 => ⟨S64x1, .i32⟩
  | 58 => ⟨S_, .i32⟩
  | 59 => ⟨S64x1, .i32⟩
  | 60 => ⟨S64x1, .i32⟩
  | 61 => ⟨S_, .i32⟩
  | 62 => ⟨S_, .i32⟩
  | 63 => ⟨S_, .i32⟩
  | 64 => ⟨S64x1, .i32⟩
  | 65 => ⟨S64x1, .i32⟩
  | 66 => ⟨S_, .i32⟩
  | 67 => ⟨S64x1, .i32⟩
  | 68 => ⟨S64x1, .i32⟩
  | 69 => ⟨S64, .i32⟩
  | 70 => ⟨S1x64, .i32⟩
  | 71 => ⟨S64x64, .i32⟩
  | 72 => ⟨S64x64, .i32⟩
  | 73 => ⟨S64x64, .i1⟩
  | 74 => ⟨S_, .i32⟩
  | 75 => ⟨S64x1, .i32⟩
  | 76 => ⟨S64x1, .i32⟩
  | 77 => ⟨S64x64, .i32⟩
  | 78 => ⟨S64x64, .i32⟩
  | 79 => ⟨S64x64, .i1⟩
  | 80 => ⟨S64x64, .i1⟩
  | 81 => ⟨S_, .i32⟩
  | 82 => ⟨S8x8, .i32⟩
  | 83 => ⟨S8x8, .i1⟩
  | 84 => ⟨S_, .i32⟩
  | 85 => ⟨S8x8, .i32⟩
  | 86 => ⟨S8x8, .i32⟩
  | 87 => ⟨S8x8, .i32⟩
  | 88 => ⟨S8x8x1, .i32⟩
  | 89 => ⟨S8x8x8x31, .f32⟩
  | 90 => ⟨S_, .i32⟩
  | 91 => ⟨S64x64, .i32⟩
  | 92 => ⟨S64x64, .i1⟩
  | 93 => ⟨S_, .i32⟩
  | 94 => ⟨S64x64, .i32⟩
  | 95 => ⟨S64x64, .i32⟩
  | 96 => ⟨S64x64, .i32⟩
  | 97 => ⟨S64x64x1, .i32⟩
  | 98 => ⟨S8x8x8x64x64, .f32⟩
  | 99 => ⟨S_, .f32⟩
  | 100 => ⟨S_, .f32⟩
  | 101 => ⟨S8x8x8x64x64, .i1⟩
  | 102 => ⟨S8x8x8x64x64, .f32⟩
  | 103 => ⟨S8x8x8x64x64, .f32⟩
  | 104 => ⟨S2x8x32x64x64, .f32⟩
  | 105 => ⟨S_, .i32⟩
  | 106 => ⟨S32x8, .i32⟩
  | 107 => ⟨S32x8, .i1⟩
  | 108 => ⟨S_, .i32⟩
  | 109 => ⟨S32x8, .i32⟩
  | 110 => ⟨S32x8, .i32⟩
  | 111 => ⟨S32x8, .i32⟩
  | 112 => ⟨S32x8x1, .i32⟩
  | 113 => ⟨S2x8x32x8x64x64, .f32⟩
  | 114 => ⟨S2x8x32x64x64, .f32⟩
  | 115 => ⟨S_, .i32⟩
  | 116 => ⟨S32x8, .i32⟩
  | 117 => ⟨S32x8, .i1⟩
  | 118 => ⟨S_, .i32⟩
  | 119 => ⟨S32x8, .i32⟩
  | 120 => ⟨S32x8, .i32⟩
  | 121 => ⟨S32x8, .i32⟩
  | 122 => ⟨S32x8x1, .i32⟩
  | 123 => ⟨S2x8x32x8x64x64, .f32⟩
  | 124 => ⟨S2x8x32x64x64, .f32⟩
  | 125 => ⟨S2x8x32x8x64x64, .f32⟩
  | 126 => ⟨S2x8x32x8x64x64, .f32⟩
  | 127 => ⟨S_, .f32⟩
  | _ => ⟨S2x2048x5888, .f32⟩

abbrev hbmTy0_1 (i : Nat) : BufTy := match i % 128 with
  | 0 => ⟨S2x8x32x8x64x64, .f32⟩
  | 1 => ⟨S2x8x32x8x64x64, .f32⟩
  | 2 => ⟨S32, .i32⟩
  | 3 => ⟨S_, .i32⟩
  | 4 => ⟨S32, .i32⟩
  | 5 => ⟨S32, .i32⟩
  | 6 => ⟨S_, .i32⟩
  | 7 => ⟨S32, .i32⟩
  | 8 => ⟨S32, .i32⟩
  | 9 => ⟨S_, .i32⟩
  | 10 => ⟨S32, .i32⟩
  | 11 => ⟨S32, .i1⟩
  | 12 => ⟨S_, .i32⟩
  | 13 => ⟨S32, .i32⟩
  | 14 => ⟨S32, .i32⟩
  | 15 => ⟨S32, .i32⟩
  | 16 => ⟨S32x1, .i32⟩
  | 17 => ⟨S8x32x8x64x64, .f32⟩
  | 18 => ⟨S1x8x32x8x64x64, .f32⟩
  | 19 => ⟨S2x8x32x8x64x64, .f32⟩
  | 20 => ⟨S2x8x32x8x64x64, .f32⟩
  | 21 => ⟨S_, .f32⟩
  | 22 => ⟨S2x8x32x64, .f32⟩
  | 23 => ⟨S2x8x32x1x64x1, .f32⟩
  | 24 => ⟨S2x8x32x8x64x64, .f32⟩
  | 25 => ⟨S2x8x32x8x64x64, .f32⟩
  | 26 => ⟨S2x8x32x8x64x64, .f32⟩
  | 27 => ⟨S_, .f32⟩
  | 28 => ⟨S2x8x32x64, .f32⟩
  | 29 => ⟨S2x8x32x1x64x1, .f32⟩
  | 30 => ⟨S2x8x32x8x64x64, .f32⟩
  | 31 => ⟨S2x8x32x8x64x64, .f32⟩
  | 32 => ⟨S2x8x32x64x64, .f32⟩
  | 33 => ⟨S2x8x32x1x64x1, .f32⟩
  | 34 => ⟨S2x8x32x1x64x1, .f32⟩
  | 35 => ⟨S2x8x32x64, .f32⟩
  | 36 => ⟨S2x8x2048x64, .f32⟩
  | 37 => ⟨S2x2048x8x64, .f32⟩
  | 38 => ⟨S4096x512, .f32⟩
  | 39 => ⟨S2x4x2x32x64, .f32⟩
  | 40 => ⟨S2x4x32x2x64, .f32⟩
  | 41 => ⟨S2x4x32x128, .f32⟩
  | 42 => ⟨S4x2x8x8x64x64, .f32⟩
  | 43 => ⟨S4x8x8x64x2x64, .f32⟩
  | 44 => ⟨S4x8x512x128, .f32⟩
  | 45 => ⟨S4096x5888, .f32⟩
  | 46 => ⟨S4096x512, .f32⟩
  | 47 => ⟨S3x4096x512, .f32⟩
  | 48 => ⟨S4x8x512x128, .f32⟩
  | _ => ⟨S2x2048x5888, .f32⟩

abbrev hbmTy (i : Nat) : BufTy := match i / 128 with
  | 0 => hbmTy0_0 i
  | 1 => hbmTy0_1 i
  | _ => ⟨S2x2048x5888, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x8x512x128, .f32⟩
  | .local _ .vmem, ⟨7, _⟩ => ⟨S1x8x512x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x1x32x128, .f32⟩
  | .local _ .vmem, ⟨13, _⟩ => ⟨S1x1x32x128, .f32⟩
  | .local _ .vmem, ⟨14, _⟩ => ⟨S3x2048x128, .f32⟩
  | .local _ .vmem, ⟨15, _⟩ => ⟨S3x2048x128, .f32⟩
  | .local _ .vmem, ⟨16, _⟩ => ⟨S1x8x512x128, .f32⟩
  | .local _ .vmem, ⟨17, _⟩ => ⟨S1x8x512x128, .f32⟩
  | _, _ => ⟨S2x2048x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_c_7 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_9 : Ref sig .tc := ⟨.hbm, 81, rfl⟩
abbrev main_v53 : Ref sig .tc := ⟨.hbm, 82, rfl⟩
abbrev main_v54 : Ref sig .tc := ⟨.hbm, 83, rfl⟩
abbrev main_c_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_18 : Ref sig .tc := ⟨.hbm, 131, rfl⟩
abbrev main_v90 : Ref sig .tc := ⟨.hbm, 132, rfl⟩
abbrev main_v91 : Ref sig .tc := ⟨.hbm, 133, rfl⟩
abbrev main_c_19 : Ref sig .tc := ⟨.hbm, 134, rfl⟩
abbrev main_v92 : Ref sig .tc := ⟨.hbm, 135, rfl⟩
abbrev main_v93 : Ref sig .tc := ⟨.hbm, 136, rfl⟩
abbrev main_c_20 : Ref sig .tc := ⟨.hbm, 137, rfl⟩
abbrev main_v94 : Ref sig .tc := ⟨.hbm, 138, rfl⟩
abbrev main_v95 : Ref sig .tc := ⟨.hbm, 139, rfl⟩
abbrev main_c_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128_0 : Ref sig .tc := ⟨.hbm, 175, rfl⟩
abbrev main_v128_1 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_4 : BitVec 32 := 0#32
  let c8_i32 : BitVec 32 := 8#32
  let v13 : BitVec 32 := Scalar.addi c0_i32_4 c8_i32
  let c1_i32 : BitVec 32 := 1#32
  ⟨c0_i32_4, v13, c1_i32⟩
def k0_mult1 (k0_t1 : Fin k0_t1_loop.trips) : BitVec 32 :=
  let c64_i32_13 : BitVec 32 := 64#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let c0_i32_6 : BitVec 32 := 0#32
  let v15 : BitVec 32 := Scalar.addi v14 c0_i32_6
  let v25 : BitVec 32 := Scalar.muli c64_i32_13 v15
  v25
def k0_mult2 (k0_t1 : Fin k0_t1_loop.trips) : BitVec 32 :=
  let c64_i32_14 : BitVec 32 := 64#32
  let c24_i32 : BitVec 32 := 24#32
  let c0_i32_12 : BitVec 32 := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let c0_i32_6 : BitVec 32 := 0#32
  let v15 : BitVec 32 := Scalar.addi v14 c0_i32_6
  let c4_i32_11 : BitVec 32 := 4#32
  let v22 : BitVec 32 := Scalar.subi v15 c4_i32_11
  let v23 : BitVec 32 := Scalar.maxsi c0_i32_12 v22
  let v24 : BitVec 32 := Scalar.minsi c24_i32 v23
  let v27 : BitVec 32 := Scalar.muli c64_i32_14 v24
  v27
def k0_mult3 (k0_t1 : Fin k0_t1_loop.trips) : BitVec 32 :=
  let c64_i32_20 : BitVec 32 := 64#32
  let c0_i32_4 : BitVec 32 := 0#32
  let c1_i32 : BitVec 32 := 1#32
  let arg11 : BitVec 32 := Scf.iv c0_i32_4 c1_i32 k0_t1
  let c4_i32_7 : BitVec 32 := 4#32
  let v16 : BitVec 32 := Scalar.muli arg11 c4_i32_7
  let c1_i32_8 : BitVec 32 := 1#32
  let v17 : BitVec 32 := Scalar.addi v16 c1_i32_8
  let v35 : BitVec 32 := Scalar.muli c64_i32_20 v17
  v35
def k0_mult4 (k0_t1 : Fin k0_t1_loop.trips) : BitVec 32 :=
  let c64_i32_21 : BitVec 32 := 64#32
  let c24_i32_19 : BitVec 32 := 24#32
  let c0_i32_18 : BitVec 32 := 0#32
  let c0_i32_4 : BitVec 32 := 0#32
  let c1_i32 : BitVec 32 := 1#32
  let arg11 : BitVec 32 := Scf.iv c0_i32_4 c1_i32 k0_t1
  let c4_i32_7 : BitVec 32 := 4#32
  let v16 : BitVec 32 := Scalar.muli arg11 c4_i32_7
  let c1_i32_8 : BitVec 32 := 1#32
  let v17 : BitVec 32 := Scalar.addi v16 c1_i32_8
  let c4_i32_17 : BitVec 32 := 4#32
  let v32 : BitVec 32 := Scalar.subi v17 c4_i32_17
  let v33 : BitVec 32 := Scalar.maxsi c0_i32_18 v32
  let v34 : BitVec 32 := Scalar.minsi c24_i32_19 v33
  let v37 : BitVec 32 := Scalar.muli c64_i32_21 v34
  v37
def k0_mult5 (k0_t1 : Fin k0_t1_loop.trips) : BitVec 32 :=
  let c64_i32_27 : BitVec 32 := 64#32
  let c0_i32_4 : BitVec 32 := 0#32
  let c1_i32 : BitVec 32 := 1#32
  let arg11 : BitVec 32 := Scf.iv c0_i32_4 c1_i32 k0_t1
  let c4_i32_9 : BitVec 32 := 4#32
  let v18 : BitVec 32 := Scalar.muli arg11 c4_i32_9
  let c2_i32 : BitVec 32 := 2#32
  let v19 : BitVec 32 := Scalar.addi v18 c2_i32
  let v45 : BitVec 32 := Scalar.muli c64_i32_27 v19
  v45
def k0_mult6 (k0_t1 : Fin k0_t1_loop.trips) : BitVec 32 :=
  let c64_i32_28 : BitVec 32 := 64#32
  let c24_i32_26 : BitVec 32 := 24#32
  let c0_i32_25 : BitVec 32 := 0#32
  let c0_i32_4 : BitVec 32 := 0#32
  let c1_i32 : BitVec 32 := 1#32
  let arg11 : BitVec 32 := Scf.iv c0_i32_4 c1_i32 k0_t1
  let c4_i32_9 : BitVec 32 := 4#32
  let v18 : BitVec 32 := Scalar.muli arg11 c4_i32_9
  let c2_i32 : BitVec 32 := 2#32
  let v19 : BitVec 32 := Scalar.addi v18 c2_i32
  let c4_i32_24 : BitVec 32 := 4#32
  let v42 : BitVec 32 := Scalar.subi v19 c4_i32_24
  let v43 : BitVec 32 := Scalar.maxsi c0_i32_25 v42
  let v44 : BitVec 32 := Scalar.minsi c24_i32_26 v43
  let v47 : BitVec 32 := Scalar.muli c64_i32_28 v44
  v47
def k0_mult7 (k0_t1 : Fin k0_t1_loop.trips) : BitVec 32 :=
  let c64_i32_34 : BitVec 32 := 64#32
  let c0_i32_4 : BitVec 32 := 0#32
  let c1_i32 : BitVec 32 := 1#32
  let arg11 : BitVec 32 := Scf.iv c0_i32_4 c1_i32 k0_t1
  let c4_i32_10 : BitVec 32 := 4#32
  let v20 : BitVec 32 := Scalar.muli arg11 c4_i32_10
  let c3_i32 : BitVec 32 := 3#32
  let v21 : BitVec 32 := Scalar.addi v20 c3_i32
  let v55 : BitVec 32 := Scalar.muli c64_i32_34 v21
  v55
def k0_mult8 (k0_t1 : Fin k0_t1_loop.trips) : BitVec 32 :=
  let c64_i32_35 : BitVec 32 := 64#32
  let c24_i32_33 : BitVec 32 := 24#32
  let c0_i32_32 : BitVec 32 := 0#32
  let c0_i32_4 : BitVec 32 := 0#32
  let c1_i32 : BitVec 32 := 1#32
  let arg11 : BitVec 32 := Scf.iv c0_i32_4 c1_i32 k0_t1
  let c4_i32_10 : BitVec 32 := 4#32
  let v20 : BitVec 32 := Scalar.muli arg11 c4_i32_10
  let c3_i32 : BitVec 32 := 3#32
  let v21 : BitVec 32 := Scalar.addi v20 c3_i32
  let c4_i32_31 : BitVec 32 := 4#32
  let v52 : BitVec 32 := Scalar.subi v21 c4_i32_31
  let v53 : BitVec 32 := Scalar.maxsi c0_i32_32 v52
  let v54 : BitVec 32 := Scalar.minsi c24_i32_33 v53
  let v57 : BitVec 32 := Scalar.muli c64_i32_35 v54
  v57
def k0_off1 (k0_t1 : Fin k0_t1_loop.trips) (c0_i32_6 : BitVec 32) : Fin 2 → Nat :=
  let c64_i32_13 : BitVec 32 := 64#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let v25 : BitVec 32 := Scalar.muli c64_i32_13 v15
  let v26 : BitVec 32 := v25
  let v62 : Index := Scalar.indexCast v26
  let c0_38 : Index := 0#32
  ![v62.toNat, 0]
def k0_off2 (k0_t1 : Fin k0_t1_loop.trips) (c0_i32_6 : BitVec 32) : Fin 2 → Nat :=
  let c64_i32_14 : BitVec 32 := 64#32
  let c24_i32 : BitVec 32 := 24#32
  let c0_i32_12 : BitVec 32 := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let c4_i32_11 : BitVec 32 := 4#32
  let v22 : BitVec 32 := Scalar.subi v15 c4_i32_11
  let v23 : BitVec 32 := Scalar.maxsi c0_i32_12 v22
  let v24 : BitVec 32 := Scalar.minsi c24_i32 v23
  let v27 : BitVec 32 := Scalar.muli c64_i32_14 v24
  let v28 : BitVec 32 := v27
  let v98 : Index := Scalar.indexCast v28
  let c0_42 : Index := 0#32
  ![v98.toNat, 0]
def k0_off3 (k0_t1 : Fin k0_t1_loop.trips) (c0_i32_6 : BitVec 32) : Fin 4 → Nat :=
  let c0_68 : Index := 0#32
  let c24_i32 : BitVec 32 := 24#32
  let c0_i32_12 : BitVec 32 := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let c4_i32_11 : BitVec 32 := 4#32
  let v22 : BitVec 32 := Scalar.subi v15 c4_i32_11
  let v23 : BitVec 32 := Scalar.maxsi c0_i32_12 v22
  let v24 : BitVec 32 := Scalar.minsi c24_i32 v23
  let v29 : BitVec 32 := Scalar.subi v24 v15
  let c8_i32_15 : BitVec 32 := 8#32
  let v30 : BitVec 32 := Scalar.addi v29 c8_i32_15
  let c1_i32_16 : BitVec 32 := 1#32
  let v31 : BitVec 32 := Scalar.subi v30 c1_i32_16
  let v237 : Index := Scalar.indexCast v31
  let c0_69 : Index := 0#32
  let c0_70 : Index := 0#32
  ![0, v237.toNat, 0, 0]
def k0_off4 (k0_t1 : Fin k0_t1_loop.trips) (c0_i32_6 : BitVec 32) : Fin 4 → Nat :=
  let c0_86 : Index := 0#32
  let c0_87 : Index := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let v262 : Index := Scalar.indexCast v15
  let c0_88 : Index := 0#32
  ![0, 0, v262.toNat, 0]
def k0_off5 (k0_t1 : Fin k0_t1_loop.trips) (c0_i32_6 : BitVec 32) : Fin 3 → Nat :=
  let c0_139 : Index := 0#32
  let c64_i32_13 : BitVec 32 := 64#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let v25 : BitVec 32 := Scalar.muli c64_i32_13 v15
  let v26 : BitVec 32 := v25
  let v384 : Index := Scalar.indexCast v26
  let c0_140 : Index := 0#32
  ![0, v384.toNat, 0]
def k0_off6 (k0_t1 : Fin k0_t1_loop.trips) (c0_i32_6 : BitVec 32) : Fin 3 → Nat :=
  let c1_141 : Index := 1#32
  let c64_i32_14 : BitVec 32 := 64#32
  let c24_i32 : BitVec 32 := 24#32
  let c0_i32_12 : BitVec 32 := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let c4_i32_11 : BitVec 32 := 4#32
  let v22 : BitVec 32 := Scalar.subi v15 c4_i32_11
  let v23 : BitVec 32 := Scalar.maxsi c0_i32_12 v22
  let v24 : BitVec 32 := Scalar.minsi c24_i32 v23
  let v27 : BitVec 32 := Scalar.muli c64_i32_14 v24
  let v28 : BitVec 32 := v27
  let v388 : Index := Scalar.indexCast v28
  let c0_142 : Index := 0#32
  ![1, v388.toNat, 0]
def k0_off7 (k0_t1 : Fin k0_t1_loop.trips) (c0_i32_6 : BitVec 32) : Fin 3 → Nat :=
  let c2 : Index := 2#32
  let c64_i32_14 : BitVec 32 := 64#32
  let c24_i32 : BitVec 32 := 24#32
  let c0_i32_12 : BitVec 32 := 0#32
  let c0_i32_4 : BitVec 32 := 0#32
  let c1_i32 : BitVec 32 := 1#32
  let arg11 : BitVec 32 := Scf.iv c0_i32_4 c1_i32 k0_t1
  let c4_i32 : BitVec 32 := 4#32
  let v14 : BitVec 32 := Scalar.muli arg11 c4_i32
  let v15 : BitVec 32 := Scalar.addi v14 c0_i32_6
  let c4_i32_11 : BitVec 32 := 4#32
  let v22 : BitVec 32 := Scalar.subi v15 c4_i32_11
  let v23 : BitVec 32 := Scalar.maxsi c0_i32_12 v22
  let v24 : BitVec 32 := Scalar.minsi c24_i32 v23
  let v27 : BitVec 32 := Scalar.muli c64_i32_14 v24
  let v28 : BitVec 32 := v27
  let v398 : Index := Scalar.indexCast v28
  let c0_146 : Index := 0#32
  ![2, v398.toNat, 0]
def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Proof.Reals.lean ====
/- Extended reals that are real numbers: what every value claim with a finiteness precondition uses. An array whose entries all
   lie below infinity in absolute value is an array of real numbers; sums, products, quotients by a nonzero number, exponentials and maxima of
   real numbers are real numbers. -/
module

public import Idealize.ShloMosaic.PureOps.Ideal
public import Idealize.ShloMosaic.Lib.IdealHost
public import Idealize.ShloMosaic.Lib.ReduceAll
public import Idealize.ShloMosaic.Lib.Pointwise

@[expose] public section

noncomputable section

open Idealize.ShloMosaic

namespace Cert.Reals

/-- The word of positive infinity. -/
theorem inf_f32 : Ideal.ofBits .f32 0x7F800000#32 = ⊤ := by simp [Ideal.ofBits, Ideal.ieee]

/-- The word of negative infinity. -/
theorem neg_inf_f32 : Ideal.ofBits .f32 0xFF800000#32 = ⊥ := by simp [Ideal.ofBits, Ideal.ieee]

/-- A number below infinity in absolute value is real. -/
theorem real_of_abs (x : EReal) (h : max x (-x) < ⊤) : ∃ r : ℝ, x = (r : EReal) := by
  induction x with
  | bot => simp at h
  | top => simp at h
  | coe r => exact ⟨r, rfl⟩

/-- What the comparison with infinity says of a number. -/
theorem real_of_cmp (x : EReal) (h : Ideal.cmp .olt (max x (-x)) (Ideal.ofBits .f32 0x7F800000#32) = 1#1) :
    ∃ r : ℝ, x = (r : EReal) := by
  rw [inf_f32] at h
  refine real_of_abs x ?_
  by_contra hn
  simp [Ideal.cmp, hn] at h

/-- `jnp.all(jnp.abs(x) < jnp.inf)` makes `x` an array of real numbers. -/
theorem real_of_all {s u : Shape} {axes : List (Fin s.rank)} (x : FVec Ideal s .f32) (top : FVec Ideal s .f32) (init : IVec u 1)
    (t : Shape) [Subsingleton t.Idx] (h : s.ReducesTo axes t) (hu : 0 < u.numel) (j : t.Idx)
    (ht : ∀ i, top i = Ideal.ofBits .f32 0x7F800000#32)
    (e : Host.reduce IntOp.andi (cmpf .olt (Host.absf x) top) init h hu j = 1#1) :
    ∃ f : s.Idx → ℝ, x = fun i => (f i : EReal) := by
  have hx : ∀ i, ∃ r : ℝ, x i = (r : EReal) := fun i => by
    have := Host.reduce_andi_all _ init h hu j e i
    refine real_of_cmp (x i) ?_
    rw [← ht i]
    exact this
  choose f hf using hx
  exact ⟨f, funext hf⟩

/-- The two parts of a conjunction of bits. -/
theorem andi_one {a b : BitVec 1} (h : IntOp.andi a b = 1#1) : a = 1#1 ∧ b = 1#1 := by
  revert a b; decide

theorem coe_sub' (a b : ℝ) : (a : EReal) - (b : EReal) = ((a - b : ℝ) : EReal) := (EReal.coe_sub a b).symm
theorem coe_add' (a b : ℝ) : (a : EReal) + (b : EReal) = ((a + b : ℝ) : EReal) := (EReal.coe_add a b).symm
theorem coe_mul' (a b : ℝ) : (a : EReal) * (b : EReal) = ((a * b : ℝ) : EReal) := (EReal.coe_mul a b).symm
theorem coe_neg' (a : ℝ) : -(a : EReal) = ((-a : ℝ) : EReal) := (EReal.coe_neg a).symm
theorem coe_max' (a b : ℝ) : max (a : EReal) (b : EReal) = ((max a b : ℝ) : EReal) := (EReal.coe_strictMono.monotone.map_max).symm
theorem coe_exp' (a : ℝ) : Ideal.exp (a : EReal) = ((Real.exp a : ℝ) : EReal) := rfl

theorem coe_div' (a b : ℝ) (h : b ≠ 0) : Ideal.div (a : EReal) (b : EReal) = ((a / b : ℝ) : EReal) := by
  rw [Ideal.div_coe h, coe_mul']; congr 1; ring

theorem coe_sum' {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, coe_add']

/-- The largest of finitely many numbers, none of them infinity and one of them not minus infinity, is real. -/
theorem fold_max_real {ι : Type} [Fintype ι] (f : ι → EReal) (ht : ∀ i, f i ≠ ⊤) (i₀ : ι) (hb : f i₀ ≠ ⊥) :
    ∃ M : ℝ, Finset.univ.fold max (Ideal.ofBits .f32 0xFF800000#32) f = (M : EReal) := by
  rw [neg_inf_f32]
  have h1 : Finset.univ.fold max ⊥ f < ⊤ := by
    rw [Finset.fold_max_lt]
    exact ⟨bot_lt_top, fun i _ => lt_top_iff_ne_top.2 (ht i)⟩
  have h2 : f i₀ ≤ Finset.univ.fold max ⊥ f := (Finset.le_fold_max _).2 (Or.inr ⟨i₀, Finset.mem_univ _, le_rfl⟩)
  have h3 : Finset.univ.fold max ⊥ f ≠ ⊥ := fun h => hb (le_bot_iff.1 (h ▸ h2))
  exact ⟨_, (EReal.coe_toReal h1.ne h3).symm⟩

/-- A sum of exponentials is not zero. -/
theorem sum_exp_ne {ι : Type} [Fintype ι] [Nonempty ι] (f : ι → ℝ) : (∑ i, Real.exp (f i)) ≠ 0 :=
  (Finset.sum_pos (fun _ _ => Real.exp_pos _) Finset.univ_nonempty).ne'

/-- A softmax's weights do not depend on what is subtracted from every score. -/
theorem softmax_shift {ι : Type} [Fintype ι] (f : ι → ℝ) (i : ι) (M : ℝ) :
    Real.exp (f i - M) / ∑ j, Real.exp (f j - M) = Real.exp (f i) / ∑ j, Real.exp (f j) := by
  simp only [Real.exp_sub, ← Finset.sum_div]
  exact div_div_div_cancel_right₀ (Real.exp_pos M).ne' _ _

end Cert.Reals
end
-- ==== Proof.CombRef.lean ====
module

public import proofs.«01_k».proof.Proof.Reals
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem
open Cert.Reals

namespace Cert.CombRef

open Cert.ReferenceIdeal Cert.ReferenceIdeal.Gen Cert.ReferenceIdeal.Read

/-- The mixture's weight of group `g`. -/
def W (l : S3x2x4x2048.Idx → ℝ) (g : Fin 3) (b : Fin 2) (h : Fin 4) (s : Fin 2048) : ℝ :=
  Real.exp (l (ix4 g b h s)) / ∑ g' : Fin 3, Real.exp (l (ix4 g' b h s))

/-- What a head's output of group `g` contributes to the cotangent's inner product with the mixture. -/
def A (dy : S2x2048x256.Idx → ℝ) (o : S3x2x4x2048x64.Idx → ℝ) (g : Fin 3) (b : Fin 2) (h : Fin 4) (s : Fin 2048) : ℝ :=
  ∑ d : Fin 64, dy (ix3 b s ⟨h.val * 64 + d.val, by omega⟩) * o (ix5 g b h s d)

/-- The exponentials and their sum, with the row's maximum subtracted. -/
theorem exps (l : S3x2x4x2048.Idx → ℝ) (b : Fin 2) (h : Fin 4) (s : Fin 2048) : ∃ M : ℝ,
    (∀ g : Fin 3, val_main_v20 (F := Ideal) (fun i => (l i : EReal)) (ix4 g b h s) = ((Real.exp (l (ix4 g b h s) - M) : ℝ) : EReal))
    ∧ val_main_v22 (F := Ideal) (fun i => (l i : EReal)) (ix4 0 b h s) = ((∑ g : Fin 3, Real.exp (l (ix4 g b h s) - M) : ℝ) : EReal) := by
  obtain ⟨M, hM⟩ := fold_max_real (fun x : Fin 3 => (l (ix4 x b h s) : EReal)) (fun _ => EReal.coe_ne_top _) 0 (EReal.coe_ne_bot _)
  have hM' : max (Ideal.ofBits FTy.f32 0xFF800000#32) (M : EReal) = (M : EReal) := by rw [neg_inf_f32]; exact max_bot_left _
  have h20 : ∀ g : Fin 3, val_main_v20 (F := Ideal) (fun i => (l i : EReal)) (ix4 g b h s) = ((Real.exp (l (ix4 g b h s) - M) : ℝ) : EReal) := by
    intro g
    pointwise [val_main_v20, val_main_v19, val_main_v18, val_main_v17, val_main_v7, val_main_v6, val_main_v0, val_main_cst, val_main_cst_1]
    rw [hM, hM', coe_sub', coe_exp']
  refine ⟨M, h20, ?_⟩
  pointwise [val_main_v22, val_main_v21, val_main_cst_7]
  simp only [h20, coe_sum']

theorem weight (l : S3x2x4x2048.Idx → ℝ) (g : Fin 3) (b : Fin 2) (h : Fin 4) (s : Fin 2048) :
    val_main_v24 (F := Ideal) (fun i => (l i : EReal)) (ix4 g b h s) = ((W l g b h s : ℝ) : EReal) := by
  obtain ⟨M, h20, h22⟩ := exps l b h s
  pointwise [val_main_v24, val_main_v23]
  rw [h20, h22, coe_div' _ _ (sum_exp_ne _), softmax_shift (fun g => l (ix4 g b h s)) g M]
  rfl

/-- The gradient of group `g`'s output. -/
theorem grad_o (dy : S2x2048x256.Idx → ℝ) (l : S3x2x4x2048.Idx → ℝ) (g : Fin 3) (b : Fin 2) (h : Fin 4) (s : Fin 2048) (d : Fin 64) :
    val_main_v38 (F := Ideal) (fun i => (dy i : EReal)) (fun i => (l i : EReal)) (ix5 g b h s d)
      = ((W l g b h s * dy (ix3 b s ⟨h.val * 64 + d.val, by omega⟩) : ℝ) : EReal) := by
  pointwise [val_main_v38, val_main_v37, val_main_v36, val_main_v35, val_main_v34, val_main_v28]
  rw [weight, coe_mul']

/-- A row's inner product with the score gradient taken away. -/
theorem grad_l (dy : S2x2048x256.Idx → ℝ) (o : S3x2x4x2048x64.Idx → ℝ) (l : S3x2x4x2048.Idx → ℝ) (g : Fin 3) (b : Fin 2) (h : Fin 4)
    (s : Fin 2048) :
    val_main_v57 (F := Ideal) (fun i => (dy i : EReal)) (fun i => (o i : EReal)) (fun i => (l i : EReal)) (ix4 g b h s)
      = ((W l g b h s * ∑ g' : Fin 3, W l g' b h s * A dy o g' b h s : ℝ) : EReal) := by
  have h42 : ∀ g : Fin 3, val_main_v42 (F := Ideal) (fun i => (dy i : EReal)) (fun i => (o i : EReal)) (ix4 g b h s) = ((A dy o g b h s : ℝ) : EReal) := by
    intro g
    pointwise [val_main_v42, val_main_v41, val_main_v40, val_main_v39, val_main_v36, val_main_v35, val_main_v34, val_main_cst_10, val_main_cst_11]
    simp only [coe_mul', coe_sum', Finset.univ_unique, Finset.sum_singleton]
    rfl
  have h56 : val_main_v56 (F := Ideal) (fun i => (dy i : EReal)) (fun i => (o i : EReal)) (fun i => (l i : EReal)) (ix4 g b h s) = ((W l g b h s * A dy o g b h s : ℝ) : EReal) := by
    pointwise [val_main_v56, val_main_v55, val_main_cst_14]
    simp only [grad_o, coe_mul', coe_sum', A, Finset.mul_sum, mul_assoc]
  obtain ⟨M, h20, h22⟩ := exps l b h s
  pointwise [val_main_v57, val_main_v54, val_main_v53, val_main_v52, val_main_v51, val_main_v50, val_main_v49, val_main_v48, val_main_v47, val_main_v46, val_main_v45, val_main_v44, val_main_v43, val_main_v27, val_main_v26, val_main_v25, val_main_cst_8, val_main_cst_12, val_main_cst_13]
  have hD := sum_exp_ne fun g : Fin 3 => l (ix4 g b h s) - M
  have hE := sum_exp_ne fun g : Fin 3 => l (ix4 g b h s)
  have one : (1 : EReal) = ((1 : ℝ) : EReal) := rfl
  simp only [h42, h56, h20, h22, coe_mul', one, coe_div' _ _ hD, coe_div' _ _ (mul_ne_zero hD hD), coe_sum', coe_neg', coe_add', coe_sub',
    Finset.univ_unique, Finset.sum_singleton]
  congr 1
  have hW : ∀ g : Fin 3, W l g b h s = Real.exp (l (ix4 g b h s) - M) / ∑ j : Fin 3, Real.exp (l (ix4 j b h s) - M) :=
    fun g => (softmax_shift (fun g => l (ix4 g b h s)) g M).symm
  simp only [hW]
  generalize (∑ j : Fin 3, Real.exp (l (ix4 j b h s) - M)) = D at hD
  simp only [Fin.sum_univ_three]
  field_simp
  ring

theorem out_o0 (dy : S2x2048x256.Idx → ℝ) (l : S3x2x4x2048.Idx → ℝ) (r : Fin 4096) (q : Fin 256) :
    val_main_v61 (F := Ideal) (fun i => (dy i : EReal)) (fun i => (l i : EReal)) (ix2 r q)
      = ((W l 0 ⟨r.val / 2048, by omega⟩ ⟨q.val / 64, by omega⟩ ⟨r.val % 2048, by omega⟩
          * dy (ix3 ⟨r.val / 2048, by omega⟩ ⟨r.val % 2048, by omega⟩ q) : ℝ) : EReal) := by
  pointwise [val_main_v61, val_main_v60, val_main_v59, val_main_v58]
  rw [grad_o]
  simp only [Nat.div_add_mod', Fin.eta]

theorem out_l0 (dy : S2x2048x256.Idx → ℝ) (o : S3x2x4x2048x64.Idx → ℝ) (l : S3x2x4x2048.Idx → ℝ) (r : Fin 4096) (q : Fin 256) :
    val_main_v75 (F := Ideal) (fun i => (dy i : EReal)) (fun i => (o i : EReal)) (fun i => (l i : EReal)) (ix2 r q)
      = ((W l 0 ⟨r.val / 2048, by omega⟩ ⟨q.val / 64, by omega⟩ ⟨r.val % 2048, by omega⟩
          * ∑ g' : Fin 3, W l g' ⟨r.val / 2048, by omega⟩ ⟨q.val / 64, by omega⟩ ⟨r.val % 2048, by omega⟩
              * A dy o g' ⟨r.val / 2048, by omega⟩ ⟨q.val / 64, by omega⟩ ⟨r.val % 2048, by omega⟩ : ℝ) : EReal) := by
  pointwise [val_main_v75, val_main_v74, val_main_v73, val_main_v72, val_main_v71, val_main_v70]
  rw [grad_l]

theorem out_o1 (dy : S2x2048x256.Idx → ℝ) (l : S3x2x4x2048.Idx → ℝ) (r : Fin 4096) (q : Fin 256) :
    val_main_v65 (F := Ideal) (fun i => (dy i : EReal)) (fun i => (l i : EReal)) (ix2 r q)
      = ((W l 1 ⟨r.val / 2048, by omega⟩ ⟨q.val / 64, by omega⟩ ⟨r.val % 2048, by omega⟩
          * dy (ix3 ⟨r.val / 2048, by omega⟩ ⟨r.val % 2048, by omega⟩ q) : ℝ) : EReal) := by
  pointwise [val_main_v65, val_main_v64, val_main_v63, val_main_v62]
  rw [grad_o]
  simp only [Nat.div_add_mod', Fin.eta]

theorem out_l1 (dy : S2x2048x256.Idx → ℝ) (o : S3x2x4x2048x64.Idx → ℝ) (l : S3x2x4x2048.Idx → ℝ) (r : Fin 4096) (q : Fin 256) :
    val_main_v81 (F := Ideal) (fun i => (dy i : EReal)) (fun i => (o i : EReal)) (fun i => (l i : EReal)) (ix2 r q)
      = ((W l 1 ⟨r.val / 2048, by omega⟩ ⟨q.val / 64, by omega⟩ ⟨r.val % 2048, by omega⟩
          * ∑ g' : Fin 3, W l g' ⟨r.val / 2048, by omega⟩ ⟨q.val / 64, by omega⟩ ⟨r.val % 2048, by omega⟩
              * A dy o g' ⟨r.val / 2048, by omega⟩ ⟨q.val / 64, by omega⟩ ⟨r.val % 2048, by omega⟩ : ℝ) : EReal) := by
  pointwise [val_main_v81, val_main_v80, val_main_v79, val_main_v78, val_main_v77, val_main_v76]
  rw [grad_l]

theorem out_o2 (dy : S2x2048x256.Idx → ℝ) (l : S3x2x4x2048.Idx → ℝ) (r : Fin 4096) (q : Fin 256) :
    val_main_v69 (F := Ideal) (fun i => (dy i : EReal)) (fun i => (l i : EReal)) (ix2 r q)
      = ((W l 2 ⟨r.val / 2048, by omega⟩ ⟨q.val / 64, by omega⟩ ⟨r.val % 2048, by omega⟩
          * dy (ix3 ⟨r.val / 2048, by omega⟩ ⟨r.val % 2048, by omega⟩ q) : ℝ) : EReal) := by
  pointwise [val_main_v69, val_main_v68, val_main_v67, val_main_v66]
  rw [grad_o]
  simp only [Nat.div_add_mod', Fin.eta]

theorem out_l2 (dy : S2x2048x256.Idx → ℝ) (o : S3x2x4x2048x64.Idx → ℝ) (l : S3x2x4x2048.Idx → ℝ) (r : Fin 4096) (q : Fin 256) :
    val_main_v87 (F := Ideal) (fun i => (dy i : EReal)) (fun i => (o i : EReal)) (fun i => (l i : EReal)) (ix2 r q)
      = ((W l 2 ⟨r.val / 2048, by omega⟩ ⟨q.val / 64, by omega⟩ ⟨r.val % 2048, by omega⟩
          * ∑ g' : Fin 3, W l g' ⟨r.val / 2048, by omega⟩ ⟨q.val / 64, by omega⟩ ⟨r.val % 2048, by omega⟩
              * A dy o g' ⟨r.val / 2048, by omega⟩ ⟨q.val / 64, by omega⟩ ⟨r.val % 2048, by omega⟩ : ℝ) : EReal) := by
  pointwise [val_main_v87, val_main_v86, val_main_v85, val_main_v84, val_main_v83, val_main_v82]
  rw [grad_l]

end Cert.CombRef
end
-- ==== Proof.CombKernel.lean ====
module

public import proofs.«01_k».proof.Proof.CombRef
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.CombKernel

open Cert.KernelIdeal Cert.KernelIdeal.Gen
open Cert.CombRef (W A)

variable (m : (ℓ : Loc nD τ sig) → Buf (Elt Ideal) ℓ)

/-- A lane's head as a word. -/
theorem head_word : ∀ k : Fin 256,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by decide +kernel

/-- The matrix that adds up a head's lanes: one where two lanes lie in the same head, zero elsewhere. -/
theorem mask (k q : Fin 256) : k0_pay24 (F := Ideal) (iota .tc S256x256 32 [0] iota_S256x256_d0_w32) 64#32 (k0_pay21) (k0_pay22) (k0_pay23) (ix2 k q)
    = (((if k.val / 64 = q.val / 64 then 1 else 0 : ℝ)) : EReal) := by
  pointwise [k0_pay24, k0_pay21, k0_pay22, k0_pay23]
  rw [head_word k, head_word q]
  by_cases h : k.val / 64 = q.val / 64
  · rw [h, if_pos rfl]
    simp only [IntOp.cmpi, beq_self_eq_true]
    show (((1#32 : BitVec 32).toInt : ℝ) : EReal) = _
    norm_num
  · have hne : BitVec.ofNat 32 (k.val / 64) ≠ BitVec.ofNat 32 (q.val / 64) := fun e => h (by
      have := congrArg BitVec.toNat e
      simp only [BitVec.toNat_ofNat] at this
      omega)
    rw [if_neg h]
    simp only [IntOp.cmpi, beq_eq_false_iff_ne.2 hne]
    show (((0#32 : BitVec 32).toInt : ℝ) : EReal) = _
    norm_num

/-- The sum of the lanes of `q`'s head. -/
theorem head_sum (f : Fin 256 → ℝ) (q : Fin 256) :
    (∑ k : Fin 256, f k * (if k.val / 64 = q.val / 64 then 1 else 0 : ℝ)) = ∑ d : Fin 64, f ⟨q.val / 64 * 64 + d.val, by omega⟩ := by
  rw [Fin.sum_univ_tiles 4 64 rfl]
  have h : ∀ (j : Fin 4) (d : Fin 64), (j.val * 64 + d.val) / 64 = j.val := fun j d => by omega
  simp only [h]
  rw [Finset.sum_eq_single (⟨q.val / 64, by omega⟩ : Fin 4)]
  · simp
  · intro j _ hj
    have : j.val ≠ q.val / 64 := fun e => hj (Fin.ext e)
    simp [this]
  · simp

theorem exp3_ne (a b c : ℝ) : Real.exp a + Real.exp b + Real.exp c ≠ 0 := by positivity

/-- The mixture's weights do not depend on what is subtracted from the three scores. -/
theorem shift3 (l : Fin 3 → ℝ) (g : Fin 3) (M : ℝ) :
    Real.exp (l g - M) / (Real.exp (l 0 - M) + Real.exp (l 1 - M) + Real.exp (l 2 - M)) = Real.exp (l g) / ∑ g' : Fin 3, Real.exp (l g') := by
  rw [← softmax_shift l g M, Fin.sum_univ_three]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] := (by decide +kernel : ∀ t : Fin grid0.N, _)

theorem lt4 (t : Fin cfg0.N) : t.val < 4 := t.isLt

/-- The gradient of group `g`'s output at row `r` and lane `q`. -/
def go (dy : S2x2048x256.Idx → ℝ) (l : S3x2x4x2048.Idx → ℝ) (g : Fin 3) (r : Fin 4096) (q : Fin 256) : EReal :=
  ((W l g ⟨r.val / 2048, by omega⟩ ⟨q.val / 64, by omega⟩ ⟨r.val % 2048, by omega⟩
    * dy (ix3 ⟨r.val / 2048, by omega⟩ ⟨r.val % 2048, by omega⟩ q) : ℝ) : EReal)

/-- The cotangent of group `g`'s log-sum at row `r` and lane `q`. -/
def gl (dy : S2x2048x256.Idx → ℝ) (o : S3x2x4x2048x64.Idx → ℝ) (l : S3x2x4x2048.Idx → ℝ) (g : Fin 3) (r : Fin 4096) (q : Fin 256) : EReal :=
  ((W l g ⟨r.val / 2048, by omega⟩ ⟨q.val / 64, by omega⟩ ⟨r.val % 2048, by omega⟩
    * ∑ g' : Fin 3, W l g' ⟨r.val / 2048, by omega⟩ ⟨q.val / 64, by omega⟩ ⟨r.val % 2048, by omega⟩
      * A dy o g' ⟨r.val / 2048, by omega⟩ ⟨q.val / 64, by omega⟩ ⟨r.val % 2048, by omega⟩ : ℝ) : EReal)

section

variable (dy : S2x2048x256.Idx → ℝ) (o : S3x2x4x2048x64.Idx → ℝ) (l : S3x2x4x2048.Idx → ℝ) (c : Dev nD)
  (h0 : m ((c : Thread nD τ).loc main_arg0) = fun i => (dy i : EReal))
  (h1 : m ((c : Thread nD τ).loc main_arg1) = fun i => (o i : EReal))
  (h2 : m ((c : Thread nD τ).loc main_arg2) = fun i => (l i : EReal))

include h0 in
theorem rd0 (t : Fin cfg0.N) (r : Fin 1024) (q : Fin 256) : iblk m c 0 t (ix2 r q)
    = (dy (ix3 ⟨(t.val * 1024 + r.val) / 2048, by have := lt4 t; omega⟩ ⟨(t.val * 1024 + r.val) % 2048, by omega⟩ q) : EReal) := by
  refine Eq.trans ?_ (congrFun h0 _)
  blk_simp [iblk]
  entry_read
  pointwise
  blk_ext [idx t]

include h1 in
theorem rd1 (t : Fin cfg0.N) (r : Fin 1024) (q : Fin 256) : iblk m c 1 t (ix2 r q)
    = (o (ix5 0 ⟨(t.val * 1024 + r.val) / 2048, by have := lt4 t; omega⟩ ⟨q.val / 64, by omega⟩ ⟨(t.val * 1024 + r.val) % 2048, by omega⟩ ⟨q.val % 64, by omega⟩) : EReal) := by
  refine Eq.trans ?_ (congrFun h1 _)
  blk_simp [iblk]
  entry_read
  pointwise
  blk_ext [idx t]

include h2 in
theorem rd4 (t : Fin cfg0.N) (r : Fin 1024) (q : Fin 256) : iblk m c 4 t (ix2 r q)
    = (l (ix4 0 ⟨(t.val * 1024 + r.val) / 2048, by have := lt4 t; omega⟩ ⟨q.val / 64, by omega⟩ ⟨(t.val * 1024 + r.val) % 2048, by omega⟩) : EReal) := by
  refine Eq.trans ?_ (congrFun h2 _)
  blk_simp [iblk]
  entry_read
  pointwise
  blk_ext [idx t]

include h1 in
theorem rd2 (t : Fin cfg0.N) (r : Fin 1024) (q : Fin 256) : iblk m c 2 t (ix2 r q)
    = (o (ix5 1 ⟨(t.val * 1024 + r.val) / 2048, by have := lt4 t; omega⟩ ⟨q.val / 64, by omega⟩ ⟨(t.val * 1024 + r.val) % 2048, by omega⟩ ⟨q.val % 64, by omega⟩) : EReal) := by
  refine Eq.trans ?_ (congrFun h1 _)
  blk_simp [iblk]
  entry_read
  pointwise
  blk_ext [idx t]

include h2 in
theorem rd5 (t : Fin cfg0.N) (r : Fin 1024) (q : Fin 256) : iblk m c 5 t (ix2 r q)
    = (l (ix4 1 ⟨(t.val * 1024 + r.val) / 2048, by have := lt4 t; omega⟩ ⟨q.val / 64, by omega⟩ ⟨(t.val * 1024 + r.val) % 2048, by omega⟩) : EReal) := by
  refine Eq.trans ?_ (congrFun h2 _)
  blk_simp [iblk]
  entry_read
  pointwise
  blk_ext [idx t]

include h1 in
theorem rd3 (t : Fin cfg0.N) (r : Fin 1024) (q : Fin 256) : iblk m c 3 t (ix2 r q)
    = (o (ix5 2 ⟨(t.val * 1024 + r.val) / 2048, by have := lt4 t; omega⟩ ⟨q.val / 64, by omega⟩ ⟨(t.val * 1024 + r.val) % 2048, by omega⟩ ⟨q.val % 64, by omega⟩) : EReal) := by
  refine Eq.trans ?_ (congrFun h1 _)
  blk_simp [iblk]
  entry_read
  pointwise
  blk_ext [idx t]

include h2 in
theorem rd6 (t : Fin cfg0.N) (r : Fin 1024) (q : Fin 256) : iblk m c 6 t (ix2 r q)
    = (l (ix4 2 ⟨(t.val * 1024 + r.val) / 2048, by have := lt4 t; omega⟩ ⟨q.val / 64, by omega⟩ ⟨(t.val * 1024 + r.val) % 2048, by omega⟩) : EReal) := by
  refine Eq.trans ?_ (congrFun h2 _)
  blk_simp [iblk]
  entry_read
  pointwise
  blk_ext [idx t]

theorem sum_heads (dy : S2x2048x256.Idx → ℝ) (o : S3x2x4x2048x64.Idx → ℝ) (w : Fin 3 → Fin 4 → ℝ) (b : Fin 2) (s : Fin 2048) (q : Fin 256) :
    (∑ k : Fin 256, dy (ix3 b s k) * (w 0 ⟨k.val / 64, by omega⟩ * o (ix5 0 b ⟨k.val / 64, by omega⟩ s ⟨k.val % 64, by omega⟩)
        + w 1 ⟨k.val / 64, by omega⟩ * o (ix5 1 b ⟨k.val / 64, by omega⟩ s ⟨k.val % 64, by omega⟩)
        + w 2 ⟨k.val / 64, by omega⟩ * o (ix5 2 b ⟨k.val / 64, by omega⟩ s ⟨k.val % 64, by omega⟩))
        * (if k.val / 64 = q.val / 64 then 1 else 0 : ℝ))
      = ∑ g' : Fin 3, w g' ⟨q.val / 64, by omega⟩ * A dy o g' b ⟨q.val / 64, by omega⟩ s := by
  rw [head_sum (fun k : Fin 256 => dy (ix3 b s k) * (w 0 ⟨k.val / 64, by omega⟩ * o (ix5 0 b ⟨k.val / 64, by omega⟩ s ⟨k.val % 64, by omega⟩)
        + w 1 ⟨k.val / 64, by omega⟩ * o (ix5 1 b ⟨k.val / 64, by omega⟩ s ⟨k.val % 64, by omega⟩)
        + w 2 ⟨k.val / 64, by omega⟩ * o (ix5 2 b ⟨k.val / 64, by omega⟩ s ⟨k.val % 64, by omega⟩))) q]
  have h1 : ∀ d : Fin 64, (q.val / 64 * 64 + d.val) / 64 = q.val / 64 := fun d => by omega
  have h2 : ∀ d : Fin 64, (q.val / 64 * 64 + d.val) % 64 = d.val := fun d => by omega
  simp only [h1, h2, Fin.eta, A, Fin.sum_univ_three, Finset.mul_sum, ← Finset.sum_add_distrib]
  exact Finset.sum_congr rfl fun d _ => by ring

include h0 h1 h2 in
theorem inner (t : Fin cfg0.N) (r : Fin 1024) (q : Fin 256) : k0_pay31 (iblk m c 0 t) (iblk m c 1 t) (iblk m c 2 t) (iblk m c 3 t) (iblk m c 4 t) (iblk m c 5 t) (iblk m c 6 t) (ix2 r q)
    = ((dy (ix3 ⟨(t.val * 1024 + r.val) / 2048, by have := lt4 t; omega⟩ ⟨(t.val * 1024 + r.val) % 2048, by omega⟩ q) * (W l 0 ⟨(t.val * 1024 + r.val) / 2048, by have := lt4 t; omega⟩ ⟨q.val / 64, by omega⟩ ⟨(t.val * 1024 + r.val) % 2048, by omega⟩ * o (ix5 0 ⟨(t.val * 1024 + r.val) / 2048, by have := lt4 t; omega⟩ ⟨q.val / 64, by omega⟩ ⟨(t.val * 1024 + r.val) % 2048, by omega⟩ ⟨q.val % 64, by omega⟩)
        + W l 1 ⟨(t.val * 1024 + r.val) / 2048, by have := lt4 t; omega⟩ ⟨q.val / 64, by omega⟩ ⟨(t.val * 1024 + r.val) % 2048, by omega⟩ * o (ix5 1 ⟨(t.val * 1024 + r.val) / 2048, by have := lt4 t; omega⟩ ⟨q.val / 64, by omega⟩ ⟨(t.val * 1024 + r.val) % 2048, by omega⟩ ⟨q.val % 64, by omega⟩)
        + W l 2 ⟨(t.val * 1024 + r.val) / 2048, by have := lt4 t; omega⟩ ⟨q.val / 64, by omega⟩ ⟨(t.val * 1024 + r.val) % 2048, by omega⟩ * o (ix5 2 ⟨(t.val * 1024 + r.val) / 2048, by have := lt4 t; omega⟩ ⟨q.val / 64, by omega⟩ ⟨(t.val * 1024 + r.val) % 2048, by omega⟩ ⟨q.val % 64, by omega⟩)) : ℝ) : EReal) := by
  pointwise [k0_pay31, k0_pay20, k0_pay16, k0_pay17, k0_pay18, k0_pay19, k0_pay15, k0_pay14, k0_pay13, k0_pay12, k0_pay11, k0_pay10, k0_pay9, k0_pay8]
  simp only [rd0 m dy c h0, rd1 m o c h1, rd2 m o c h1, rd3 m o c h1, rd4 m l c h2, rd5 m l c h2, rd6 m l c h2, coe_max', coe_sub', coe_exp', coe_add', coe_div' _ _ (exp3_ne _ _ _), coe_mul']
  rw [shift3 (fun g => l (ix4 g ⟨(t.val * 1024 + r.val) / 2048, by have := lt4 t; omega⟩ ⟨q.val / 64, by omega⟩ ⟨(t.val * 1024 + r.val) % 2048, by omega⟩)) 0, shift3 (fun g => l (ix4 g ⟨(t.val * 1024 + r.val) / 2048, by have := lt4 t; omega⟩ ⟨q.val / 64, by omega⟩ ⟨(t.val * 1024 + r.val) % 2048, by omega⟩)) 1, shift3 (fun g => l (ix4 g ⟨(t.val * 1024 + r.val) / 2048, by have := lt4 t; omega⟩ ⟨q.val / 64, by omega⟩ ⟨(t.val * 1024 + r.val) % 2048, by omega⟩)) 2]
  rfl

include h0 h1 h2 in
theorem pay_o0 (t : Fin cfg0.N) (r : Fin 1024) (q : Fin 256) : (dats m 0 c).after 7 t (ix2 r q)
    = ((W l 0 ⟨(t.val * 1024 + r.val) / 2048, by have := lt4 t; omega⟩ ⟨q.val / 64, by omega⟩ ⟨(t.val * 1024 + r.val) % 2048, by omega⟩ * dy (ix3 ⟨(t.val * 1024 + r.val) / 2048, by have := lt4 t; omega⟩ ⟨(t.val * 1024 + r.val) % 2048, by omega⟩ q) : ℝ) : EReal) := by
  rw [after0_7]
  frame_out
  pointwise [k0_pay2, k0_pay27, k0_pay30, k0_pay16, k0_pay17, k0_pay18, k0_pay19, k0_pay15, k0_pay14, k0_pay13, k0_pay12, k0_pay11, k0_pay10, k0_pay9, k0_pay8]
  simp only [rd0 m dy c h0, rd4 m l c h2, rd5 m l c h2, rd6 m l c h2, coe_max', coe_sub', coe_exp', coe_add', coe_div' _ _ (exp3_ne _ _ _), coe_mul']
  rw [shift3 (fun g => l (ix4 g ⟨(t.val * 1024 + r.val) / 2048, by have := lt4 t; omega⟩ ⟨q.val / 64, by omega⟩ ⟨(t.val * 1024 + r.val) % 2048, by omega⟩)) 0]
  rfl

include h0 h1 h2 in
theorem pay_l0 (t : Fin cfg0.N) (r : Fin 1024) (q : Fin 256) : (dats m 0 c).after 10 t (ix2 r q)
    = ((W l 0 ⟨(t.val * 1024 + r.val) / 2048, by have := lt4 t; omega⟩ ⟨q.val / 64, by omega⟩ ⟨(t.val * 1024 + r.val) % 2048, by omega⟩ * ∑ g' : Fin 3, W l g' ⟨(t.val * 1024 + r.val) / 2048, by have := lt4 t; omega⟩ ⟨q.val / 64, by omega⟩ ⟨(t.val * 1024 + r.val) % 2048, by omega⟩ * A dy o g' ⟨(t.val * 1024 + r.val) / 2048, by have := lt4 t; omega⟩ ⟨q.val / 64, by omega⟩ ⟨(t.val * 1024 + r.val) % 2048, by omega⟩ : ℝ) : EReal) := by
  rw [after0_10]
  frame_out
  pointwise [k0_pay3, k0_pay1, k0_pay27, k0_pay32, k0_pay33, k0_pay34, k0_pay25, k0_pay26, k0_pay16, k0_pay17, k0_pay18, k0_pay19, k0_pay15, k0_pay14, k0_pay13, k0_pay12, k0_pay11, k0_pay10, k0_pay9, k0_pay8]
  have hm := mask
  simp only [inner m dy o l c h0 h1 h2, hm, EReal.coe_zero, rd4 m l c h2, rd5 m l c h2, rd6 m l c h2, coe_max', coe_sub', coe_exp', coe_add', coe_div' _ _ (exp3_ne _ _ _), coe_mul', coe_sum', sub_self, zero_mul, Finset.sum_const_zero, add_zero]
  rw [shift3 (fun g => l (ix4 g ⟨(t.val * 1024 + r.val) / 2048, by have := lt4 t; omega⟩ ⟨q.val / 64, by omega⟩ ⟨(t.val * 1024 + r.val) % 2048, by omega⟩)) 0]
  congr 2
  exact sum_heads dy o (fun g' h => W l g' ⟨(t.val * 1024 + r.val) / 2048, by have := lt4 t; omega⟩ h ⟨(t.val * 1024 + r.val) % 2048, by omega⟩) ⟨(t.val * 1024 + r.val) / 2048, by have := lt4 t; omega⟩ ⟨(t.val * 1024 + r.val) % 2048, by omega⟩ q

include h0 h1 h2 in
theorem pay_o1 (t : Fin cfg0.N) (r : Fin 1024) (q : Fin 256) : (dats m 0 c).after 8 t (ix2 r q)
    = ((W l 1 ⟨(t.val * 1024 + r.val) / 2048, by have := lt4 t; omega⟩ ⟨q.val / 64, by omega⟩ ⟨(t.val * 1024 + r.val) % 2048, by omega⟩ * dy (ix3 ⟨(t.val * 1024 + r.val) / 2048, by have := lt4 t; omega⟩ ⟨(t.val * 1024 + r.val) % 2048, by omega⟩ q) : ℝ) : EReal) := by
  rw [after0_8]
  frame_out
  pointwise [k0_pay4, k0_pay28, k0_pay30, k0_pay16, k0_pay17, k0_pay18, k0_pay19, k0_pay15, k0_pay14, k0_pay13, k0_pay12, k0_pay11, k0_pay10, k0_pay9, k0_pay8]
  simp only [rd0 m dy c h0, rd4 m l c h2, rd5 m l c h2, rd6 m l c h2, coe_max', coe_sub', coe_exp', coe_add', coe_div' _ _ (exp3_ne _ _ _), coe_mul']
  rw [shift3 (fun g => l (ix4 g ⟨(t.val * 1024 + r.val) / 2048, by have := lt4 t; omega⟩ ⟨q.val / 64, by omega⟩ ⟨(t.val * 1024 + r.val) % 2048, by omega⟩)) 1]
  rfl

include h0 h1 h2 in
theorem pay_l1 (t : Fin cfg0.N) (r : Fin 1024) (q : Fin 256) : (dats m 0 c).after 11 t (ix2 r q)
    = ((W l 1 ⟨(t.val * 1024 + r.val) / 2048, by have := lt4 t; omega⟩ ⟨q.val / 64, by omega⟩ ⟨(t.val * 1024 + r.val) % 2048, by omega⟩ * ∑ g' : Fin 3, W l g' ⟨(t.val * 1024 + r.val) / 2048, by have := lt4 t; omega⟩ ⟨q.val / 64, by omega⟩ ⟨(t.val * 1024 + r.val) % 2048, by omega⟩ * A dy o g' ⟨(t.val * 1024 + r.val) / 2048, by have := lt4 t; omega⟩ ⟨q.val / 64, by omega⟩ ⟨(t.val * 1024 + r.val) % 2048, by omega⟩ : ℝ) : EReal) := by
  rw [after0_11]
  frame_out
  pointwise [k0_pay5, k0_pay1, k0_pay28, k0_pay32, k0_pay33, k0_pay34, k0_pay25, k0_pay26, k0_pay16, k0_pay17, k0_pay18, k0_pay19, k0_pay15, k0_pay14, k0_pay13, k0_pay12, k0_pay11, k0_pay10, k0_pay9, k0_pay8]
  have hm := mask
  simp only [inner m dy o l c h0 h1 h2, hm, EReal.coe_zero, rd4 m l c h2, rd5 m l c h2, rd6 m l c h2, coe_max', coe_sub', coe_exp', coe_add', coe_div' _ _ (exp3_ne _ _ _), coe_mul', coe_sum', sub_self, zero_mul, Finset.sum_const_zero, add_zero]
  rw [shift3 (fun g => l (ix4 g ⟨(t.val * 1024 + r.val) / 2048, by have := lt4 t; omega⟩ ⟨q.val / 64, by omega⟩ ⟨(t.val * 1024 + r.val) % 2048, by omega⟩)) 1]
  congr 2
  exact sum_heads dy o (fun g' h => W l g' ⟨(t.val * 1024 + r.val) / 2048, by have := lt4 t; omega⟩ h ⟨(t.val * 1024 + r.val) % 2048, by omega⟩) ⟨(t.val * 1024 + r.val) / 2048, by have := lt4 t; omega⟩ ⟨(t.val * 1024 + r.val) % 2048, by omega⟩ q

include h0 h1 h2 in
theorem pay_o2 (t : Fin cfg0.N) (r : Fin 1024) (q : Fin 256) : (dats m 0 c).after 9 t (ix2 r q)
    = ((W l 2 ⟨(t.val * 1024 + r.val) / 2048, by have := lt4 t; omega⟩ ⟨q.val / 64, by omega⟩ ⟨(t.val * 1024 + r.val) % 2048, by omega⟩ * dy (ix3 ⟨(t.val * 1024 + r.val) / 2048, by have := lt4 t; omega⟩ ⟨(t.val * 1024 + r.val) % 2048, by omega⟩ q) : ℝ) : EReal) := by
  rw [after0_9]
  frame_out
  pointwise [k0_pay6, k0_pay29, k0_pay30, k0_pay16, k0_pay17, k0_pay18, k0_pay19, k0_pay15, k0_pay14, k0_pay13, k0_pay12, k0_pay11, k0_pay10, k0_pay9, k0_pay8]
  simp only [rd0 m dy c h0, rd4 m l c h2, rd5 m l c h2, rd6 m l c h2, coe_max', coe_sub', coe_exp', coe_add', coe_div' _ _ (exp3_ne _ _ _), coe_mul']
  rw [shift3 (fun g => l (ix4 g ⟨(t.val * 1024 + r.val) / 2048, by have := lt4 t; omega⟩ ⟨q.val / 64, by omega⟩ ⟨(t.val * 1024 + r.val) % 2048, by omega⟩)) 2]
  rfl

include h0 h1 h2 in
theorem pay_l2 (t : Fin cfg0.N) (r : Fin 1024) (q : Fin 256) : (dats m 0 c).after 12 t (ix2 r q)
    = ((W l 2 ⟨(t.val * 1024 + r.val) / 2048, by have := lt4 t; omega⟩ ⟨q.val / 64, by omega⟩ ⟨(t.val * 1024 + r.val) % 2048, by omega⟩ * ∑ g' : Fin 3, W l g' ⟨(t.val * 1024 + r.val) / 2048, by have := lt4 t; omega⟩ ⟨q.val / 64, by omega⟩ ⟨(t.val * 1024 + r.val) % 2048, by omega⟩ * A dy o g' ⟨(t.val * 1024 + r.val) / 2048, by have := lt4 t; omega⟩ ⟨q.val / 64, by omega⟩ ⟨(t.val * 1024 + r.val) % 2048, by omega⟩ : ℝ) : EReal) := by
  rw [after0_12]
  frame_out
  pointwise [k0_pay7, k0_pay1, k0_pay29, k0_pay32, k0_pay33, k0_pay34, k0_pay25, k0_pay26, k0_pay16, k0_pay17, k0_pay18, k0_pay19, k0_pay15, k0_pay14, k0_pay13, k0_pay12, k0_pay11, k0_pay10, k0_pay9, k0_pay8]
  have hm := mask
  simp only [inner m dy o l c h0 h1 h2, hm, EReal.coe_zero, rd4 m l c h2, rd5 m l c h2, rd6 m l c h2, coe_max', coe_sub', coe_exp', coe_add', coe_div' _ _ (exp3_ne _ _ _), coe_mul', coe_sum', sub_self, zero_mul, Finset.sum_const_zero, add_zero]
  rw [shift3 (fun g => l (ix4 g ⟨(t.val * 1024 + r.val) / 2048, by have := lt4 t; omega⟩ ⟨q.val / 64, by omega⟩ ⟨(t.val * 1024 + r.val) % 2048, by omega⟩)) 2]
  congr 2
  exact sum_heads dy o (fun g' h => W l g' ⟨(t.val * 1024 + r.val) / 2048, by have := lt4 t; omega⟩ h ⟨(t.val * 1024 + r.val) % 2048, by omega⟩) ⟨(t.val * 1024 + r.val) / 2048, by have := lt4 t; omega⟩ ⟨(t.val * 1024 + r.val) % 2048, by omega⟩ q

include h0 h1 h2 in
theorem final_o0 : (dats m 0 c).arrAt 7 (cfgs 0).N
    = fun i => go dy l 0 (i 0) (i 1) := by
  refine (dats m 0 c).arrAt_eq_of_covers 7 _ (by decide +kernel) fun t _ y => ?_
  obtain ⟨r, q, rfl⟩ : ∃ (r : Fin 1024) (q : Fin 256), y = ix2 r q := ⟨y 0, y 1, by blk_ext []⟩
  blk_simp
  have e : ((win0_7.blk t).view.emb (ix2 r q) : S4096x256.Idx) = ix2 ⟨t.val * 1024 + r.val, by have := lt4 t; omega⟩ q := by blk_ext [idx t]
  exact (pay_o0 m dy o l c h0 h1 h2 t r q).trans (congrArg (fun i : S4096x256.Idx => go dy l 0 (i 0) (i 1)) e).symm

include h0 h1 h2 in
theorem final_l0 : (dats m 0 c).arrAt 10 (cfgs 0).N
    = fun i => gl dy o l 0 (i 0) (i 1) := by
  refine (dats m 0 c).arrAt_eq_of_covers 10 _ (by decide +kernel) fun t _ y => ?_
  obtain ⟨r, q, rfl⟩ : ∃ (r : Fin 1024) (q : Fin 256), y = ix2 r q := ⟨y 0, y 1, by blk_ext []⟩
  blk_simp
  have e : ((win0_10.blk t).view.emb (ix2 r q) : S4096x256.Idx) = ix2 ⟨t.val * 1024 + r.val, by have := lt4 t; omega⟩ q := by blk_ext [idx t]
  exact (pay_l0 m dy o l c h0 h1 h2 t r q).trans (congrArg (fun i : S4096x256.Idx => gl dy o l 0 (i 0) (i 1)) e).symm

include h0 h1 h2 in
theorem final_o1 : (dats m 0 c).arrAt 8 (cfgs 0).N
    = fun i => go dy l 1 (i 0) (i 1) := by
  refine (dats m 0 c).arrAt_eq_of_covers 8 _ (by decide +kernel) fun t _ y => ?_
  obtain ⟨r, q, rfl⟩ : ∃ (r : Fin 1024) (q : Fin 256), y = ix2 r q := ⟨y 0, y 1, by blk_ext []⟩
  blk_simp
  have e : ((win0_8.blk t).view.emb (ix2 r q) : S4096x256.Idx) = ix2 ⟨t.val * 1024 + r.val, by have := lt4 t; omega⟩ q := by blk_ext [idx t]
  exact (pay_o1 m dy o l c h0 h1 h2 t r q).trans (congrArg (fun i : S4096x256.Idx => go dy l 1 (i 0) (i 1)) e).symm

include h0 h1 h2 in
theorem final_l1 : (dats m 0 c).arrAt 11 (cfgs 0).N
    = fun i => gl dy o l 1 (i 0) (i 1) := by
  refine (dats m 0 c).arrAt_eq_of_covers 11 _ (by decide +kernel) fun t _ y => ?_
  obtain ⟨r, q, rfl⟩ : ∃ (r : Fin 1024) (q : Fin 256), y = ix2 r q := ⟨y 0, y 1, by blk_ext []⟩
  blk_simp
  have e : ((win0_11.blk t).view.emb (ix2 r q) : S4096x256.Idx) = ix2 ⟨t.val * 1024 + r.val, by have := lt4 t; omega⟩ q := by blk_ext [idx t]
  exact (pay_l1 m dy o l c h0 h1 h2 t r q).trans (congrArg (fun i : S4096x256.Idx => gl dy o l 1 (i 0) (i 1)) e).symm

include h0 h1 h2 in
theorem final_o2 : (dats m 0 c).arrAt 9 (cfgs 0).N
    = fun i => go dy l 2 (i 0) (i 1) := by
  refine (dats m 0 c).arrAt_eq_of_covers 9 _ (by decide +kernel) fun t _ y => ?_
  obtain ⟨r, q, rfl⟩ : ∃ (r : Fin 1024) (q : Fin 256), y = ix2 r q := ⟨y 0, y 1, by blk_ext []⟩
  blk_simp
  have e : ((win0_9.blk t).view.emb (ix2 r q) : S4096x256.Idx) = ix2 ⟨t.val * 1024 + r.val, by have := lt4 t; omega⟩ q := by blk_ext [idx t]
  exact (pay_o2 m dy o l c h0 h1 h2 t r q).trans (congrArg (fun i : S4096x256.Idx => go dy l 2 (i 0) (i 1)) e).symm

include h0 h1 h2 in
theorem final_l2 : (dats m 0 c).arrAt 12 (cfgs 0).N
    = fun i => gl dy o l 2 (i 0) (i 1) := by
  refine (dats m 0 c).arrAt_eq_of_covers 12 _ (by decide +kernel) fun t _ y => ?_
  obtain ⟨r, q, rfl⟩ : ∃ (r : Fin 1024) (q : Fin 256), y = ix2 r q := ⟨y 0, y 1, by blk_ext []⟩
  blk_simp
  have e : ((win0_12.blk t).view.emb (ix2 r q) : S4096x256.Idx) = ix2 ⟨t.val * 1024 + r.val, by have := lt4 t; omega⟩ q := by blk_ext [idx t]
  exact (pay_l2 m dy o l c h0 h1 h2 t r q).trans (congrArg (fun i : S4096x256.Idx => gl dy o l 2 (i 0) (i 1)) e).symm

end

end Cert.CombKernel
end
-- ==== Proof.CombValue.lean ====
module

public import proofs.«01_k».proof.Defs
public import proofs.«01_k».proof.Proof.CombRef
public import proofs.«01_k».proof.Proof.CombKernel
public import proofs.«01_k».proof.Proof.Gen.Pre_finite_mix
public import proofs.«01_k».proof.Proof.Gen.KernelIdeal.Value

@[expose] public section

set_option maxRecDepth 16384

noncomputable section

open Idealize.ShloMosaic Idealize.ShloMosaic.TcCoe Idealize.SL.Sem
open Cert.Reals

namespace Cert.CombValue

/-- The predicate says that all three arguments hold reals. -/
theorem args_real (x0 : FVec Ideal Cert.Pre_finite_mix.S2x2048x256 .f32) (x1 : FVec Ideal Cert.Pre_finite_mix.S3x2x4x2048x64 .f32)
    (x2 : FVec Ideal Cert.Pre_finite_mix.S3x2x4x2048 .f32) (h : Cert.Pre_finite_mix.fn (F := Ideal) x0 x1 x2 = fun _ => 1#1) :
    (∃ f : Cert.Pre_finite_mix.S2x2048x256.Idx → ℝ, x0 = fun i => (f i : EReal))
      ∧ (∃ f : Cert.Pre_finite_mix.S3x2x4x2048x64.Idx → ℝ, x1 = fun i => (f i : EReal))
      ∧ ∃ f : Cert.Pre_finite_mix.S3x2x4x2048.Idx → ℝ, x2 = fun i => (f i : EReal) := by
  have e := congrFun h ix0
  obtain ⟨e01, e2⟩ := andi_one e
  obtain ⟨e0, e1⟩ := andi_one e01
  haveI : Subsingleton Cert.Pre_finite_mix.S_.Idx := ⟨fun a b => funext fun k => k.elim0⟩
  exact ⟨real_of_all x0 _ _ _ _ _ ix0 (fun _ => rfl) e0, real_of_all x1 _ _ _ _ _ ix0 (fun _ => rfl) e1, real_of_all x2 _ _ _ _ _ ix0 (fun _ => rfl) e2⟩

/-- Every index of a result is a row and a lane. -/
theorem pair_idx (i : Cert.ReferenceIdeal.S4096x256.Idx) : ∃ (r : Fin 4096) (q : Fin 256), i = ix2 r q := ⟨i 0, i 1, by blk_ext []⟩

section

variable (dy : Cert.ReferenceIdeal.S2x2048x256.Idx → ℝ) (o : Cert.ReferenceIdeal.S3x2x4x2048x64.Idx → ℝ) (l : Cert.ReferenceIdeal.S3x2x4x2048.Idx → ℝ)

open Cert.ReferenceIdeal.Read Cert.CombKernel

theorem ref_o0 : val_main_v61 (F := Ideal) (fun i => (dy i : EReal)) (fun i => (l i : EReal)) = fun i => go dy l 0 (i 0) (i 1) := by
  funext i
  obtain ⟨r, q, rfl⟩ := pair_idx i
  exact Cert.CombRef.out_o0 dy l r q

theorem ref_o1 : val_main_v65 (F := Ideal) (fun i => (dy i : EReal)) (fun i => (l i : EReal)) = fun i => go dy l 1 (i 0) (i 1) := by
  funext i
  obtain ⟨r, q, rfl⟩ := pair_idx i
  exact Cert.CombRef.out_o1 dy l r q

theorem ref_o2 : val_main_v69 (F := Ideal) (fun i => (dy i : EReal)) (fun i => (l i : EReal)) = fun i => go dy l 2 (i 0) (i 1) := by
  funext i
  obtain ⟨r, q, rfl⟩ := pair_idx i
  exact Cert.CombRef.out_o2 dy l r q

theorem ref_l0 : val_main_v75 (F := Ideal) (fun i => (dy i : EReal)) (fun i => (o i : EReal)) (fun i => (l i : EReal)) = fun i => gl dy o l 0 (i 0) (i 1) := by
  funext i
  obtain ⟨r, q, rfl⟩ := pair_idx i
  exact Cert.CombRef.out_l0 dy o l r q

theorem ref_l1 : val_main_v81 (F := Ideal) (fun i => (dy i : EReal)) (fun i => (o i : EReal)) (fun i => (l i : EReal)) = fun i => gl dy o l 1 (i 0) (i 1) := by
  funext i
  obtain ⟨r, q, rfl⟩ := pair_idx i
  exact Cert.CombRef.out_l1 dy o l r q

theorem ref_l2 : val_main_v87 (F := Ideal) (fun i => (dy i : EReal)) (fun i => (o i : EReal)) (fun i => (l i : EReal)) = fun i => gl dy o l 2 (i 0) (i 1) := by
  funext i
  obtain ⟨r, q, rfl⟩ := pair_idx i
  exact Cert.CombRef.out_l2 dy o l r q

end

set_option maxHeartbeats 1600000 in
/-- Kernel and reference compute the same gradients over the reals. -/
theorem value : Cert.algebraic_KernelIdeal_ReferenceIdeal_pre_finite_mix := by
  intro m g m' g' hpre hagree
  refine ⟨_, _, _, _, _, _, Cert.KernelIdeal.Value.run_blocks m g, ?_⟩
  refine (θ_run _ _ _).mono (fun r h c => ?_) (Cert.ReferenceIdeal.Value.run m' g')
  obtain ⟨⟨dy, h0⟩, ⟨o, h1⟩, ⟨l, h2⟩⟩ := args_real _ _ _ (hpre c)
  obtain ⟨a0, a1, a2⟩ := hagree c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · rw [Cert.ReferenceIdeal.Read.val_main_v61_eq, a0, a2, h0, h2]
    exact (ref_o0 dy l).trans (Cert.CombKernel.final_o0 m dy o l c h0 h1 h2).symm
  · rw [Cert.ReferenceIdeal.Read.val_main_v65_eq, a0, a2, h0, h2]
    exact (ref_o1 dy l).trans (Cert.CombKernel.final_o1 m dy o l c h0 h1 h2).symm
  · rw [Cert.ReferenceIdeal.Read.val_main_v69_eq, a0, a2, h0, h2]
    exact (ref_o2 dy l).trans (Cert.CombKernel.final_o2 m dy o l c h0 h1 h2).symm
  · rw [Cert.ReferenceIdeal.Read.val_main_v75_eq, a0, a1, a2, h0, h1, h2]
    exact (ref_l0 dy o l).trans (Cert.CombKernel.final_l0 m dy o l c h0 h1 h2).symm
  · rw [Cert.ReferenceIdeal.Read.val_main_v81_eq, a0, a1, a2, h0, h1, h2]
    exact (ref_l1 dy o l).trans (Cert.CombKernel.final_l1 m dy o l c h0 h1 h2).symm
  · rw [Cert.ReferenceIdeal.Read.val_main_v87_eq, a0, a1, a2, h0, h1, h2]
    exact (ref_l2 dy o l).trans (Cert.CombKernel.final_l2 m dy o l c h0 h1 h2).symm

end Cert.CombValue

end
-- ==== Proof.NormMath.lean ====
/- The gradient of a root-mean-square norm over the extended reals. Nothing is assumed of the cotangents, gains and inputs: a row with an
   infinite entry has the inverse root zero, so both spellings of its gradient vanish; in any other row the inverse root is a positive real
   number, over which products distribute. -/
module

public import proofs.«01_k».proof.Proof.Reals

@[expose] public section

noncomputable section

open Idealize.ShloMosaic
open Cert.Reals

namespace Cert.NormMath

/-- A nonnegative real factor comes out of a sum. -/
theorem sum_mul_nonneg {ι : Type} (s : Finset ι) (f : ι → EReal) (r : EReal) (h0 : 0 ≤ r) (ht : r ≠ ⊤) :
    ∑ j ∈ s, f j * r = (∑ j ∈ s, f j) * r := by
  classical
  induction s using Finset.induction_on with
  | empty => simp
  | insert a s ha ih => rw [Finset.sum_insert ha, Finset.sum_insert ha, ih, EReal.right_distrib_of_nonneg_of_ne_top h0 ht]

/-- Twice the same multiple of an extended real. -/
theorem add_self (r : ℝ) (T : EReal) : (r : EReal) * T + (r : EReal) * T = ((2 * r : ℝ) : EReal) * T := by
  induction T with
  | bot =>
    rcases lt_trichotomy r 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | coe t => rw [coe_mul', coe_mul', coe_add']; congr 1; ring
  | top =>
    rcases lt_trichotomy r 0 with h | h | h
    · rw [EReal.coe_mul_top_of_neg h, EReal.coe_mul_top_of_neg (by linarith)]; rfl
    · subst h; simp
    · rw [EReal.coe_mul_top_of_pos h, EReal.coe_mul_top_of_pos (by linarith)]; rfl

theorem div_real (a : EReal) (b : ℝ) (h : b ≠ 0) : Ideal.div a (b : EReal) = a * ((b⁻¹ : ℝ) : EReal) := by
  rw [Ideal.div, if_neg (by exact_mod_cast h), EReal.coe_inv]

theorem sq_nonneg' (a : EReal) : 0 ≤ a * a := by
  induction a with
  | bot => simp
  | coe a => rw [coe_mul']; exact_mod_cast mul_self_nonneg a
  | top => simp

theorem sq_top (a : EReal) (h : a * a ≠ ⊤) : ∃ r : ℝ, a = r := by
  induction a with
  | bot => simp at h
  | coe a => exact ⟨a, rfl⟩
  | top => simp at h

/-- The mean square of a row plus a positive number is infinite, or every entry is a real number and it is a positive real number. -/
theorem mean_square {n : ℕ} (x : Fin n → EReal) (N e : ℝ) (hN : 0 < N) (he : 0 < e) :
    Ideal.div (∑ j, x j * x j) (N : EReal) + (e : EReal) = ⊤
      ∨ ∃ (y : Fin n → ℝ) (M : ℝ), (∀ j, x j = y j) ∧ 0 < M ∧ Ideal.div (∑ j, x j * x j) (N : EReal) + (e : EReal) = M := by
  by_cases hS : ∃ j, x j * x j = ⊤
  · left
    obtain ⟨j, hj⟩ := hS
    have : (∑ j, x j * x j) = ⊤ := top_le_iff.mp (hj ▸ Finset.single_le_sum (f := fun j => x j * x j) (fun i _ => sq_nonneg' (x i)) (Finset.mem_univ j))
    rw [this, div_real _ _ hN.ne', EReal.top_mul_coe_of_pos (inv_pos.mpr hN)]
    rfl
  · right
    have hx : ∀ j, ∃ r : ℝ, x j = r := fun j => sq_top _ fun h => hS ⟨j, h⟩
    choose y hy using hx
    refine ⟨y, (∑ j, y j * y j) / N + e, hy, by
      have : 0 ≤ ∑ j, y j * y j := Finset.sum_nonneg fun j _ => mul_self_nonneg _
      positivity, ?_⟩
    simp only [hy, coe_mul', coe_sum']
    rw [coe_div' _ _ hN.ne', coe_add']

/-- The two spellings of the gradient of a row's norm: the inverse root times the cotangent less its projection, and the rule of a product
    with the rule of an inverse root. -/
theorem norm_grad {n : ℕ} (x u : Fin n → EReal) (N e h : ℝ) (hN : 0 < N) (he : 0 < e) (hh : h = -1 / 2) (M : EReal)
    (hM : M = Ideal.div (∑ j, x j * x j) (N : EReal) + (e : EReal)) (i : Fin n) :
    Ideal.rsqrt M * (u i - x i * Ideal.rsqrt M * Ideal.div (∑ j, x j * Ideal.rsqrt M * u j) (N : EReal))
      = u i * Ideal.rsqrt M + x i * Ideal.div ((∑ j, x j * u j) * ((h : EReal) * Ideal.div (Ideal.rsqrt M) M)) (N : EReal)
        + Ideal.div ((∑ j, x j * u j) * ((h : EReal) * Ideal.div (Ideal.rsqrt M) M)) (N : EReal) * x i := by
  rcases mean_square x N e hN he with ht | ⟨y, K, hy, hK, hMK⟩
  · rw [hM, ht]
    have hz : Ideal.div 0 (⊤ : EReal) = 0 := by rw [Ideal.div, if_neg (by simp)]; simp
    simp [div_real _ _ hN.ne', hz]
  · rw [hM, hMK, Ideal.rsqrt_coe, if_neg (not_lt.mpr hK.le), if_neg hK.ne']
    set p : ℝ := (Real.sqrt K)⁻¹ with hp
    have hp0 : 0 < p := inv_pos.mpr (Real.sqrt_pos.mpr hK)
    have hpK : p / K = p * p * p := by
      have hs : Real.sqrt K * Real.sqrt K = K := Real.mul_self_sqrt hK.le
      have hs0 : Real.sqrt K ≠ 0 := (Real.sqrt_pos.mpr hK).ne'
      rw [hp]; nth_rewrite 2 [← hs]; field_simp
    have h0 : (0 : EReal) ≤ (p : EReal) := by exact_mod_cast hp0.le
    have hsum : ∑ j, x j * (p : EReal) * u j = (∑ j, x j * u j) * (p : EReal) := by
      rw [← sum_mul_nonneg _ _ _ h0 (EReal.coe_ne_top p)]
      exact Finset.sum_congr rfl fun j _ => by rw [mul_assoc, mul_comm (p : EReal), ← mul_assoc]
    rw [hsum, EReal.mul_sub_of_nonneg_of_ne_top h0 (EReal.coe_ne_top p), coe_div' _ _ hK.ne', hpK, div_real _ _ hN.ne', div_real _ _ hN.ne', hy i]
    generalize (∑ j, x j * u j) = T
    rw [sub_eq_add_neg, mul_comm (p : EReal) (u i), add_assoc]
    congr 1
    have e1 : (p : EReal) * ((y i : EReal) * (p : EReal) * (T * (p : EReal) * ((N⁻¹ : ℝ) : EReal))) = ((p * y i * p * p * N⁻¹ : ℝ) : EReal) * T := by
      simp only [EReal.coe_mul]; ac_rfl
    have e2 : (y i : EReal) * (T * ((h : EReal) * ((p * p * p : ℝ) : EReal)) * ((N⁻¹ : ℝ) : EReal)) = ((p * y i * p * p * N⁻¹ * h : ℝ) : EReal) * T := by
      simp only [EReal.coe_mul]; ac_rfl
    have e3 : T * ((h : EReal) * ((p * p * p : ℝ) : EReal)) * ((N⁻¹ : ℝ) : EReal) * (y i : EReal) = ((p * y i * p * p * N⁻¹ * h : ℝ) : EReal) * T := by
      simp only [EReal.coe_mul]; ac_rfl
    rw [e1, e2, e3, add_self, ← neg_mul, ← EReal.coe_neg, hh]
    congr 2
    ring

theorem bits_1024 : Ideal.ofBits .f32 0x44800000#32 = ((1024 : ℝ) : EReal) := by
  simp [Ideal.ofBits, Ideal.ieee]
  rw [← EReal.coe_mul]
  norm_num

theorem bits_neg_half : Ideal.ofBits .f32 0xBF000000#32 = ((-1 / 2 : ℝ) : EReal) := by
  simp [Ideal.ofBits, Ideal.ieee]
  rw [← EReal.coe_mul]
  norm_num

theorem bits_eps : ∃ e : ℝ, 0 < e ∧ Ideal.ofBits .f32 0x358637BD#32 = (e : EReal) :=
  ⟨8796093 * ((2 ^ 43)⁻¹), by norm_num, by
    simp [Ideal.ofBits, Ideal.ieee]⟩

/-- A row's mean square with its offset. -/
def ms (x : Fin 1024 → EReal) : EReal :=
  Ideal.div (∑ j : Fin 1024, x j * x j) (Ideal.ofBits .f32 0x44800000#32) + Ideal.ofBits .f32 0x358637BD#32

/-- The gradient of a row's norm at the cotangent `u` of the normed row. -/
def ndx (x u : Fin 1024 → EReal) (i : Fin 1024) : EReal :=
  Ideal.rsqrt (ms x) * (u i - x i * Ideal.rsqrt (ms x) * Ideal.div (∑ j : Fin 1024, x j * Ideal.rsqrt (ms x) * u j) (Ideal.ofBits .f32 0x44800000#32))

theorem ndx_eq (x u : Fin 1024 → EReal) (i : Fin 1024) :
    u i * Ideal.rsqrt (ms x)
        + x i * Ideal.div ((∑ j, x j * u j) * (Ideal.ofBits .f32 0xBF000000#32 * Ideal.div (Ideal.rsqrt (ms x)) (ms x))) (Ideal.ofBits .f32 0x44800000#32)
        + Ideal.div ((∑ j, x j * u j) * (Ideal.ofBits .f32 0xBF000000#32 * Ideal.div (Ideal.rsqrt (ms x)) (ms x))) (Ideal.ofBits .f32 0x44800000#32) * x i
      = ndx x u i := by
  obtain ⟨e, he, hb⟩ := bits_eps
  unfold ndx
  rw [bits_1024, bits_neg_half]
  exact (norm_grad x u 1024 e _ (by norm_num) he rfl (ms x) (by unfold ms; rw [bits_1024, hb]) i).symm

end Cert.NormMath
end
-- ==== Proof.Norm1Ref.lean ====
module

public import proofs.«01_k».proof.Proof.NormMath
public import proofs.«01_k».proof.Proof.Gen.Reference10Ideal.Run
public import proofs.«01_k».proof.Proof.Gen.Reference10Ideal.Read

@[expose] public section

set_option maxRecDepth 16384

noncomputable section

open Idealize.ShloMosaic Idealize.ShloMosaic.TcCoe Idealize.SL.Sem
open Cert.Reals Cert.NormMath

namespace Cert.Norm1Ref

open Cert.Reference10Ideal Cert.Reference10Ideal.Gen Cert.Reference10Ideal.Read

/-- The cotangent of the norm's output: the two parts' products with the weights' rows, added. -/
def dh (x0 : S2x4096x2816.Idx → EReal) (x1 : S1024x5632.Idx → EReal) (r : Fin 4096) (i : Fin 1024) : EReal :=
  (∑ k : Fin 2816, x0 (ix3 0 r k) * x1 (ix2 i ⟨k.val, by omega⟩)) + ∑ k : Fin 2816, x0 (ix3 1 r k) * x1 (ix2 i ⟨2816 + k.val, by omega⟩)

theorem cot0 (x0 : S2x4096x2816.Idx → EReal) (r : Fin 4096) (k : Fin 2816) (h) :
    val_main_v4 (F := Ideal) x0 (ix2 r ⟨k.val, h⟩) = x0 (ix3 0 r k) := by
  pointwise [val_main_v4, val_main_v1, val_main_v0, val_main_v3, val_main_v2]

theorem cot1 (x0 : S2x4096x2816.Idx → EReal) (r : Fin 4096) (k : Fin 2816) (h) :
    val_main_v4 (F := Ideal) x0 (ix2 r ⟨2816 + k.val, h⟩) = x0 (ix3 1 r k) := by
  pointwise [val_main_v4, val_main_v1, val_main_v0, val_main_v3, val_main_v2]

theorem dh_eq (x0 : S2x4096x2816.Idx → EReal) (x1 : S1024x5632.Idx → EReal) (r : Fin 4096) (i : Fin 1024) :
    val_main_v22 (F := Ideal) x0 x1 (ix2 r i) = dh x0 x1 r i := by
  pointwise [val_main_v22]
  rw [Fin.sum_univ_tiles 2 2816 rfl, Fin.sum_univ_two]
  simp only [Fin.val_zero, Fin.val_one, zero_mul, one_mul, zero_add, cot0, cot1]
  rfl

theorem ms_eq (x2 : S4096x1024.Idx → EReal) (r : Fin 4096) : val_main_v11 (F := Ideal) x2 (ix2 r 0) = ms fun j => x2 (ix2 r j) := by
  pointwise [val_main_v11, val_main_v10, val_main_v9, val_main_v8, val_main_v7, val_main_v6, val_main_v5, val_main_cst, val_main_cst_0, val_main_cst_1]
  rfl

/-- The gradient of the norm's input, added to the cotangent that goes past the norm. -/
theorem grad (x0 : S2x4096x2816.Idx → EReal) (x1 : S1024x5632.Idx → EReal) (x2 : S4096x1024.Idx → EReal) (x3 : S1024.Idx → EReal)
    (x4 : S4096x1024.Idx → EReal) (r : Fin 4096) (i : Fin 1024) :
    val_main_v43 (F := Ideal) x0 x1 x2 x3 x4 (ix2 r i)
      = x4 (ix2 r i) + ndx (fun j => x2 (ix2 r j)) (fun j => dh x0 x1 r j * x3 (ix1 j)) i := by
  pointwise [val_main_v43, val_main_v42, val_main_v41, val_main_v40, val_main_v39, val_main_v38, val_main_v37, val_main_v36, val_main_v35, val_main_v34, val_main_v33, val_main_v32, val_main_v31, val_main_v30, val_main_v29, val_main_v27, val_main_v26, val_main_v18, val_main_v15, val_main_v14, val_main_v13, val_main_v12, val_main_cst_2, val_main_cst_5, val_main_cst_6, val_main_cst_7]
  simp only [Fin.sum_univ_one, Fin.isValue, ms_eq, dh_eq]
  rw [← ndx_eq]

/-- The gradient of the gains. -/
theorem gain (x0 : S2x4096x2816.Idx → EReal) (x1 : S1024x5632.Idx → EReal) (x2 : S4096x1024.Idx → EReal) (i : Fin 1024) :
    val_main_v45 (F := Ideal) x0 x1 x2 (ix2 0 i) = ∑ r : Fin 4096, dh x0 x1 r i * (x2 (ix2 r i) * Ideal.rsqrt (ms fun j => x2 (ix2 r j))) := by
  pointwise [val_main_v45, val_main_v28, val_main_v25, val_main_v24, val_main_v23, val_main_v17, val_main_v16, val_main_v12, val_main_cst_3, val_main_cst_4]
  simp only [Fin.sum_univ_one, Fin.isValue, ms_eq, dh_eq]
  exact Finset.sum_congr rfl fun r _ => mul_comm _ _

end Cert.Norm1Ref
end
-- ==== Proof.Norm1Kernel.lean ====
module

public import proofs.«01_k».proof.Proof.Norm1Ref
public import proofs.«01_k».proof.Proof.Gen.Kernel10Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormMath

namespace Cert.Norm1Kernel

open Cert.Kernel10Ideal Cert.Kernel10Ideal.Gen
open Cert.Norm1Ref (dh)

variable (m : (ℓ : Loc nD τ sig) → Buf (Elt Ideal) ℓ)

theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] := (by decide +kernel : ∀ t : Fin grid0.N, _)

theorem lt16 (t : Fin cfg0.N) : t.val < 16 := t.isLt

variable (x0 : S2x4096x2816.Idx → EReal) (x1 : S1024x5632.Idx → EReal) (x2 : S4096x1024.Idx → EReal) (x3 : S1024.Idx → EReal)
  (x4 : S4096x1024.Idx → EReal) (c : Dev nD)
  (h0 : m ((c : Thread nD τ).loc main_arg0) = x0)
  (h1 : m ((c : Thread nD τ).loc main_arg1) = x1)
  (h2 : m ((c : Thread nD τ).loc main_arg2) = x2)
  (h3 : m ((c : Thread nD τ).loc main_arg3) = x3)
  (h4 : m ((c : Thread nD τ).loc main_arg4) = x4)

include h0 in
theorem rd0 (t : Fin cfg0.N) (p : Fin 2) (r : Fin 256) (k : Fin 2816) : iblk m c 0 t (ix3 p r k)
    = x0 (ix3 p ⟨t.val * 256 + r.val, by have := lt16 t; omega⟩ k) := by
  refine Eq.trans ?_ (congrFun h0 _)
  blk_simp [iblk]
  entry_read
  pointwise
  blk_ext [idx t]

include h1 in
theorem rd1 (t : Fin cfg0.N) (k : Fin 5632) (i : Fin 1024) : iblk m c 1 t (ix2 k i) = x1 (ix2 i k) := by
  refine Eq.trans ?_ (congrFun h1 _)
  blk_simp [iblk]
  entry_read
  pointwise
  blk_ext [idx t]

include h2 in
theorem rd2 (t : Fin cfg0.N) (r : Fin 256) (i : Fin 1024) : iblk m c 2 t (ix2 r i)
    = x2 (ix2 ⟨t.val * 256 + r.val, by have := lt16 t; omega⟩ i) := by
  refine Eq.trans ?_ (congrFun h2 _)
  blk_simp [iblk]
  entry_read
  blk_ext [idx t]

include h3 in
theorem rd3 (t : Fin cfg0.N) (i : Fin 1024) : iblk m c 3 t (ix2 0 i) = x3 (ix1 i) := by
  refine Eq.trans ?_ (congrFun h3 _)
  blk_simp [iblk]
  entry_read
  pointwise
  blk_ext [idx t]

include h4 in
theorem rd4 (t : Fin cfg0.N) (r : Fin 256) (i : Fin 1024) : iblk m c 4 t (ix2 r i)
    = x4 (ix2 ⟨t.val * 256 + r.val, by have := lt16 t; omega⟩ i) := by
  refine Eq.trans ?_ (congrFun h4 _)
  blk_simp [iblk]
  entry_read
  blk_ext [idx t]

/-- The gradient of the norm's input at row `r` and column `i`. -/
def gx (x0 : S2x4096x2816.Idx → EReal) (x1 : S1024x5632.Idx → EReal) (x2 : S4096x1024.Idx → EReal) (x3 : S1024.Idx → EReal)
    (x4 : S4096x1024.Idx → EReal) (r : Fin 4096) (i : Fin 1024) : EReal :=
  x4 (ix2 r i) + ndx (fun j => x2 (ix2 r j)) (fun j => dh x0 x1 r j * x3 (ix1 j)) i

/-- A row's share of the gradient of the gains. -/
def gg (x0 : S2x4096x2816.Idx → EReal) (x1 : S1024x5632.Idx → EReal) (x2 : S4096x1024.Idx → EReal) (r : Fin 4096) (i : Fin 1024) : EReal :=
  dh x0 x1 r i * (x2 (ix2 r i) * Ideal.rsqrt (ms fun j => x2 (ix2 r j)))

include h0 h1 h2 h3 h4 in
theorem out5 (t : Fin cfg0.N) (r : Fin 256) (i : Fin 1024) : (outsAt0 m c t.val t.isLt).1 (ix2 r i)
    = gx x0 x1 x2 x3 x4 ⟨t.val * 256 + r.val, by have := lt16 t; omega⟩ i := by
  by_cases hz : t.val % 16 = 0
  all_goals
    first | rw [outsAt0_A m c t hz] | rw [outsAt0_B m c t hz]
    frame_out
    pointwise [k0_pay1, k0_pay5, k0_pay6, k0_pay7, k0_pay8, k0_pay9]
    simp only [rd0 m x0 c h0, rd1 m x1 c h1, rd2 m x2 c h2, rd3 m x3 c h3, rd4 m x4 c h4]
    rfl

include h0 h1 h2 h3 h4 in
theorem out6 (t : Fin cfg0.N) (r : Fin 256) (i : Fin 1024) : (outsAt0 m c t.val t.isLt).2.1 (ix2 r i)
    = gx x0 x1 x2 x3 x4 ⟨t.val * 256 + r.val, by have := lt16 t; omega⟩ i := by
  by_cases hz : t.val % 16 = 0
  all_goals
    first | rw [outsAt0_A m c t hz] | rw [outsAt0_B m c t hz]
    frame_out
    pointwise [k0_pay2, k0_pay1, k0_pay5, k0_pay6, k0_pay7, k0_pay8, k0_pay9]
    simp only [rd0 m x0 c h0, rd1 m x1 c h1, rd2 m x2 c h2, rd3 m x3 c h3, rd4 m x4 c h4]
    rfl

/-- A point's share of the gradient of the gains. -/
def term (x0 : S2x4096x2816.Idx → EReal) (x1 : S1024x5632.Idx → EReal) (x2 : S4096x1024.Idx → EReal) (t : Fin cfg0.N) (i : Fin 1024) : EReal :=
  ∑ r : Fin 256, gg x0 x1 x2 ⟨t.val * 256 + r.val, by have := lt16 t; omega⟩ i

include h0 h1 h2 in
theorem first7 (t : Fin cfg0.N) (hz : t.val % 16 = 0) (i : Fin 1024) : (outsAt0 m c t.val t.isLt).2.2 (ix2 0 i)
    = 0 + term x0 x1 x2 t i := by
  rw [outsAt0_A m c t hz]
  frame_out
  pointwise [k0_pay3, k0_pay4, k0_pay5, k0_pay6, k0_pay7, k0_pay8, k0_pay9]
  simp only [rd0 m x0 c h0, rd1 m x1 c h1, rd2 m x2 c h2]
  rfl

include h0 h1 h2 in
theorem step7 (t : Fin cfg0.N) (hz : ¬t.val % 16 = 0) (i : Fin 1024) : (outsAt0 m c t.val t.isLt).2.2 (ix2 0 i)
    = (outsAt0 m c (t.val - 1) (Nat.lt_of_le_of_lt (Nat.sub_le _ _) t.isLt)).2.2 (ix2 0 i) + term x0 x1 x2 t i := by
  rw [outsAt0_B m c t hz]
  frame_out
  pointwise [k0_pay3, k0_pay5, k0_pay6, k0_pay7, k0_pay8, k0_pay9]
  simp only [rd0 m x0 c h0, rd1 m x1 c h1, rd2 m x2 c h2]
  rfl

include h0 h1 h2 in
theorem last7 (t : Fin cfg0.N) (ht : t.val + 1 = cfg0.N) (i : Fin 1024) : (outsAt0 m c t.val t.isLt).2.2 (ix2 0 i) = ∑ r : Fin 4096, gg x0 x1 x2 r i := by
  refine (Pipeline.eq_sum_fin_of_reset_step_apply_last (fun n h (i : Fin 1024) => ((outsAt0 m c n h).2.2 (ix2 0 i) : EReal)) 16 (fun _ => 0) (term x0 x1 x2)
      (first7 m x0 x1 x2 c h0 h1 h2) (step7 m x0 x1 x2 c h0 h1 h2) (le_of_eq N_0) t ht i).trans ?_
  rw [zero_add]
  exact Fin.sum_mul_add_congr (S := 16) (n := 256) (f := fun r : Fin 4096 => gg x0 x1 x2 r i) fun s k hl => rfl

include h0 h1 h2 h3 h4 in
theorem final5 : (dats m 0 c).arrAt 5 cfg0.N = fun i => gx x0 x1 x2 x3 x4 (i 0) (i 1) := by
  refine (dats m 0 c).arrAt_eq_of_covers 5 _ (by decide +kernel) fun t _ y => ?_
  obtain ⟨r, q, rfl⟩ : ∃ (r : Fin 256) (q : Fin 1024), y = ix2 r q := ⟨y 0, y 1, by blk_ext []⟩
  blk_simp
  have e : ((win0_5.blk t).view.emb (ix2 r q) : S4096x1024.Idx) = ix2 ⟨t.val * 256 + r.val, by have := lt16 t; omega⟩ q := by blk_ext [idx t]
  rw [after0_5]
  exact (out5 m x0 x1 x2 x3 x4 c h0 h1 h2 h3 h4 t r q).trans (congrArg (fun i => gx x0 x1 x2 x3 x4 (i 0) (i 1)) e).symm

include h0 h1 h2 h3 h4 in
theorem final6 : (dats m 0 c).arrAt 6 cfg0.N = fun i => gx x0 x1 x2 x3 x4 (i 0) (i 1) := by
  refine (dats m 0 c).arrAt_eq_of_covers 6 _ (by decide +kernel) fun t _ y => ?_
  obtain ⟨r, q, rfl⟩ : ∃ (r : Fin 256) (q : Fin 1024), y = ix2 r q := ⟨y 0, y 1, by blk_ext []⟩
  blk_simp
  have e : ((win0_6.blk t).view.emb (ix2 r q) : S4096x1024.Idx) = ix2 ⟨t.val * 256 + r.val, by have := lt16 t; omega⟩ q := by blk_ext [idx t]
  rw [after0_6]
  exact (out6 m x0 x1 x2 x3 x4 c h0 h1 h2 h3 h4 t r q).trans (congrArg (fun i => gx x0 x1 x2 x3 x4 (i 0) (i 1)) e).symm

/-- The last grid point. -/
def tl : Fin cfg0.N := ⟨15, by decide⟩

include h0 h1 h2 in
theorem final7 : (dats m 0 c).arrAt 7 cfg0.N = fun i => ∑ r : Fin 4096, gg x0 x1 x2 r (i 1) := by
  refine (dats m 0 c).arrAt_eq_of_after_last 7 tl (by decide +kernel) _ fun j => ?_
  obtain ⟨q, rfl⟩ : ∃ q : Fin 1024, j = ix2 0 q := ⟨j 1, by blk_ext []⟩
  blk_simp
  rw [after0_7]
  exact last7 m x0 x1 x2 c h0 h1 h2 tl rfl q

end Cert.Norm1Kernel
end
-- ==== Proof.Norm1Value.lean ====
module

public import proofs.«01_k».proof.Defs
public import proofs.«01_k».proof.Proof.Norm1Kernel
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)
open Cert.NormMath

namespace Cert.Norm1Value

open Cert.Reference10Ideal.Read Cert.Norm1Kernel

section

variable (x0 : Cert.Reference10Ideal.S2x4096x2816.Idx → EReal) (x1 : Cert.Reference10Ideal.S1024x5632.Idx → EReal)
  (x2 : Cert.Reference10Ideal.S4096x1024.Idx → EReal) (x3 : Cert.Reference10Ideal.S1024.Idx → EReal) (x4 : Cert.Reference10Ideal.S4096x1024.Idx → EReal)

theorem ref5 : val_main_v43 (F := Ideal) x0 x1 x2 x3 x4 = fun i => gx x0 x1 x2 x3 x4 (i 0) (i 1) := by
  funext i
  obtain ⟨r, q, rfl⟩ : ∃ (r : Fin 4096) (q : Fin 1024), i = ix2 r q := ⟨i 0, i 1, by blk_ext []⟩
  exact Cert.Norm1Ref.grad x0 x1 x2 x3 x4 r q

theorem ref6 : val_main_v44 (F := Ideal) x0 x1 x2 x3 x4 = fun i => gx x0 x1 x2 x3 x4 (i 0) (i 1) :=
  Eq.trans (funext fun i => by pointwise [val_main_v44]) (ref5 x0 x1 x2 x3 x4)

theorem ref7 : val_main_v45 (F := Ideal) x0 x1 x2 = fun i => ∑ r : Fin 4096, gg x0 x1 x2 r (i 1) := by
  funext i
  obtain ⟨q, rfl⟩ : ∃ q : Fin 1024, i = ix2 0 q := ⟨i 1, by blk_ext []⟩
  exact Cert.Norm1Ref.gain x0 x1 x2 q

end

set_option maxHeartbeats 1600000 in
/-- Kernel and reference compute the same gradients over the extended reals. -/
theorem value : Cert.algebraic_Kernel10Ideal_Reference10Ideal := by
  intro m g m' g' _ hagree
  refine ⟨_, _, _, Cert.Kernel10Ideal.Value.run_blocks m g, ?_⟩
  refine (θ_run _ _ _).mono (fun r h c => ?_) (Cert.Reference10Ideal.Value.run m' g')
  obtain ⟨a0, a1, a2, a3, a4⟩ := hagree c
  refine ⟨(h c).1.trans ?_, (h c).2.1.trans ?_, (h c).2.2.1.trans ?_, (h c).2.2.2⟩
  · rw [val_main_v43_eq, a0, a1, a2, a3, a4]
    exact (ref5 _ _ _ _ _).trans (final5 m _ _ _ _ _ c rfl rfl rfl rfl rfl).symm
  · rw [val_main_v44_eq, a0, a1, a2, a3, a4]
    exact (ref6 _ _ _ _ _).trans (final6 m _ _ _ _ _ c rfl rfl rfl rfl rfl).symm
  · refine (val_main_v45_eq _ _ _).trans ?_
    rw [a0, a1, a2]
    exact (ref7 _ _ _).trans (final7 m _ _ _ c rfl rfl rfl).symm

end Cert.Norm1Value
end
-- ==== Proof.Norm2Ref.lean ====
module

public import proofs.«01_k».proof.Proof.NormMath
public import proofs.«01_k».proof.Proof.Gen.Reference11Ideal.Run
public import proofs.«01_k».proof.Proof.Gen.Reference11Ideal.Read

@[expose] public section

set_option maxRecDepth 16384

noncomputable section

open Idealize.ShloMosaic Idealize.ShloMosaic.TcCoe Idealize.SL.Sem
open Cert.Reals Cert.NormMath

namespace Cert.Norm2Ref

open Cert.Reference11Ideal Cert.Reference11Ideal.Gen Cert.Reference11Ideal.Read

/-- The cotangent of the norm's output: the two parts' products with the weights' rows, added. -/
def dh (x0 : S1x4096x2304.Idx → EReal) (x1 : S3x4096x512.Idx → EReal) (x2 : S2x4096x1024.Idx → EReal) (w : S1024x5888.Idx → EReal) (r : Fin 4096) (i : Fin 1024) : EReal :=
  (∑ k : Fin 2304, x0 (ix3 0 r k) * w (ix2 i ⟨k.val, by omega⟩)) + (∑ k : Fin 512, x1 (ix3 0 r k) * w (ix2 i ⟨2304 + k.val, by omega⟩))
    + (∑ k : Fin 512, x1 (ix3 1 r k) * w (ix2 i ⟨2816 + k.val, by omega⟩)) + (∑ k : Fin 512, x1 (ix3 2 r k) * w (ix2 i ⟨3328 + k.val, by omega⟩))
    + (∑ k : Fin 1024, x2 (ix3 0 r k) * w (ix2 i ⟨3840 + k.val, by omega⟩)) + ∑ k : Fin 1024, x2 (ix3 1 r k) * w (ix2 i ⟨4864 + k.val, by omega⟩)

theorem sum_parts (f : Fin 5888 → EReal) : (∑ k : Fin 5888, f k)
    = (∑ k : Fin 2304, f ⟨k.val, by omega⟩) + (∑ k : Fin 512, f ⟨2304 + k.val, by omega⟩) + (∑ k : Fin 512, f ⟨2816 + k.val, by omega⟩)
      + (∑ k : Fin 512, f ⟨3328 + k.val, by omega⟩) + (∑ k : Fin 1024, f ⟨3840 + k.val, by omega⟩) + ∑ k : Fin 1024, f ⟨4864 + k.val, by omega⟩ := by
  refine (Fin.sum_univ_add (a := 4864) (b := 1024) f).trans (congrArg (· + _) ?_)
  refine (Fin.sum_univ_add (a := 3840) (b := 1024) _).trans (congrArg (· + _) ?_)
  refine (Fin.sum_univ_add (a := 3328) (b := 512) _).trans (congrArg (· + _) ?_)
  refine (Fin.sum_univ_add (a := 2816) (b := 512) _).trans (congrArg (· + _) ?_)
  exact Fin.sum_univ_add (a := 2304) (b := 512) _

section

variable (x0 : S1x4096x2304.Idx → EReal) (x1 : S3x4096x512.Idx → EReal) (x2 : S2x4096x1024.Idx → EReal) (r : Fin 4096)

theorem cot0 (k : Fin 2304) (h) : val_main_v11 (F := Ideal) x0 x1 x2 (ix2 r ⟨k.val, h⟩) = x0 (ix3 0 r k) := by
  pointwise [val_main_v11, val_main_v10, val_main_v9, val_main_v8, val_main_v7, val_main_v6, val_main_v5, val_main_v4, val_main_v3, val_main_v2, val_main_v1, val_main_v0]

theorem cot1 (k : Fin 512) (h) : val_main_v11 (F := Ideal) x0 x1 x2 (ix2 r ⟨2304 + k.val, h⟩) = x1 (ix3 0 r k) := by
  pointwise [val_main_v11, val_main_v10, val_main_v9, val_main_v8, val_main_v7, val_main_v6, val_main_v5, val_main_v4, val_main_v3, val_main_v2, val_main_v1, val_main_v0]

theorem cot2 (k : Fin 512) (h) : val_main_v11 (F := Ideal) x0 x1 x2 (ix2 r ⟨2816 + k.val, h⟩) = x1 (ix3 1 r k) := by
  pointwise [val_main_v11, val_main_v10, val_main_v9, val_main_v8, val_main_v7, val_main_v6, val_main_v5, val_main_v4, val_main_v3, val_main_v2, val_main_v1, val_main_v0]
  rw [dif_neg (by omega), dif_neg (by omega), dif_pos (by omega)]
  exact congrArg (fun s => x1 (ix3 1 r s)) (Fin.ext (by dsimp only; omega))

theorem cot3 (k : Fin 512) (h) : val_main_v11 (F := Ideal) x0 x1 x2 (ix2 r ⟨3328 + k.val, h⟩) = x1 (ix3 2 r k) := by
  pointwise [val_main_v11, val_main_v10, val_main_v9, val_main_v8, val_main_v7, val_main_v6, val_main_v5, val_main_v4, val_main_v3, val_main_v2, val_main_v1, val_main_v0]
  rw [dif_neg (by omega), dif_neg (by omega), dif_neg (by omega), dif_pos (by omega)]
  exact congrArg (fun s => x1 (ix3 2 r s)) (Fin.ext (by dsimp only; omega))

theorem cot4 (k : Fin 1024) (h) : val_main_v11 (F := Ideal) x0 x1 x2 (ix2 r ⟨3840 + k.val, h⟩) = x2 (ix3 0 r k) := by
  pointwise [val_main_v11, val_main_v10, val_main_v9, val_main_v8, val_main_v7, val_main_v6, val_main_v5, val_main_v4, val_main_v3, val_main_v2, val_main_v1, val_main_v0]
  rw [dif_neg (by omega), dif_neg (by omega), dif_neg (by omega), dif_neg (by omega), dif_pos (by omega)]
  exact congrArg (fun s => x2 (ix3 0 r s)) (Fin.ext (by dsimp only; omega))

theorem cot5 (k : Fin 1024) (h) : val_main_v11 (F := Ideal) x0 x1 x2 (ix2 r ⟨4864 + k.val, h⟩) = x2 (ix3 1 r k) := by
  pointwise [val_main_v11, val_main_v10, val_main_v9, val_main_v8, val_main_v7, val_main_v6, val_main_v5, val_main_v4, val_main_v3, val_main_v2, val_main_v1, val_main_v0]
  rw [dif_neg (by omega), dif_neg (by omega), dif_neg (by omega), dif_neg (by omega), dif_neg (by omega)]
  exact congrArg (fun s => x2 (ix3 1 r s)) (Fin.ext (by dsimp only; omega))

end

theorem dh_eq (x0 : S1x4096x2304.Idx → EReal) (x1 : S3x4096x512.Idx → EReal) (x2 : S2x4096x1024.Idx → EReal) (w : S1024x5888.Idx → EReal) (r : Fin 4096) (i : Fin 1024) :
    val_main_v29 (F := Ideal) x0 x1 x2 w (ix2 r i) = dh x0 x1 x2 w r i := by
  pointwise [val_main_v29]
  rw [sum_parts]
  simp only [cot0, cot1, cot2, cot3, cot4, cot5]
  rfl

theorem ms_eq (x4 : S4096x1024.Idx → EReal) (r : Fin 4096) : val_main_v18 (F := Ideal) x4 (ix2 r 0) = ms fun j => x4 (ix2 r j) := by
  pointwise [val_main_v18, val_main_v17, val_main_v16, val_main_v15, val_main_v14, val_main_v13, val_main_v12, val_main_cst, val_main_cst_0, val_main_cst_1]
  rfl

/-- The gradient of the norm's input, added to the cotangent that goes past the norm. -/
theorem grad (x0 : S1x4096x2304.Idx → EReal) (x1 : S3x4096x512.Idx → EReal) (x2 : S2x4096x1024.Idx → EReal) (x3 : S1024x5888.Idx → EReal)
    (x4 : S4096x1024.Idx → EReal) (x5 : S1024.Idx → EReal) (x6 : S4096x1024.Idx → EReal) (r : Fin 4096) (i : Fin 1024) :
    val_main_v50 (F := Ideal) x0 x1 x2 x3 x4 x5 x6 (ix2 r i)
      = x6 (ix2 r i) + ndx (fun j => x4 (ix2 r j)) (fun j => dh x0 x1 x2 x3 r j * x5 (ix1 j)) i := by
  pointwise [val_main_v50, val_main_v49, val_main_v48, val_main_v47, val_main_v46, val_main_v45, val_main_v44, val_main_v43, val_main_v42, val_main_v41, val_main_v40, val_main_v39, val_main_v38, val_main_v37, val_main_v36, val_main_v34, val_main_v33, val_main_v25, val_main_v22, val_main_v21, val_main_v20, val_main_v19, val_main_cst_2, val_main_cst_5, val_main_cst_6, val_main_cst_7]
  simp only [Fin.sum_univ_one, Fin.isValue, ms_eq, dh_eq]
  rw [← ndx_eq]

/-- The gradient of the gains. -/
theorem gain (x0 : S1x4096x2304.Idx → EReal) (x1 : S3x4096x512.Idx → EReal) (x2 : S2x4096x1024.Idx → EReal) (x3 : S1024x5888.Idx → EReal)
    (x4 : S4096x1024.Idx → EReal) (i : Fin 1024) :
    val_main_v52 (F := Ideal) x0 x1 x2 x3 x4 (ix2 0 i) = ∑ r : Fin 4096, dh x0 x1 x2 x3 r i * (x4 (ix2 r i) * Ideal.rsqrt (ms fun j => x4 (ix2 r j))) := by
  pointwise [val_main_v52, val_main_v35, val_main_v32, val_main_v31, val_main_v30, val_main_v24, val_main_v23, val_main_v19, val_main_cst_3, val_main_cst_4]
  simp only [Fin.sum_univ_one, Fin.isValue, ms_eq, dh_eq]
  exact Finset.sum_congr rfl fun r _ => mul_comm _ _

end Cert.Norm2Ref
end
-- ==== Proof.Norm2Kernel.lean ====
module

public import proofs.«01_k».proof.Proof.Norm2Ref
public import proofs.«01_k».proof.Proof.Gen.Kernel11Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormMath

namespace Cert.Norm2Kernel

open Cert.Kernel11Ideal Cert.Kernel11Ideal.Gen
open Cert.Norm2Ref (dh)

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] := (by decide +kernel : ∀ t : Fin grid0.N, _)

theorem lt8 (t : Fin cfg0.N) : t.val < 8 := t.isLt

variable (x0 : S1x4096x2304.Idx → EReal) (x1 : S3x4096x512.Idx → EReal) (x2 : S2x4096x1024.Idx → EReal) (x3 : S1024x5888.Idx → EReal) (x4 : S4096x1024.Idx → EReal) (x5 : S1024.Idx → EReal) (x6 : S4096x1024.Idx → EReal) (c : Dev nD)
  (h0 : m ((c : Thread nD τ).loc main_arg0) = x0)
  (h1 : m ((c : Thread nD τ).loc main_arg1) = x1)
  (h2 : m ((c : Thread nD τ).loc main_arg2) = x2)
  (h3 : m ((c : Thread nD τ).loc main_arg3) = x3)
  (h4 : m ((c : Thread nD τ).loc main_arg4) = x4)
  (h5 : m ((c : Thread nD τ).loc main_arg5) = x5)
  (h6 : m ((c : Thread nD τ).loc main_arg6) = x6)

include h0 in
theorem rd0 (t : Fin cfg0.N) (r : Fin 512) (k : Fin 2304) : iblk m c 0 t (ix3 0 r k) = x0 (ix3 0 ⟨t.val * 512 + r.val, by have := lt8 t; omega⟩ k) := by
  refine Eq.trans ?_ (congrFun h0 _)
  blk_simp [iblk]
  entry_read
  pointwise
  blk_ext [idx t]

include h1 in
theorem rd1 (t : Fin cfg0.N) (p : Fin 3) (r : Fin 512) (k : Fin 512) : iblk m c 1 t (ix3 p r k) = x1 (ix3 p ⟨t.val * 512 + r.val, by have := lt8 t; omega⟩ k) := by
  refine Eq.trans ?_ (congrFun h1 _)
  blk_simp [iblk]
  entry_read
  blk_ext [idx t]

include h2 in
theorem rd2 (t : Fin cfg0.N) (p : Fin 2) (r : Fin 512) (k : Fin 1024) : iblk m c 2 t (ix3 p r k) = x2 (ix3 p ⟨t.val * 512 + r.val, by have := lt8 t; omega⟩ k) := by
  refine Eq.trans ?_ (congrFun h2 _)
  blk_simp [iblk]
  entry_read
  pointwise
  blk_ext [idx t]

include h3 in
theorem rd3 (t : Fin cfg0.N) (k : Fin 5888) (i : Fin 1024) : iblk m c 3 t (ix2 k i) = x3 (ix2 i k) := by
  refine Eq.trans ?_ (congrFun h3 _)
  blk_simp [iblk]
  entry_read
  pointwise
  blk_ext [idx t]

include h4 in
theorem rd4 (t : Fin cfg0.N) (r : Fin 512) (i : Fin 1024) : iblk m c 4 t (ix2 r i) = x4 (ix2 ⟨t.val * 512 + r.val, by have := lt8 t; omega⟩ i) := by
  refine Eq.trans ?_ (congrFun h4 _)
  blk_simp [iblk]
  entry_read
  blk_ext [idx t]

include h5 in
theorem rd5 (t : Fin cfg0.N) (i : Fin 1024) : iblk m c 5 t (ix2 0 i) = x5 (ix1 i) := by
  refine Eq.trans ?_ (congrFun h5 _)
  blk_simp [iblk]
  entry_read
  pointwise
  blk_ext [idx t]

include h6 in
theorem rd6 (t : Fin cfg0.N) (r : Fin 512) (i : Fin 1024) : iblk m c 6 t (ix2 r i) = x6 (ix2 ⟨t.val * 512 + r.val, by have := lt8 t; omega⟩ i) := by
  refine Eq.trans ?_ (congrFun h6 _)
  blk_simp [iblk]
  entry_read
  blk_ext [idx t]

/-- The gradient of the norm's input at row `r` and column `i`. -/
def gx (x0 : S1x4096x2304.Idx → EReal) (x1 : S3x4096x512.Idx → EReal) (x2 : S2x4096x1024.Idx → EReal) (x3 : S1024x5888.Idx → EReal) (x4 : S4096x1024.Idx → EReal) (x5 : S1024.Idx → EReal) (x6 : S4096x1024.Idx → EReal) (r : Fin 4096) (i : Fin 1024) : EReal :=
  x6 (ix2 r i) + ndx (fun j => x4 (ix2 r j)) (fun j => dh x0 x1 x2 x3 r j * x5 (ix1 j)) i

/-- A row's share of the gradient of the gains. -/
def gg (x0 : S1x4096x2304.Idx → EReal) (x1 : S3x4096x512.Idx → EReal) (x2 : S2x4096x1024.Idx → EReal) (x3 : S1024x5888.Idx → EReal) (x4 : S4096x1024.Idx → EReal) (r : Fin 4096) (i : Fin 1024) : EReal :=
  dh x0 x1 x2 x3 r i * (x4 (ix2 r i) * Ideal.rsqrt (ms fun j => x4 (ix2 r j)))

include h0 h1 h2 h3 h4 h5 h6 in
theorem out7 (t : Fin cfg0.N) (r : Fin 512) (i : Fin 1024) : (outsAt0 m c t.val t.isLt).1 (ix2 r i)
    = gx x0 x1 x2 x3 x4 x5 x6 ⟨t.val * 512 + r.val, by have := lt8 t; omega⟩ i := by
  by_cases hz : t.val % 8 = 0
  all_goals
    first | rw [outsAt0_A m c t hz] | rw [outsAt0_B m c t hz]
    frame_out
    pointwise [k0_pay4, k0_pay5, k0_pay6, k0_pay7, k0_pay8]
    simp only [rd0 m x0 c h0, rd1 m x1 c h1, rd2 m x2 c h2, rd3 m x3 c h3, rd4 m x4 c h4, rd5 m x5 c h5, rd6 m x6 c h6]
    rfl

include h0 h1 h2 h3 h4 h5 h6 in
theorem out8 (t : Fin cfg0.N) (r : Fin 512) (i : Fin 1024) : (outsAt0 m c t.val t.isLt).2.1 (ix2 r i)
    = gx x0 x1 x2 x3 x4 x5 x6 ⟨t.val * 512 + r.val, by have := lt8 t; omega⟩ i := by
  by_cases hz : t.val % 8 = 0
  all_goals
    first | rw [outsAt0_A m c t hz] | rw [outsAt0_B m c t hz]
    frame_out
    pointwise [k0_pay1, k0_pay4, k0_pay5, k0_pay6, k0_pay7, k0_pay8]
    simp only [rd0 m x0 c h0, rd1 m x1 c h1, rd2 m x2 c h2, rd3 m x3 c h3, rd4 m x4 c h4, rd5 m x5 c h5, rd6 m x6 c h6]
    rfl

/-- A point's share of the gradient of the gains. -/
def term (x0 : S1x4096x2304.Idx → EReal) (x1 : S3x4096x512.Idx → EReal) (x2 : S2x4096x1024.Idx → EReal) (x3 : S1024x5888.Idx → EReal) (x4 : S4096x1024.Idx → EReal) (t : Fin cfg0.N) (i : Fin 1024) : EReal :=
  ∑ r : Fin 512, gg x0 x1 x2 x3 x4 ⟨t.val * 512 + r.val, by have := lt8 t; omega⟩ i

include h0 h1 h2 h3 h4 in
theorem first9 (t : Fin cfg0.N) (hz : t.val % 8 = 0) (i : Fin 1024) : (outsAt0 m c t.val t.isLt).2.2 (ix2 0 i)
    = 0 + term x0 x1 x2 x3 x4 t i := by
  rw [outsAt0_A m c t hz]
  frame_out
  pointwise [k0_pay2, k0_pay3, k0_pay4, k0_pay5, k0_pay6, k0_pay7]
  simp only [rd0 m x0 c h0, rd1 m x1 c h1, rd2 m x2 c h2, rd3 m x3 c h3, rd4 m x4 c h4]
  rfl

include h0 h1 h2 h3 h4 in
theorem step9 (t : Fin cfg0.N) (hz : ¬t.val % 8 = 0) (i : Fin 1024) : (outsAt0 m c t.val t.isLt).2.2 (ix2 0 i)
    = (outsAt0 m c (t.val - 1) (Nat.lt_of_le_of_lt (Nat.sub_le _ _) t.isLt)).2.2 (ix2 0 i) + term x0 x1 x2 x3 x4 t i := by
  rw [outsAt0_B m c t hz]
  frame_out
  pointwise [k0_pay2, k0_pay4, k0_pay5, k0_pay6, k0_pay7]
  simp only [rd0 m x0 c h0, rd1 m x1 c h1, rd2 m x2 c h2, rd3 m x3 c h3, rd4 m x4 c h4]
  rfl

include h0 h1 h2 h3 h4 in
theorem last9 (t : Fin cfg0.N) (ht : t.val + 1 = cfg0.N) (i : Fin 1024) : (outsAt0 m c t.val t.isLt).2.2 (ix2 0 i) = ∑ r : Fin 4096, gg x0 x1 x2 x3 x4 r i := by
  refine (Pipeline.eq_sum_fin_of_reset_step_apply_last (fun n h (i : Fin 1024) => ((outsAt0 m c n h).2.2 (ix2 0 i) : EReal)) 8 (fun _ => 0) (term x0 x1 x2 x3 x4)
      (first9 m x0 x1 x2 x3 x4 c h0 h1 h2 h3 h4) (step9 m x0 x1 x2 x3 x4 c h0 h1 h2 h3 h4) (le_of_eq N_0) t ht i).trans ?_
  rw [zero_add]
  exact Fin.sum_mul_add_congr (S := 8) (n := 512) (f := fun r : Fin 4096 => gg x0 x1 x2 x3 x4 r i) fun s k hl => rfl

include h0 h1 h2 h3 h4 h5 h6 in
theorem final7 : (dats m 0 c).arrAt 7 cfg0.N = fun i => gx x0 x1 x2 x3 x4 x5 x6 (i 0) (i 1) := by
  refine (dats m 0 c).arrAt_eq_of_covers 7 _ (by decide +kernel) fun t _ y => ?_
  obtain ⟨r, q, rfl⟩ : ∃ (r : Fin 512) (q : Fin 1024), y = ix2 r q := ⟨y 0, y 1, by blk_ext []⟩
  blk_simp
  have e : ((win0_7.blk t).view.emb (ix2 r q) : S4096x1024.Idx) = ix2 ⟨t.val * 512 + r.val, by have := lt8 t; omega⟩ q := by blk_ext [idx t]
  rw [after0_7]
  exact (out7 m x0 x1 x2 x3 x4 x5 x6 c h0 h1 h2 h3 h4 h5 h6 t r q).trans (congrArg (fun i => gx x0 x1 x2 x3 x4 x5 x6 (i 0) (i 1)) e).symm

include h0 h1 h2 h3 h4 h5 h6 in
theorem final8 : (dats m 0 c).arrAt 8 cfg0.N = fun i => gx x0 x1 x2 x3 x4 x5 x6 (i 0) (i 1) := by
  refine (dats m 0 c).arrAt_eq_of_covers 8 _ (by decide +kernel) fun t _ y => ?_
  obtain ⟨r, q, rfl⟩ : ∃ (r : Fin 512) (q : Fin 1024), y = ix2 r q := ⟨y 0, y 1, by blk_ext []⟩
  blk_simp
  have e : ((win0_8.blk t).view.emb (ix2 r q) : S4096x1024.Idx) = ix2 ⟨t.val * 512 + r.val, by have := lt8 t; omega⟩ q := by blk_ext [idx t]
  rw [after0_8]
  exact (out8 m x0 x1 x2 x3 x4 x5 x6 c h0 h1 h2 h3 h4 h5 h6 t r q).trans (congrArg (fun i => gx x0 x1 x2 x3 x4 x5 x6 (i 0) (i 1)) e).symm

/-- The last grid point. -/
def tl : Fin cfg0.N := ⟨7, by decide⟩

include h0 h1 h2 h3 h4 in
theorem final9 : (dats m 0 c).arrAt 9 cfg0.N = fun i => ∑ r : Fin 4096, gg x0 x1 x2 x3 x4 r (i 1) := by
  refine (dats m 0 c).arrAt_eq_of_after_last 9 tl (by decide +kernel) _ fun j => ?_
  obtain ⟨q, rfl⟩ : ∃ q : Fin 1024, j = ix2 0 q := ⟨j 1, by blk_ext []⟩
  blk_simp
  rw [after0_9]
  exact last9 m x0 x1 x2 x3 x4 c h0 h1 h2 h3 h4 tl rfl q

end Cert.Norm2Kernel
end
-- ==== Proof.Norm2Value.lean ====
module

public import proofs.«01_k».proof.Defs
public import proofs.«01_k».proof.Proof.Norm2Kernel
public import proofs.«01_k».proof.Proof.Gen.Kernel11Ideal.Value
public import proofs.«01_k».proof.Proof.Gen.Reference11Ideal.Run

@[expose] public section

set_option maxRecDepth 16384

noncomputable section

open Idealize.ShloMosaic Idealize.ShloMosaic.TcCoe Idealize.SL.Sem
open Idealize.ShloMosaic.Pipeline (Dat)
open Cert.NormMath

namespace Cert.Norm2Value

open Cert.Reference11Ideal.Read Cert.Norm2Kernel

section

variable (x0 : Cert.Reference11Ideal.S1x4096x2304.Idx → EReal) (x1 : Cert.Reference11Ideal.S3x4096x512.Idx → EReal) (x2 : Cert.Reference11Ideal.S2x4096x1024.Idx → EReal) (x3 : Cert.Reference11Ideal.S1024x5888.Idx → EReal) (x4 : Cert.Reference11Ideal.S4096x1024.Idx → EReal) (x5 : Cert.Reference11Ideal.S1024.Idx → EReal) (x6 : Cert.Reference11Ideal.S4096x1024.Idx → EReal)

theorem ref7 : val_main_v50 (F := Ideal) x0 x1 x2 x3 x4 x5 x6 = fun i => gx x0 x1 x2 x3 x4 x5 x6 (i 0) (i 1) := by
  funext i
  obtain ⟨r, q, rfl⟩ : ∃ (r : Fin 4096) (q : Fin 1024), i = ix2 r q := ⟨i 0, i 1, by blk_ext []⟩
  exact Cert.Norm2Ref.grad x0 x1 x2 x3 x4 x5 x6 r q

theorem ref8 : val_main_v51 (F := Ideal) x0 x1 x2 x3 x4 x5 x6 = fun i => gx x0 x1 x2 x3 x4 x5 x6 (i 0) (i 1) :=
  Eq.trans (funext fun i => by pointwise [val_main_v51]) (ref7 x0 x1 x2 x3 x4 x5 x6)

theorem ref9 : val_main_v52 (F := Ideal) x0 x1 x2 x3 x4 = fun i => ∑ r : Fin 4096, gg x0 x1 x2 x3 x4 r (i 1) := by
  funext i
  obtain ⟨q, rfl⟩ : ∃ q : Fin 1024, i = ix2 0 q := ⟨i 1, by blk_ext []⟩
  exact Cert.Norm2Ref.gain x0 x1 x2 x3 x4 q

end

set_option maxHeartbeats 1600000 in
/-- Kernel and reference compute the same gradients over the extended reals. -/
theorem value : Cert.algebraic_Kernel11Ideal_Reference11Ideal := by
  intro m g m' g' _ hagree
  refine ⟨_, _, _, Cert.Kernel11Ideal.Value.run_blocks m g, ?_⟩
  refine (θ_run _ _ _).mono (fun r h c => ?_) (Cert.Reference11Ideal.Value.run m' g')
  obtain ⟨a0, a1, a2, a3, a4, a5, a6⟩ := hagree c
  refine ⟨(h c).1.trans ?_, (h c).2.1.trans ?_, (h c).2.2.1.trans ?_, (h c).2.2.2⟩
  · rw [val_main_v50_eq, a0, a1, a2, a3, a4, a5, a6]
    exact (ref7 _ _ _ _ _ _ _).trans (final7 m _ _ _ _ _ _ _ c rfl rfl rfl rfl rfl rfl rfl).symm
  · rw [val_main_v51_eq, a0, a1, a2, a3, a4, a5, a6]
    exact (ref8 _ _ _ _ _ _ _).trans (final8 m _ _ _ _ _ _ _ c rfl rfl rfl rfl rfl rfl rfl).symm
  · refine (val_main_v52_eq _ _ _ _ _).trans ?_
    rw [a0, a1, a2, a3, a4]
    exact (ref9 _ _ _ _ _).trans (final9 m _ _ _ _ _ c rfl rfl rfl rfl rfl).symm

end Cert.Norm2Value
end
-- ==== Proof.LossRef.lean ====
module

public import proofs.«01_k».proof.Proof.NormMath
public import proofs.«01_k».proof.Proof.Gen.Reference8Ideal.Run
public import proofs.«01_k».proof.Proof.Gen.Reference8Ideal.Read

@[expose] public section

set_option maxRecDepth 16384

noncomputable section

open Idealize.ShloMosaic Idealize.ShloMosaic.TcCoe Idealize.SL.Sem
open Cert.Reals Cert.NormMath

namespace Cert.LossRef

open Cert.Reference8Ideal Cert.Reference8Ideal.Gen Cert.Reference8Ideal.Read

/-- The difference from the target at row `s` of batch `b`. -/
def err (x0 : S2x2048x1024.Idx → EReal) (x1 : S1024.Idx → EReal) (x2 : S2x2048x1024.Idx → EReal) (b : Fin 2) (s : Fin 2048) (i : Fin 1024) : EReal :=
  x0 (ix3 b s i) * Ideal.rsqrt (ms fun j => x0 (ix3 b s j)) * x1 (ix1 i) - x2 (ix3 b s i)

/-- The loss's gradient at the normed row. -/
def dy (x0 : S2x2048x1024.Idx → EReal) (x1 : S1024.Idx → EReal) (x2 : S2x2048x1024.Idx → EReal) (b : Fin 2) (s : Fin 2048) (i : Fin 1024) : EReal :=
  err x0 x1 x2 b s i * Ideal.ofBits .f32 0x3A800000#32

theorem scale (e : EReal) : Ideal.div (Ideal.ofBits .f32 0x3F000000#32) (Ideal.ofBits .f32 0x44800000#32)
    * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.ofBits .f32 0x3A800000#32 = ((1 / 1024 : ℝ) : EReal) := by
    simp [Ideal.ofBits, Ideal.ieee]
    rw [← EReal.coe_mul]
    norm_num
  rw [h1, h2, h3, bits_1024, div_real _ _ (by norm_num), ← mul_assoc, mul_comm e, ← EReal.coe_mul, ← EReal.coe_mul]
  norm_num

/-- A host sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal)
    (z : EReal) (q : Fin n2) : Ideal.hostReduceAdd h v z (ix1 q) = z + ∑ a : Fin n0, ∑ b : Fin n1, v (ix3 a b q) := by
  refine congrArg (z + ·) ?_
  rw [← Fintype.sum_prod_type' (f := fun a b => v (ix3 a b q))]
  refine Finset.sum_filter_eq_sum_of_fiber _ (fun k : Fin n0 × Fin n1 => (ix3 k.1 k.2 q : (⟨3, ![n0, n1, n2]⟩ : Shape).Idx))
    (fun _ _ e => Prod.ext (congrFun e 0) (congrFun e 1)) (fun i => ⟨fun e => ⟨(i 0, i 1), ?_⟩, ?_⟩) v
  · funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

variable (x0 : S2x2048x1024.Idx → EReal) (x1 : S1024.Idx → EReal) (x2 : S2x2048x1024.Idx → EReal)

theorem ms_eq (b : Fin 2) (s : Fin 2048) : val_main_v6 (F := Ideal) x0 (ix3 b s 0) = ms fun j => x0 (ix3 b s j) := by
  pointwise [val_main_v6, val_main_v5, val_main_v4, val_main_v3, val_main_v2, val_main_v1, val_main_v0, val_main_cst, val_main_cst_0, val_main_cst_1]
  rfl

theorem err_eq (b : Fin 2) (s : Fin 2048) (i : Fin 1024) : val_main_v16 (F := Ideal) x0 x1 x2 (ix3 b s i) = err x0 x1 x2 b s i := by
  pointwise [val_main_v16, val_main_v15, val_main_v14, val_main_v13, val_main_v12, val_main_v11, val_main_v7]
  simp only [ms_eq]
  rfl

theorem dy_eq (b : Fin 2) (s : Fin 2048) (i : Fin 1024) : val_main_v30 (F := Ideal) x0 x1 x2 (ix3 b s i) = dy x0 x1 x2 b s i := by
  pointwise [val_main_v30, val_main_v29, val_main_v28, val_main_v27, val_main_v26, val_main_v25, val_main_v19, val_main_v18, val_main_cst_3, val_main_cst_8, val_main_cst_9, val_main_cst_10]
  rw [err_eq]
  exact scale _

/-- The gradient of the rows. -/
theorem grad (r : Fin 4096) (i : Fin 1024) : val_main_v51 (F := Ideal) x0 x1 x2 (ix2 r i)
      = ndx (fun j => x0 (ix3 ⟨r.val / 2048, by omega⟩ ⟨r.val % 2048, by omega⟩ j))
          (fun j => dy x0 x1 x2 ⟨r.val / 2048, by omega⟩ ⟨r.val % 2048, by omega⟩ j * x1 (ix1 j)) i := by
  pointwise [val_main_v51, val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_v7, val_main_cst_2, val_main_cst_13, val_main_cst_14, val_main_cst_15]
  simp only [Fin.sum_univ_one, Fin.isValue, ms_eq, dy_eq]
  rw [← ndx_eq]

/-- The gradient of the gains. -/
theorem gain (i : Fin 1024) :
    val_main_v54 (F := Ideal) x0 x1 x2 (ix2 0 i) = ∑ b : Fin 2, ∑ s : Fin 2048, dy x0 x1 x2 b s i * (x0 (ix3 b s i) * Ideal.rsqrt (ms fun j => x0 (ix3 b s j))) := by
  pointwise [val_main_v54, val_main_v36, val_main_cst_12]
  rw [sum_two, zero_add]
  simp only [Fin.sum_univ_one, Fin.isValue]
  pointwise [val_main_v33, val_main_v32, val_main_cst_11]
  rw [sum_two, zero_add]
  pointwise [val_main_v31, val_main_v12, val_main_v11, val_main_v7]
  simp only [ms_eq, dy_eq]
  exact Finset.sum_congr rfl fun b _ => Finset.sum_congr rfl fun s _ => mul_comm _ _

/-- The loss, in every lane. -/
theorem loss (q : Fin 128) :
    val_main_v52 (F := Ideal) x0 x1 x2 (ix2 0 q) = Ideal.ofBits .f32 0x3F000000#32
      * ∑ b : Fin 2, ∑ s : Fin 2048, Ideal.div (∑ j : Fin 1024, err x0 x1 x2 b s j * err x0 x1 x2 b s j) (Ideal.ofBits .f32 0x44800000#32) := by
  pointwise [val_main_v52, val_main_v24, val_main_v23, val_main_v22, val_main_v21, val_main_v20, val_main_v17, val_main_cst_4, val_main_cst_5, val_main_cst_6, val_main_cst_7]
  simp only [Fin.sum_univ_one, Fin.isValue, err_eq]

end Cert.LossRef
end
-- ==== Proof.LossKernel.lean ====
module

public import proofs.«01_k».proof.Proof.LossRef
public import proofs.«01_k».proof.Proof.Gen.Kernel8Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormMath

namespace Cert.LossKernel

open Cert.Kernel8Ideal Cert.Kernel8Ideal.Gen
open Cert.LossRef (err dy)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem lt4 (t : Fin cfg0.N) : t.val < 4 := t.isLt

variable (x0 : S2x2048x1024.Idx → EReal) (x1 : S1024.Idx → EReal) (x2 : S2x2048x1024.Idx → EReal) (c : Dev nD)
  (h0 : m ((c : Thread nD τ).loc main_arg0) = x0)
  (h1 : m ((c : Thread nD τ).loc main_arg1) = x1)
  (h2 : m ((c : Thread nD τ).loc main_arg2) = x2)

include h0 in
theorem rd0 (t : Fin cfg0.N) (r : Fin 1024) (i : Fin 1024) : iblk m c 0 t (ix2 r i) = x0 (ix3 ⟨(t.val * 1024 + r.val) / 2048, by have := lt4 t; omega⟩ ⟨(t.val * 1024 + r.val) % 2048, by omega⟩ i) := by
  refine Eq.trans ?_ (congrFun h0 _)
  blk_simp [iblk]
  entry_read
  pointwise
  blk_ext [idx t]

include h1 in
theorem rd1 (t : Fin cfg0.N) (i : Fin 1024) : iblk m c 1 t (ix2 0 i) = x1 (ix1 i) := by
  refine Eq.trans ?_ (congrFun h1 _)
  blk_simp [iblk]
  entry_read
  pointwise
  blk_ext [idx t]

include h2 in
theorem rd2 (t : Fin cfg0.N) (r : Fin 1024) (i : Fin 1024) : iblk m c 2 t (ix2 r i) = x2 (ix3 ⟨(t.val * 1024 + r.val) / 2048, by have := lt4 t; omega⟩ ⟨(t.val * 1024 + r.val) % 2048, by omega⟩ i) := by
  refine Eq.trans ?_ (congrFun h2 _)
  blk_simp [iblk]
  entry_read
  pointwise
  blk_ext [idx t]

/-- The gradient of the rows at row `r` and column `i`. -/
def gx (x0 : S2x2048x1024.Idx → EReal) (x1 : S1024.Idx → EReal) (x2 : S2x2048x1024.Idx → EReal) (r : Fin 4096) (i : Fin 1024) : EReal :=
  ndx (fun j => x0 (ix3 ⟨r.val / 2048, by omega⟩ ⟨r.val % 2048, by omega⟩ j))
    (fun j => dy x0 x1 x2 ⟨r.val / 2048, by omega⟩ ⟨r.val % 2048, by omega⟩ j * x1 (ix1 j)) i

/-- A row's share of the gradient of the gains. -/
def gg (x0 : S2x2048x1024.Idx → EReal) (x1 : S1024.Idx → EReal) (x2 : S2x2048x1024.Idx → EReal) (b : Fin 2) (s : Fin 2048) (i : Fin 1024) : EReal :=
  dy x0 x1 x2 b s i * (x0 (ix3 b s i) * Ideal.rsqrt (ms fun j => x0 (ix3 b s j)))

/-- A row's mean squared error. -/
def sq (x0 : S2x2048x1024.Idx → EReal) (x1 : S1024.Idx → EReal) (x2 : S2x2048x1024.Idx → EReal) (b : Fin 2) (s : Fin 2048) : EReal :=
  Ideal.div (∑ j : Fin 1024, err x0 x1 x2 b s j * err x0 x1 x2 b s j) (Ideal.ofBits .f32 0x44800000#32)

/-- The points' rows are the batches' rows. -/
theorem sum_rows (f : Fin 2 → Fin 2048 → EReal) :
    (∑ t : Fin 4, ∑ r : Fin 1024, f ⟨(t.val * 1024 + r.val) / 2048, by omega⟩ ⟨(t.val * 1024 + r.val) % 2048, by omega⟩)
      = ∑ b : Fin 2, ∑ s : Fin 2048, f b s := by
  refine (Fin.sum_mul_add_congr (S := 4) (n := 1024) (f := fun r : Fin 4096 => f ⟨r.val / 2048, by omega⟩ ⟨r.val % 2048, by omega⟩) fun s k hl => rfl).trans ?_
  refine (Fin.sum_mul_add_congr (S := 2) (n := 2048) fun b s hl => ?_).symm
  congr 1 <;> (apply Fin.ext; dsimp only; omega)

theorem half_nonneg : (0 : EReal) ≤ Ideal.ofBits .f32 0x3F000000#32 ∧ Ideal.ofBits .f32 0x3F000000#32 ≠ ⊤ := by
  have h : Ideal.ofBits .f32 0x3F000000#32 = ((1 / 2 : ℝ) : EReal) := by
    simp [Ideal.ofBits, Ideal.ieee]
    rw [← EReal.coe_mul]
    norm_num
  rw [h]
  exact ⟨by exact_mod_cast (by norm_num : (0 : ℝ) ≤ 1 / 2), EReal.coe_ne_top _⟩

/-- The last grid point. -/
def tl : Fin cfg0.N := ⟨3, by decide⟩

include h0 in
theorem p9 (t : Fin cfg0.N) (r : Fin 1024) : k0_pay9 (F := Ideal) (iblk m c 0 t) (ix2 r 0) = Ideal.rsqrt (ms fun j => x0 (ix3 ⟨(t.val * 1024 + r.val) / 2048, by have := lt4 t; omega⟩ ⟨(t.val * 1024 + r.val) % 2048, by omega⟩ j)) := by
  pointwise [k0_pay9, k0_pay7]
  simp only [rd0 m x0 c h0]
  rfl

include h0 in
theorem p10 (t : Fin cfg0.N) (r : Fin 1024) (i : Fin 1024) : k0_pay10 (F := Ideal) (iblk m c 0 t) (ix2 r i)
    = x0 (ix3 ⟨(t.val * 1024 + r.val) / 2048, by have := lt4 t; omega⟩ ⟨(t.val * 1024 + r.val) % 2048, by omega⟩ i) * Ideal.rsqrt (ms fun j => x0 (ix3 ⟨(t.val * 1024 + r.val) / 2048, by have := lt4 t; omega⟩ ⟨(t.val * 1024 + r.val) % 2048, by omega⟩ j)) := by
  pointwise [k0_pay10, k0_pay7]
  rw [p9 m x0 c h0, rd0 m x0 c h0]

include h0 h1 h2 in
theorem p1 (t : Fin cfg0.N) (r : Fin 1024) (i : Fin 1024) : k0_pay1 (F := Ideal) (k0_pay11 (iblk m c 0 t) (iblk m c 1 t) (iblk m c 2 t)) k0_pay13 (ix2 r i)
    = dy x0 x1 x2 ⟨(t.val * 1024 + r.val) / 2048, by have := lt4 t; omega⟩ ⟨(t.val * 1024 + r.val) % 2048, by omega⟩ i := by
  pointwise [k0_pay1, k0_pay11, k0_pay13, k0_pay8]
  rw [p10 m x0 c h0, rd1 m x1 c h1, rd2 m x2 c h2]
  rfl

include h0 h1 h2 in
theorem out4 (t : Fin cfg0.N) (r : Fin 1024) (i : Fin 1024) : (outsAt0 m c t.val t.isLt).2.1 (ix2 r i)
    = gx x0 x1 x2 ⟨t.val * 1024 + r.val, by have := lt4 t; omega⟩ i := by
  by_cases hz : t.val % 4 = 0
  all_goals
    first | rw [outsAt0_A m c t hz] | rw [outsAt0_B m c t hz]
    frame_out
    pointwise [k0_pay2, k0_pay8]
    simp only [p1 m x0 x1 x2 c h0 h1 h2, p9 m x0 c h0, p10 m x0 c h0, rd1 m x1 c h1]
    simp only [gx, ndx]

include h0 h1 h2 in
theorem out5 (t : Fin cfg0.N) (r : Fin 1024) (i : Fin 1024) : (outsAt0 m c t.val t.isLt).2.2.1 (ix2 r i)
    = gx x0 x1 x2 ⟨t.val * 1024 + r.val, by have := lt4 t; omega⟩ i := by
  by_cases hz : t.val % 4 = 0
  all_goals
    first | rw [outsAt0_A m c t hz] | rw [outsAt0_B m c t hz]
    frame_out
    pointwise [k0_pay3, k0_pay2, k0_pay8]
    simp only [p1 m x0 x1 x2 c h0 h1 h2, p9 m x0 c h0, p10 m x0 c h0, rd1 m x1 c h1]
    simp only [gx, ndx]

attribute [local irreducible] gx

include h0 h1 h2 in
theorem final4 : (dats m 0 c).arrAt 4 cfg0.N = fun i => gx x0 x1 x2 (i 0) (i 1) := by
  refine (dats m 0 c).arrAt_eq_of_covers 4 _ (by decide +kernel) fun t _ y => ?_
  obtain ⟨r, q, rfl⟩ : ∃ (r : Fin 1024) (q : Fin 1024), y = ix2 r q := ⟨y 0, y 1, by blk_ext []⟩
  blk_simp
  have e : ((win0_4.blk t).view.emb (ix2 r q) : S4096x1024.Idx) = ix2 ⟨t.val * 1024 + r.val, by have := lt4 t; omega⟩ q := by blk_ext [idx t]
  rw [after0_4]
  exact (out4 m x0 x1 x2 c h0 h1 h2 t r q).trans (congrArg (fun i => gx x0 x1 x2 (i 0) (i 1)) e).symm

include h0 h1 h2 in
theorem final5 : (dats m 0 c).arrAt 5 cfg0.N = fun i => gx x0 x1 x2 (i 0) (i 1) := by
  refine (dats m 0 c).arrAt_eq_of_covers 5 _ (by decide +kernel) fun t _ y => ?_
  obtain ⟨r, q, rfl⟩ : ∃ (r : Fin 1024) (q : Fin 1024), y = ix2 r q := ⟨y 0, y 1, by blk_ext []⟩
  blk_simp
  have e : ((win0_5.blk t).view.emb (ix2 r q) : S4096x1024.Idx) = ix2 ⟨t.val * 1024 + r.val, by have := lt4 t; omega⟩ q := by blk_ext [idx t]
  rw [after0_5]
  exact (out5 m x0 x1 x2 c h0 h1 h2 t r q).trans (congrArg (fun i => gx x0 x1 x2 (i 0) (i 1)) e).symm

/-- A point's share of the gradient of the gains. -/
def term6 (x0 : S2x2048x1024.Idx → EReal) (x1 : S1024.Idx → EReal) (x2 : S2x2048x1024.Idx → EReal) (t : Fin cfg0.N) (i : Fin 1024) : EReal :=
  ∑ r : Fin 1024, gg x0 x1 x2 ⟨(t.val * 1024 + r.val) / 2048, by have := lt4 t; omega⟩ ⟨(t.val * 1024 + r.val) % 2048, by omega⟩ i

include h0 h1 h2 in
theorem first6 (t : Fin cfg0.N) (hz : t.val % 4 = 0) (i : Fin 1024) : (outsAt0 m c t.val t.isLt).2.2.2 (ix2 0 i)
    = 0 + term6 x0 x1 x2 t i := by
  rw [outsAt0_A m c t hz]
  frame_out
  pointwise [k0_pay4, k0_pay5]
  simp only [p1 m x0 x1 x2 c h0 h1 h2, p10 m x0 c h0]
  rfl

include h0 h1 h2 in
theorem step6 (t : Fin cfg0.N) (hz : ¬t.val % 4 = 0) (i : Fin 1024) : (outsAt0 m c t.val t.isLt).2.2.2 (ix2 0 i)
    = (outsAt0 m c (t.val - 1) (Nat.lt_of_le_of_lt (Nat.sub_le _ _) t.isLt)).2.2.2 (ix2 0 i) + term6 x0 x1 x2 t i := by
  rw [outsAt0_B m c t hz]
  frame_out
  pointwise [k0_pay4]
  simp only [p1 m x0 x1 x2 c h0 h1 h2, p10 m x0 c h0]
  rfl

include h0 h1 h2 in
theorem last6 (t : Fin cfg0.N) (ht : t.val + 1 = cfg0.N) (i : Fin 1024) : (outsAt0 m c t.val t.isLt).2.2.2 (ix2 0 i) = ∑ b : Fin 2, ∑ s : Fin 2048, gg x0 x1 x2 b s i := by
  refine (Pipeline.eq_sum_fin_of_reset_step_apply_last (fun n h (i : Fin 1024) => ((outsAt0 m c n h).2.2.2 (ix2 0 i) : EReal)) 4 (fun _ => 0) (term6 x0 x1 x2)
      (first6 m x0 x1 x2 c h0 h1 h2) (step6 m x0 x1 x2 c h0 h1 h2) (le_of_eq N_0) t ht i).trans ?_
  rw [zero_add]
  exact sum_rows fun b s => gg x0 x1 x2 b s i

include h0 h1 h2 in
theorem final6 : (dats m 0 c).arrAt 6 cfg0.N = fun i => ∑ b : Fin 2, ∑ s : Fin 2048, gg x0 x1 x2 b s (i 1) := by
  refine (dats m 0 c).arrAt_eq_of_after_last 6 tl (by decide +kernel) _ fun j => ?_
  obtain ⟨q, rfl⟩ : ∃ q : Fin 1024, j = ix2 0 q := ⟨j 1, by blk_ext []⟩
  blk_simp
  rw [after0_6]
  exact last6 m x0 x1 x2 c h0 h1 h2 tl rfl q

/-- A point's share of the loss. -/
def term3 (x0 : S2x2048x1024.Idx → EReal) (x1 : S1024.Idx → EReal) (x2 : S2x2048x1024.Idx → EReal) (t : Fin cfg0.N) (i : Fin 128) : EReal :=
  Ideal.ofBits .f32 0x3F000000#32 * ∑ r : Fin 1024, sq x0 x1 x2 ⟨(t.val * 1024 + r.val) / 2048, by have := lt4 t; omega⟩ ⟨(t.val * 1024 + r.val) % 2048, by omega⟩

include h0 h1 h2 in
theorem first3 (t : Fin cfg0.N) (hz : t.val % 4 = 0) (i : Fin 128) : (outsAt0 m c t.val t.isLt).1 (ix2 0 i)
    = 0 + term3 x0 x1 x2 t i := by
  rw [outsAt0_A m c t hz]
  frame_out
  pointwise [k0_pay12, k0_pay6, k0_pay7, k0_pay8, k0_pay9, k0_pay10, k0_pay11]
  simp only [rd0 m x0 c h0, rd1 m x1 c h1, rd2 m x2 c h2]
  rfl

include h0 h1 h2 in
theorem step3 (t : Fin cfg0.N) (hz : ¬t.val % 4 = 0) (i : Fin 128) : (outsAt0 m c t.val t.isLt).1 (ix2 0 i)
    = (outsAt0 m c (t.val - 1) (Nat.lt_of_le_of_lt (Nat.sub_le _ _) t.isLt)).1 (ix2 0 i) + term3 x0 x1 x2 t i := by
  rw [outsAt0_B m c t hz]
  frame_out
  pointwise [k0_pay12, k0_pay7, k0_pay8, k0_pay9, k0_pay10, k0_pay11]
  simp only [rd0 m x0 c h0, rd1 m x1 c h1, rd2 m x2 c h2]
  rfl

include h0 h1 h2 in
theorem last3 (t : Fin cfg0.N) (ht : t.val + 1 = cfg0.N) (i : Fin 128) : (outsAt0 m c t.val t.isLt).1 (ix2 0 i) = Ideal.ofBits .f32 0x3F000000#32 * ∑ b : Fin 2, ∑ s : Fin 2048, sq x0 x1 x2 b s := by
  refine (Pipeline.eq_sum_fin_of_reset_step_apply_last (fun n h (i : Fin 128) => ((outsAt0 m c n h).1 (ix2 0 i) : EReal)) 4 (fun _ => 0) (term3 x0 x1 x2)
      (first3 m x0 x1 x2 c h0 h1 h2) (step3 m x0 x1 x2 c h0 h1 h2) (le_of_eq N_0) t ht i).trans ?_
  rw [zero_add]
  rw [← sum_rows, mul_comm, ← sum_mul_nonneg _ _ _ half_nonneg.1 half_nonneg.2]
  exact Finset.sum_congr rfl fun t _ => mul_comm _ _

include h0 h1 h2 in
theorem final3 : (dats m 0 c).arrAt 3 cfg0.N = fun i => Ideal.ofBits .f32 0x3F000000#32 * ∑ b : Fin 2, ∑ s : Fin 2048, sq x0 x1 x2 b s := by
  refine (dats m 0 c).arrAt_eq_of_after_last 3 tl (by decide +kernel) _ fun j => ?_
  obtain ⟨q, rfl⟩ : ∃ q : Fin 128, j = ix2 0 q := ⟨j 1, by blk_ext []⟩
  blk_simp
  rw [after0_3]
  exact last3 m x0 x1 x2 c h0 h1 h2 tl rfl q

end Cert.LossKernel
end
-- ==== Proof.LossValue.lean ====
module

public import proofs.«01_k».proof.Defs
public import proofs.«01_k».proof.Proof.LossKernel
public import proofs.«01_k».proof.Proof.Gen.Kernel8Ideal.Value
public import proofs.«01_k».proof.Proof.Gen.Reference8Ideal.Run

@[expose] public section

set_option maxRecDepth 16384

noncomputable section

open Idealize.ShloMosaic Idealize.ShloMosaic.TcCoe Idealize.SL.Sem
open Idealize.ShloMosaic.Pipeline (Dat)
open Cert.NormMath

namespace Cert.LossValue

open Cert.Reference8Ideal.Read Cert.LossKernel

section

variable (x0 : Cert.Reference8Ideal.S2x2048x1024.Idx → EReal) (x1 : Cert.Reference8Ideal.S1024.Idx → EReal) (x2 : Cert.Reference8Ideal.S2x2048x1024.Idx → EReal)

theorem ref3 : val_main_v52 (F := Ideal) x0 x1 x2 = fun i => Ideal.ofBits .f32 0x3F000000#32 * ∑ b : Fin 2, ∑ s : Fin 2048, sq x0 x1 x2 b s := by
  funext i
  obtain ⟨q, rfl⟩ : ∃ q : Fin 128, i = ix2 0 q := ⟨i 1, by blk_ext []⟩
  exact Cert.LossRef.loss x0 x1 x2 q

theorem ref4 : val_main_v51 (F := Ideal) x0 x1 x2 = fun i => gx x0 x1 x2 (i 0) (i 1) := by
  funext i
  obtain ⟨r, q, rfl⟩ : ∃ (r : Fin 4096) (q : Fin 1024), i = ix2 r q := ⟨i 0, i 1, by blk_ext []⟩
  exact Cert.LossRef.grad x0 x1 x2 r q

theorem ref5 : val_main_v53 (F := Ideal) x0 x1 x2 = fun i => gx x0 x1 x2 (i 0) (i 1) :=
  Eq.trans (funext fun i => by pointwise [val_main_v53]) (ref4 x0 x1 x2)

theorem ref6 : val_main_v54 (F := Ideal) x0 x1 x2 = fun i => ∑ b : Fin 2, ∑ s : Fin 2048, gg x0 x1 x2 b s (i 1) := by
  funext i
  obtain ⟨q, rfl⟩ : ∃ q : Fin 1024, i = ix2 0 q := ⟨i 1, by blk_ext []⟩
  exact Cert.LossRef.gain x0 x1 x2 q

end

set_option maxHeartbeats 1600000 in
/-- Kernel and reference compute the same loss and the same gradients over the extended reals. -/
theorem value : Cert.algebraic_Kernel8Ideal_Reference8Ideal := by
  intro m g m' g' _ hagree
  refine ⟨_, _, _, _, Cert.Kernel8Ideal.Value.run_blocks m g, ?_⟩
  refine (θ_run _ _ _).mono (fun r h c => ?_) (Cert.Reference8Ideal.Value.run m' g')
  obtain ⟨a0, a1, a2⟩ := hagree c
  refine ⟨(h c).1.trans ?_, (h c).2.1.trans ?_, (h c).2.2.1.trans ?_, (h c).2.2.2.1.trans ?_, (h c).2.2.2.2⟩
  · refine (val_main_v52_eq _ _ _).trans ?_
    rw [a0, a1, a2]
    exact (ref3 _ _ _).trans (final3 m _ _ _ c rfl rfl rfl).symm
  · rw [val_main_v51_eq, a0, a1, a2]
    exact (ref4 _ _ _).trans (final4 m _ _ _ c rfl rfl rfl).symm
  · rw [val_main_v53_eq, a0, a1, a2]
    exact (ref5 _ _ _).trans (final5 m _ _ _ c rfl rfl rfl).symm
  · refine (val_main_v54_eq _ _ _).trans ?_
    rw [a0, a1, a2]
    exact (ref6 _ _ _).trans (final6 m _ _ _ c rfl rfl rfl).symm

end Cert.LossValue
end
-- ==== Proof.RopeRef.lean ====
module

public import proofs.«01_k».proof.Proof.NormMath
public import proofs.«01_k».proof.Proof.Gen.Reference9Ideal.Run
public import proofs.«01_k».proof.Proof.Gen.Reference9Ideal.Read
public import Idealize.ShloMosaic.Lib.Pointwise

@[expose] public section

set_option maxRecDepth 16384

noncomputable section

open Idealize.ShloMosaic Idealize.ShloMosaic.TcCoe Idealize.SL.Sem

namespace Cert.RopeRef

open Cert.Reference9Ideal Cert.Reference9Ideal.Gen Cert.Reference9Ideal.Read

/-- The cosine of position `s` at frequency `j`. -/
def cs (s : Fin 2048) (j : Fin 32) : EReal := val_main_v23 (F := Ideal) (ix2 s j)

/-- The sine of position `s` at frequency `j`. -/
def sn (s : Fin 2048) (j : Fin 32) : EReal := val_main_v24 (F := Ideal) (ix2 s j)

/-- The gradient turned back by the angles of position `s`, entry `e` of head `n`. -/
def turn (x : S2x12x2048x64.Idx → EReal) (b : Fin 2) (n : Fin 12) (s : Fin 2048) (e : Fin 64) : EReal :=
  if h : e.val < 32 then x (ix4 b n s e) * cs s ⟨e.val, h⟩ + x (ix4 b n s ⟨32 + e.val, by omega⟩) * sn s ⟨e.val, h⟩
  else x (ix4 b n s e) * cs s ⟨e.val - 32, by omega⟩ + x (ix4 b n s ⟨e.val - 32, by omega⟩) * -sn s ⟨e.val - 32, by omega⟩

/-- The gradient of the three projections, row `t`, column `k`. -/
def grad (x0 x1 x2 : S2x12x2048x64.Idx → EReal) (t : Fin 4096) (k : Fin 2304) : EReal :=
  if h : k.val < 768 then
    turn x0 ⟨t.val / 2048, by omega⟩ ⟨k.val / 64, by omega⟩ ⟨t.val % 2048, by omega⟩ ⟨k.val % 64, by omega⟩
  else if h' : k.val < 1536 then
    turn x1 ⟨t.val / 2048, by omega⟩ ⟨(k.val - 768) / 64, by omega⟩ ⟨t.val % 2048, by omega⟩ ⟨k.val % 64, by omega⟩
  else x2 (ix4 ⟨t.val / 2048, by omega⟩ ⟨(k.val - 1536) / 64, by omega⟩ ⟨t.val % 2048, by omega⟩ ⟨k.val % 64, by omega⟩)

theorem zero (i : S_.Idx) : (constant (F := Ideal) S_ .f32 0x00000000#32) i = 0 := by
  pointwise

/-- The two halves, padded and added, are the turned gradient. -/
theorem halves (x : S2x12x2048x64.Idx → EReal) (b : Fin 2) (n : Fin 12) (s : Fin 2048) (e : Fin 64)
    (lo hi : Fin 32 → EReal) (z w : EReal) (hz : z = 0) (hw : w = 0)
    (hlo : ∀ j, lo j = x (ix4 b n s ⟨32 + j.val, by omega⟩) * sn s j + x (ix4 b n s ⟨j.val, by omega⟩) * cs s j)
    (hhi : ∀ j, hi j = x (ix4 b n s ⟨32 + j.val, by omega⟩) * cs s j + -x (ix4 b n s ⟨j.val, by omega⟩) * sn s j) :
    (if h : 32 ≤ e.val ∧ e.val - 32 < 32 then hi ⟨e.val - 32, h.2⟩ else z) + (if h : e.val < 32 then lo ⟨e.val, h⟩ else w)
      = turn x b n s e := by
  unfold turn
  by_cases h : e.val < 32
  · rw [dif_neg (by omega), dif_pos h, dif_pos h, hz, zero_add, hlo, add_comm]
  · rw [dif_pos ⟨by omega, by omega⟩, dif_neg h, dif_neg h, hw, add_zero, hhi, neg_mul, mul_neg]
    exact congrArg (fun k => x (ix4 b n s k) * _ + _) (Fin.ext (by dsimp only; omega))

theorem turn0 (x : S2x12x2048x64.Idx → EReal) (b : Fin 2) (n : Fin 12) (s : Fin 2048) (e : Fin 64) :
    val_main_v104 (F := Ideal) x (ix4 b n s e) = turn x b n s e := by
  pointwise [val_main_v104, val_main_v103, val_main_v102]
  refine halves x b n s e (fun j => val_main_v101 (F := Ideal) x (ix4 b n s j)) (fun j => val_main_v98 (F := Ideal) x (ix4 b n s j)) _ _ (zero _) (zero _) (fun j => ?_) (fun j => ?_)
  · pointwise [val_main_v101, val_main_v100, val_main_v99, val_main_v92, val_main_v91, val_main_v90, val_main_v89, val_main_v37, val_main_v27]
    rfl
  · pointwise [val_main_v98, val_main_v97, val_main_v96, val_main_v95, val_main_v94, val_main_v93, val_main_v90, val_main_v89, val_main_v34, val_main_v30]
    rfl

theorem turn1 (x : S2x12x2048x64.Idx → EReal) (b : Fin 2) (n : Fin 12) (s : Fin 2048) (e : Fin 64) :
    val_main_v88 (F := Ideal) x (ix4 b n s e) = turn x b n s e := by
  pointwise [val_main_v88, val_main_v87, val_main_v86]
  refine halves x b n s e (fun j => val_main_v85 (F := Ideal) x (ix4 b n s j)) (fun j => val_main_v82 (F := Ideal) x (ix4 b n s j)) _ _ (zero _) (zero _) (fun j => ?_) (fun j => ?_)
  · pointwise [val_main_v85, val_main_v84, val_main_v83, val_main_v76, val_main_v75, val_main_v74, val_main_v73, val_main_v68, val_main_v58]
    rfl
  · pointwise [val_main_v82, val_main_v81, val_main_v80, val_main_v79, val_main_v78, val_main_v77, val_main_v74, val_main_v73, val_main_v65, val_main_v61]
    rfl

theorem ref (x0 x1 x2 : S2x12x2048x64.Idx → EReal) (t : Fin 4096) (k : Fin 2304) :
    val_main_v113 (F := Ideal) x0 x1 x2 (ix3 0 t k) = grad x0 x1 x2 t k := by
  unfold grad
  split
  next h =>
    rw [← turn0]
    pointwise [val_main_v113, val_main_v112, val_main_v111, val_main_v110, val_main_v109]
    rw [dif_pos h]
  next h =>
  split
  next h' =>
    rw [← turn1]
    pointwise [val_main_v113, val_main_v112, val_main_v111, val_main_v108, val_main_v107]
    rw [dif_neg h, dif_pos (by omega)]
    exact congrArg₂ (fun n e => val_main_v88 (F := Ideal) x1 (ix4 _ n _ e)) (Fin.ext (by first | (dsimp only; omega) | dsimp only)) (Fin.ext (by first | (dsimp only; omega) | dsimp only))
  next h' =>
    pointwise [val_main_v113, val_main_v112, val_main_v111, val_main_v106, val_main_v105]
    rw [dif_neg h, dif_neg (by omega)]
    exact congrArg₂ (fun n e => x2 (ix4 _ n _ e)) (Fin.ext (by first | (dsimp only; omega) | dsimp only)) (Fin.ext (by first | (dsimp only; omega) | dsimp only))

end Cert.RopeRef
end
-- ==== Proof.RopeReads.lean ====
module

public import proofs.«01_k».proof.Proof.RopeRef
public import proofs.«01_k».proof.Proof.Gen.Kernel9Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.RopeRef (cs sn turn grad)

namespace Cert.RopeReads

open Cert.Kernel9Ideal Cert.Kernel9Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val % 2, 0]
    ∧ win0_10.index t = ![t.val % 2, 0] ∧ win0_11.index t = ![0, t.val, 0] := (by decide +kernel : ∀ t : Fin grid0.N, _)

theorem lt4 (t : Fin cfg0.N) : t.val < 4 := t.isLt

variable (x0 : S2x12x2048x64.Idx → EReal) (x1 : S2x12x2048x64.Idx → EReal) (x2 : S2x12x2048x64.Idx → EReal) (c : Dev nD)
  (h0 : m ((c : Thread nD τ).loc main_arg0) = x0)
  (h1 : m ((c : Thread nD τ).loc main_arg1) = x1)
  (h2 : m ((c : Thread nD τ).loc main_arg2) = x2)

/-- Row `r`, column `k` of a block of four heads from head `n`, as an entry of the argument. -/
def heads (x : S2x12x2048x64.Idx → EReal) (n : Fin 9) (t : Fin cfg0.N) (r : Fin 1024) (k : Fin 256) : EReal :=
  x (ix4 ⟨(t.val * 1024 + r.val) / 2048, by have := lt4 t; omega⟩ ⟨n.val + k.val / 64, by omega⟩
    ⟨(t.val * 1024 + r.val) % 2048, by omega⟩ ⟨k.val % 64, by omega⟩)

set_option maxHeartbeats 8000000 in
include h0 h1 h2 in
theorem rd (t : Fin cfg0.N) (r : Fin 1024) (k : Fin 256) :
    iblk m c 0 t (ix2 r k) = heads x0 0 t r k ∧ iblk m c 1 t (ix2 r k) = heads x0 4 t r k ∧ iblk m c 2 t (ix2 r k) = heads x0 8 t r k
    ∧ iblk m c 3 t (ix2 r k) = heads x1 0 t r k ∧ iblk m c 4 t (ix2 r k) = heads x1 4 t r k ∧ iblk m c 5 t (ix2 r k) = heads x1 8 t r k
    ∧ iblk m c 6 t (ix2 r k) = heads x2 0 t r k ∧ iblk m c 7 t (ix2 r k) = heads x2 4 t r k ∧ iblk m c 8 t (ix2 r k) = heads x2 8 t r k := by
  refine ⟨?_, ?_, ?_, ?_, ?_, ?_, ?_, ?_, ?_⟩
  all_goals
    unfold heads
    first | refine Eq.trans ?_ (congrFun h0 _) | refine Eq.trans ?_ (congrFun h1 _) | refine Eq.trans ?_ (congrFun h2 _)
    blk_simp [iblk]
    entry_read
    pointwise
    blk_ext [idx t]

end Cert.RopeReads
end
-- ==== Proof.RopeTables.lean ====
module

public import proofs.«01_k».proof.Proof.RopeReads
public import proofs.«01_k».proof.Proof.Gen.Kernel9Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.RopeRef (cs sn turn grad)

namespace Cert.RopeTables

open Cert.Kernel9Ideal Cert.Kernel9Ideal.Gen

variable (m : (ℓ : Loc nD τ sig) → Buf (Elt Ideal) ℓ)

open Cert.RopeReads

variable (c : Dev nD)

theorem after_app {τ : Topo} {sig : RefSig} {Val : EltTy → Type} (l l' : List (HloOp τ sig Val)) (σ : Valuation τ sig Val) :
    StableHlo.after (l ++ l') σ = StableHlo.after l' (StableHlo.after l σ) := by
  induction l generalizing σ with
  | nil => rfl
  | cons a l ih => exact ih _

/-- The operations before the tables are put together. -/
def pre : Valuation τ sig (Elt Ideal) := StableHlo.after (hostOps0.take 44) (fun b => m (c, b))

theorem cut : StableHlo.after (hostOps0 (F := Ideal)) (fun b => m (c, b)) = StableHlo.after (hostOps0.drop 44) (pre m c) := by
  unfold pre
  rw [← after_app, List.take_append_drop]

theorem tail42 (σ : Valuation τ sig (Elt Ideal)) :
    StableHlo.after ((hostOps0 (F := Ideal)).drop 44) σ main_v42 = concatenate S2048x128 1 [⟨S2048x32, (σ main_v40 : (⟨S2048x32, .f32⟩ : BufTy).Contents (Elt Ideal))⟩, ⟨S2048x32, (σ main_v40 : (⟨S2048x32, .f32⟩ : BufTy).Contents (Elt Ideal))⟩, ⟨S2048x32, (σ main_v40 : (⟨S2048x32, .f32⟩ : BufTy).Contents (Elt Ideal))⟩, ⟨S2048x32, (σ main_v40 : (⟨S2048x32, .f32⟩ : BufTy).Contents (Elt Ideal))⟩] concatenates_S2048x32_S2048x32_S2048x32_S2048x32_S2048x128_d1 := by
  simp only [hostOps0, List.drop_succ_cons, List.drop_zero]
  after_results
  rfl

theorem tail45 (σ : Valuation τ sig (Elt Ideal)) :
    StableHlo.after ((hostOps0 (F := Ideal)).drop 44) σ main_v45 = concatenate S2048x128 1 [⟨S2048x32, (Host.negf (F := Ideal) (s := S2048x32) (φ := .f32) (σ main_v41) : (⟨S2048x32, .f32⟩ : BufTy).Contents (Elt Ideal))⟩, ⟨S2048x32, (σ main_v41 : (⟨S2048x32, .f32⟩ : BufTy).Contents (Elt Ideal))⟩, ⟨S2048x32, (Host.negf (F := Ideal) (s := S2048x32) (φ := .f32) (σ main_v41) : (⟨S2048x32, .f32⟩ : BufTy).Contents (Elt Ideal))⟩, ⟨S2048x32, (σ main_v41 : (⟨S2048x32, .f32⟩ : BufTy).Contents (Elt Ideal))⟩] concatenates_S2048x32_S2048x32_S2048x32_S2048x32_S2048x128_d1 := by
  simp only [hostOps0, List.drop_succ_cons, List.drop_zero]
  after_results
  rfl

theorem pre40 : pre m c main_v40 = Cert.Reference9Ideal.Read.val_main_v23 (F := Ideal) := by
  unfold pre
  simp only [hostOps0, List.take_succ_cons, List.take_zero]
  after_results_simp
  rfl

theorem pre41 : pre m c main_v41 = Cert.Reference9Ideal.Read.val_main_v24 (F := Ideal) := by
  unfold pre
  simp only [hostOps0, List.take_succ_cons, List.take_zero]
  after_results_simp
  rfl

set_option maxHeartbeats 1600000 in
theorem rdc (t : Fin cfg0.N) (r : Fin 1024) (l : Fin 128) : iblk m c 9 t (ix2 r l)
    = cs ⟨t.val % 2 * 1024 + r.val, by omega⟩ ⟨l.val % 32, by omega⟩ := by
  have e : V m c main_v42 = _ := (congrFun (cut m c) main_v42).trans (tail42 (pre m c))
  blk_simp [iblk]
  have p : ((View.whole main_v42).slice (win0_9.rect t)).emb (ix2 r l) = ix2 ⟨t.val % 2 * 1024 + r.val, by omega⟩ l := by blk_ext [idx t]
  rw [p, e, pre40]
  pointwise
  unfold cs
  split_ifs
  all_goals first
    | omega
    | exact congrArg (fun j => Cert.Reference9Ideal.Read.val_main_v23 (F := Ideal) (ix2 _ j)) (Fin.ext (by first | (dsimp only; omega) | dsimp only))
    | exact congrArg (fun j => -Cert.Reference9Ideal.Read.val_main_v23 (F := Ideal) (ix2 _ j)) (Fin.ext (by first | (dsimp only; omega) | dsimp only))

set_option maxHeartbeats 1600000 in
theorem rds (t : Fin cfg0.N) (r : Fin 1024) (l : Fin 128) : iblk m c 10 t (ix2 r l)
    = if l.val % 64 < 32 then -sn ⟨t.val % 2 * 1024 + r.val, by omega⟩ ⟨l.val % 32, by omega⟩
      else sn ⟨t.val % 2 * 1024 + r.val, by omega⟩ ⟨l.val % 32, by omega⟩ := by
  have e : V m c main_v45 = _ := (congrFun (cut m c) main_v45).trans (tail45 (pre m c))
  blk_simp [iblk]
  have p : ((View.whole main_v45).slice (win0_10.rect t)).emb (ix2 r l) = ix2 ⟨t.val % 2 * 1024 + r.val, by omega⟩ l := by blk_ext [idx t]
  rw [p, e, pre41]
  pointwise
  unfold sn
  by_cases hl : l.val % 64 < 32
  all_goals first | rw [if_pos hl] | rw [if_neg hl]
  all_goals split_ifs
  all_goals first
    | omega
    | exact congrArg (fun j => Cert.Reference9Ideal.Read.val_main_v24 (F := Ideal) (ix2 _ j)) (Fin.ext (by first | (dsimp only; omega) | dsimp only))
    | exact congrArg (fun j => -Cert.Reference9Ideal.Read.val_main_v24 (F := Ideal) (ix2 _ j)) (Fin.ext (by first | (dsimp only; omega) | dsimp only))

end Cert.RopeTables
end
-- ==== Proof.RopeKernel.lean ====
module

public import proofs.«01_k».proof.Proof.RopeTables

@[expose] public section

set_option maxRecDepth 16384

noncomputable section

open Idealize.ShloMosaic Idealize.ShloMosaic.TcCoe Idealize.SL.Sem
open Idealize.ShloMosaic.Pipeline (Dat)
open Cert.RopeRef (cs sn turn grad)

namespace Cert.RopeKernel

open Cert.Kernel9Ideal Cert.Kernel9Ideal.Gen
open Cert.RopeReads Cert.RopeTables

variable (m : (ℓ : Loc nD τ sig) → Buf (Elt Ideal) ℓ)
variable (x0 : S2x12x2048x64.Idx → EReal) (x1 : S2x12x2048x64.Idx → EReal) (x2 : S2x12x2048x64.Idx → EReal) (c : Dev nD)
  (h0 : m ((c : Thread nD τ).loc main_arg0) = x0)
  (h1 : m ((c : Thread nD τ).loc main_arg1) = x1)
  (h2 : m ((c : Thread nD τ).loc main_arg2) = x2)

theorem mask (r : Fin 1024) (l : Fin 128) : k0_pay4 (ix2 r l) = if l.val % 64 < 32 then 1#1 else 0#1 := by
  pointwise [k0_pay4]
  revert l
  decide +kernel

/-- What one stored tile holds: the turned gradient of two of its block's heads. -/
theorem lane (x : S2x12x2048x64.Idx → EReal) (n : Fin 9) (t : Fin cfg0.N) (r : Fin 1024) (j : Fin 2) (v : Fin 128 → EReal)
    (hv : ∀ l : Fin 128, v l = heads x n t r ⟨128 * j.val + l.val, by omega⟩) (l : Fin 128) :
    v l * iblk m c 9 t (ix2 r l) + Scalar.select (k0_pay4 (ix2 r l))
        (v ⟨(l.val + 128 - 96) % 128, by omega⟩ * iblk m c 10 t (ix2 r ⟨(l.val + 128 - 96) % 128, by omega⟩))
        (v ⟨(l.val + 128 - 32) % 128, by omega⟩ * iblk m c 10 t (ix2 r ⟨(l.val + 128 - 32) % 128, by omega⟩))
      = turn x ⟨(t.val * 1024 + r.val) / 2048, by have := lt4 t; omega⟩ ⟨n.val + 2 * j.val + l.val / 64, by omega⟩
          ⟨(t.val * 1024 + r.val) % 2048, by omega⟩ ⟨l.val % 64, by omega⟩ := by
  have := lt4 t
  have es : (⟨t.val % 2 * 1024 + r.val, by omega⟩ : Fin 2048) = ⟨(t.val * 1024 + r.val) % 2048, by omega⟩ := Fin.ext (by dsimp only; omega)
  unfold turn
  rw [mask, rdc, rds, rds, hv, hv, hv]
  unfold heads
  by_cases hl : l.val % 64 < 32
  · rw [if_pos hl, dif_pos hl, if_neg (show ¬ (l.val + 128 - 96) % 128 % 64 < 32 by omega), es]
    refine congrArg₂ (· + ·) (congrArg₂ (· * ·) (congrArg₂ (fun a e => x (ix4 _ a _ e)) (Fin.ext (by dsimp only; omega)) (Fin.ext (by dsimp only; omega))) (congrArg (cs _) (Fin.ext (by dsimp only; omega)))) (Eq.trans (b := _ * _) rfl (congrArg₂ (· * ·) (congrArg₂ (fun a e => x (ix4 _ a _ e)) (Fin.ext (by dsimp only; omega)) (Fin.ext (by dsimp only; omega))) (congrArg (sn _) (Fin.ext (by dsimp only; omega)))))
  · rw [if_neg hl, dif_neg hl, if_pos (show (l.val + 128 - 32) % 128 % 64 < 32 by omega), es]
    refine congrArg₂ (· + ·) (congrArg₂ (· * ·) (congrArg₂ (fun a e => x (ix4 _ a _ e)) (Fin.ext (by dsimp only; omega)) (Fin.ext (by dsimp only; omega))) (congrArg (cs _) (Fin.ext (by dsimp only; omega)))) (Eq.trans (b := _ * _) rfl (congrArg₂ (· * ·) (congrArg₂ (fun a e => x (ix4 _ a _ e)) (Fin.ext (by dsimp only; omega)) (Fin.ext (by dsimp only; omega))) (congrArg (fun a => -sn _ a) (Fin.ext (by dsimp only; omega)))))

theorem grad0 (T : Fin 4096) (k : Fin 2304) (b : Fin 2) (n : Fin 12) (s : Fin 2048) (e : Fin 64) (hk : k.val < 768) (hb : b.val = T.val / 2048)
    (hn : n.val = (k.val - 0) / 64) (hs : s.val = T.val % 2048) (he : e.val = k.val % 64) : turn x0 b n s e = grad x0 x1 x2 T k := by
  unfold grad
  rw [dif_pos hk]
  have eb : b = ⟨T.val / 2048, by omega⟩ := Fin.ext hb
  have es : s = ⟨T.val % 2048, by omega⟩ := Fin.ext hs
  rw [eb, es]
  exact congrArg₂ (fun a e => turn x0 _ a _ e) (Fin.ext (by dsimp only; omega)) (Fin.ext (by dsimp only; omega))

theorem grad1 (T : Fin 4096) (k : Fin 2304) (b : Fin 2) (n : Fin 12) (s : Fin 2048) (e : Fin 64) (hk : 768 ≤ k.val ∧ k.val < 1536) (hb : b.val = T.val / 2048)
    (hn : n.val = (k.val - 768) / 64) (hs : s.val = T.val % 2048) (he : e.val = k.val % 64) : turn x1 b n s e = grad x0 x1 x2 T k := by
  unfold grad
  rw [dif_neg (by omega), dif_pos (by omega)]
  have eb : b = ⟨T.val / 2048, by omega⟩ := Fin.ext hb
  have es : s = ⟨T.val % 2048, by omega⟩ := Fin.ext hs
  rw [eb, es]
  exact congrArg₂ (fun a e => turn x1 _ a _ e) (Fin.ext (by dsimp only; omega)) (Fin.ext (by dsimp only; omega))

theorem grad2 (T : Fin 4096) (k : Fin 2304) (b : Fin 2) (n : Fin 12) (s : Fin 2048) (e : Fin 64) (hk : 1536 ≤ k.val) (hb : b.val = T.val / 2048)
    (hn : n.val = (k.val - 1536) / 64) (hs : s.val = T.val % 2048) (he : e.val = k.val % 64) : x2 (ix4 b n s e) = grad x0 x1 x2 T k := by
  unfold grad
  rw [dif_neg (by omega), dif_neg (by omega)]
  have eb : b = ⟨T.val / 2048, by omega⟩ := Fin.ext hb
  have es : s = ⟨T.val % 2048, by omega⟩ := Fin.ext hs
  rw [eb, es]
  exact congrArg₂ (fun a e => x2 (ix4 _ a _ e)) (Fin.ext (by dsimp only; omega)) (Fin.ext (by dsimp only; omega))

set_option maxHeartbeats 800000 in
include h0 h1 h2 in
theorem block (t : Fin cfg0.N) (y : S1x1024x2304.Idx) :
    outsAt0 m c t y = grad x0 x1 x2 ⟨t.val * 1024 + (y 1 : ℕ), by have := lt4 t; have : (y 1 : ℕ) < 1024 := (y 1).isLt; omega⟩ (y 2) := by
  have q := lt4 t
  have R := rd m x0 x1 x2 c h0 h1 h2 t
  clear h0 h1 h2
  unfold outsAt0
  frame_out
  canon_tiles x h using (View.cover_of_tiledBy _ ![1, 1024, 128] (by sl_kernel_rfl) y)
  all_goals pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
  case piece14 => exact (lane m c x0 0 t (x 1) 0 (fun l => iblk m c 0 t (ix2 (x 1) ⟨l.val, by omega⟩)) (fun l => ((R (x 1) _).1).trans (congrArg (heads x0 0 t _) (Fin.ext (by simp)))) (x 2)).trans (grad0 x0 x1 x2 _ _ _ _ _ _ (by omega) (by simp [h1]) (by simp; omega) (by simp [h1]) (by simp; omega))
  case piece13 => exact (lane m c x0 0 t (x 1) 1 (fun l => iblk m c 0 t (ix2 (x 1) ⟨128 + l.val, by omega⟩)) (fun l => ((R (x 1) _).1).trans (congrArg (heads x0 0 t _) (Fin.ext (by simp)))) (x 2)).trans (grad0 x0 x1 x2 _ _ _ _ _ _ (by omega) (by simp [h1]) (by simp; omega) (by simp [h1]) (by simp; omega))
  case piece12 => exact (lane m c x0 4 t (x 1) 0 (fun l => iblk m c 1 t (ix2 (x 1) ⟨l.val, by omega⟩)) (fun l => ((R (x 1) _).2.1).trans (congrArg (heads x0 4 t _) (Fin.ext (by simp)))) (x 2)).trans (grad0 x0 x1 x2 _ _ _ _ _ _ (by omega) (by simp [h1]) (by simp; omega) (by simp [h1]) (by simp; omega))
  case piece11 => exact (lane m c x0 4 t (x 1) 1 (fun l => iblk m c 1 t (ix2 (x 1) ⟨128 + l.val, by omega⟩)) (fun l => ((R (x 1) _).2.1).trans (congrArg (heads x0 4 t _) (Fin.ext (by simp)))) (x 2)).trans (grad0 x0 x1 x2 _ _ _ _ _ _ (by omega) (by simp [h1]) (by simp; omega) (by simp [h1]) (by simp; omega))
  case piece10 => exact (lane m c x0 8 t (x 1) 0 (fun l => iblk m c 2 t (ix2 (x 1) ⟨l.val, by omega⟩)) (fun l => ((R (x 1) _).2.2.1).trans (congrArg (heads x0 8 t _) (Fin.ext (by simp)))) (x 2)).trans (grad0 x0 x1 x2 _ _ _ _ _ _ (by omega) (by simp [h1]) (by simp; omega) (by simp [h1]) (by simp; omega))
  case piece9 => exact (lane m c x0 8 t (x 1) 1 (fun l => iblk m c 2 t (ix2 (x 1) ⟨128 + l.val, by omega⟩)) (fun l => ((R (x 1) _).2.2.1).trans (congrArg (heads x0 8 t _) (Fin.ext (by simp)))) (x 2)).trans (grad0 x0 x1 x2 _ _ _ _ _ _ (by omega) (by simp [h1]) (by simp; omega) (by simp [h1]) (by simp; omega))
  case piece8 => exact (lane m c x1 0 t (x 1) 0 (fun l => iblk m c 3 t (ix2 (x 1) ⟨l.val, by omega⟩)) (fun l => ((R (x 1) _).2.2.2.1).trans (congrArg (heads x1 0 t _) (Fin.ext (by simp)))) (x 2)).trans (grad1 x0 x1 x2 _ _ _ _ _ _ (by omega) (by simp [h1]) (by simp; omega) (by simp [h1]) (by simp; omega))
  case piece7 => exact (lane m c x1 0 t (x 1) 1 (fun l => iblk m c 3 t (ix2 (x 1) ⟨128 + l.val, by omega⟩)) (fun l => ((R (x 1) _).2.2.2.1).trans (congrArg (heads x1 0 t _) (Fin.ext (by simp)))) (x 2)).trans (grad1 x0 x1 x2 _ _ _ _ _ _ (by omega) (by simp [h1]) (by simp; omega) (by simp [h1]) (by simp; omega))
  case piece6 => exact (lane m c x1 4 t (x 1) 0 (fun l => iblk m c 4 t (ix2 (x 1) ⟨l.val, by omega⟩)) (fun l => ((R (x 1) _).2.2.2.2.1).trans (congrArg (heads x1 4 t _) (Fin.ext (by simp)))) (x 2)).trans (grad1 x0 x1 x2 _ _ _ _ _ _ (by omega) (by simp [h1]) (by simp; omega) (by simp [h1]) (by simp; omega))
  case piece5 => exact (lane m c x1 4 t (x 1) 1 (fun l => iblk m c 4 t (ix2 (x 1) ⟨128 + l.val, by omega⟩)) (fun l => ((R (x 1) _).2.2.2.2.1).trans (congrArg (heads x1 4 t _) (Fin.ext (by simp)))) (x 2)).trans (grad1 x0 x1 x2 _ _ _ _ _ _ (by omega) (by simp [h1]) (by simp; omega) (by simp [h1]) (by simp; omega))
  case piece4 => exact (lane m c x1 8 t (x 1) 0 (fun l => iblk m c 5 t (ix2 (x 1) ⟨l.val, by omega⟩)) (fun l => ((R (x 1) _).2.2.2.2.2.1).trans (congrArg (heads x1 8 t _) (Fin.ext (by simp)))) (x 2)).trans (grad1 x0 x1 x2 _ _ _ _ _ _ (by omega) (by simp [h1]) (by simp; omega) (by simp [h1]) (by simp; omega))
  case piece3 => exact (lane m c x1 8 t (x 1) 1 (fun l => iblk m c 5 t (ix2 (x 1) ⟨128 + l.val, by omega⟩)) (fun l => ((R (x 1) _).2.2.2.2.2.1).trans (congrArg (heads x1 8 t _) (Fin.ext (by simp)))) (x 2)).trans (grad1 x0 x1 x2 _ _ _ _ _ _ (by omega) (by simp [h1]) (by simp; omega) (by simp [h1]) (by simp; omega))
  case piece2 => exact ((R (x 1) (x 2)).2.2.2.2.2.2.1).trans (grad2 x0 x1 x2 _ _ _ _ _ _ (by omega) (by simp [h1]) (by simp; omega) (by simp [h1]) (by simp; omega))
  case piece1 => exact ((R (x 1) (x 2)).2.2.2.2.2.2.2.1).trans (grad2 x0 x1 x2 _ _ _ _ _ _ (by omega) (by simp [h1]) (by simp; omega) (by simp [h1]) (by simp; omega))
  case piece0 => exact ((R (x 1) (x 2)).2.2.2.2.2.2.2.2).trans (grad2 x0 x1 x2 _ _ _ _ _ _ (by omega) (by simp [h1]) (by simp; omega) (by simp [h1]) (by simp; omega))

include h0 h1 h2 in
theorem final11 : (dats m 0 c).arrAt 11 cfg0.N = fun i => grad x0 x1 x2 (i 1) (i 2) := by
  refine (dats m 0 c).arrAt_eq_of_covers 11 _ (by decide +kernel) fun t _ y => ?_
  blk_simp
  rw [after0_11]
  refine (block m x0 x1 x2 c h0 h1 h2 t y).trans ?_
  exact congrArg₂ (grad x0 x1 x2) (Fin.ext (by blk_simp [idx t])) (Fin.ext (by blk_simp [idx t]))

end Cert.RopeKernel
end
-- ==== Proof.RopeValue.lean ====
module

public import proofs.«01_k».proof.Defs
public import proofs.«01_k».proof.Proof.RopeKernel
public import proofs.«01_k».proof.Proof.Gen.Kernel9Ideal.Value
public import proofs.«01_k».proof.Proof.Gen.Reference9Ideal.Run

@[expose] public section

set_option maxRecDepth 16384

noncomputable section

open Idealize.ShloMosaic Idealize.ShloMosaic.TcCoe Idealize.SL.Sem
open Idealize.ShloMosaic.Pipeline (Dat)
open Cert.RopeKernel

namespace Cert.RopeValue

section
open Cert.Reference9Ideal Cert.Reference9Ideal.Gen Cert.Reference9Ideal.Read

theorem ref11 (x0 x1 x2 : S2x12x2048x64.Idx → EReal) : val_main_v113 (F := Ideal) x0 x1 x2 = fun i => Cert.RopeRef.grad x0 x1 x2 (i 1) (i 2) := by
  funext i
  obtain ⟨r, q, rfl⟩ : ∃ (r : Fin 4096) (q : Fin 2304), i = ix3 0 r q := ⟨i 1, i 2, by blk_ext []⟩
  exact Cert.RopeRef.ref x0 x1 x2 r q

end

set_option maxHeartbeats 1600000 in
/-- Kernel and reference turn the gradients of the three projections back by the same angles. -/
theorem value : Cert.algebraic_Kernel9Ideal_Reference9Ideal := by
  intro m g m' g' _ hagree
  refine ⟨_, Cert.Kernel9Ideal.Value.run_blocks m g, ?_⟩
  refine (θ_run _ _ _).mono (fun r h c => ?_) (Cert.Reference9Ideal.Value.run m' g')
  obtain ⟨a0, a1, a2⟩ := hagree c
  refine ⟨(h c).1.trans ?_, (h c).2⟩
  rw [Cert.Reference9Ideal.Read.val_main_v113_eq, a0, a1, a2]
  exact (ref11 _ _ _).trans (final11 m _ _ _ c rfl rfl rfl).symm

end Cert.RopeValue
end
-- ==== Proof.MergeRef.lean ====
module

public import proofs.«01_k».proof.Proof.NormMath
public import proofs.«01_k».proof.Proof.Gen.Reference6Ideal.Run
public import proofs.«01_k».proof.Proof.Gen.Reference6Ideal.Read

@[expose] public section

set_option maxRecDepth 16384

noncomputable section

open Idealize.ShloMosaic Idealize.ShloMosaic.TcCoe Idealize.SL.Sem
open Cert.Reals Cert.NormMath

namespace Cert.MergeRef

open Cert.Reference6Ideal Cert.Reference6Ideal.Gen Cert.Reference6Ideal.Read

/-- A gate's opening. -/
def sg (v : EReal) : EReal := Ideal.div 1 (1 + Ideal.exp (-v))

/-- The gradient that reaches the sum of the two gated parts. -/
def dm (x0 : S4096x1024.Idx → EReal) (x6 : S1024x1024.Idx → EReal) (r : Fin 4096) (j : Fin 1024) : EReal :=
  ∑ k : Fin 1024, x0 (ix2 r k) * x6 (ix2 j k)

/-- The first part before its gate. -/
def za (x1 : S4096x256.Idx → EReal) (x4 : S256x1024.Idx → EReal) (r : Fin 4096) (j : Fin 1024) : EReal :=
  ∑ k : Fin 256, x1 (ix2 r k) * x4 (ix2 k j)

/-- The second part before its gate. -/
def zb (x2 : S4096x512.Idx → EReal) (x5 : S512x1024.Idx → EReal) (r : Fin 4096) (j : Fin 1024) : EReal :=
  ∑ k : Fin 512, x2 (ix2 r k) * x5 (ix2 k j)

/-- The first part's gate at row `r` and column `j`. -/
def ga (x3 : S4096x5888.Idx → EReal) (r : Fin 4096) (j : Fin 1024) : EReal :=
  sg (x3 (ix2 r ⟨3840 + j.val, by omega⟩))

/-- The second part's gate at row `r` and column `j`. -/
def gb (x3 : S4096x5888.Idx → EReal) (r : Fin 4096) (j : Fin 1024) : EReal :=
  sg (x3 (ix2 r ⟨3840 + (1024 + j.val), by omega⟩))

theorem gate (x3 : S4096x5888.Idx → EReal) (r : Fin 4096) (l : Fin 2048) :
    val_main_v8 (F := Ideal) x3 (ix2 r l) = sg (x3 (ix2 r ⟨3840 + l.val, by omega⟩)) := by
  pointwise [val_main_v8, val_main_v7, val_main_v6, val_main_v5, val_main_v4, val_main_v3, val_main_v2, val_main_cst, val_main_cst_0]
  rfl

theorem ref0 (x0 : S4096x1024.Idx → EReal) (x3 : S4096x5888.Idx → EReal) (x6 : S1024x1024.Idx → EReal) (r : Fin 4096) (j : Fin 1024) :
    val_main_v25 (F := Ideal) x0 x3 x6 (ix2 r j) = ga x3 r j * dm x0 x6 r j := by
  pointwise [val_main_v25, val_main_v21, val_main_v19, val_main_v12, val_main_v13, val_main_v18, gate]
  rfl

theorem ref1 (x0 : S4096x1024.Idx → EReal) (x3 : S4096x5888.Idx → EReal) (x6 : S1024x1024.Idx → EReal) (r : Fin 4096) (j : Fin 1024) :
    val_main_v26 (F := Ideal) x0 x3 x6 (ix2 r j) = gb x3 r j * dm x0 x6 r j := by
  pointwise [val_main_v26, val_main_v21, val_main_v19, val_main_v12, val_main_v13, val_main_v18, gate]
  rfl

theorem ref2a (x0 : S4096x1024.Idx → EReal) (x1 : S4096x256.Idx → EReal) (x2 : S4096x512.Idx → EReal) (x3 : S4096x5888.Idx → EReal)
    (x4 : S256x1024.Idx → EReal) (x5 : S512x1024.Idx → EReal) (x6 : S1024x1024.Idx → EReal) (r : Fin 4096) (j : Fin 1024) :
    val_main_v32 (F := Ideal) x0 x1 x2 x3 x4 x5 x6 (ix3 0 r j) = dm x0 x6 r j * za x1 x4 r j * (ga x3 r j * (1 - ga x3 r j)) := by
  pointwise [val_main_v32, val_main_v31, val_main_v30, val_main_v29, val_main_v28, val_main_v27, val_main_v24, val_main_v23, val_main_v22, val_main_v20, val_main_v18, val_main_v11, val_main_v10, val_main_v9, val_main_cst_1, val_main_v0, val_main_v1, gate]
  rfl

theorem ref2b (x0 : S4096x1024.Idx → EReal) (x1 : S4096x256.Idx → EReal) (x2 : S4096x512.Idx → EReal) (x3 : S4096x5888.Idx → EReal)
    (x4 : S256x1024.Idx → EReal) (x5 : S512x1024.Idx → EReal) (x6 : S1024x1024.Idx → EReal) (r : Fin 4096) (j : Fin 1024) :
    val_main_v32 (F := Ideal) x0 x1 x2 x3 x4 x5 x6 (ix3 1 r j) = dm x0 x6 r j * zb x2 x5 r j * (gb x3 r j * (1 - gb x3 r j)) := by
  pointwise [val_main_v32, val_main_v31, val_main_v30, val_main_v29, val_main_v28, val_main_v27, val_main_v24, val_main_v23, val_main_v22, val_main_v20, val_main_v18, val_main_v11, val_main_v10, val_main_v9, val_main_cst_1, val_main_v0, val_main_v1, gate]
  rfl

end Cert.MergeRef
end
-- ==== Proof.MergeKernel.lean ====
module

public import proofs.«01_k».proof.Proof.MergeRef
public import proofs.«01_k».proof.Proof.Gen.Kernel6Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeKernel

open Cert.Kernel6Ideal Cert.Kernel6Ideal.Gen
open Cert.MergeRef (sg dm za zb ga gb)

variable (m : (ℓ : Loc nD τ sig) → Buf (Elt Ideal) ℓ) (ρ : Dev nD → PrngReg)

theorem idx0 : ∀ t : Fin cfg0.N, win0_0.index t = ![t.val / 4, 0] ∧ win0_1.index t = ![t.val / 4, 0] ∧ win0_4.index t = ![t.val % 4, 0]
    ∧ win0_5.index t = ![t.val % 4, 0] ∧ win0_7.index t = ![t.val / 4, t.val % 4] ∧ win0_8.index t = ![t.val / 4, t.val % 4] :=
  (by decide +kernel : ∀ t : Fin grid0.N, _)

theorem idx1 : ∀ t : Fin cfg1.N, win1_0.index t = ![t.val / 4, 0] ∧ win1_1.index t = ![t.val % 4, 0] ∧ win1_2.index t = ![t.val / 4, t.val % 4]
    ∧ win1_3.index t = ![t.val / 4, t.val % 4] ∧ win1_4.index t = ![t.val / 4, 15 + t.val % 4] ∧ win1_5.index t = ![t.val / 4, 19 + t.val % 4]
    ∧ win1_6.index t = ![t.val / 4, t.val % 4] ∧ win1_7.index t = ![t.val / 4, t.val % 4] ∧ win1_8.index t = ![0, t.val / 4, t.val % 4] :=
  (by decide +kernel : ∀ t : Fin grid1.N, _)

theorem lt0 (t : Fin cfg0.N) : t.val < 8 := t.isLt
theorem lt1 (t : Fin cfg1.N) : t.val < 8 := t.isLt

/-- The row of the whole array a block's row lies at. -/
def row (n : ℕ) (h : n < 8) (r : Fin 2048) : Fin 4096 := ⟨n / 4 * 2048 + r.val, by omega⟩
/-- The column of the whole array a block's column lies at. -/
def col (n : ℕ) (l : Fin 256) : Fin 1024 := ⟨n % 4 * 256 + l.val, by omega⟩

variable (x0 : S4096x1024.Idx → EReal) (x1 : S4096x256.Idx → EReal) (x2 : S4096x512.Idx → EReal) (x3 : S4096x5888.Idx → EReal)
  (x4 : S256x1024.Idx → EReal) (x5 : S512x1024.Idx → EReal) (x6 : S1024x1024.Idx → EReal) (c : Dev nD)
  (h0 : m ((c : Thread nD τ).loc main_arg0) = x0) (h1 : m ((c : Thread nD τ).loc main_arg1) = x1)
  (h2 : m ((c : Thread nD τ).loc main_arg2) = x2) (h3 : m ((c : Thread nD τ).loc main_arg3) = x3)
  (h4 : m ((c : Thread nD τ).loc main_arg4) = x4) (h5 : m ((c : Thread nD τ).loc main_arg5) = x5)
  (h6 : m ((c : Thread nD τ).loc main_arg6) = x6)

include h1 in
theorem rd0_0 (t : Fin cfg0.N) (r : Fin 2048) (k : Fin 256) : iblk0 (V1 m ρ) c 0 t (ix2 r k) = x1 (ix2 (row t.val (lt0 t) r) k) := by
  refine Eq.trans ?_ (congrFun h1 _)
  blk_simp [iblk0]
  refine (congrFun (W1_args m ρ c main_arg1 (by decide)) _).trans (congrArg (m ((c : Thread nD τ).loc main_arg1)) ?_)
  blk_ext [idx0 t, row]

include h4 in
theorem rd0_4 (t : Fin cfg0.N) (l : Fin 256) (k : Fin 256) : iblk0 (V1 m ρ) c 4 t (ix2 l k) = x4 (ix2 k (col t.val l)) := by
  refine Eq.trans ?_ (congrFun h4 _)
  blk_simp [iblk0, V1, W1]
  entry_read
  pointwise
  blk_ext [idx0 t, col]

include h2 in
theorem rd0_1 (t : Fin cfg0.N) (r : Fin 2048) (k : Fin 512) : iblk0 (V1 m ρ) c 1 t (ix2 r k) = x2 (ix2 (row t.val (lt0 t) r) k) := by
  refine Eq.trans ?_ (congrFun h2 _)
  blk_simp [iblk0]
  refine (congrFun (W1_args m ρ c main_arg2 (by decide)) _).trans (congrArg (m ((c : Thread nD τ).loc main_arg2)) ?_)
  blk_ext [idx0 t, row]

include h5 in
theorem rd0_5 (t : Fin cfg0.N) (l : Fin 256) (k : Fin 512) : iblk0 (V1 m ρ) c 5 t (ix2 l k) = x5 (ix2 k (col t.val l)) := by
  refine Eq.trans ?_ (congrFun h5 _)
  blk_simp [iblk0, V1, W1]
  entry_read
  pointwise
  blk_ext [idx0 t, col]

include h1 h4 in
/-- The forward call's first part before its gate. -/
theorem final0_7 : (dat0 (V1 m ρ) c).arrAt 7 cfg0.N = fun i => za x1 x4 (i 0) (i 1) := by
  refine (dat0 (V1 m ρ) c).arrAt_eq_of_covers 7 _ (by decide +kernel) fun t _ y => ?_
  obtain ⟨r, l, rfl⟩ : ∃ (r : Fin 2048) (l : Fin 256), y = ix2 r l := ⟨y 0, y 1, by blk_ext []⟩
  blk_simp
  have e : ((win0_7.blk t).view.emb (ix2 r l) : S4096x1024.Idx) = ix2 (row t.val (lt0 t) r) (col t.val l) := by blk_ext [idx0 t, row, col]
  rw [after0_7]
  refine Eq.trans ?_ (congrArg (fun i => za x1 x4 (i 0) (i 1)) e).symm
  frame_out [out0_7]
  pointwise [k0_pay4, k0_pay1]
  simp only [rd0_0 m ρ x1 c h1, rd0_4 m ρ x4 c h4]
  rfl

include h2 h5 in
/-- The forward call's second part before its gate. -/
theorem final0_8 : (dat0 (V1 m ρ) c).arrAt 8 cfg0.N = fun i => zb x2 x5 (i 0) (i 1) := by
  refine (dat0 (V1 m ρ) c).arrAt_eq_of_covers 8 _ (by decide +kernel) fun t _ y => ?_
  obtain ⟨r, l, rfl⟩ : ∃ (r : Fin 2048) (l : Fin 256), y = ix2 r l := ⟨y 0, y 1, by blk_ext []⟩
  blk_simp
  have e : ((win0_8.blk t).view.emb (ix2 r l) : S4096x1024.Idx) = ix2 (row t.val (lt0 t) r) (col t.val l) := by blk_ext [idx0 t, row, col]
  rw [after0_8]
  refine Eq.trans ?_ (congrArg (fun i => zb x2 x5 (i 0) (i 1)) e).symm
  frame_out [out0_8]
  pointwise [k0_pay5, k0_pay2]
  simp only [rd0_1 m ρ x2 c h2, rd0_5 m ρ x5 c h5]
  rfl

/-- What the second stretch of host operations leaves at the two casts. -/
theorem host1 (σ : Valuation τ sig (Elt Ideal)) : StableHlo.after hostOps1 σ (Proc.devRef .tc main_v5) = σ (Proc.devRef .tc main_arg0)
    ∧ StableHlo.after hostOps1 σ (Proc.devRef .tc main_v6) = σ (Proc.devRef .tc main_arg6) := by
  constructor <;> (after_results; rfl)

include h0 in
theorem rd1_0 (t : Fin cfg1.N) (r : Fin 2048) (k : Fin 1024) : iblk1 (V3 m ρ) c 0 t (ix2 r k) = x0 (ix2 (row t.val (lt1 t) r) k) := by
  refine Eq.trans ?_ (congrFun h0 _)
  blk_simp [iblk1]
  refine (congrFun ((host1 (W2 m ρ c)).1.trans (W2_args m ρ c main_arg0 (by decide))) _).trans (congrArg (m ((c : Thread nD τ).loc main_arg0)) ?_)
  blk_ext [idx1 t, row]

include h6 in
theorem rd1_1 (t : Fin cfg1.N) (l : Fin 256) (k : Fin 1024) : iblk1 (V3 m ρ) c 1 t (ix2 l k) = x6 (ix2 (col t.val l) k) := by
  refine Eq.trans ?_ (congrFun h6 _)
  blk_simp [iblk1]
  refine (congrFun ((host1 (W2 m ρ c)).2.trans (W2_args m ρ c main_arg6 (by decide))) _).trans (congrArg (m ((c : Thread nD τ).loc main_arg6)) ?_)
  blk_ext [idx1 t, col]

include h1 h4 in
theorem rd1_2 (t : Fin cfg1.N) (r : Fin 2048) (l : Fin 256) : iblk1 (V3 m ρ) c 2 t (ix2 r l) = za x1 x4 (row t.val (lt1 t) r) (col t.val l) := by
  blk_simp [iblk1]
  refine (congrFun ((W3_of m ρ c main_v4_1 (by decide)).trans ((W2_arr m ρ c 7).trans (final0_7 m ρ x1 x4 c h1 h4))) _).trans ?_
  exact congrArg (fun i : S4096x1024.Idx => za x1 x4 (i 0) (i 1)) (a₂ := ix2 (row t.val (lt1 t) r) (col t.val l)) (by blk_ext [idx1 t, row, col])

include h2 h5 in
theorem rd1_3 (t : Fin cfg1.N) (r : Fin 2048) (l : Fin 256) : iblk1 (V3 m ρ) c 3 t (ix2 r l) = zb x2 x5 (row t.val (lt1 t) r) (col t.val l) := by
  blk_simp [iblk1]
  refine (congrFun ((W3_of m ρ c main_v4_2 (by decide)).trans ((W2_arr m ρ c 8).trans (final0_8 m ρ x2 x5 c h2 h5))) _).trans ?_
  exact congrArg (fun i : S4096x1024.Idx => zb x2 x5 (i 0) (i 1)) (a₂ := ix2 (row t.val (lt1 t) r) (col t.val l)) (by blk_ext [idx1 t, row, col])

include h3 in
theorem rd1_4 (t : Fin cfg1.N) (r : Fin 2048) (l : Fin 256) : iblk1 (V3 m ρ) c 4 t (ix2 r l)
    = x3 (ix2 (row t.val (lt1 t) r) ⟨3840 + (col t.val l).val, by omega⟩) := by
  refine Eq.trans ?_ (congrFun h3 _)
  blk_simp [iblk1]
  refine (congrFun (W3_args m ρ c main_arg3 (by decide)) _).trans (congrArg (m ((c : Thread nD τ).loc main_arg3)) ?_)
  blk_ext [idx1 t, row, col]

include h3 in
theorem rd1_5 (t : Fin cfg1.N) (r : Fin 2048) (l : Fin 256) : iblk1 (V3 m ρ) c 5 t (ix2 r l)
    = x3 (ix2 (row t.val (lt1 t) r) ⟨3840 + (1024 + (col t.val l).val), by omega⟩) := by
  refine Eq.trans ?_ (congrFun h3 _)
  blk_simp [iblk1]
  refine (congrFun (W3_args m ρ c main_arg3 (by decide)) _).trans (congrArg (m ((c : Thread nD τ).loc main_arg3)) ?_)
  blk_ext [idx1 t, row, col]

include h0 h3 h6 in
theorem final6 : (dat1 (V3 m ρ) c).arrAt 6 cfg1.N = fun i => ga x3 (i 0) (i 1) * dm x0 x6 (i 0) (i 1) := by
  refine (dat1 (V3 m ρ) c).arrAt_eq_of_covers 6 _ (by decide +kernel) fun t _ y => ?_
  obtain ⟨r, l, rfl⟩ : ∃ (r : Fin 2048) (l : Fin 256), y = ix2 r l := ⟨y 0, y 1, by blk_ext []⟩
  blk_simp
  have e : ((win1_6.blk t).view.emb (ix2 r l) : S4096x1024.Idx) = ix2 (row t.val (lt1 t) r) (col t.val l) := by blk_ext [idx1 t, row, col]
  rw [after1_6]
  refine Eq.trans ?_ (congrArg (fun i => ga x3 (i 0) (i 1) * dm x0 x6 (i 0) (i 1)) e).symm
  frame_out [out1_6]
  pointwise [k1_pay5, k1_pay2, k1_pay3]
  simp only [rd1_0 m ρ x0 c h0, rd1_1 m ρ x6 c h6, rd1_4 m ρ x3 c h3]
  exact mul_comm (dm x0 x6 (row t.val (lt1 t) r) (col t.val l)) _

include h0 h3 h6 in
theorem final7 : (dat1 (V3 m ρ) c).arrAt 7 cfg1.N = fun i => gb x3 (i 0) (i 1) * dm x0 x6 (i 0) (i 1) := by
  refine (dat1 (V3 m ρ) c).arrAt_eq_of_covers 7 _ (by decide +kernel) fun t _ y => ?_
  obtain ⟨r, l, rfl⟩ : ∃ (r : Fin 2048) (l : Fin 256), y = ix2 r l := ⟨y 0, y 1, by blk_ext []⟩
  blk_simp
  have e : ((win1_7.blk t).view.emb (ix2 r l) : S4096x1024.Idx) = ix2 (row t.val (lt1 t) r) (col t.val l) := by blk_ext [idx1 t, row, col]
  rw [after1_7]
  refine Eq.trans ?_ (congrArg (fun i => gb x3 (i 0) (i 1) * dm x0 x6 (i 0) (i 1)) e).symm
  frame_out [out1_7]
  pointwise [k1_pay6, k1_pay2, k1_pay4]
  simp only [rd1_0 m ρ x0 c h0, rd1_1 m ρ x6 c h6, rd1_5 m ρ x3 c h3]
  exact mul_comm (dm x0 x6 (row t.val (lt1 t) r) (col t.val l)) _

/-- The gradient of the logits of the two gates. -/
def dl (x0 : S4096x1024.Idx → EReal) (x1 : S4096x256.Idx → EReal) (x2 : S4096x512.Idx → EReal) (x3 : S4096x5888.Idx → EReal)
    (x4 : S256x1024.Idx → EReal) (x5 : S512x1024.Idx → EReal) (x6 : S1024x1024.Idx → EReal) (p : Fin 2) (r : Fin 4096) (j : Fin 1024) : EReal :=
  if p.val = 0 then dm x0 x6 r j * za x1 x4 r j * (ga x3 r j * (1 - ga x3 r j)) else dm x0 x6 r j * zb x2 x5 r j * (gb x3 r j * (1 - gb x3 r j))

include h0 h1 h2 h3 h4 h5 h6 in
theorem out8 (t : Fin cfg1.N) (p : Fin 2) (r : Fin 2048) (l : Fin 256) :
    out1_8 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix3 p r l)
    = dl x0 x1 x2 x3 x4 x5 x6 p (row t.val (lt1 t) r) (col t.val l) := by
  frame_out [out1_8]
  canon_tiles x k
  · obtain ⟨u, v, w, rfl⟩ : ∃ (u : Fin 1) (v : Fin 2048) (w : Fin 256), x = ix3 u v w := ⟨x 0, x 1, x 2, by blk_ext []⟩
    obtain rfl : u = 0 := by omega
    obtain rfl : p = 1 := Fin.ext k0
    obtain rfl : r = v := Fin.ext k1
    obtain rfl : l = w := Fin.ext k2
    clear k0 k1 k2
    pointwise [k1_pay1, k1_pay2, k1_pay4, k1_pay8, k1_pay9]
    simp only [rd1_0 m ρ x0 c h0, rd1_1 m ρ x6 c h6, rd1_3 m ρ x2 x5 c h2 h5, rd1_5 m ρ x3 c h3]
    exact mul_assoc (dm x0 x6 _ _ * zb x2 x5 _ _) _ _
  · obtain ⟨u, v, w, rfl⟩ : ∃ (u : Fin 1) (v : Fin 2048) (w : Fin 256), x = ix3 u v w := ⟨x 0, x 1, x 2, by blk_ext []⟩
    obtain rfl : u = 0 := by omega
    obtain rfl : p = 0 := Fin.ext k0
    obtain rfl : r = v := Fin.ext k1
    obtain rfl : l = w := Fin.ext k2
    clear k0 k1 k2
    pointwise [k1_pay2, k1_pay3, k1_pay7]
    simp only [rd1_0 m ρ x0 c h0, rd1_1 m ρ x6 c h6, rd1_2 m ρ x1 x4 c h1 h4, rd1_4 m ρ x3 c h3]
    exact mul_assoc (dm x0 x6 _ _ * za x1 x4 _ _) _ _

include h0 h1 h2 h3 h4 h5 h6 in
theorem final8 : (dat1 (V3 m ρ) c).arrAt 8 cfg1.N = fun i => dl x0 x1 x2 x3 x4 x5 x6 (i 0) (i 1) (i 2) := by
  refine (dat1 (V3 m ρ) c).arrAt_eq_of_covers 8 _ (by decide +kernel) fun t _ y => ?_
  obtain ⟨p, r, l, rfl⟩ : ∃ (p : Fin 2) (r : Fin 2048) (l : Fin 256), y = ix3 p r l := ⟨y 0, y 1, y 2, by blk_ext []⟩
  blk_simp
  have e : ((win1_8.blk t).view.emb (ix3 p r l) : S2x4096x1024.Idx) = ix3 p (row t.val (lt1 t) r) (col t.val l) := by blk_ext [idx1 t, row, col]
  rw [after1_8]
  exact (out8 m ρ x0 x1 x2 x3 x4 x5 x6 c h0 h1 h2 h3 h4 h5 h6 t p r l).trans (congrArg (fun i => dl x0 x1 x2 x3 x4 x5 x6 (i 0) (i 1) (i 2)) e).symm

end Cert.MergeKernel
end
-- ==== Proof.MergeRun.lean ====
module

public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MergeRun

open Cert.Kernel6Ideal Cert.Kernel6Ideal.Gen

variable (m : (ℓ : Loc nD τ sig) → Buf (Elt Ideal) ℓ) (ρ : Dev nD → PrngReg)

set_option backward.isDefEq.respectTransparency.types false in
/-- Every fair run ends, and every buffer then holds what the second region leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.MergeRun
end
-- ==== Proof.MergeValue.lean ====
module

public import proofs.«01_k».proof.Defs
public import proofs.«01_k».proof.Proof.MergeKernel
public import proofs.«01_k».proof.Proof.MergeRun
public import proofs.«01_k».proof.Proof.Gen.Reference6Ideal.Run

@[expose] public section

set_option maxRecDepth 16384

noncomputable section

open Idealize.ShloMosaic Idealize.ShloMosaic.TcCoe Idealize.SL.Sem
open Idealize.ShloMosaic.Pipeline (Dat)
open Cert.MergeKernel
open Cert.MergeRef (dm ga gb)

namespace Cert.MergeValue

section
open Cert.Reference6Ideal Cert.Reference6Ideal.Gen Cert.Reference6Ideal.Read

theorem refA (x0 : S4096x1024.Idx → EReal) (x3 : S4096x5888.Idx → EReal) (x6 : S1024x1024.Idx → EReal) :
    val_main_v25 (F := Ideal) x0 x3 x6 = fun i => ga x3 (i 0) (i 1) * dm x0 x6 (i 0) (i 1) := by
  funext i
  obtain ⟨r, j, rfl⟩ : ∃ (r : Fin 4096) (j : Fin 1024), i = ix2 r j := ⟨i 0, i 1, by blk_ext []⟩
  exact Cert.MergeRef.ref0 x0 x3 x6 r j

theorem refB (x0 : S4096x1024.Idx → EReal) (x3 : S4096x5888.Idx → EReal) (x6 : S1024x1024.Idx → EReal) :
    val_main_v26 (F := Ideal) x0 x3 x6 = fun i => gb x3 (i 0) (i 1) * dm x0 x6 (i 0) (i 1) := by
  funext i
  obtain ⟨r, j, rfl⟩ : ∃ (r : Fin 4096) (j : Fin 1024), i = ix2 r j := ⟨i 0, i 1, by blk_ext []⟩
  exact Cert.MergeRef.ref1 x0 x3 x6 r j

theorem refL (x0 : S4096x1024.Idx → EReal) (x1 : S4096x256.Idx → EReal) (x2 : S4096x512.Idx → EReal) (x3 : S4096x5888.Idx → EReal)
    (x4 : S256x1024.Idx → EReal) (x5 : S512x1024.Idx → EReal) (x6 : S1024x1024.Idx → EReal) :
    val_main_v32 (F := Ideal) x0 x1 x2 x3 x4 x5 x6 = fun i => dl x0 x1 x2 x3 x4 x5 x6 (i 0) (i 1) (i 2) := by
  funext i
  obtain ⟨p, r, j, rfl⟩ : ∃ (p : Fin 2) (r : Fin 4096) (j : Fin 1024), i = ix3 p r j := ⟨i 0, i 1, i 2, by blk_ext []⟩
  obtain rfl | rfl : p = 0 ∨ p = 1 := by omega
  · exact Cert.MergeRef.ref2a x0 x1 x2 x3 x4 x5 x6 r j
  · exact Cert.MergeRef.ref2b x0 x1 x2 x3 x4 x5 x6 r j

end

set_option maxHeartbeats 1600000 in
/-- Kernel and reference take the gradients of the two gated parts and of the gates' logits alike. -/
theorem value : Cert.algebraic_Kernel6Ideal_Reference6Ideal := by
  intro m g m' g' _ hagree
  refine ⟨fun c => Cert.Kernel6Ideal.Gen.W4 m g c (Proc.devRef .tc Cert.Kernel6Ideal.main_v7_0), fun c => Cert.Kernel6Ideal.Gen.W4 m g c (Proc.devRef .tc Cert.Kernel6Ideal.main_v7_1), fun c => Cert.Kernel6Ideal.Gen.W4 m g c (Proc.devRef .tc Cert.Kernel6Ideal.main_v7_2),
    (θ_run _ _ _).mono (fun r h c => ?_) (Cert.MergeRun.run m g), ?_⟩
  · have f : ∀ b : Ref Cert.Kernel6Ideal.sig .tc, ¬ (Proc.devRef .tc b : DevRef Cert.Kernel6Ideal.τ Cert.Kernel6Ideal.sig).isScoped →
        r.2.mem ((c.tc : Thread Cert.Kernel6Ideal.nD Cert.Kernel6Ideal.τ).loc b) = Cert.Kernel6Ideal.Gen.W4 m g c (Proc.devRef .tc b) := fun b hb => h c _ (Cert.Kernel6Ideal.Gen.mem_uc b hb)
    exact ⟨f Cert.Kernel6Ideal.main_v7_0 (by decide), f Cert.Kernel6Ideal.main_v7_1 (by decide), f Cert.Kernel6Ideal.main_v7_2 (by decide),
      (f Cert.Kernel6Ideal.main_arg0 (by decide)).trans (Cert.Kernel6Ideal.Gen.W4_main_arg0 m g c),
      (f Cert.Kernel6Ideal.main_arg1 (by decide)).trans (Cert.Kernel6Ideal.Gen.W4_main_arg1 m g c),
      (f Cert.Kernel6Ideal.main_arg2 (by decide)).trans (Cert.Kernel6Ideal.Gen.W4_main_arg2 m g c),
      (f Cert.Kernel6Ideal.main_arg3 (by decide)).trans (Cert.Kernel6Ideal.Gen.W4_main_arg3 m g c),
      (f Cert.Kernel6Ideal.main_arg4 (by decide)).trans (Cert.Kernel6Ideal.Gen.W4_main_arg4 m g c),
      (f Cert.Kernel6Ideal.main_arg5 (by decide)).trans (Cert.Kernel6Ideal.Gen.W4_main_arg5 m g c),
      (f Cert.Kernel6Ideal.main_arg6 (by decide)).trans (Cert.Kernel6Ideal.Gen.W4_main_arg6 m g c)⟩
  refine (θ_run _ _ _).mono (fun r h c => ?_) (Cert.Reference6Ideal.Value.run m' g')
  obtain ⟨a0, a1, a2, a3, a4, a5, a6⟩ := hagree c
  refine ⟨(h c).1.trans ?_, (h c).2.1.trans ?_, (h c).2.2.1.trans ?_, (h c).2.2.2⟩
  · rw [Cert.Reference6Ideal.Read.val_main_v25_eq, a0, a3, a6]
    exact (refA _ _ _).trans ((Cert.Kernel6Ideal.Gen.W4_arr m g c 6).trans (final6 m g _ _ _ c rfl rfl rfl)).symm
  · rw [Cert.Reference6Ideal.Read.val_main_v26_eq, a0, a3, a6]
    exact (refB _ _ _).trans ((Cert.Kernel6Ideal.Gen.W4_arr m g c 7).trans (final7 m g _ _ _ c rfl rfl rfl)).symm
  · rw [Cert.Reference6Ideal.Read.val_main_v32_eq, a0, a1, a2, a3, a4, a5, a6]
    exact (refL _ _ _ _ _ _ _).trans ((Cert.Kernel6Ideal.Gen.W4_arr m g c 8).trans (final8 m g _ _ _ _ _ _ _ c rfl rfl rfl rfl rfl rfl rfl)).symm

end Cert.MergeValue
end
-- ==== Proof.FfnRef.lean ====
module

public import proofs.«01_k».proof.Proof.NormMath
public import proofs.«01_k».proof.Proof.Gen.Reference7Ideal.Run
public import proofs.«01_k».proof.Proof.Gen.Reference7Ideal.Read

@[expose] public section

set_option maxRecDepth 16384

noncomputable section

open Idealize.ShloMosaic Idealize.ShloMosaic.TcCoe Idealize.SL.Sem
open Cert.Reals Cert.NormMath

namespace Cert.FfnRef

open Cert.Reference7Ideal Cert.Reference7Ideal.Gen Cert.Reference7Ideal.Read

/-- The half the residual branch is scaled by. -/
def half : EReal := Ideal.ofBits .f32 0x3F000000#32

/-- The gate before its activation. -/
def gate (x1 : S4096x1024.Idx → EReal) (x2 : S1024x5632.Idx → EReal) (r : Fin 4096) (k : Fin 2816) : EReal :=
  ∑ i : Fin 1024, x1 (ix2 r i) * x2 (ix2 i ⟨k.val, by omega⟩)

/-- What the gate multiplies. -/
def up (x1 : S4096x1024.Idx → EReal) (x2 : S1024x5632.Idx → EReal) (r : Fin 4096) (k : Fin 2816) : EReal :=
  ∑ i : Fin 1024, x1 (ix2 r i) * x2 (ix2 i ⟨2816 + k.val, by omega⟩)

/-- The gradient that reaches the product of the two. -/
def da (x0 : S4096x1024.Idx → EReal) (x3 : S2816x1024.Idx → EReal) (r : Fin 4096) (k : Fin 2816) : EReal :=
  ∑ i : Fin 1024, half * x0 (ix2 r i) * x3 (ix2 k i)

theorem half_eq : half = ((2⁻¹ : ℝ) : EReal) := by
  simp [half, Ideal.ofBits, Ideal.ieee]
  rw [← EReal.coe_mul]
  congr 1
  norm_num

theorem half_bf16 : Ideal.ofBits .bf16 0x3F00#16 = half := by
  rw [half_eq]
  simp [Ideal.ofBits, Ideal.ieee]
  rw [← EReal.coe_mul]
  congr 1
  norm_num

theorem ref0 (x0 x1 : S4096x1024.Idx → EReal) (x2 : S1024x5632.Idx → EReal) (x3 : S2816x1024.Idx → EReal) (r : Fin 4096) (k : Fin 2816) :
    val_main_v17 (F := Ideal) x0 x1 x2 x3 (ix3 0 r k) = da x0 x3 r k * up x1 x2 r k * Ideal.logistic (gate x1 x2 r k)
      + gate x1 x2 r k * (da x0 x3 r k * up x1 x2 r k) * (Ideal.logistic (gate x1 x2 r k) * (1 - Ideal.logistic (gate x1 x2 r k))) := by
  pointwise [val_main_v17, val_main_v16, val_main_v15, val_main_v14, val_main_v13, val_main_v12, val_main_v10, val_main_v9, val_main_v8, val_main_cst_0, val_main_call1_v0, val_main_call1_v1, val_main_call1_v2, val_main_v3_1, val_main_v3_2, val_main_call0_v0, val_main_call0_v1, val_main_call0_v2, val_main_call0_v3, val_main_call0_v4, val_main_call0_v6, val_main_call0_v7, val_main_call0_cst, val_main_call0_cst_0, val_main_call0_cst_1, val_main_v2, val_main_v1, val_main_v0]
  rfl

theorem ref1 (x0 x1 : S4096x1024.Idx → EReal) (x2 : S1024x5632.Idx → EReal) (x3 : S2816x1024.Idx → EReal) (r : Fin 4096) (k : Fin 2816) :
    val_main_v17 (F := Ideal) x0 x1 x2 x3 (ix3 1 r k) = gate x1 x2 r k * Ideal.logistic (gate x1 x2 r k) * da x0 x3 r k := by
  pointwise [val_main_v17, val_main_v16, val_main_v15, val_main_v14, val_main_v11, val_main_v10, val_main_v9, val_main_v8, val_main_cst_0, val_main_v3_0, val_main_v3_2, val_main_call0_v0, val_main_call0_v1, val_main_call0_v2, val_main_call0_v3, val_main_call0_v4, val_main_call0_cst, val_main_call0_cst_0, val_main_v1, val_main_v0]
  rfl

/-- Over the reals the two ways to write the gate's gradient agree. -/
theorem join {a g u : EReal} (ha : ∃ r : ℝ, a = r) (hg : ∃ r : ℝ, g = r) (hu : ∃ r : ℝ, u = r) :
    a * (u * (Ideal.logistic g + g * Ideal.logistic g * (1 - Ideal.logistic g)))
      = a * u * Ideal.logistic g + g * (a * u) * (Ideal.logistic g * (1 - Ideal.logistic g)) := by
  obtain ⟨a, rfl⟩ := ha
  obtain ⟨g, rfl⟩ := hg
  obtain ⟨u, rfl⟩ := hu
  rw [Ideal.logistic_coe, ← EReal.coe_one]
  simp only [coe_sub', coe_mul', coe_add']
  congr 1
  ring

theorem gate_real (f1 : S4096x1024.Idx → ℝ) (f2 : S1024x5632.Idx → ℝ) (r : Fin 4096) (k : Fin 2816) :
    ∃ y : ℝ, gate (fun i => (f1 i : EReal)) (fun i => (f2 i : EReal)) r k = y := by
  simp only [gate, coe_mul', coe_sum']
  exact ⟨_, rfl⟩

theorem up_real (f1 : S4096x1024.Idx → ℝ) (f2 : S1024x5632.Idx → ℝ) (r : Fin 4096) (k : Fin 2816) :
    ∃ y : ℝ, up (fun i => (f1 i : EReal)) (fun i => (f2 i : EReal)) r k = y := by
  simp only [up, coe_mul', coe_sum']
  exact ⟨_, rfl⟩

theorem da_real (f0 : S4096x1024.Idx → ℝ) (f3 : S2816x1024.Idx → ℝ) (r : Fin 4096) (k : Fin 2816) :
    ∃ y : ℝ, da (fun i => (f0 i : EReal)) (fun i => (f3 i : EReal)) r k = y := by
  simp only [da, half_eq, coe_mul', coe_sum']
  exact ⟨_, rfl⟩

end Cert.FfnRef
end
-- ==== Proof.FfnKernel.lean ====
module

public import proofs.«01_k».proof.Proof.FfnRef
public import proofs.«01_k».proof.Proof.Gen.Kernel7Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnKernel

open Cert.Kernel7Ideal Cert.Kernel7Ideal.Gen
open Cert.FfnRef (half gate up da)

variable (m : (ℓ : Loc nD τ sig) → Buf (Elt Ideal) ℓ) (ρ : Dev nD → PrngReg)

theorem idx0 : ∀ t : Fin cfg0.N, win0_0.index t = ![t.val % 4, 0] ∧ win0_1.index t = ![0, t.val / 4, 0] ∧ win0_2.index t = ![0, t.val % 4, t.val / 4] :=
  (by decide +kernel : ∀ t : Fin grid0.N, _)

theorem idx1 : ∀ t : Fin cfg1.N, win1_0.index t = ![t.val % 4, 0] ∧ win1_1.index t = ![t.val / 4, 0] ∧ win1_2.index t = ![0, t.val % 4, t.val / 4]
    ∧ win1_4.index t = ![0, t.val % 4, t.val / 4] :=
  (by decide +kernel : ∀ t : Fin grid1.N, _)

theorem lt0 (t : Fin cfg0.N) : t.val < 8 := t.isLt
theorem lt1 (t : Fin cfg1.N) : t.val < 8 := t.isLt

/-- The row of the whole array a block's row lies at. -/
def row (n : ℕ) (r : Fin 1024) : Fin 4096 := ⟨n % 4 * 1024 + r.val, by omega⟩
/-- The column of the whole array a block's column lies at. -/
def col (n : ℕ) (h : n < 8) (l : Fin 1408) : Fin 2816 := ⟨n / 4 * 1408 + l.val, by omega⟩

variable (x0 x1 : S4096x1024.Idx → EReal) (x2 : S1024x5632.Idx → EReal) (x3 : S2816x1024.Idx → EReal) (c : Dev nD)
  (h0 : m ((c : Thread nD τ).loc main_arg0) = x0) (h1 : m ((c : Thread nD τ).loc main_arg1) = x1)
  (h2 : m ((c : Thread nD τ).loc main_arg2) = x2) (h3 : m ((c : Thread nD τ).loc main_arg3) = x3)

include h1 in
theorem rd0_0 (t : Fin cfg0.N) (r : Fin 1024) (k : Fin 1024) : iblk0 (V1 m ρ) c 0 t (ix2 r k) = x1 (ix2 (row t.val r) k) := by
  refine Eq.trans ?_ (congrFun h1 _)
  blk_simp [iblk0, V1, W1]
  entry_read
  pointwise
  blk_ext [idx0 t, row]

include h2 in
theorem rd0_1 (t : Fin cfg0.N) (p : Fin 2) (l : Fin 1408) (k : Fin 1024) : iblk0 (V1 m ρ) c 1 t (ix3 p l k)
    = x2 (ix2 k ⟨p.val * 2816 + (col t.val (lt0 t) l).val, by omega⟩) := by
  refine Eq.trans ?_ (congrFun h2 _)
  blk_simp [iblk0, V1, W1]
  entry_read
  have e : ((win0_1.blk t).view.emb (ix3 p l k) : S2x2816x1024.Idx) = ix3 p (col t.val (lt0 t) l) k := by blk_ext [idx0 t, col]
  rw [e]
  pointwise
  blk_ext [col]

include h2 in
theorem rd0_1a (t : Fin cfg0.N) (l : Fin 1408) (k : Fin 1024) : iblk0 (V1 m ρ) c 1 t (ix3 0 l k) = x2 (ix2 k ⟨(col t.val (lt0 t) l).val, by have := (col t.val (lt0 t) l).isLt; omega⟩) :=
  (rd0_1 m ρ x2 c h2 t 0 l k).trans (congrArg (fun n => x2 (ix2 k n)) (Fin.ext (by simp)))

include h2 in
theorem rd0_1b (t : Fin cfg0.N) (l : Fin 1408) (k : Fin 1024) : iblk0 (V1 m ρ) c 1 t (ix3 1 l k) = x2 (ix2 k ⟨2816 + (col t.val (lt0 t) l).val, by omega⟩) :=
  (rd0_1 m ρ x2 c h2 t 1 l k).trans (congrArg (fun n => x2 (ix2 k n)) (Fin.ext (by simp)))

/-- What the forward call keeps for the way back: the gate's derivative times the other factor, and the activated gate. -/
def keep (x1 : S4096x1024.Idx → EReal) (x2 : S1024x5632.Idx → EReal) (p : Fin 2) (r : Fin 4096) (k : Fin 2816) : EReal :=
  if p.val = 0 then up x1 x2 r k * (Ideal.logistic (gate x1 x2 r k) + gate x1 x2 r k * Ideal.logistic (gate x1 x2 r k) * (1 - Ideal.logistic (gate x1 x2 r k)))
  else gate x1 x2 r k * Ideal.logistic (gate x1 x2 r k)

include h1 h2 in
theorem out2 (t : Fin cfg0.N) (p : Fin 2) (r : Fin 1024) (l : Fin 1408) :
    out0_2 (iblk0 (V1 m ρ) c 0 t) (iblk0 (V1 m ρ) c 1 t) (ix3 p r l) = keep x1 x2 p (row t.val r) (col t.val (lt0 t) l) := by
  frame_out [out0_2]
  canon_tiles x k
  · obtain ⟨u, v, w, rfl⟩ : ∃ (u : Fin 1) (v : Fin 1024) (w : Fin 1408), x = ix3 u v w := ⟨x 0, x 1, x 2, by blk_ext []⟩
    obtain rfl : u = 0 := by omega
    obtain rfl : p = 1 := Fin.ext k0
    obtain rfl : r = v := Fin.ext k1
    obtain rfl : l = w := Fin.ext k2
    clear k0 k1 k2
    pointwise [k0_pay7, k0_pay5, k0_pay4, k0_pay2, k0_pay1]
    simp only [rd0_0 m ρ x1 c h1, rd0_1a m ρ x2 c h2, rd0_1b m ρ x2 c h2]
    rfl
  · obtain ⟨u, v, w, rfl⟩ : ∃ (u : Fin 1) (v : Fin 1024) (w : Fin 1408), x = ix3 u v w := ⟨x 0, x 1, x 2, by blk_ext []⟩
    obtain rfl : u = 0 := by omega
    obtain rfl : p = 0 := Fin.ext k0
    obtain rfl : r = v := Fin.ext k1
    obtain rfl : l = w := Fin.ext k2
    clear k0 k1 k2
    pointwise [k0_pay6, k0_pay5, k0_pay4, k0_pay3, k0_pay2, k0_pay1]
    simp only [rd0_0 m ρ x1 c h1, rd0_1a m ρ x2 c h2, rd0_1b m ρ x2 c h2]
    rfl

include h1 h2 in
/-- What the forward call leaves for the backward call. -/
theorem final0_2 : (dat0 (V1 m ρ) c).arrAt 2 cfg0.N = fun i => keep x1 x2 (i 0) (i 1) (i 2) := by
  refine (dat0 (V1 m ρ) c).arrAt_eq_of_covers 2 _ (by decide +kernel) fun t _ y => ?_
  obtain ⟨p, r, l, rfl⟩ : ∃ (p : Fin 2) (r : Fin 1024) (l : Fin 1408), y = ix3 p r l := ⟨y 0, y 1, y 2, by blk_ext []⟩
  blk_simp
  have e : ((win0_2.blk t).view.emb (ix3 p r l) : S2x4096x2816.Idx) = ix3 p (row t.val r) (col t.val (lt0 t) l) := by blk_ext [idx0 t, row, col]
  rw [after0_2]
  exact (out2 m ρ x1 x2 c h1 h2 t p r l).trans (congrArg (fun i => keep x1 x2 (i 0) (i 1) (i 2)) e).symm

/-- What the second stretch of host operations leaves at the two casts. -/
theorem host1 (σ : Valuation τ sig (Elt Ideal)) : StableHlo.after hostOps1 σ (Proc.devRef .tc main_v5) = σ (Proc.devRef .tc main_arg0)
    ∧ StableHlo.after hostOps1 σ (Proc.devRef .tc main_v6) = σ (Proc.devRef .tc main_arg3) := by
  constructor <;> (after_results; rfl)

include h0 in
theorem rd1_0 (t : Fin cfg1.N) (r : Fin 1024) (k : Fin 1024) : iblk1 (V3 m ρ) c 0 t (ix2 r k) = x0 (ix2 (row t.val r) k) := by
  refine Eq.trans ?_ (congrFun h0 _)
  blk_simp [iblk1]
  refine (congrFun ((host1 (W2 m ρ c)).1.trans (W2_args m ρ c main_arg0 (by decide))) _).trans (congrArg (m ((c : Thread nD τ).loc main_arg0)) ?_)
  blk_ext [idx1 t, row]

include h3 in
theorem rd1_1 (t : Fin cfg1.N) (l : Fin 1408) (k : Fin 1024) : iblk1 (V3 m ρ) c 1 t (ix2 l k) = x3 (ix2 (col t.val (lt1 t) l) k) := by
  refine Eq.trans ?_ (congrFun h3 _)
  blk_simp [iblk1]
  refine (congrFun ((host1 (W2 m ρ c)).2.trans (W2_args m ρ c main_arg3 (by decide))) _).trans (congrArg (m ((c : Thread nD τ).loc main_arg3)) ?_)
  blk_ext [idx1 t, col]

include h1 h2 in
theorem rd1_2 (t : Fin cfg1.N) (p : Fin 2) (r : Fin 1024) (l : Fin 1408) : iblk1 (V3 m ρ) c 2 t (ix3 p r l) = keep x1 x2 p (row t.val r) (col t.val (lt1 t) l) := by
  blk_simp [iblk1]
  refine (congrFun ((W3_of m ρ c main_v4_0 (by decide)).trans ((W2_arr m ρ c 2).trans (final0_2 m ρ x1 x2 c h1 h2))) _).trans ?_
  exact congrArg (fun i : S2x4096x2816.Idx => keep x1 x2 (i 0) (i 1) (i 2)) (a₂ := ix3 p (row t.val r) (col t.val (lt1 t) l)) (by blk_ext [idx1 t, row, col])

include h0 h1 h2 h3 in
theorem out4 (t : Fin cfg1.N) (p : Fin 2) (r : Fin 1024) (l : Fin 1408) :
    out1_4 (iblk1 (V3 m ρ) c 0 t) (iblk1 (V3 m ρ) c 1 t) (iblk1 (V3 m ρ) c 2 t) (iblk1 (V3 m ρ) c 3 t) (ix3 p r l)
      = da x0 x3 (row t.val r) (col t.val (lt1 t) l) * keep x1 x2 p (row t.val r) (col t.val (lt1 t) l) := by
  have s : ∀ a b : EReal, a * Ideal.ofBits .bf16 0x3F00#16 * b = half * a * b := fun a b => by rw [Cert.FfnRef.half_bf16, mul_comm a]
  frame_out [out1_4]
  canon_tiles x k
  · obtain ⟨u, v, w, rfl⟩ : ∃ (u : Fin 1) (v : Fin 1024) (w : Fin 1408), x = ix3 u v w := ⟨x 0, x 1, x 2, by blk_ext []⟩
    obtain rfl : u = 0 := by omega
    obtain rfl : p = 1 := Fin.ext k0
    obtain rfl : r = v := Fin.ext k1
    obtain rfl : l = w := Fin.ext k2
    clear k0 k1 k2
    pointwise [k1_pay3, k1_pay1]
    simp only [rd1_0 m ρ x0 c h0, rd1_1 m ρ x3 c h3, rd1_2 m ρ x1 x2 c h1 h2, s]
    rfl
  · obtain ⟨u, v, w, rfl⟩ : ∃ (u : Fin 1) (v : Fin 1024) (w : Fin 1408), x = ix3 u v w := ⟨x 0, x 1, x 2, by blk_ext []⟩
    obtain rfl : u = 0 := by omega
    obtain rfl : p = 0 := Fin.ext k0
    obtain rfl : r = v := Fin.ext k1
    obtain rfl : l = w := Fin.ext k2
    clear k0 k1 k2
    pointwise [k1_pay2, k1_pay1]
    simp only [rd1_0 m ρ x0 c h0, rd1_1 m ρ x3 c h3, rd1_2 m ρ x1 x2 c h1 h2, s]
    rfl

include h0 h1 h2 h3 in
theorem final4 : (dat1 (V3 m ρ) c).arrAt 4 cfg1.N = fun i => da x0 x3 (i 1) (i 2) * keep x1 x2 (i 0) (i 1) (i 2) := by
  refine (dat1 (V3 m ρ) c).arrAt_eq_of_covers 4 _ (by decide +kernel) fun t _ y => ?_
  obtain ⟨p, r, l, rfl⟩ : ∃ (p : Fin 2) (r : Fin 1024) (l : Fin 1408), y = ix3 p r l := ⟨y 0, y 1, y 2, by blk_ext []⟩
  blk_simp
  have e : ((win1_4.blk t).view.emb (ix3 p r l) : S2x4096x2816.Idx) = ix3 p (row t.val r) (col t.val (lt1 t) l) := by blk_ext [idx1 t, row, col]
  rw [after1_4]
  exact (out4 m ρ x0 x1 x2 x3 c h0 h1 h2 h3 t p r l).trans (congrArg (fun i => da x0 x3 (i 1) (i 2) * keep x1 x2 (i 0) (i 1) (i 2)) e).symm

end Cert.FfnKernel
end
-- ==== Proof.FfnRun.lean ====
module

public import proofs.«01_k».proof.Proof.Gen.Kernel7Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.FfnRun

open Cert.Kernel7Ideal Cert.Kernel7Ideal.Gen

variable (m : (ℓ : Loc nD τ sig) → Buf (Elt Ideal) ℓ) (ρ : Dev nD → PrngReg)

set_option backward.isDefEq.respectTransparency.types false in
/-- Every fair run ends, and every buffer then holds what the second region leaves. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.FfnRun
end
-- ==== Proof.FfnValue.lean ====
module

public import proofs.«01_k».proof.Defs
public import proofs.«01_k».proof.Proof.FfnKernel
public import proofs.«01_k».proof.Proof.FfnRun
public import proofs.«01_k».proof.Proof.Gen.Reference7Ideal.Run
public import proofs.«01_k».proof.Proof.Gen.Pre_finite_ffn

@[expose] public section

set_option maxRecDepth 16384

noncomputable section

open Idealize.ShloMosaic Idealize.ShloMosaic.TcCoe Idealize.SL.Sem
open Idealize.ShloMosaic.Pipeline (Dat)
open Cert.Reals
open Cert.FfnKernel
open Cert.FfnRef (da)

namespace Cert.FfnValue

/-- The predicate says that all four arguments hold reals. -/
theorem args_real (x0 x1 : FVec Ideal Cert.Pre_finite_ffn.S4096x1024 .f32) (x2 : FVec Ideal Cert.Pre_finite_ffn.S1024x5632 .f32)
    (x3 : FVec Ideal Cert.Pre_finite_ffn.S2816x1024 .f32) (h : Cert.Pre_finite_ffn.fn (F := Ideal) x0 x1 x2 x3 = fun _ => 1#1) :
    (∃ f : Cert.Pre_finite_ffn.S4096x1024.Idx → ℝ, x0 = fun i => (f i : EReal))
      ∧ (∃ f : Cert.Pre_finite_ffn.S4096x1024.Idx → ℝ, x1 = fun i => (f i : EReal))
      ∧ (∃ f : Cert.Pre_finite_ffn.S1024x5632.Idx → ℝ, x2 = fun i => (f i : EReal))
      ∧ ∃ f : Cert.Pre_finite_ffn.S2816x1024.Idx → ℝ, x3 = fun i => (f i : EReal) := by
  have e := congrFun h ix0
  obtain ⟨e012, e3⟩ := andi_one e
  obtain ⟨e01, e2⟩ := andi_one e012
  obtain ⟨e0, e1⟩ := andi_one e01
  haveI : Subsingleton Cert.Pre_finite_ffn.S_.Idx := ⟨fun a b => funext fun k => k.elim0⟩
  exact ⟨real_of_all x0 _ _ _ _ _ ix0 (fun _ => rfl) e0, real_of_all x1 _ _ _ _ _ ix0 (fun _ => rfl) e1,
    real_of_all x2 _ _ _ _ _ ix0 (fun _ => rfl) e2, real_of_all x3 _ _ _ _ _ ix0 (fun _ => rfl) e3⟩

section
open Cert.Reference7Ideal Cert.Reference7Ideal.Gen Cert.Reference7Ideal.Read

theorem ref (f0 f1 : S4096x1024.Idx → ℝ) (f2 : S1024x5632.Idx → ℝ) (f3 : S2816x1024.Idx → ℝ) :
    val_main_v17 (F := Ideal) (fun i => (f0 i : EReal)) (fun i => (f1 i : EReal)) (fun i => (f2 i : EReal)) (fun i => (f3 i : EReal))
      = fun i => da (fun i => (f0 i : EReal)) (fun i => (f3 i : EReal)) (i 1) (i 2) * keep (fun i => (f1 i : EReal)) (fun i => (f2 i : EReal)) (i 0) (i 1) (i 2) := by
  funext i
  obtain ⟨p, r, k, rfl⟩ : ∃ (p : Fin 2) (r : Fin 4096) (k : Fin 2816), i = ix3 p r k := ⟨i 0, i 1, i 2, by blk_ext []⟩
  obtain rfl | rfl : p = 0 ∨ p = 1 := by omega
  · exact (Cert.FfnRef.ref0 _ _ _ _ r k).trans
      (Cert.FfnRef.join (Cert.FfnRef.da_real f0 f3 r k) (Cert.FfnRef.gate_real f1 f2 r k) (Cert.FfnRef.up_real f1 f2 r k)).symm
  · exact (Cert.FfnRef.ref1 _ _ _ _ r k).trans (mul_comm _ _)

end

set_option maxHeartbeats 1600000 in
/-- Over the reals kernel and reference take the same gradients of the gate and of what it multiplies. -/
theorem value : Cert.algebraic_Kernel7Ideal_Reference7Ideal_pre_finite_ffn := by
  intro m g m' g' hpre hagree
  refine ⟨fun c => Cert.Kernel7Ideal.Gen.W4 m g c (Proc.devRef .tc Cert.Kernel7Ideal.main_v8), (θ_run _ _ _).mono (fun r h c => ?_) (Cert.FfnRun.run m g), ?_⟩
  · have f : ∀ b : Ref Cert.Kernel7Ideal.sig .tc, ¬ (Proc.devRef .tc b : DevRef Cert.Kernel7Ideal.τ Cert.Kernel7Ideal.sig).isScoped →
        r.2.mem ((c.tc : Thread Cert.Kernel7Ideal.nD Cert.Kernel7Ideal.τ).loc b) = Cert.Kernel7Ideal.Gen.W4 m g c (Proc.devRef .tc b) := fun b hb => h c _ (Cert.Kernel7Ideal.Gen.mem_uc b hb)
    exact ⟨f Cert.Kernel7Ideal.main_v8 (by decide),
      (f Cert.Kernel7Ideal.main_arg0 (by decide)).trans (Cert.Kernel7Ideal.Gen.W4_main_arg0 m g c),
      (f Cert.Kernel7Ideal.main_arg1 (by decide)).trans (Cert.Kernel7Ideal.Gen.W4_main_arg1 m g c),
      (f Cert.Kernel7Ideal.main_arg2 (by decide)).trans (Cert.Kernel7Ideal.Gen.W4_main_arg2 m g c),
      (f Cert.Kernel7Ideal.main_arg3 (by decide)).trans (Cert.Kernel7Ideal.Gen.W4_main_arg3 m g c)⟩
  refine (θ_run _ _ _).mono (fun r h c => ?_) (Cert.Reference7Ideal.Value.run m' g')
  obtain ⟨⟨f0, h0⟩, ⟨f1, h1⟩, ⟨f2, h2⟩, ⟨f3, h3⟩⟩ := args_real _ _ _ _ (hpre c)
  obtain ⟨a0, a1, a2, a3⟩ := hagree c
  refine ⟨(h c).1.trans ?_, (h c).2⟩
  rw [Cert.Reference7Ideal.Read.val_main_v17_eq, a0, a1, a2, a3, h0, h1, h2, h3]
  exact (ref f0 f1 f2 f3).trans ((Cert.Kernel7Ideal.Gen.W4_arr m g c 4).trans (final4 m g _ _ _ _ c h0 h1 h2 h3)).symm

end Cert.FfnValue
end
-- ==== Proof.NormFValue.lean ====
/- The norm with gains over the extended reals: kernel and reference read the same entries and apply the same operations. -/
module

public import proofs.«01_k».proof.Defs
public import proofs.«01_k».proof.Proof.NormMath
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormMath

namespace Cert.NormFValue

/-- A row's norm with gains, at column `i`. -/
def nrm (x g : Fin 1024 → EReal) (i : Fin 1024) : EReal := x i * Ideal.rsqrt (ms x) * g i

/-- The norm's output at row `r` and column `i`. -/
def out (x0 : Cert.Kernel13Ideal.S4096x1024.Idx → EReal) (x1 : Cert.Kernel13Ideal.S1024.Idx → EReal) (r : Fin 4096) (i : Fin 1024) : EReal :=
  nrm (fun k => x0 (ix2 r k)) (fun k => x1 (ix1 k)) i

section

open Cert.Kernel13Ideal Cert.Kernel13Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] := (by decide +kernel : ∀ t : Fin grid0.N, _)

theorem lt (t : Fin cfg0.N) : t.val < 8 := t.isLt

variable (x0 : Cert.Kernel13Ideal.S4096x1024.Idx → EReal) (x1 : Cert.Kernel13Ideal.S1024.Idx → EReal) (c : Dev nD)
  (h0 : m ((c : Thread nD τ).loc main_arg0) = x0) (h1 : m ((c : Thread nD τ).loc main_arg1) = x1)

include h0 in
theorem rd0 (t : Fin cfg0.N) (r : Fin 512) (k : Fin 1024) : iblk m c 0 t (ix2 r k) = x0 (ix2 ⟨t.val * 512 + r.val, by have := lt t; omega⟩ k) := by
  refine Eq.trans ?_ (congrFun h0 _)
  blk_simp [iblk]
  entry_read
  blk_ext [idx t]

include h1 in
theorem rd1 (t : Fin cfg0.N) (k : Fin 1024) : iblk m c 1 t (ix2 0 k) = x1 (ix1 k) := by
  refine Eq.trans ?_ (congrFun h1 _)
  blk_simp [iblk]
  entry_read
  pointwise
  blk_ext [idx t]

include h0 h1 in
theorem final2 : (dats m 0 c).arrAt 2 cfg0.N = fun i => out x0 x1 (i 0) (i 1) := by
  refine (dats m 0 c).arrAt_eq_of_covers 2 _ (by decide +kernel) fun t _ y => ?_
  obtain ⟨r, q, rfl⟩ : ∃ (r : Fin 512) (q : Fin 1024), y = ix2 r q := ⟨y 0, y 1, by blk_ext []⟩
  blk_simp
  have e : ((win0_2.blk t).view.emb (ix2 r q) : S4096x1024.Idx) = ix2 ⟨t.val * 512 + r.val, by have := lt t; omega⟩ q := by blk_ext [idx t]
  rw [after0_2]
  refine Eq.trans ?_ (congrArg (fun i => out x0 x1 (i 0) (i 1)) e).symm
  frame_out [out0_2]
  pointwise [k0_pay1]
  simp only [rd0 m x0 c h0, rd1 m x1 c h1]
  rfl

end

section

open Cert.Reference13Ideal Cert.Reference13Ideal.Gen Cert.Reference13Ideal.Read

variable (x0 : Cert.Kernel13Ideal.S4096x1024.Idx → EReal) (x1 : Cert.Kernel13Ideal.S1024.Idx → EReal)

theorem ref2 : val_main_v13 (F := Ideal) x0 x1 = fun i => out x0 x1 (i 0) (i 1) := by
  funext i
  obtain ⟨r, q, rfl⟩ : ∃ (r : Fin 4096) (q : Fin 1024), i = ix2 r q := ⟨i 0, i 1, by blk_ext []⟩
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rfl

end

set_option maxHeartbeats 1600000 in
/-- Kernel and reference compute the same over the extended reals. -/
theorem value : Cert.algebraic_Kernel13Ideal_Reference13Ideal := by
  intro m g m' g' _ hagree
  refine ⟨_, Cert.Kernel13Ideal.Value.run_blocks m g, ?_⟩
  refine (θ_run _ _ _).mono (fun r h c => ?_) (Cert.Reference13Ideal.Value.run m' g')
  obtain ⟨a0, a1⟩ := hagree c
  refine ⟨(h c).1.trans ?_, (h c).2⟩
  · refine (Cert.Reference13Ideal.Read.val_main_v13_eq _ _).trans ?_
    rw [a0, a1]
    exact (ref2 _ _).trans (final2 m _ _ c rfl rfl).symm

end Cert.NormFValue
end
-- ==== Proof.CombFValue.lean ====
/- The mixture of the three dilated attentions, weighted by the softmax of their logarithms, over the extended reals. -/
module

public import proofs.«01_k».proof.Defs
public import proofs.«01_k».proof.Proof.Reals
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Reals

namespace Cert.CombFValue

/-- The largest of three. -/
def top3 (l : Fin 3 → EReal) : EReal := max (max (l 0) (l 1)) (l 2)

theorem top3_eq (l : Fin 3 → EReal) :
    max (Ideal.ofBits .f32 0xFF800000#32) (Finset.univ.fold max (Ideal.ofBits .f32 0xFF800000#32) l) = top3 l := by
  rw [neg_inf_f32, max_bot_left]
  refine le_antisymm ((Finset.fold_max_le _).2 ⟨bot_le, fun g _ => ?_⟩)
    (max_le (max_le ((Finset.le_fold_max _).2 (Or.inr ⟨0, Finset.mem_univ _, le_rfl⟩)) ((Finset.le_fold_max _).2 (Or.inr ⟨1, Finset.mem_univ _, le_rfl⟩)))
      ((Finset.le_fold_max _).2 (Or.inr ⟨2, Finset.mem_univ _, le_rfl⟩)))
  unfold top3
  obtain rfl | rfl | rfl : g = 0 ∨ g = 1 ∨ g = 2 := by omega
  · exact (le_max_left _ _).trans (le_max_left _ _)
  · exact (le_max_right _ _).trans (le_max_left _ _)
  · exact le_max_right _ _

/-- Three values weighted by the softmax of three logarithms. -/
def soft (l o : Fin 3 → EReal) : EReal :=
  ∑ g : Fin 3, Ideal.div (Ideal.exp (l g - top3 l)) (∑ g' : Fin 3, Ideal.exp (l g' - top3 l)) * o g

/-- The mixture at row `r` and column `q`. -/
def mix (x0 : Cert.Kernel16Ideal.S3x2x4x2048x64.Idx → EReal) (x1 : Cert.Kernel16Ideal.S3x2x4x2048.Idx → EReal) (r : Fin 4096) (q : Fin 256) : EReal :=
  soft (fun g => x1 (ix4 g ⟨r.val / 2048, by omega⟩ ⟨q.val / 64, by omega⟩ ⟨r.val % 2048, by omega⟩))
    (fun g => x0 (ix5 g ⟨r.val / 2048, by omega⟩ ⟨q.val / 64, by omega⟩ ⟨r.val % 2048, by omega⟩ ⟨q.val % 64, by omega⟩))

section

open Cert.Kernel16Ideal Cert.Kernel16Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := (by decide +kernel : ∀ t : Fin grid0.N, _)

theorem lt (t : Fin cfg0.N) : t.val < 4 := t.isLt

variable (x0 : Cert.Kernel16Ideal.S3x2x4x2048x64.Idx → EReal) (x1 : Cert.Kernel16Ideal.S3x2x4x2048.Idx → EReal) (c : Dev nD)
  (h0 : m ((c : Thread nD τ).loc main_arg0) = x0) (h1 : m ((c : Thread nD τ).loc main_arg1) = x1)

include h0 in
theorem rd0 (t : Fin cfg0.N) (r : Fin 1024) (q : Fin 256) : iblk m c 0 t (ix2 r q) = x0 (ix5 0 ⟨(t.val * 1024 + r.val) / 2048, by have := lt t; omega⟩ ⟨q.val / 64, by omega⟩ ⟨(t.val * 1024 + r.val) % 2048, by omega⟩ ⟨q.val % 64, by omega⟩) := by
  refine Eq.trans ?_ (congrFun h0 _)
  blk_simp [iblk]
  entry_read
  pointwise
  blk_ext [idx t]

include h0 in
theorem rd1 (t : Fin cfg0.N) (r : Fin 1024) (q : Fin 256) : iblk m c 1 t (ix2 r q) = x0 (ix5 1 ⟨(t.val * 1024 + r.val) / 2048, by have := lt t; omega⟩ ⟨q.val / 64, by omega⟩ ⟨(t.val * 1024 + r.val) % 2048, by omega⟩ ⟨q.val % 64, by omega⟩) := by
  refine Eq.trans ?_ (congrFun h0 _)
  blk_simp [iblk]
  entry_read
  pointwise
  blk_ext [idx t]

include h0 in
theorem rd2 (t : Fin cfg0.N) (r : Fin 1024) (q : Fin 256) : iblk m c 2 t (ix2 r q) = x0 (ix5 2 ⟨(t.val * 1024 + r.val) / 2048, by have := lt t; omega⟩ ⟨q.val / 64, by omega⟩ ⟨(t.val * 1024 + r.val) % 2048, by omega⟩ ⟨q.val % 64, by omega⟩) := by
  refine Eq.trans ?_ (congrFun h0 _)
  blk_simp [iblk]
  entry_read
  pointwise
  blk_ext [idx t]

include h1 in
theorem rd3 (t : Fin cfg0.N) (r : Fin 1024) (q : Fin 256) : iblk m c 3 t (ix2 r q) = x1 (ix4 0 ⟨(t.val * 1024 + r.val) / 2048, by have := lt t; omega⟩ ⟨q.val / 64, by omega⟩ ⟨(t.val * 1024 + r.val) % 2048, by omega⟩) := by
  refine Eq.trans ?_ (congrFun h1 _)
  blk_simp [iblk]
  entry_read
  pointwise
  blk_ext [idx t]

include h1 in
theorem rd4 (t : Fin cfg0.N) (r : Fin 1024) (q : Fin 256) : iblk m c 4 t (ix2 r q) = x1 (ix4 1 ⟨(t.val * 1024 + r.val) / 2048, by have := lt t; omega⟩ ⟨q.val / 64, by omega⟩ ⟨(t.val * 1024 + r.val) % 2048, by omega⟩) := by
  refine Eq.trans ?_ (congrFun h1 _)
  blk_simp [iblk]
  entry_read
  pointwise
  blk_ext [idx t]

include h1 in
theorem rd5 (t : Fin cfg0.N) (r : Fin 1024) (q : Fin 256) : iblk m c 5 t (ix2 r q) = x1 (ix4 2 ⟨(t.val * 1024 + r.val) / 2048, by have := lt t; omega⟩ ⟨q.val / 64, by omega⟩ ⟨(t.val * 1024 + r.val) % 2048, by omega⟩) := by
  refine Eq.trans ?_ (congrFun h1 _)
  blk_simp [iblk]
  entry_read
  pointwise
  blk_ext [idx t]

theorem p1 (l0 l1 l2 o0 o1 o2 : Vec Ideal S1024x256 .f32) (r : Fin 1024) (q : Fin 256) : k0_pay1 l0 l1 l2 o0 o1 o2 (ix2 r q)
    = soft ![l0 (ix2 r q), l1 (ix2 r q), l2 (ix2 r q)] ![o0 (ix2 r q), o1 (ix2 r q), o2 (ix2 r q)] := by
  pointwise [k0_pay1]
  simp only [soft, Fin.sum_univ_three]
  rfl

attribute [local irreducible] soft

include h0 h1 in
theorem final6 : (dats m 0 c).arrAt 6 cfg0.N = fun i => mix x0 x1 (i 0) (i 1) := by
  refine (dats m 0 c).arrAt_eq_of_covers 6 _ (by decide +kernel) fun t _ y => ?_
  obtain ⟨r, q, rfl⟩ : ∃ (r : Fin 1024) (q : Fin 256), y = ix2 r q := ⟨y 0, y 1, by blk_ext []⟩
  blk_simp
  have e : ((win0_6.blk t).view.emb (ix2 r q) : S4096x256.Idx) = ix2 ⟨t.val * 1024 + r.val, by have := lt t; omega⟩ q := by blk_ext [idx t]
  rw [after0_6]
  refine Eq.trans ?_ (congrArg (fun i => mix x0 x1 (i 0) (i 1)) e).symm
  frame_out [out0_6]
  pointwise [p1]
  simp only [rd0 m x0 c h0, rd1 m x0 c h0, rd2 m x0 c h0, rd3 m x1 c h1, rd4 m x1 c h1, rd5 m x1 c h1]
  have e3 : ∀ g : Fin 3, g = 0 ∨ g = 1 ∨ g = 2 := by decide
  refine congrArg₂ soft (funext fun g => ?_) (funext fun g => ?_) <;> rcases e3 g with rfl | rfl | rfl
  all_goals rfl

end

section

open Cert.Reference16Ideal Cert.Reference16Ideal.Gen Cert.Reference16Ideal.Read

variable (x0 : Cert.Kernel16Ideal.S3x2x4x2048x64.Idx → EReal) (x1 : Cert.Kernel16Ideal.S3x2x4x2048.Idx → EReal)

theorem largest (b : Fin 2) (h : Fin 4) (s : Fin 2048) : val_main_v2 (F := Ideal) x1 (ix3 b h s) = top3 fun g => x1 (ix4 g b h s) := by
  pointwise [val_main_v2, val_main_v1, val_main_v0, val_main_cst, val_main_cst_0]
  exact top3_eq fun g => x1 (ix4 g b h s)

theorem expo (g : Fin 3) (b : Fin 2) (h : Fin 4) (s : Fin 2048) : val_main_v6 (F := Ideal) x1 (ix4 g b h s)
    = Ideal.exp (x1 (ix4 g b h s) - top3 fun g => x1 (ix4 g b h s)) := by
  pointwise [val_main_v6, val_main_v5, val_main_v4, val_main_v3]
  rw [largest]

theorem ref6 : val_main_v16 (F := Ideal) x0 x1 = fun i => mix x0 x1 (i 0) (i 1) := by
  funext i
  obtain ⟨r, q, rfl⟩ : ∃ (r : Fin 4096) (q : Fin 256), i = ix2 r q := ⟨i 0, i 1, by blk_ext []⟩
  pointwise [val_main_v16, val_main_v15, val_main_v14, val_main_v13, val_main_v12, val_main_v11, val_main_v10, val_main_v9, val_main_v8, val_main_v7, val_main_cst_1, val_main_cst_2]
  simp only [expo]
  rfl

end

set_option maxHeartbeats 1600000 in
/-- Kernel and reference compute the same over the extended reals. -/
theorem value : Cert.algebraic_Kernel16Ideal_Reference16Ideal := by
  intro m g m' g' _ hagree
  refine ⟨_, Cert.Kernel16Ideal.Value.run_blocks m g, ?_⟩
  refine (θ_run _ _ _).mono (fun r h c => ?_) (Cert.Reference16Ideal.Value.run m' g')
  obtain ⟨a0, a1⟩ := hagree c
  refine ⟨(h c).1.trans ?_, (h c).2⟩
  · refine (Cert.Reference16Ideal.Read.val_main_v16_eq _ _).trans ?_
    rw [a0, a1]
    exact (ref6 _ _).trans (final6 m _ _ c rfl rfl).symm

end Cert.CombFValue
end
-- ==== Proof.MergeFValue.lean ====
/- The two branches multiplied out, gated and added, over the extended reals. -/
module

public import proofs.«01_k».proof.Defs
public import proofs.«01_k».proof.Proof.MergeRef
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.MergeRef (sg za zb ga gb)

namespace Cert.MergeFValue

/-- The two gated branches added, at row `r` and column `j`. -/
def mg (x0 : Cert.Kernel14Ideal.S4096x256.Idx → EReal) (x1 : Cert.Kernel14Ideal.S4096x512.Idx → EReal) (x2 : Cert.Kernel14Ideal.S4096x5888.Idx → EReal) (x3 : Cert.Kernel14Ideal.S256x1024.Idx → EReal) (x4 : Cert.Kernel14Ideal.S512x1024.Idx → EReal)
    (r : Fin 4096) (j : Fin 1024) : EReal :=
  ga x2 r j * za x0 x3 r j + gb x2 r j * zb x1 x4 r j

section

open Cert.Kernel14Ideal Cert.Kernel14Ideal.Gen

variable (m : (ℓ : Loc nD τ sig) → Buf (Elt Ideal) ℓ)

theorem idx : ∀ t : Fin cfg0.N, win0_0.index t = ![t.val / 4, 0] ∧ win0_1.index t = ![t.val / 4, 0] ∧ win0_2.index t = ![t.val / 4, 15 + t.val % 4] ∧ win0_3.index t = ![t.val / 4, 19 + t.val % 4]
    ∧ win0_4.index t = ![t.val % 4, 0] ∧ win0_5.index t = ![t.val % 4, 0] ∧ win0_6.index t = ![t.val / 4, t.val % 4] ∧ win0_7.index t = ![t.val / 4, t.val % 4] ∧ win0_8.index t = ![t.val / 4, t.val % 4] := (by decide +kernel : ∀ t : Fin grid0.N, _)

theorem lt (t : Fin cfg0.N) : t.val < 8 := t.isLt

variable (x0 : Cert.Kernel14Ideal.S4096x256.Idx → EReal) (x1 : Cert.Kernel14Ideal.S4096x512.Idx → EReal) (x2 : Cert.Kernel14Ideal.S4096x5888.Idx → EReal) (x3 : Cert.Kernel14Ideal.S256x1024.Idx → EReal) (x4 : Cert.Kernel14Ideal.S512x1024.Idx → EReal) (c : Dev nD)
  (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4)

include h0 in
theorem rd0 (t : Fin cfg0.N) (r : Fin 2048) (k : Fin 256) : iblk m c 0 t (ix2 r k) = x0 (ix2 ⟨t.val / 4 * 2048 + r.val, by have := lt t; omega⟩ k) := by
  refine Eq.trans ?_ (congrFun h0 _)
  blk_simp [iblk]
  entry_read
  blk_ext [idx t]

include h1 in
theorem rd1 (t : Fin cfg0.N) (r : Fin 2048) (k : Fin 512) : iblk m c 1 t (ix2 r k) = x1 (ix2 ⟨t.val / 4 * 2048 + r.val, by have := lt t; omega⟩ k) := by
  refine Eq.trans ?_ (congrFun h1 _)
  blk_simp [iblk]
  entry_read
  blk_ext [idx t]

include h2 in
theorem rd2 (t : Fin cfg0.N) (r : Fin 2048) (l : Fin 256) : iblk m c 2 t (ix2 r l) = x2 (ix2 ⟨t.val / 4 * 2048 + r.val, by have := lt t; omega⟩ ⟨3840 + (t.val % 4 * 256 + l.val), by omega⟩) := by
  refine Eq.trans ?_ (congrFun h2 _)
  blk_simp [iblk]
  entry_read
  blk_ext [idx t]

include h2 in
theorem rd3 (t : Fin cfg0.N) (r : Fin 2048) (l : Fin 256) : iblk m c 3 t (ix2 r l) = x2 (ix2 ⟨t.val / 4 * 2048 + r.val, by have := lt t; omega⟩ ⟨3840 + (1024 + (t.val % 4 * 256 + l.val)), by omega⟩) := by
  refine Eq.trans ?_ (congrFun h2 _)
  blk_simp [iblk]
  entry_read
  blk_ext [idx t]

include h3 in
theorem rd4 (t : Fin cfg0.N) (l : Fin 256) (k : Fin 256) : iblk m c 4 t (ix2 l k) = x3 (ix2 k ⟨t.val % 4 * 256 + l.val, by omega⟩) := by
  refine Eq.trans ?_ (congrFun h3 _)
  blk_simp [iblk]
  entry_read
  pointwise
  blk_ext [idx t]

include h4 in
theorem rd5 (t : Fin cfg0.N) (l : Fin 256) (k : Fin 512) : iblk m c 5 t (ix2 l k) = x4 (ix2 k ⟨t.val % 4 * 256 + l.val, by omega⟩) := by
  refine Eq.trans ?_ (congrFun h4 _)
  blk_simp [iblk]
  entry_read
  pointwise
  blk_ext [idx t]

include h0 h1 h2 h3 h4 in
theorem final6 : (dats m 0 c).arrAt 6 cfg0.N = fun i => mg x0 x1 x2 x3 x4 (i 0) (i 1) := by
  refine (dats m 0 c).arrAt_eq_of_covers 6 _ (by decide +kernel) fun t _ y => ?_
  obtain ⟨r, l, rfl⟩ : ∃ (r : Fin 2048) (l : Fin 256), y = ix2 r l := ⟨y 0, y 1, by blk_ext []⟩
  blk_simp
  have e : ((win0_6.blk t).view.emb (ix2 r l) : S4096x1024.Idx) = ix2 ⟨t.val / 4 * 2048 + r.val, by have := lt t; omega⟩ ⟨t.val % 4 * 256 + l.val, by omega⟩ := by blk_ext [idx t]
  rw [after0_6]
  refine Eq.trans ?_ (congrArg (fun i => mg x0 x1 x2 x3 x4 (i 0) (i 1)) e).symm
  frame_out [out0_6]
  pointwise [k0_pay3, k0_pay1, k0_pay2]
  simp only [rd0 m x0 c h0, rd1 m x1 c h1, rd2 m x2 c h2, rd3 m x2 c h2, rd4 m x3 c h3, rd5 m x4 c h4]
  rfl

include h0 h3 in
theorem final7 : (dats m 0 c).arrAt 7 cfg0.N = fun i => za x0 x3 (i 0) (i 1) := by
  refine (dats m 0 c).arrAt_eq_of_covers 7 _ (by decide +kernel) fun t _ y => ?_
  obtain ⟨r, l, rfl⟩ : ∃ (r : Fin 2048) (l : Fin 256), y = ix2 r l := ⟨y 0, y 1, by blk_ext []⟩
  blk_simp
  have e : ((win0_7.blk t).view.emb (ix2 r l) : S4096x1024.Idx) = ix2 ⟨t.val / 4 * 2048 + r.val, by have := lt t; omega⟩ ⟨t.val % 4 * 256 + l.val, by omega⟩ := by blk_ext [idx t]
  rw [after0_7]
  refine Eq.trans ?_ (congrArg (fun i => za x0 x3 (i 0) (i 1)) e).symm
  frame_out [out0_7]
  pointwise [k0_pay4, k0_pay1]
  simp only [rd0 m x0 c h0, rd4 m x3 c h3]
  rfl

include h1 h4 in
theorem final8 : (dats m 0 c).arrAt 8 cfg0.N = fun i => zb x1 x4 (i 0) (i 1) := by
  refine (dats m 0 c).arrAt_eq_of_covers 8 _ (by decide +kernel) fun t _ y => ?_
  obtain ⟨r, l, rfl⟩ : ∃ (r : Fin 2048) (l : Fin 256), y = ix2 r l := ⟨y 0, y 1, by blk_ext []⟩
  blk_simp
  have e : ((win0_8.blk t).view.emb (ix2 r l) : S4096x1024.Idx) = ix2 ⟨t.val / 4 * 2048 + r.val, by have := lt t; omega⟩ ⟨t.val % 4 * 256 + l.val, by omega⟩ := by blk_ext [idx t]
  rw [after0_8]
  refine Eq.trans ?_ (congrArg (fun i => zb x1 x4 (i 0) (i 1)) e).symm
  frame_out [out0_8]
  pointwise [k0_pay5, k0_pay2]
  simp only [rd1 m x1 c h1, rd5 m x4 c h4]
  rfl

end

section

open Cert.Reference14Ideal Cert.Reference14Ideal.Gen Cert.Reference14Ideal.Read

variable (x0 : Cert.Kernel14Ideal.S4096x256.Idx → EReal) (x1 : Cert.Kernel14Ideal.S4096x512.Idx → EReal) (x2 : Cert.Kernel14Ideal.S4096x5888.Idx → EReal) (x3 : Cert.Kernel14Ideal.S256x1024.Idx → EReal) (x4 : Cert.Kernel14Ideal.S512x1024.Idx → EReal)

theorem gate (r : Fin 4096) (l : Fin 2048) : val_main_v6 (F := Ideal) x2 (ix2 r l) = sg (x2 (ix2 r ⟨3840 + l.val, by omega⟩)) := by
  pointwise [val_main_v6, val_main_v5, val_main_v4, val_main_v3, val_main_v2, val_main_v1, val_main_v0, val_main_cst, val_main_cst_0]
  rfl

theorem ref6 : val_main_v14 (F := Ideal) x0 x1 x2 x3 x4 = fun i => mg x0 x1 x2 x3 x4 (i 0) (i 1) := by
  funext i
  obtain ⟨r, l, rfl⟩ : ∃ (r : Fin 4096) (l : Fin 1024), i = ix2 r l := ⟨i 0, i 1, by blk_ext []⟩
  pointwise [val_main_v14, val_main_v13, val_main_v12, val_main_v11, val_main_v10, val_main_v9, val_main_v8, val_main_v7, gate]
  rfl

theorem ref7 : val_main_v15 (F := Ideal) x0 x3 = fun i => za x0 x3 (i 0) (i 1) := by
  funext i
  obtain ⟨r, l, rfl⟩ : ∃ (r : Fin 4096) (l : Fin 1024), i = ix2 r l := ⟨i 0, i 1, by blk_ext []⟩
  pointwise [val_main_v15, val_main_v9]
  rfl

theorem ref8 : val_main_v16 (F := Ideal) x1 x4 = fun i => zb x1 x4 (i 0) (i 1) := by
  funext i
  obtain ⟨r, l, rfl⟩ : ∃ (r : Fin 4096) (l : Fin 1024), i = ix2 r l := ⟨i 0, i 1, by blk_ext []⟩
  pointwise [val_main_v16, val_main_v10]
  rfl

end

set_option maxHeartbeats 1600000 in
/-- Kernel and reference compute the same over the extended reals. -/
theorem value : Cert.algebraic_Kernel14Ideal_Reference14Ideal := by
  intro m g m' g' _ hagree
  refine ⟨_, _, _, Cert.Kernel14Ideal.Value.run_blocks m g, ?_⟩
  refine (θ_run _ _ _).mono (fun r h c => ?_) (Cert.Reference14Ideal.Value.run m' g')
  obtain ⟨a0, a1, a2, a3, a4⟩ := hagree c
  refine ⟨(h c).1.trans ?_, (h c).2.1.trans ?_, (h c).2.2.1.trans ?_, (h c).2.2.2⟩
  · refine (Cert.Reference14Ideal.Read.val_main_v14_eq _ _ _ _ _).trans ?_
    rw [a0, a1, a2, a3, a4]
    exact (ref6 _ _ _ _ _).trans (final6 m _ _ _ _ _ c rfl rfl rfl rfl rfl).symm
  · refine (Cert.Reference14Ideal.Read.val_main_v15_eq _ _).trans ?_
    rw [a0, a3]
    exact (ref7 _ _).trans (final7 m _ _ c rfl rfl).symm
  · refine (Cert.Reference14Ideal.Read.val_main_v16_eq _ _).trans ?_
    rw [a1, a4]
    exact (ref8 _ _).trans (final8 m _ _ c rfl rfl).symm

end Cert.MergeFValue
end
-- ==== Proof.FfnFValue.lean ====
/- The gated activation and what the forward call keeps for the way back, over the reals. -/
module

public import proofs.«01_k».proof.Defs
public import proofs.«01_k».proof.Proof.FfnKernel
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite_ffnf

@[expose] public section

set_option maxRecDepth 16384

noncomputable section

open Idealize.ShloMosaic Idealize.ShloMosaic.TcCoe Idealize.SL.Sem
open Idealize.ShloMosaic.Pipeline (Dat)
open Cert.Reals
open Cert.FfnRef (gate up)
open Cert.FfnKernel (row col keep)

namespace Cert.FfnFValue

/-- The predicate says that both arguments hold reals. -/
theorem args_real (x0 : FVec Ideal Cert.Pre_finite_ffnf.S4096x1024 .f32) (x1 : FVec Ideal Cert.Pre_finite_ffnf.S1024x5632 .f32)
    (h : Cert.Pre_finite_ffnf.fn (F := Ideal) x0 x1 = fun _ => 1#1) :
    (∃ f : Cert.Pre_finite_ffnf.S4096x1024.Idx → ℝ, x0 = fun i => (f i : EReal))
      ∧ ∃ f : Cert.Pre_finite_ffnf.S1024x5632.Idx → ℝ, x1 = fun i => (f i : EReal) := by
  obtain ⟨e0, e1⟩ := andi_one (congrFun h ix0)
  haveI : Subsingleton Cert.Pre_finite_ffnf.S_.Idx := ⟨fun a b => funext fun k => k.elim0⟩
  exact ⟨real_of_all x0 _ _ _ _ _ ix0 (fun _ => rfl) e0, real_of_all x1 _ _ _ _ _ ix0 (fun _ => rfl) e1⟩

/-- The activation at row `r` and column `k`. -/
def act (x0 : Cert.Kernel15Ideal.S4096x1024.Idx → EReal) (x1 : Cert.Kernel15Ideal.S1024x5632.Idx → EReal) (r : Fin 4096) (k : Fin 2816) : EReal :=
  gate x0 x1 r k * Ideal.logistic (gate x0 x1 r k) * up x0 x1 r k

section

open Cert.Kernel15Ideal Cert.Kernel15Ideal.Gen

variable (m : (ℓ : Loc nD τ sig) → Buf (Elt Ideal) ℓ)

theorem idx : ∀ t : Fin cfg0.N, win0_0.index t = ![t.val % 4, 0] ∧ win0_1.index t = ![0, t.val / 4, 0] ∧ win0_2.index t = ![0, t.val % 4, t.val / 4]
    ∧ win0_3.index t = ![t.val % 4, t.val / 4] := (by decide +kernel : ∀ t : Fin grid0.N, _)

theorem lt (t : Fin cfg0.N) : t.val < 8 := t.isLt

variable (x0 : S4096x1024.Idx → EReal) (x1 : S1024x5632.Idx → EReal) (c : Dev nD)
  (h0 : m ((c : Thread nD τ).loc main_arg0) = x0) (h1 : m ((c : Thread nD τ).loc main_arg1) = x1)

include h0 in
theorem rd0 (t : Fin cfg0.N) (r : Fin 1024) (k : Fin 1024) : iblk m c 0 t (ix2 r k) = x0 (ix2 (row t.val r) k) := by
  refine Eq.trans ?_ (congrFun h0 _)
  blk_simp [iblk]
  entry_read
  pointwise
  blk_ext [idx t, row]

include h1 in
theorem rd1 (t : Fin cfg0.N) (p : Fin 2) (l : Fin 1408) (k : Fin 1024) : iblk m c 1 t (ix3 p l k)
    = x1 (ix2 k ⟨p.val * 2816 + (col t.val (lt t) l).val, by omega⟩) := by
  refine Eq.trans ?_ (congrFun h1 _)
  blk_simp [iblk]
  entry_read
  have e : ((win0_1.blk t).view.emb (ix3 p l k) : S2x2816x1024.Idx) = ix3 p (col t.val (lt t) l) k := by blk_ext [idx t, col]
  rw [e]
  pointwise
  blk_ext [col]

include h1 in
theorem rd1a (t : Fin cfg0.N) (l : Fin 1408) (k : Fin 1024) : iblk m c 1 t (ix3 0 l k)
    = x1 (ix2 k ⟨(col t.val (lt t) l).val, by have := (col t.val (lt t) l).isLt; omega⟩) :=
  (rd1 m x1 c h1 t 0 l k).trans (congrArg (fun n => x1 (ix2 k n)) (Fin.ext (by simp)))

include h1 in
theorem rd1b (t : Fin cfg0.N) (l : Fin 1408) (k : Fin 1024) : iblk m c 1 t (ix3 1 l k) = x1 (ix2 k ⟨2816 + (col t.val (lt t) l).val, by omega⟩) :=
  (rd1 m x1 c h1 t 1 l k).trans (congrArg (fun n => x1 (ix2 k n)) (Fin.ext (by simp)))

/-- The product with the gate's weights. -/
theorem p2 (a : Vec Ideal S1024x1024 .bf16) (b : Vec Ideal S1x1408x1024 .bf16) (r : Fin 1024) (l : Fin 1408) :
    k0_pay2 a b (ix2 r l) = ∑ k : Fin 1024, a (ix2 r k) * b (ix3 0 l k) := by
  pointwise [k0_pay2, k0_pay1]

/-- The product with the other factor's weights. -/
theorem p3 (a : Vec Ideal S1024x1024 .bf16) (b : Vec Ideal S1x1408x1024 .bf16) (r : Fin 1024) (l : Fin 1408) :
    k0_pay3 a b (ix2 r l) = ∑ k : Fin 1024, a (ix2 r k) * b (ix3 0 l k) := by
  pointwise [k0_pay3, k0_pay1]

include h0 h1 in
theorem out2 (t : Fin cfg0.N) (p : Fin 2) (r : Fin 1024) (l : Fin 1408) :
    out0_2 (iblk m c 0 t) (iblk m c 1 t) (ix3 p r l) = keep x0 x1 p (row t.val r) (col t.val (lt t) l) := by
  frame_out [out0_2]
  canon_tiles x k
  · obtain ⟨u, v, w, rfl⟩ : ∃ (u : Fin 1) (v : Fin 1024) (w : Fin 1408), x = ix3 u v w := ⟨x 0, x 1, x 2, by blk_ext []⟩
    obtain rfl : u = 0 := by omega
    obtain rfl : p = 1 := Fin.ext k0
    obtain rfl : r = v := Fin.ext k1
    obtain rfl : l = w := Fin.ext k2
    clear k0 k1 k2
    pointwise [k0_pay7, k0_pay5, k0_pay4, p2]
    simp only [rd0 m x0 c h0, rd1a m x1 c h1, rd1b m x1 c h1]
    rfl
  · obtain ⟨u, v, w, rfl⟩ : ∃ (u : Fin 1) (v : Fin 1024) (w : Fin 1408), x = ix3 u v w := ⟨x 0, x 1, x 2, by blk_ext []⟩
    obtain rfl : u = 0 := by omega
    obtain rfl : p = 0 := Fin.ext k0
    obtain rfl : r = v := Fin.ext k1
    obtain rfl : l = w := Fin.ext k2
    clear k0 k1 k2
    pointwise [k0_pay6, k0_pay5, k0_pay4, p3, p2]
    simp only [rd0 m x0 c h0, rd1a m x1 c h1, rd1b m x1 c h1]
    rfl

include h0 h1 in
theorem final2 : (dats m 0 c).arrAt 2 cfg0.N = fun i => keep x0 x1 (i 0) (i 1) (i 2) := by
  refine (dats m 0 c).arrAt_eq_of_covers 2 _ (by decide +kernel) fun t _ y => ?_
  obtain ⟨p, r, l, rfl⟩ : ∃ (p : Fin 2) (r : Fin 1024) (l : Fin 1408), y = ix3 p r l := ⟨y 0, y 1, y 2, by blk_ext []⟩
  blk_simp
  have e : ((win0_2.blk t).view.emb (ix3 p r l) : S2x4096x2816.Idx) = ix3 p (row t.val r) (col t.val (lt t) l) := by blk_ext [idx t, row, col]
  rw [after0_2]
  exact (out2 m x0 x1 c h0 h1 t p r l).trans (congrArg (fun i => keep x0 x1 (i 0) (i 1) (i 2)) e).symm

include h0 h1 in
theorem final3 : (dats m 0 c).arrAt 3 cfg0.N = fun i => act x0 x1 (i 0) (i 1) := by
  refine (dats m 0 c).arrAt_eq_of_covers 3 _ (by decide +kernel) fun t _ y => ?_
  obtain ⟨r, l, rfl⟩ : ∃ (r : Fin 1024) (l : Fin 1408), y = ix2 r l := ⟨y 0, y 1, by blk_ext []⟩
  blk_simp
  have e : ((win0_3.blk t).view.emb (ix2 r l) : S4096x2816.Idx) = ix2 (row t.val r) (col t.val (lt t) l) := by blk_ext [idx t, row, col]
  rw [after0_3]
  refine Eq.trans ?_ (congrArg (fun i => act x0 x1 (i 0) (i 1)) e).symm
  frame_out [out0_3]
  pointwise [k0_pay8, k0_pay5, k0_pay4, p3, p2]
  simp only [rd0 m x0 c h0, rd1a m x1 c h1, rd1b m x1 c h1]
  rfl

end

section

open Cert.Reference15Ideal Cert.Reference15Ideal.Gen Cert.Reference15Ideal.Read

theorem gate_eq (x0 : S4096x1024.Idx → EReal) (x1 : S1024x5632.Idx → EReal) (r : Fin 4096) (k : Fin 2816) :
    val_main_v1 (F := Ideal) x0 x1 (ix2 r k) = gate x0 x1 r k := by
  pointwise [val_main_v1, val_main_v0]
  rfl

theorem up_eq (x0 : S4096x1024.Idx → EReal) (x1 : S1024x5632.Idx → EReal) (r : Fin 4096) (k : Fin 2816) :
    val_main_v2 (F := Ideal) x0 x1 (ix2 r k) = up x0 x1 r k := by
  pointwise [val_main_v2, val_main_v0]
  rfl

theorem sig_eq (x0 : S4096x1024.Idx → EReal) (x1 : S1024x5632.Idx → EReal) (r : Fin 4096) (k : Fin 2816) :
    val_main_v3_2 (F := Ideal) x0 x1 (ix2 r k) = Ideal.logistic (gate x0 x1 r k) := by
  pointwise [val_main_v3_2, val_main_call0_v4, val_main_call0_cst_0, val_main_call0_v3, val_main_call0_v2, val_main_call0_cst, val_main_call0_v1, val_main_call0_v0, gate_eq]
  rfl

theorem ref3 (x0 : S4096x1024.Idx → EReal) (x1 : S1024x5632.Idx → EReal) : val_main_v13 (F := Ideal) x0 x1 = fun i => act x0 x1 (i 0) (i 1) := by
  funext i
  obtain ⟨r, k, rfl⟩ : ∃ (r : Fin 4096) (k : Fin 2816), i = ix2 r k := ⟨i 0, i 1, by blk_ext []⟩
  pointwise [val_main_v13, val_main_v4, val_main_v3_0]
  simp only [gate_eq, up_eq, sig_eq]
  rfl

theorem low (x0 : S4096x1024.Idx → EReal) (x1 : S1024x5632.Idx → EReal) (r : Fin 4096) (k : Fin 2816) :
    val_main_v12 (F := Ideal) x0 x1 (ix3 0 r k) = 1 * up x0 x1 r k * Ideal.logistic (gate x0 x1 r k)
      + gate x0 x1 r k * (1 * up x0 x1 r k) * (Ideal.logistic (gate x0 x1 r k) * (1 - Ideal.logistic (gate x0 x1 r k))) := by
  pointwise [val_main_v12, val_main_v11, val_main_v10, val_main_v9, val_main_v8, val_main_call1_v2, val_main_call1_v1, val_main_call1_v0, val_main_v7, val_main_v6, val_main_v5, val_main_cst, val_main_v3_1,
    val_main_v3_0, val_main_call0_v7, val_main_call0_v6, val_main_call0_cst_1]
  simp only [gate_eq, up_eq, sig_eq, one_mul]

theorem high (x0 : S4096x1024.Idx → EReal) (x1 : S1024x5632.Idx → EReal) (r : Fin 4096) (k : Fin 2816) :
    val_main_v12 (F := Ideal) x0 x1 (ix3 1 r k) = gate x0 x1 r k * Ideal.logistic (gate x0 x1 r k) := by
  pointwise [val_main_v12, val_main_v11, val_main_v10, val_main_v9, val_main_v6, val_main_v5, val_main_cst, val_main_v3_0]
  simp only [gate_eq, sig_eq, mul_one]

theorem ref2 (f0 : S4096x1024.Idx → ℝ) (f1 : S1024x5632.Idx → ℝ) : val_main_v12 (F := Ideal) (fun i => (f0 i : EReal)) (fun i => (f1 i : EReal))
    = fun i => keep (fun i => (f0 i : EReal)) (fun i => (f1 i : EReal)) (i 0) (i 1) (i 2) := by
  funext i
  obtain ⟨p, r, k, rfl⟩ : ∃ (p : Fin 2) (r : Fin 4096) (k : Fin 2816), i = ix3 p r k := ⟨i 0, i 1, i 2, by blk_ext []⟩
  obtain rfl | rfl : p = 0 ∨ p = 1 := by omega
  · exact (low _ _ r k).trans ((Cert.FfnRef.join ⟨1, rfl⟩ (Cert.FfnRef.gate_real f0 f1 r k) (Cert.FfnRef.up_real f0 f1 r k)).symm.trans (one_mul _))
  · exact high _ _ r k

end

set_option maxHeartbeats 1600000 in
/-- Over the reals kernel and reference compute the same activation and keep the same for the way back. -/
theorem value : Cert.algebraic_Kernel15Ideal_Reference15Ideal_pre_finite_ffnf := by
  intro m g m' g' hpre hagree
  refine ⟨_, _, Cert.Kernel15Ideal.Value.run_blocks m g, ?_⟩
  refine (θ_run _ _ _).mono (fun r h c => ?_) (Cert.Reference15Ideal.Value.run m' g')
  obtain ⟨⟨f0, h0⟩, ⟨f1, h1⟩⟩ := args_real _ _ (hpre c)
  obtain ⟨a0, a1⟩ := hagree c
  refine ⟨(h c).1.trans ?_, (h c).2.1.trans ?_, (h c).2.2⟩
  · refine (Cert.Reference15Ideal.Read.val_main_v12_eq _ _).trans ?_
    rw [a0, a1, h0, h1]
    exact (ref2 f0 f1).trans (final2 m _ _ c h0 h1).symm
  · refine (Cert.Reference15Ideal.Read.val_main_v13_eq _ _).trans ?_
    rw [a0, a1]
    exact (ref3 _ _).trans (final3 m _ _ c rfl rfl).symm

end Cert.FfnFValue
end
-- ==== Proof.DownValue.lean ====
/- A product added to the residual stream, and the norm of the sum, over the extended reals. -/
module

public import proofs.«01_k».proof.Defs
public import proofs.«01_k».proof.Proof.NormFValue
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormFValue (nrm)

namespace Cert.DownValue

/-- The constant one half. -/
def half : EReal := FloatOps.ofBits (F := Ideal) .f32 0x3F000000#32

/-- The residual stream after the product is added, at row `r` and column `i`. -/
def res (x0 : Cert.Kernel17Ideal.S4096x2816.Idx → EReal) (x1 : Cert.Kernel17Ideal.S2816x1024.Idx → EReal) (x2 : Cert.Kernel17Ideal.S4096x1024.Idx → EReal) (r : Fin 4096) (i : Fin 1024) : EReal :=
  x2 (ix2 r i) + (∑ k : Fin 2816, x0 (ix2 r k) * x1 (ix2 k i)) * half

/-- The norm of the new residual stream. -/
def out (x0 : Cert.Kernel17Ideal.S4096x2816.Idx → EReal) (x1 : Cert.Kernel17Ideal.S2816x1024.Idx → EReal) (x2 : Cert.Kernel17Ideal.S4096x1024.Idx → EReal) (x3 : Cert.Kernel17Ideal.S1024.Idx → EReal) (r : Fin 4096) (i : Fin 1024) : EReal :=
  nrm (res x0 x1 x2 r) (fun k => x3 (ix1 k)) i

section

open Cert.Kernel17Ideal Cert.Kernel17Ideal.Gen

variable (m : (ℓ : Loc nD τ sig) → Buf (Elt Ideal) ℓ)

theorem idx : ∀ t : Fin cfg0.N, win0_0.index t = ![0, t.val, 0] ∧ win0_1.index t = ![0, 0, 0] ∧ win0_2.index t = ![t.val, 0] ∧ win0_3.index t = ![0, 0] ∧ win0_4.index t = ![t.val, 0] ∧ win0_5.index t = ![t.val, 0] := (by decide +kernel : ∀ t : Fin grid0.N, _)

theorem lt (t : Fin cfg0.N) : t.val < 8 := t.isLt

variable (x0 : Cert.Kernel17Ideal.S4096x2816.Idx → EReal) (x1 : Cert.Kernel17Ideal.S2816x1024.Idx → EReal) (x2 : Cert.Kernel17Ideal.S4096x1024.Idx → EReal) (x3 : Cert.Kernel17Ideal.S1024.Idx → EReal) (c : Dev nD)
  (h0 : m ((c : Thread nD τ).loc main_arg0) = x0) (h1 : m ((c : Thread nD τ).loc main_arg1) = x1) (h2 : m ((c : Thread nD τ).loc main_arg2) = x2) (h3 : m ((c : Thread nD τ).loc main_arg3) = x3)

include h0 in
theorem rd0 (t : Fin cfg0.N) (r : Fin 512) (k : Fin 2816) : iblk m c 0 t (ix3 0 r k) = x0 (ix2 ⟨t.val * 512 + r.val, by have := lt t; omega⟩ k) := by
  refine Eq.trans ?_ (congrFun h0 _)
  blk_simp [iblk]
  entry_read
  pointwise
  blk_ext [idx t]

include h1 in
theorem rd1 (t : Fin cfg0.N) (k : Fin 2816) (i : Fin 1024) : iblk m c 1 t (ix3 0 k i) = x1 (ix2 k i) := by
  refine Eq.trans ?_ (congrFun h1 _)
  blk_simp [iblk]
  entry_read
  pointwise
  blk_ext [idx t]

include h2 in
theorem rd2 (t : Fin cfg0.N) (r : Fin 512) (i : Fin 1024) : iblk m c 2 t (ix2 r i) = x2 (ix2 ⟨t.val * 512 + r.val, by have := lt t; omega⟩ i) := by
  refine Eq.trans ?_ (congrFun h2 _)
  blk_simp [iblk]
  entry_read
  blk_ext [idx t]

include h3 in
theorem rd3 (t : Fin cfg0.N) (i : Fin 1024) : iblk m c 3 t (ix2 0 i) = x3 (ix1 i) := by
  refine Eq.trans ?_ (congrFun h3 _)
  blk_simp [iblk]
  entry_read
  pointwise
  blk_ext [idx t]

include h0 h1 h2 in
theorem final4 : (dats m 0 c).arrAt 4 cfg0.N = fun i => res x0 x1 x2 (i 0) (i 1) := by
  refine (dats m 0 c).arrAt_eq_of_covers 4 _ (by decide +kernel) fun t _ y => ?_
  obtain ⟨r, q, rfl⟩ : ∃ (r : Fin 512) (q : Fin 1024), y = ix2 r q := ⟨y 0, y 1, by blk_ext []⟩
  blk_simp
  have e : ((win0_4.blk t).view.emb (ix2 r q) : S4096x1024.Idx) = ix2 ⟨t.val * 512 + r.val, by have := lt t; omega⟩ q := by blk_ext [idx t]
  rw [after0_4]
  refine Eq.trans ?_ (congrArg (fun i => res x0 x1 x2 (i 0) (i 1)) e).symm
  frame_out [out0_4]
  pointwise [k0_pay1]
  simp only [rd0 m x0 c h0, rd1 m x1 c h1, rd2 m x2 c h2]
  rfl

include h0 h1 h2 h3 in
theorem final5 : (dats m 0 c).arrAt 5 cfg0.N = fun i => out x0 x1 x2 x3 (i 0) (i 1) := by
  refine (dats m 0 c).arrAt_eq_of_covers 5 _ (by decide +kernel) fun t _ y => ?_
  obtain ⟨r, q, rfl⟩ : ∃ (r : Fin 512) (q : Fin 1024), y = ix2 r q := ⟨y 0, y 1, by blk_ext []⟩
  blk_simp
  have e : ((win0_5.blk t).view.emb (ix2 r q) : S4096x1024.Idx) = ix2 ⟨t.val * 512 + r.val, by have := lt t; omega⟩ q := by blk_ext [idx t]
  rw [after0_5]
  refine Eq.trans ?_ (congrArg (fun i => out x0 x1 x2 x3 (i 0) (i 1)) e).symm
  frame_out [out0_5]
  pointwise [k0_pay2, k0_pay1]
  simp only [rd0 m x0 c h0, rd1 m x1 c h1, rd2 m x2 c h2, rd3 m x3 c h3]
  rfl

end

section

open Cert.Reference17Ideal Cert.Reference17Ideal.Gen Cert.Reference17Ideal.Read

variable (x0 : Cert.Kernel17Ideal.S4096x2816.Idx → EReal) (x1 : Cert.Kernel17Ideal.S2816x1024.Idx → EReal) (x2 : Cert.Kernel17Ideal.S4096x1024.Idx → EReal) (x3 : Cert.Kernel17Ideal.S1024.Idx → EReal)

theorem ref4 : val_main_v3 (F := Ideal) x0 x1 x2 = fun i => res x0 x1 x2 (i 0) (i 1) := by
  funext i
  obtain ⟨r, q, rfl⟩ : ∃ (r : Fin 4096) (q : Fin 1024), i = ix2 r q := ⟨i 0, i 1, by blk_ext []⟩
  pointwise [val_main_v3, val_main_v2, val_main_v1, val_main_cst, val_main_v0]
  exact congrArg (x2 (ix2 r q) + ·) (mul_comm _ _)

theorem resAt (r : Fin 4096) (i : Fin 1024) : val_main_v3 (F := Ideal) x0 x1 x2 (ix2 r i) = res x0 x1 x2 r i := congrFun (ref4 x0 x1 x2) _

theorem ref5 : val_main_v17 (F := Ideal) x0 x1 x2 x3 = fun i => out x0 x1 x2 x3 (i 0) (i 1) := by
  funext i
  obtain ⟨r, q, rfl⟩ : ∃ (r : Fin 4096) (q : Fin 1024), i = ix2 r q := ⟨i 0, i 1, by blk_ext []⟩
  pointwise [val_main_v17, val_main_v16, val_main_v15, val_main_v14, val_main_v13, val_main_v12, val_main_v11, val_main_v10, val_main_v9, val_main_cst_2, val_main_v8, val_main_v7, val_main_cst_1, val_main_v6, val_main_v5, val_main_cst_0, val_main_v4, resAt]
  rfl

end

set_option maxHeartbeats 1600000 in
/-- Kernel and reference compute the same over the extended reals. -/
theorem value : Cert.algebraic_Kernel17Ideal_Reference17Ideal := by
  intro m g m' g' _ hagree
  refine ⟨_, _, Cert.Kernel17Ideal.Value.run_blocks m g, ?_⟩
  refine (θ_run _ _ _).mono (fun r h c => ?_) (Cert.Reference17Ideal.Value.run m' g')
  obtain ⟨a0, a1, a2, a3⟩ := hagree c
  refine ⟨(h c).1.trans ?_, (h c).2.1.trans ?_, (h c).2.2⟩
  · refine (Cert.Reference17Ideal.Read.val_main_v3_eq _ _ _).trans ?_
    rw [a0, a1, a2]
    exact (ref4 _ _ _).trans (final4 m _ _ _ c rfl rfl rfl).symm
  · refine (Cert.Reference17Ideal.Read.val_main_v17_eq _ _ _ _).trans ?_
    rw [a0, a1, a2, a3]
    exact (ref5 _ _ _ _).trans (final5 m _ _ _ _ c rfl rfl rfl rfl).symm

end Cert.DownValue
end
-- ==== Proof.OutPValue.lean ====
/- A product added to the residual stream, and the norm of the sum, over the extended reals. -/
module

public import proofs.«01_k».proof.Defs
public import proofs.«01_k».proof.Proof.NormFValue
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.NormFValue (nrm)

namespace Cert.OutPValue

/-- The residual stream after the product is added, at row `r` and column `i`. -/
def res (x0 : Cert.Kernel21Ideal.S4096x1024.Idx → EReal) (x1 : Cert.Kernel21Ideal.S1024x1024.Idx → EReal) (x2 : Cert.Kernel21Ideal.S4096x1024.Idx → EReal) (r : Fin 4096) (i : Fin 1024) : EReal :=
  x2 (ix2 r i) + (∑ k : Fin 1024, x0 (ix2 r k) * x1 (ix2 k i))

/-- The norm of the new residual stream. -/
def out (x0 : Cert.Kernel21Ideal.S4096x1024.Idx → EReal) (x1 : Cert.Kernel21Ideal.S1024x1024.Idx → EReal) (x2 : Cert.Kernel21Ideal.S4096x1024.Idx → EReal) (x3 : Cert.Kernel21Ideal.S1024.Idx → EReal) (r : Fin 4096) (i : Fin 1024) : EReal :=
  nrm (res x0 x1 x2 r) (fun k => x3 (ix1 k)) i

section

open Cert.Kernel21Ideal Cert.Kernel21Ideal.Gen

variable (m : (ℓ : Loc nD τ sig) → Buf (Elt Ideal) ℓ)

theorem idx : ∀ t : Fin cfg0.N, win0_0.index t = ![0, t.val, 0] ∧ win0_1.index t = ![0, 0, 0] ∧ win0_2.index t = ![t.val, 0] ∧ win0_3.index t = ![0, 0] ∧ win0_4.index t = ![t.val, 0] ∧ win0_5.index t = ![t.val, 0] := (by decide +kernel : ∀ t : Fin grid0.N, _)

theorem lt (t : Fin cfg0.N) : t.val < 4 := t.isLt

variable (x0 : Cert.Kernel21Ideal.S4096x1024.Idx → EReal) (x1 : Cert.Kernel21Ideal.S1024x1024.Idx → EReal) (x2 : Cert.Kernel21Ideal.S4096x1024.Idx → EReal) (x3 : Cert.Kernel21Ideal.S1024.Idx → EReal) (c : Dev nD)
  (h0 : m ((c : Thread nD τ).loc main_arg0) = x0) (h1 : m ((c : Thread nD τ).loc main_arg1) = x1) (h2 : m ((c : Thread nD τ).loc main_arg2) = x2) (h3 : m ((c : Thread nD τ).loc main_arg3) = x3)

include h0 in
theorem rd0 (t : Fin cfg0.N) (r : Fin 1024) (k : Fin 1024) : iblk m c 0 t (ix3 0 r k) = x0 (ix2 ⟨t.val * 1024 + r.val, by have := lt t; omega⟩ k) := by
  refine Eq.trans ?_ (congrFun h0 _)
  blk_simp [iblk]
  entry_read
  pointwise
  blk_ext [idx t]

include h1 in
theorem rd1 (t : Fin cfg0.N) (k : Fin 1024) (i : Fin 1024) : iblk m c 1 t (ix3 0 k i) = x1 (ix2 k i) := by
  refine Eq.trans ?_ (congrFun h1 _)
  blk_simp [iblk]
  entry_read
  pointwise
  blk_ext [idx t]

include h2 in
theorem rd2 (t : Fin cfg0.N) (r : Fin 1024) (i : Fin 1024) : iblk m c 2 t (ix2 r i) = x2 (ix2 ⟨t.val * 1024 + r.val, by have := lt t; omega⟩ i) := by
  refine Eq.trans ?_ (congrFun h2 _)
  blk_simp [iblk]
  entry_read
  blk_ext [idx t]

include h3 in
theorem rd3 (t : Fin cfg0.N) (i : Fin 1024) : iblk m c 3 t (ix2 0 i) = x3 (ix1 i) := by
  refine Eq.trans ?_ (congrFun h3 _)
  blk_simp [iblk]
  entry_read
  pointwise
  blk_ext [idx t]

include h0 h1 h2 in
theorem final4 : (dats m 0 c).arrAt 4 cfg0.N = fun i => res x0 x1 x2 (i 0) (i 1) := by
  refine (dats m 0 c).arrAt_eq_of_covers 4 _ (by decide +kernel) fun t _ y => ?_
  obtain ⟨r, q, rfl⟩ : ∃ (r : Fin 1024) (q : Fin 1024), y = ix2 r q := ⟨y 0, y 1, by blk_ext []⟩
  blk_simp
  have e : ((win0_4.blk t).view.emb (ix2 r q) : S4096x1024.Idx) = ix2 ⟨t.val * 1024 + r.val, by have := lt t; omega⟩ q := by blk_ext [idx t]
  rw [after0_4]
  refine Eq.trans ?_ (congrArg (fun i => res x0 x1 x2 (i 0) (i 1)) e).symm
  frame_out [out0_4]
  pointwise [k0_pay1]
  simp only [rd0 m x0 c h0, rd1 m x1 c h1, rd2 m x2 c h2]
  rfl

include h0 h1 h2 h3 in
theorem final5 : (dats m 0 c).arrAt 5 cfg0.N = fun i => out x0 x1 x2 x3 (i 0) (i 1) := by
  refine (dats m 0 c).arrAt_eq_of_covers 5 _ (by decide +kernel) fun t _ y => ?_
  obtain ⟨r, q, rfl⟩ : ∃ (r : Fin 1024) (q : Fin 1024), y = ix2 r q := ⟨y 0, y 1, by blk_ext []⟩
  blk_simp
  have e : ((win0_5.blk t).view.emb (ix2 r q) : S4096x1024.Idx) = ix2 ⟨t.val * 1024 + r.val, by have := lt t; omega⟩ q := by blk_ext [idx t]
  rw [after0_5]
  refine Eq.trans ?_ (congrArg (fun i => out x0 x1 x2 x3 (i 0) (i 1)) e).symm
  frame_out [out0_5]
  pointwise [k0_pay2, k0_pay1]
  simp only [rd0 m x0 c h0, rd1 m x1 c h1, rd2 m x2 c h2, rd3 m x3 c h3]
  rfl

end

section

open Cert.Reference21Ideal Cert.Reference21Ideal.Gen Cert.Reference21Ideal.Read

variable (x0 : Cert.Kernel21Ideal.S4096x1024.Idx → EReal) (x1 : Cert.Kernel21Ideal.S1024x1024.Idx → EReal) (x2 : Cert.Kernel21Ideal.S4096x1024.Idx → EReal) (x3 : Cert.Kernel21Ideal.S1024.Idx → EReal)

theorem ref4 : val_main_v1 (F := Ideal) x0 x1 x2 = fun i => res x0 x1 x2 (i 0) (i 1) := by
  funext i
  obtain ⟨r, q, rfl⟩ : ∃ (r : Fin 4096) (q : Fin 1024), i = ix2 r q := ⟨i 0, i 1, by blk_ext []⟩
  pointwise [val_main_v1, val_main_v0]
  rfl

theorem resAt (r : Fin 4096) (i : Fin 1024) : val_main_v1 (F := Ideal) x0 x1 x2 (ix2 r i) = res x0 x1 x2 r i := congrFun (ref4 x0 x1 x2) _

theorem ref5 : val_main_v15 (F := Ideal) x0 x1 x2 x3 = fun i => out x0 x1 x2 x3 (i 0) (i 1) := by
  funext i
  obtain ⟨r, q, rfl⟩ : ∃ (r : Fin 4096) (q : Fin 1024), i = ix2 r q := ⟨i 0, i 1, by blk_ext []⟩
  pointwise [val_main_v15, val_main_v14, val_main_v13, val_main_v12, val_main_v11, val_main_v10, val_main_v9, val_main_v8, val_main_v7, val_main_cst_1, val_main_v6, val_main_v5, val_main_cst_0, val_main_v4, val_main_v3, val_main_cst, val_main_v2, resAt]
  rfl

end

set_option maxHeartbeats 1600000 in
/-- Kernel and reference compute the same over the extended reals. -/
theorem value : Cert.algebraic_Kernel21Ideal_Reference21Ideal := by
  intro m g m' g' _ hagree
  refine ⟨_, _, Cert.Kernel21Ideal.Value.run_blocks m g, ?_⟩
  refine (θ_run _ _ _).mono (fun r h c => ?_) (Cert.Reference21Ideal.Value.run m' g')
  obtain ⟨a0, a1, a2, a3⟩ := hagree c
  refine ⟨(h c).1.trans ?_, (h c).2.1.trans ?_, (h c).2.2⟩
  · refine (Cert.Reference21Ideal.Read.val_main_v1_eq _ _ _).trans ?_
    rw [a0, a1, a2]
    exact (ref4 _ _ _).trans (final4 m _ _ _ c rfl rfl rfl).symm
  · refine (Cert.Reference21Ideal.Read.val_main_v15_eq _ _ _ _).trans ?_
    rw [a0, a1, a2, a3]
    exact (ref5 _ _ _ _).trans (final5 m _ _ _ _ c rfl rfl rfl rfl).symm

end Cert.OutPValue
end
-- ==== Proof.MmRowsValue.lean ====
/- A plain product over the extended reals. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MmRowsValue

/-- The product at row `r` and column `j`. -/
def mm (x0 : Cert.Kernel19Ideal.S4096x1024.Idx → EReal) (x1 : Cert.Kernel19Ideal.S512x1024.Idx → EReal) (r : Fin 4096) (j : Fin 512) : EReal := ∑ k : Fin 1024, x0 (ix2 r k) * x1 (ix2 j k)

section

open Cert.Kernel19Ideal Cert.Kernel19Ideal.Gen

variable (m : (ℓ : Loc nD τ sig) → Buf (Elt Ideal) ℓ)

theorem idx : ∀ t : Fin cfg0.N, win0_0.index t = ![0, t.val, 0] ∧ win0_1.index t = ![0, 0, 0] ∧ win0_2.index t = ![t.val, 0] := (by decide +kernel : ∀ t : Fin grid0.N, _)

theorem lt (t : Fin cfg0.N) : t.val < 4 := t.isLt

variable (x0 : Cert.Kernel19Ideal.S4096x1024.Idx → EReal) (x1 : Cert.Kernel19Ideal.S512x1024.Idx → EReal) (c : Dev nD)
  (h0 : m ((c : Thread nD τ).loc main_arg0) = x0) (h1 : m ((c : Thread nD τ).loc main_arg1) = x1)

include h0 in
theorem rd0 (t : Fin cfg0.N) (r : Fin 1024) (k : Fin 1024) : iblk m c 0 t (ix3 0 r k) = x0 (ix2 ⟨t.val * 1024 + r.val, by have := lt t; omega⟩ k) := by
  refine Eq.trans ?_ (congrFun h0 _)
  blk_simp [iblk]
  entry_read
  pointwise
  blk_ext [idx t]

include h1 in
theorem rd1 (t : Fin cfg0.N) (k : Fin 1024) (j : Fin 512) : iblk m c 1 t (ix3 0 k j) = x1 (ix2 j k) := by
  refine Eq.trans ?_ (congrFun h1 _)
  blk_simp [iblk]
  entry_read
  pointwise
  blk_ext [idx t]

include h0 h1 in
theorem final2 : (dats m 0 c).arrAt 2 cfg0.N = fun i => mm x0 x1 (i 0) (i 1) := by
  refine (dats m 0 c).arrAt_eq_of_covers 2 _ (by decide +kernel) fun t _ y => ?_
  obtain ⟨r, q, rfl⟩ : ∃ (r : Fin 1024) (q : Fin 512), y = ix2 r q := ⟨y 0, y 1, by blk_ext []⟩
  blk_simp
  have e : ((win0_2.blk t).view.emb (ix2 r q) : S4096x512.Idx) = ix2 ⟨t.val * 1024 + r.val, by have := lt t; omega⟩ q := by blk_ext [idx t]
  rw [after0_2]
  refine Eq.trans ?_ (congrArg (fun i => mm x0 x1 (i 0) (i 1)) e).symm
  frame_out [out0_2]
  pointwise [k0_pay1]
  simp only [rd0 m x0 c h0, rd1 m x1 c h1]
  rfl

end

section

open Cert.Reference19Ideal Cert.Reference19Ideal.Gen Cert.Reference19Ideal.Read

variable (x0 : Cert.Kernel19Ideal.S4096x1024.Idx → EReal) (x1 : Cert.Kernel19Ideal.S512x1024.Idx → EReal)

theorem ref2 : val_main_v1 (F := Ideal) x0 x1 = fun i => mm x0 x1 (i 0) (i 1) := by
  funext i
  obtain ⟨r, q, rfl⟩ : ∃ (r : Fin 4096) (q : Fin 512), i = ix2 r q := ⟨i 0, i 1, by blk_ext []⟩
  pointwise [val_main_v1, val_main_v0]
  rfl

end

set_option maxHeartbeats 1600000 in
/-- Kernel and reference compute the same over the extended reals. -/
theorem value : Cert.algebraic_Kernel19Ideal_Reference19Ideal := by
  intro m g m' g' _ hagree
  refine ⟨_, Cert.Kernel19Ideal.Value.run_blocks m g, ?_⟩
  refine (θ_run _ _ _).mono (fun r h c => ?_) (Cert.Reference19Ideal.Value.run m' g')
  obtain ⟨a0, a1⟩ := hagree c
  refine ⟨(h c).1.trans ?_, (h c).2⟩
  · refine (Cert.Reference19Ideal.Read.val_main_v1_eq _ _).trans ?_
    rw [a0, a1]
    exact (ref2 _ _).trans (final2 m _ _ c rfl rfl).symm

end Cert.MmRowsValue
end
-- ==== Proof.MmColsValue.lean ====
/- A plain product over the rows, over the extended reals. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MmColsValue

/-- The product of column `j` of the two parts side by side with column `i`. -/
def mt (x0 : Cert.Kernel20Ideal.S2x4096x2816.Idx → EReal) (x1 : Cert.Kernel20Ideal.S4096x1024.Idx → EReal) (j : Fin 5632) (i : Fin 1024) : EReal :=
  ∑ r : Fin 4096, x0 (ix3 ⟨j.val / 2816, by omega⟩ r ⟨j.val % 2816, by omega⟩) * x1 (ix2 r i)

section

open Cert.Kernel20Ideal Cert.Kernel20Ideal.Gen

variable (m : (ℓ : Loc nD τ sig) → Buf (Elt Ideal) ℓ)

theorem idx : ∀ t : Fin cfg0.N, win0_0.index t = ![t.val / 2, 0, t.val % 2] ∧ win0_1.index t = ![0, 0] ∧ win0_2.index t = ![t.val, 0] := (by decide +kernel : ∀ t : Fin grid0.N, _)

theorem lt (t : Fin cfg0.N) : t.val < 4 := t.isLt

variable (x0 : Cert.Kernel20Ideal.S2x4096x2816.Idx → EReal) (x1 : Cert.Kernel20Ideal.S4096x1024.Idx → EReal) (c : Dev nD)
  (h0 : m ((c : Thread nD τ).loc main_arg0) = x0) (h1 : m ((c : Thread nD τ).loc main_arg1) = x1)

include h0 in
theorem rd0 (t : Fin cfg0.N) (r : Fin 4096) (k : Fin 1408) : iblk m c 0 t (ix3 0 r k) = x0 (ix3 ⟨(t.val * 1408 + k.val) / 2816, by have := lt t; omega⟩ r ⟨(t.val * 1408 + k.val) % 2816, by omega⟩) := by
  refine Eq.trans ?_ (congrFun h0 _)
  blk_simp [iblk]
  entry_read
  blk_ext [idx t]

include h1 in
theorem rd1 (t : Fin cfg0.N) (r : Fin 4096) (j : Fin 1024) : iblk m c 1 t (ix2 r j) = x1 (ix2 r j) := by
  refine Eq.trans ?_ (congrFun h1 _)
  blk_simp [iblk]
  entry_read
  blk_ext [idx t]

include h0 h1 in
theorem final2 : (dats m 0 c).arrAt 2 cfg0.N = fun i => mt x0 x1 (i 0) (i 1) := by
  refine (dats m 0 c).arrAt_eq_of_covers 2 _ (by decide +kernel) fun t _ y => ?_
  obtain ⟨k, q, rfl⟩ : ∃ (k : Fin 1408) (q : Fin 1024), y = ix2 k q := ⟨y 0, y 1, by blk_ext []⟩
  blk_simp
  have e : ((win0_2.blk t).view.emb (ix2 k q) : S5632x1024.Idx) = ix2 ⟨t.val * 1408 + k.val, by have := lt t; omega⟩ q := by blk_ext [idx t]
  rw [after0_2]
  refine Eq.trans ?_ (congrArg (fun i => mt x0 x1 (i 0) (i 1)) e).symm
  frame_out [out0_2]
  pointwise [k0_pay1]
  simp only [rd0 m x0 c h0, rd1 m x1 c h1]
  first | rfl | (simp only [mul_one]; rfl)

end

section

open Cert.Reference20Ideal Cert.Reference20Ideal.Gen Cert.Reference20Ideal.Read

variable (x0 : Cert.Kernel20Ideal.S2x4096x2816.Idx → EReal) (x1 : Cert.Kernel20Ideal.S4096x1024.Idx → EReal)

theorem parts (r : Fin 4096) (j : Fin 5632) : val_main_v4 (F := Ideal) x0 (ix2 r j) = x0 (ix3 ⟨j.val / 2816, by omega⟩ r ⟨j.val % 2816, by omega⟩) := by
  have hj := j.isLt
  have low : ∀ (k : Fin 2816) (h), val_main_v4 (F := Ideal) x0 (ix2 r ⟨k.val, h⟩) = x0 (ix3 0 r k) := by
    intro k h
    pointwise [val_main_v4, val_main_v1, val_main_v0, val_main_v3, val_main_v2]
  have high : ∀ (k : Fin 2816) (h), val_main_v4 (F := Ideal) x0 (ix2 r ⟨2816 + k.val, h⟩) = x0 (ix3 1 r k) := by
    intro k h
    pointwise [val_main_v4, val_main_v1, val_main_v0, val_main_v3, val_main_v2]
  by_cases h : j.val < 2816
  · exact (low ⟨j.val, h⟩ hj).trans (congrArg x0 (by blk_ext []))
  · have e : j = ⟨2816 + (⟨j.val - 2816, by omega⟩ : Fin 2816).val, by simp only; omega⟩ := Fin.ext (by simp only; omega)
    exact (congrArg (fun j => val_main_v4 (F := Ideal) x0 (ix2 r j)) e).trans ((high ⟨j.val - 2816, by omega⟩ _).trans (congrArg x0 (by blk_ext [])))

theorem ref2 : val_main_v7 (F := Ideal) x0 x1 = fun i => mt x0 x1 (i 0) (i 1) := by
  funext i
  obtain ⟨k, q, rfl⟩ : ∃ (k : Fin 5632) (q : Fin 1024), i = ix2 k q := ⟨i 0, i 1, by blk_ext []⟩
  pointwise [val_main_v7, val_main_v6, val_main_v5]
  simp only [parts]
  rfl

end

set_option maxHeartbeats 1600000 in
/-- Kernel and reference compute the same over the extended reals. -/
theorem value : Cert.algebraic_Kernel20Ideal_Reference20Ideal := by
  intro m g m' g' _ hagree
  refine ⟨_, Cert.Kernel20Ideal.Value.run_blocks m g, ?_⟩
  refine (θ_run _ _ _).mono (fun r h c => ?_) (Cert.Reference20Ideal.Value.run m' g')
  obtain ⟨a0, a1⟩ := hagree c
  refine ⟨(h c).1.trans ?_, (h c).2⟩
  · refine (Cert.Reference20Ideal.Read.val_main_v7_eq _ _).trans ?_
    rw [a0, a1]
    exact (ref2 _ _).trans (final2 m _ _ c rfl rfl).symm

end Cert.MmColsValue
end
-- ==== Proof.AdamMath.lean ====
/- One step of the optimiser at one entry: what the first and second moment become, and what is added to the weight. -/
module

public import Idealize.ShloMosaic.PureOps.Ideal

@[expose] public section

noncomputable section

open Idealize.ShloMosaic

namespace Cert.AdamMath

/-- The number a single-precision word stands for. -/
abbrev cst (w : BitVec 32) : EReal := Ideal.ofBits .f32 w

/-- The new first moment. -/
def mom (g m : EReal) : EReal := cst 0x3F666666#32 * m + cst 0x3DCCCCCD#32 * g

/-- The new second moment. -/
def vel (g v : EReal) : EReal := cst 0x3F7FBE77#32 * v + cst 0x3A83126F#32 * (g * g)

/-- What is added to the weight. -/
def delta (w g m v : EReal) : EReal :=
  cst 0xBA83126F#32 * (Ideal.div (Ideal.div (mom g m) (cst 0x3F26BD02#32)) (Ideal.sqrt (Ideal.div (vel g v) (cst 0x3C231ACC#32)) + cst 0x322BCC77#32)
    + cst 0x3C23D70A#32 * w)

end Cert.AdamMath
end
-- ==== Proof.AdamValue.lean ====
/- One step of the optimiser over the extended reals. -/
module

public import proofs.«01_k».proof.Defs
public import proofs.«01_k».proof.Proof.AdamMath
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.AdamMath

namespace Cert.AdamValue

/-- The step at an entry of the array. -/
def dl3 (x0 x1 x2 x3 : Cert.Kernel12Ideal.S1x120x128.Idx → EReal) (z : Fin 1) (r : Fin 120) (l : Fin 128) : EReal :=
  delta (x0 (ix3 z r l)) (x1 (ix3 z r l)) (x2 (ix3 z r l)) (x3 (ix3 z r l))

/-- The new first moment at an entry of the array. -/
def m3 (x1 x2 : Cert.Kernel12Ideal.S1x120x128.Idx → EReal) (z : Fin 1) (r : Fin 120) (l : Fin 128) : EReal := mom (x1 (ix3 z r l)) (x2 (ix3 z r l))

/-- The new second moment at an entry of the array. -/
def v3 (x1 x3 : Cert.Kernel12Ideal.S1x120x128.Idx → EReal) (z : Fin 1) (r : Fin 120) (l : Fin 128) : EReal := vel (x1 (ix3 z r l)) (x3 (ix3 z r l))

section

open Cert.Kernel12Ideal Cert.Kernel12Ideal.Gen

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] := (by decide +kernel : ∀ t : Fin grid0.N, _)

theorem lt (t : Fin cfg0.N) : t.val < 1 := t.isLt

variable (x0 : Cert.Kernel12Ideal.S1x120x128.Idx → EReal) (x1 : Cert.Kernel12Ideal.S1x120x128.Idx → EReal) (x2 : Cert.Kernel12Ideal.S1x120x128.Idx → EReal) (x3 : Cert.Kernel12Ideal.S1x120x128.Idx → EReal) (c : Dev nD)
  (h0 : m ((c : Thread nD τ).loc main_arg0) = x0) (h1 : m ((c : Thread nD τ).loc main_arg1) = x1) (h2 : m ((c : Thread nD τ).loc main_arg2) = x2) (h3 : m ((c : Thread nD τ).loc main_arg3) = x3)

include h0 in
theorem rd0 (t : Fin cfg0.N) (z : Fin 1) (r : Fin 120) (l : Fin 128) : iblk m c 0 t (ix3 z r l) = x0 (ix3 z r l) := by
  refine Eq.trans ?_ (congrFun h0 _)
  blk_simp [iblk]
  entry_read
  blk_ext [idx t]

include h1 in
theorem rd1 (t : Fin cfg0.N) (z : Fin 1) (r : Fin 120) (l : Fin 128) : iblk m c 1 t (ix3 z r l) = x1 (ix3 z r l) := by
  refine Eq.trans ?_ (congrFun h1 _)
  blk_simp [iblk]
  entry_read
  blk_ext [idx t]

include h2 in
theorem rd2 (t : Fin cfg0.N) (z : Fin 1) (r : Fin 120) (l : Fin 128) : iblk m c 2 t (ix3 z r l) = x2 (ix3 z r l) := by
  refine Eq.trans ?_ (congrFun h2 _)
  blk_simp [iblk]
  entry_read
  blk_ext [idx t]

include h3 in
theorem rd3 (t : Fin cfg0.N) (z : Fin 1) (r : Fin 120) (l : Fin 128) : iblk m c 3 t (ix3 z r l) = x3 (ix3 z r l) := by
  refine Eq.trans ?_ (congrFun h3 _)
  blk_simp [iblk]
  entry_read
  blk_ext [idx t]

theorem p5 (a b : Vec Ideal S1x120x128 .f32) (r : Fin 120) (l : Fin 128) : k0_pay5 a b (ix2 r l) = mom (a (ix3 0 r l)) (b (ix3 0 r l)) := by
  pointwise [k0_pay5, k0_pay4]
  rfl

theorem p6 (a b : Vec Ideal S1x120x128 .f32) (r : Fin 120) (l : Fin 128) : k0_pay6 a b (ix2 r l) = vel (a (ix3 0 r l)) (b (ix3 0 r l)) := by
  pointwise [k0_pay6, k0_pay4]
  rfl

theorem p7 (w g mo ve : Vec Ideal S1x120x128 .f32) (r : Fin 120) (l : Fin 128) : k0_pay7 w g mo ve (ix2 r l)
    = delta (w (ix3 0 r l)) (g (ix3 0 r l)) (mo (ix3 0 r l)) (ve (ix3 0 r l)) := by
  pointwise [k0_pay7, p5, p6]
  rfl

attribute [local irreducible] delta mom vel

include h0 h1 h2 h3 in
theorem final4 : (dats m 0 c).arrAt 4 cfg0.N = fun i => dl3 x0 x1 x2 x3 (i 0) (i 1) (i 2) := by
  refine (dats m 0 c).arrAt_eq_of_covers 4 _ (by decide +kernel) fun t _ y => ?_
  obtain ⟨z, r, l, rfl⟩ : ∃ (z : Fin 1) (r : Fin 120) (l : Fin 128), y = ix3 z r l := ⟨y 0, y 1, y 2, by blk_ext []⟩
  obtain rfl : z = 0 := by omega
  blk_simp
  have e : ((win0_4.blk t).view.emb (ix3 0 r l) : S1x120x128.Idx) = ix3 0 r l := by blk_ext [idx t]
  rw [after0_4]
  refine Eq.trans ?_ (congrArg (fun i => dl3 x0 x1 x2 x3 (i 0) (i 1) (i 2)) e).symm
  frame_out [out0_4]
  pointwise [k0_pay1, p7]
  simp only [rd0 m x0 c h0, rd1 m x1 c h1, rd2 m x2 c h2, rd3 m x3 c h3]
  rfl

include h1 h2 in
theorem final5 : (dats m 0 c).arrAt 5 cfg0.N = fun i => m3 x1 x2 (i 0) (i 1) (i 2) := by
  refine (dats m 0 c).arrAt_eq_of_covers 5 _ (by decide +kernel) fun t _ y => ?_
  obtain ⟨z, r, l, rfl⟩ : ∃ (z : Fin 1) (r : Fin 120) (l : Fin 128), y = ix3 z r l := ⟨y 0, y 1, y 2, by blk_ext []⟩
  obtain rfl : z = 0 := by omega
  blk_simp
  have e : ((win0_5.blk t).view.emb (ix3 0 r l) : S1x120x128.Idx) = ix3 0 r l := by blk_ext [idx t]
  rw [after0_5]
  refine Eq.trans ?_ (congrArg (fun i => m3 x1 x2 (i 0) (i 1) (i 2)) e).symm
  frame_out [out0_5]
  pointwise [k0_pay2, p5]
  simp only [rd1 m x1 c h1, rd2 m x2 c h2]
  rfl

include h1 h3 in
theorem final6 : (dats m 0 c).arrAt 6 cfg0.N = fun i => v3 x1 x3 (i 0) (i 1) (i 2) := by
  refine (dats m 0 c).arrAt_eq_of_covers 6 _ (by decide +kernel) fun t _ y => ?_
  obtain ⟨z, r, l, rfl⟩ : ∃ (z : Fin 1) (r : Fin 120) (l : Fin 128), y = ix3 z r l := ⟨y 0, y 1, y 2, by blk_ext []⟩
  obtain rfl : z = 0 := by omega
  blk_simp
  have e : ((win0_6.blk t).view.emb (ix3 0 r l) : S1x120x128.Idx) = ix3 0 r l := by blk_ext [idx t]
  rw [after0_6]
  refine Eq.trans ?_ (congrArg (fun i => v3 x1 x3 (i 0) (i 1) (i 2)) e).symm
  frame_out [out0_6]
  pointwise [k0_pay3, p6]
  simp only [rd1 m x1 c h1, rd3 m x3 c h3]
  rfl

end

section

open Cert.Reference12Ideal Cert.Reference12Ideal.Gen Cert.Reference12Ideal.Read

variable (x0 : Cert.Kernel12Ideal.S1x120x128.Idx → EReal) (x1 : Cert.Kernel12Ideal.S1x120x128.Idx → EReal) (x2 : Cert.Kernel12Ideal.S1x120x128.Idx → EReal) (x3 : Cert.Kernel12Ideal.S1x120x128.Idx → EReal)

theorem ref4 : val_main_v23 (F := Ideal) x0 x1 x2 x3 = fun i => dl3 x0 x1 x2 x3 (i 0) (i 1) (i 2) := by
  funext i
  obtain ⟨z, r, l, rfl⟩ : ∃ (z : Fin 1) (r : Fin 120) (l : Fin 128), i = ix3 z r l := ⟨i 0, i 1, i 2, by blk_ext []⟩
  obtain rfl : z = 0 := by omega
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  rfl

theorem ref5 : val_main_v4 (F := Ideal) x1 x2 = fun i => m3 x1 x2 (i 0) (i 1) (i 2) := by
  funext i
  obtain ⟨z, r, l, rfl⟩ : ∃ (z : Fin 1) (r : Fin 120) (l : Fin 128), i = ix3 z r l := ⟨i 0, i 1, i 2, by blk_ext []⟩
  obtain rfl : z = 0 := by omega
  pointwise [val_main_v4, val_main_v3, val_main_v2, val_main_cst_0, val_main_v1, val_main_v0, val_main_cst]
  rfl

theorem ref6 : val_main_v10 (F := Ideal) x1 x3 = fun i => v3 x1 x3 (i 0) (i 1) (i 2) := by
  funext i
  obtain ⟨z, r, l, rfl⟩ : ∃ (z : Fin 1) (r : Fin 120) (l : Fin 128), i = ix3 z r l := ⟨i 0, i 1, i 2, by blk_ext []⟩
  obtain rfl : z = 0 := by omega
  pointwise [val_main_v10, val_main_v9, val_main_v8, val_main_cst_2, val_main_v7, val_main_v6, val_main_v5, val_main_cst_1, val_main_v4, val_main_v3, val_main_v2, val_main_cst_0, val_main_v1, val_main_v0, val_main_cst]
  rfl

end

set_option maxHeartbeats 1600000 in
/-- Kernel and reference compute the same over the extended reals. -/
theorem value : Cert.algebraic_Kernel12Ideal_Reference12Ideal := by
  intro m g m' g' _ hagree
  refine ⟨_, _, _, Cert.Kernel12Ideal.Value.run_blocks m g, ?_⟩
  refine (θ_run _ _ _).mono (fun r h c => ?_) (Cert.Reference12Ideal.Value.run m' g')
  obtain ⟨a0, a1, a2, a3⟩ := hagree c
  refine ⟨(h c).1.trans ?_, (h c).2.1.trans ?_, (h c).2.2.1.trans ?_, (h c).2.2.2⟩
  · refine (Cert.Reference12Ideal.Read.val_main_v23_eq _ _ _ _).trans ?_
    rw [a0, a1, a2, a3]
    exact (ref4 _ _ _ _).trans (final4 m _ _ _ _ c rfl rfl rfl rfl).symm
  · refine (Cert.Reference12Ideal.Read.val_main_v4_eq _ _).trans ?_
    rw [a1, a2]
    exact (ref5 _ _).trans (final5 m _ _ c rfl rfl).symm
  · refine (Cert.Reference12Ideal.Read.val_main_v10_eq _ _).trans ?_
    rw [a1, a3]
    exact (ref6 _ _).trans (final6 m _ _ c rfl rfl).symm

end Cert.AdamValue
end
-- ==== Proof.SumAdamValue.lean ====
/- The sum of the parts of a gradient, layer by layer, and one step of the optimiser, over the extended reals. -/
module

public import proofs.«01_k».proof.Defs
public import proofs.«01_k».proof.Proof.AdamMath
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.AdamMath

namespace Cert.SumAdamValue

/-- The summed gradient at an entry: the eight parts of its layer. -/
def gs (x0 x1 : Cert.Kernel18Ideal.S8x736x1024.Idx → EReal) (L : Fin 2) (r : Fin 736) (l : Fin 1024) : EReal :=
  ∑ s : Fin 8, if L.val = 0 then x0 (ix3 s r l) else x1 (ix3 s r l)

/-- The new first moment at an entry. -/
def m3 (x0 x1 : Cert.Kernel18Ideal.S8x736x1024.Idx → EReal) (x3 : Cert.Kernel18Ideal.S2x736x1024.Idx → EReal) (L : Fin 2) (r : Fin 736) (l : Fin 1024) : EReal :=
  mom (gs x0 x1 L r l) (x3 (ix3 L r l))

/-- The new second moment at an entry. -/
def v3 (x0 x1 : Cert.Kernel18Ideal.S8x736x1024.Idx → EReal) (x4 : Cert.Kernel18Ideal.S2x736x1024.Idx → EReal) (L : Fin 2) (r : Fin 736) (l : Fin 1024) : EReal :=
  vel (gs x0 x1 L r l) (x4 (ix3 L r l))

/-- The step at an entry. -/
def d3 (x0 x1 : Cert.Kernel18Ideal.S8x736x1024.Idx → EReal) (x2 x3 x4 : Cert.Kernel18Ideal.S2x736x1024.Idx → EReal) (L : Fin 2) (r : Fin 736) (l : Fin 1024) : EReal :=
  delta (x2 (ix3 L r l)) (gs x0 x1 L r l) (x3 (ix3 L r l)) (x4 (ix3 L r l))

section

open Cert.Kernel18Ideal Cert.Kernel18Ideal.Gen

variable (m : (ℓ : Loc nD τ sig) → Buf (Elt Ideal) ℓ)

theorem idx : ∀ t : Fin cfg0.N, win0_0.index t = ![0, if t.val < 2 then t.val % 2 else 0, 0] ∧ win0_1.index t = ![0, if t.val < 2 then 0 else t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] := (by decide +kernel : ∀ t : Fin grid0.N, _)

theorem lt (t : Fin cfg0.N) : t.val < 4 := t.isLt

/-- The layer of a step. -/
abbrev ly (t : Fin cfg0.N) : Fin 2 := ⟨t.val / 2, by have := lt t; omega⟩

/-- The row of the arrays that row `r` of a step's blocks is. -/
abbrev rw3 (t : Fin cfg0.N) (r : Fin 368) : Fin 736 := ⟨t.val % 2 * 368 + r.val, by omega⟩

variable (x0 x1 : S8x736x1024.Idx → EReal) (x2 x3 x4 : S2x736x1024.Idx → EReal) (c : Dev nD)
  (h0 : m ((c : Thread nD τ).loc main_arg0) = x0) (h1 : m ((c : Thread nD τ).loc main_arg1) = x1) (h2 : m ((c : Thread nD τ).loc main_arg2) = x2)
  (h3 : m ((c : Thread nD τ).loc main_arg3) = x3) (h4 : m ((c : Thread nD τ).loc main_arg4) = x4)

include h0 in
theorem rd0 (t : Fin cfg0.N) (ht : t.val < 2) (s : Fin 8) (r : Fin 368) (l : Fin 1024) : iblk m c 0 t (ix3 s r l) = x0 (ix3 s (rw3 t r) l) := by
  refine Eq.trans ?_ (congrFun h0 _)
  blk_simp [iblk]
  entry_read
  have e := (idx t).1
  rw [if_pos ht] at e
  blk_ext [e]

include h1 in
theorem rd1 (t : Fin cfg0.N) (ht : ¬t.val < 2) (s : Fin 8) (r : Fin 368) (l : Fin 1024) : iblk m c 1 t (ix3 s r l) = x1 (ix3 s (rw3 t r) l) := by
  refine Eq.trans ?_ (congrFun h1 _)
  blk_simp [iblk]
  entry_read
  have e := (idx t).2.1
  rw [if_neg ht] at e
  blk_ext [e]

include h2 in
theorem rd2 (t : Fin cfg0.N) (r : Fin 368) (l : Fin 1024) : iblk m c 2 t (ix3 0 r l) = x2 (ix3 (ly t) (rw3 t r) l) := by
  refine Eq.trans ?_ (congrFun h2 _)
  blk_simp [iblk]
  entry_read
  blk_ext [idx t]

include h3 in
theorem rd3 (t : Fin cfg0.N) (r : Fin 368) (l : Fin 1024) : iblk m c 3 t (ix3 0 r l) = x3 (ix3 (ly t) (rw3 t r) l) := by
  refine Eq.trans ?_ (congrFun h3 _)
  blk_simp [iblk]
  entry_read
  blk_ext [idx t]

include h4 in
theorem rd4 (t : Fin cfg0.N) (r : Fin 368) (l : Fin 1024) : iblk m c 4 t (ix3 0 r l) = x4 (ix3 (ly t) (rw3 t r) l) := by
  refine Eq.trans ?_ (congrFun h4 _)
  blk_simp [iblk]
  entry_read
  blk_ext [idx t]

theorem p7 (g : Vec Ideal S368x1024 .f32) (b : Vec Ideal S1x368x1024 .f32) (r : Fin 368) (l : Fin 1024) :
    k0_pay7 g b (ix2 r l) = mom (g (ix2 r l)) (b (ix3 0 r l)) ∧ k0_pay12 g b (ix2 r l) = mom (g (ix2 r l)) (b (ix3 0 r l)) := by
  constructor
  · pointwise [k0_pay7]
    rfl
  · pointwise [k0_pay12]
    rfl

theorem p8 (g : Vec Ideal S368x1024 .f32) (b : Vec Ideal S1x368x1024 .f32) (r : Fin 368) (l : Fin 1024) :
    k0_pay8 g b (ix2 r l) = vel (g (ix2 r l)) (b (ix3 0 r l)) ∧ k0_pay13 g b (ix2 r l) = vel (g (ix2 r l)) (b (ix3 0 r l)) := by
  constructor
  · pointwise [k0_pay8]
    rfl
  · pointwise [k0_pay13]
    rfl

theorem p9 (g : Vec Ideal S368x1024 .f32) (w mo ve : Vec Ideal S1x368x1024 .f32) (r : Fin 368) (l : Fin 1024) :
    k0_pay9 g w mo ve (ix3 0 r l) = delta (w (ix3 0 r l)) (g (ix2 r l)) (mo (ix3 0 r l)) (ve (ix3 0 r l))
    ∧ k0_pay14 g w mo ve (ix3 0 r l) = delta (w (ix3 0 r l)) (g (ix2 r l)) (mo (ix3 0 r l)) (ve (ix3 0 r l)) := by
  constructor
  · pointwise [k0_pay9, (p7 g mo r l).1, (p8 g ve r l).1]
    rfl
  · pointwise [k0_pay14, (p7 g mo r l).2, (p8 g ve r l).2]
    rfl

attribute [local irreducible] delta mom vel

/-- Eight arrays added up, from the first. -/
theorem p5 (a0 a1 a2 a3 a4 a5 a6 a7 : Vec Ideal S1x368x1024 .bf16) (r : Fin 368) (l : Fin 1024) :
    k0_pay5 a0 a1 a2 a3 a4 a5 a6 a7 (ix2 r l) = a0 (ix3 0 r l) + a1 (ix3 0 r l) + a2 (ix3 0 r l) + a3 (ix3 0 r l) + a4 (ix3 0 r l) + a5 (ix3 0 r l) + a6 (ix3 0 r l) + a7 (ix3 0 r l)
    ∧ k0_pay10 a0 a1 a2 a3 a4 a5 a6 a7 (ix2 r l) = a0 (ix3 0 r l) + a1 (ix3 0 r l) + a2 (ix3 0 r l) + a3 (ix3 0 r l) + a4 (ix3 0 r l) + a5 (ix3 0 r l) + a6 (ix3 0 r l) + a7 (ix3 0 r l) := by
  constructor
  · pointwise [k0_pay5]
  · pointwise [k0_pay10]

include h0 h1 in
theorem out5 (t : Fin cfg0.N) (r : Fin 368) (l : Fin 1024) : (outsAt0 m c t.val t.isLt).1 (ix3 0 r l) = gs x0 x1 (ly t) (rw3 t r) l := by
  by_cases hz : t.val < 2
  · rw [outsAt0_A m c t hz (by omega)]
    frame_out
    pointwise [k0_pay6, (p5 _ _ _ _ _ _ _ _ _ _).1]
    simp only [rd0 m x0 c h0 t hz]
    unfold gs
    simp only [if_pos (show (ly t).val = 0 by dsimp only; omega), Fin.sum_univ_eight]
  · rw [outsAt0_B m c t hz (by omega)]
    frame_out
    pointwise [k0_pay11, (p5 _ _ _ _ _ _ _ _ _ _).2]
    simp only [rd1 m x1 c h1 t hz]
    unfold gs
    simp only [if_neg (show ¬(ly t).val = 0 by dsimp only; omega), Fin.sum_univ_eight]

include h0 h1 h2 h3 h4 in
theorem out6 (t : Fin cfg0.N) (r : Fin 368) (l : Fin 1024) : (outsAt0 m c t.val t.isLt).2.1 (ix3 0 r l) = d3 x0 x1 x2 x3 x4 (ly t) (rw3 t r) l := by
  unfold d3 gs
  by_cases hz : t.val < 2
  · rw [outsAt0_A m c t hz (by omega)]
    frame_out
    pointwise [(p9 _ _ _ _ _ _).1, (p5 _ _ _ _ _ _ _ _ _ _).1]
    simp only [rd0 m x0 c h0 t hz, rd2 m x2 c h2, rd3 m x3 c h3, rd4 m x4 c h4]
    simp only [if_pos (show (ly t).val = 0 by dsimp only; omega), Fin.sum_univ_eight]
  · rw [outsAt0_B m c t hz (by omega)]
    frame_out
    pointwise [(p9 _ _ _ _ _ _).2, (p5 _ _ _ _ _ _ _ _ _ _).2]
    simp only [rd1 m x1 c h1 t hz, rd2 m x2 c h2, rd3 m x3 c h3, rd4 m x4 c h4]
    simp only [if_neg (show ¬(ly t).val = 0 by dsimp only; omega), Fin.sum_univ_eight]

include h0 h1 h3 in
theorem out7 (t : Fin cfg0.N) (r : Fin 368) (l : Fin 1024) : (outsAt0 m c t.val t.isLt).2.2.1 (ix3 0 r l) = m3 x0 x1 x3 (ly t) (rw3 t r) l := by
  unfold m3 gs
  by_cases hz : t.val < 2
  · rw [outsAt0_A m c t hz (by omega)]
    frame_out
    pointwise [k0_pay1, (p7 _ _ _ _).1, (p5 _ _ _ _ _ _ _ _ _ _).1]
    simp only [rd0 m x0 c h0 t hz, rd3 m x3 c h3]
    simp only [if_pos (show (ly t).val = 0 by dsimp only; omega), Fin.sum_univ_eight]
  · rw [outsAt0_B m c t hz (by omega)]
    frame_out
    pointwise [k0_pay3, (p7 _ _ _ _).2, (p5 _ _ _ _ _ _ _ _ _ _).2]
    simp only [rd1 m x1 c h1 t hz, rd3 m x3 c h3]
    simp only [if_neg (show ¬(ly t).val = 0 by dsimp only; omega), Fin.sum_univ_eight]

include h0 h1 h4 in
theorem out8 (t : Fin cfg0.N) (r : Fin 368) (l : Fin 1024) : (outsAt0 m c t.val t.isLt).2.2.2 (ix3 0 r l) = v3 x0 x1 x4 (ly t) (rw3 t r) l := by
  unfold v3 gs
  by_cases hz : t.val < 2
  · rw [outsAt0_A m c t hz (by omega)]
    frame_out
    pointwise [k0_pay2, (p8 _ _ _ _).1, (p5 _ _ _ _ _ _ _ _ _ _).1]
    simp only [rd0 m x0 c h0 t hz, rd4 m x4 c h4]
    simp only [if_pos (show (ly t).val = 0 by dsimp only; omega), Fin.sum_univ_eight]
  · rw [outsAt0_B m c t hz (by omega)]
    frame_out
    pointwise [k0_pay4, (p8 _ _ _ _).2, (p5 _ _ _ _ _ _ _ _ _ _).2]
    simp only [rd1 m x1 c h1 t hz, rd4 m x4 c h4]
    simp only [if_neg (show ¬(ly t).val = 0 by dsimp only; omega), Fin.sum_univ_eight]

include h0 h1 in
theorem final5 : (dats m 0 c).arrAt 5 cfg0.N = fun i => gs x0 x1 (i 0) (i 1) (i 2) := by
  refine (dats m 0 c).arrAt_eq_of_covers 5 _ (by decide +kernel) fun t _ y => ?_
  obtain ⟨z, r, l, rfl⟩ : ∃ (z : Fin 1) (r : Fin 368) (l : Fin 1024), y = ix3 z r l := ⟨y 0, y 1, y 2, by blk_ext []⟩
  obtain rfl : z = 0 := by omega
  blk_simp
  have e : ((win0_5.blk t).view.emb (ix3 0 r l) : S2x736x1024.Idx) = ix3 (ly t) (rw3 t r) l := by blk_ext [idx t]
  rw [after0_5]
  exact (out5 m x0 x1 c h0 h1 t r l).trans (congrArg (fun i => gs x0 x1 (i 0) (i 1) (i 2)) e).symm

include h0 h1 h2 h3 h4 in
theorem final6 : (dats m 0 c).arrAt 6 cfg0.N = fun i => d3 x0 x1 x2 x3 x4 (i 0) (i 1) (i 2) := by
  refine (dats m 0 c).arrAt_eq_of_covers 6 _ (by decide +kernel) fun t _ y => ?_
  obtain ⟨z, r, l, rfl⟩ : ∃ (z : Fin 1) (r : Fin 368) (l : Fin 1024), y = ix3 z r l := ⟨y 0, y 1, y 2, by blk_ext []⟩
  obtain rfl : z = 0 := by omega
  blk_simp
  have e : ((win0_6.blk t).view.emb (ix3 0 r l) : S2x736x1024.Idx) = ix3 (ly t) (rw3 t r) l := by blk_ext [idx t]
  rw [after0_6]
  exact (out6 m x0 x1 x2 x3 x4 c h0 h1 h2 h3 h4 t r l).trans (congrArg (fun i => d3 x0 x1 x2 x3 x4 (i 0) (i 1) (i 2)) e).symm

include h0 h1 h3 in
theorem final7 : (dats m 0 c).arrAt 7 cfg0.N = fun i => m3 x0 x1 x3 (i 0) (i 1) (i 2) := by
  refine (dats m 0 c).arrAt_eq_of_covers 7 _ (by decide +kernel) fun t _ y => ?_
  obtain ⟨z, r, l, rfl⟩ : ∃ (z : Fin 1) (r : Fin 368) (l : Fin 1024), y = ix3 z r l := ⟨y 0, y 1, y 2, by blk_ext []⟩
  obtain rfl : z = 0 := by omega
  blk_simp
  have e : ((win0_7.blk t).view.emb (ix3 0 r l) : S2x736x1024.Idx) = ix3 (ly t) (rw3 t r) l := by blk_ext [idx t]
  rw [after0_7]
  exact (out7 m x0 x1 x3 c h0 h1 h3 t r l).trans (congrArg (fun i => m3 x0 x1 x3 (i 0) (i 1) (i 2)) e).symm

include h0 h1 h4 in
theorem final8 : (dats m 0 c).arrAt 8 cfg0.N = fun i => v3 x0 x1 x4 (i 0) (i 1) (i 2) := by
  refine (dats m 0 c).arrAt_eq_of_covers 8 _ (by decide +kernel) fun t _ y => ?_
  obtain ⟨z, r, l, rfl⟩ : ∃ (z : Fin 1) (r : Fin 368) (l : Fin 1024), y = ix3 z r l := ⟨y 0, y 1, y 2, by blk_ext []⟩
  obtain rfl : z = 0 := by omega
  blk_simp
  have e : ((win0_8.blk t).view.emb (ix3 0 r l) : S2x736x1024.Idx) = ix3 (ly t) (rw3 t r) l := by blk_ext [idx t]
  rw [after0_8]
  exact (out8 m x0 x1 x4 c h0 h1 h4 t r l).trans (congrArg (fun i => v3 x0 x1 x4 (i 0) (i 1) (i 2)) e).symm

end

section

open Cert.Reference18Ideal Cert.Reference18Ideal.Gen Cert.Reference18Ideal.Read

variable (x0 x1 : Cert.Kernel18Ideal.S8x736x1024.Idx → EReal) (x2 x3 x4 : Cert.Kernel18Ideal.S2x736x1024.Idx → EReal)

theorem refg (L : Fin 2) (r : Fin 736) (l : Fin 1024) : val_main_v4 (F := Ideal) x0 x1 (ix3 L r l) = gs x0 x1 L r l := by
  unfold gs
  rw [val_main_v4_apply]
  pointwise [val_main_cst]
  refine Finset.sum_congr rfl fun s _ => ?_
  fin_cases L
  · pointwise [val_main_v3, val_main_v2, val_main_v1, val_main_v0]
  · pointwise [val_main_v3, val_main_v2, val_main_v1, val_main_v0]

theorem ref_d3 : val_main_v28 (F := Ideal) x0 x1 x2 x3 x4 = fun i => d3 x0 x1 x2 x3 x4 (i 0) (i 1) (i 2) := by
  funext i
  obtain ⟨L, r, l, rfl⟩ : ∃ (L : Fin 2) (r : Fin 736) (l : Fin 1024), i = ix3 L r l := ⟨i 0, i 1, i 2, by blk_ext []⟩
  pointwise [val_main_v28, val_main_v27, val_main_cst_8, val_main_v26, val_main_v25, val_main_v24, val_main_cst_7, val_main_v23, val_main_v22, val_main_v21, val_main_cst_6, val_main_v20, val_main_v19, val_main_v18, val_main_cst_5, val_main_v17, val_main_v16, val_main_cst_4, val_main_v15, val_main_v14, val_main_v13, val_main_cst_3, val_main_v12, val_main_v11, val_main_v10, val_main_cst_2, val_main_v9, val_main_v8, val_main_v7, val_main_cst_1, val_main_v6, val_main_v5, val_main_cst_0, refg]
  rfl

theorem ref_m3 : val_main_v9 (F := Ideal) x0 x1 x3 = fun i => m3 x0 x1 x3 (i 0) (i 1) (i 2) := by
  funext i
  obtain ⟨L, r, l, rfl⟩ : ∃ (L : Fin 2) (r : Fin 736) (l : Fin 1024), i = ix3 L r l := ⟨i 0, i 1, i 2, by blk_ext []⟩
  pointwise [val_main_v9, val_main_v8, val_main_v7, val_main_cst_1, val_main_v6, val_main_v5, val_main_cst_0, refg]
  rfl

theorem ref_v3 : val_main_v15 (F := Ideal) x0 x1 x4 = fun i => v3 x0 x1 x4 (i 0) (i 1) (i 2) := by
  funext i
  obtain ⟨L, r, l, rfl⟩ : ∃ (L : Fin 2) (r : Fin 736) (l : Fin 1024), i = ix3 L r l := ⟨i 0, i 1, i 2, by blk_ext []⟩
  pointwise [val_main_v15, val_main_v14, val_main_v13, val_main_cst_3, val_main_v12, val_main_v11, val_main_v10, val_main_cst_2, val_main_v9, val_main_v8, val_main_v7, val_main_cst_1, val_main_v6, val_main_v5, val_main_cst_0, refg]
  rfl

theorem ref_gs : val_main_v4 (F := Ideal) x0 x1 = fun i => gs x0 x1 (i 0) (i 1) (i 2) := by
  funext i
  obtain ⟨L, r, l, rfl⟩ : ∃ (L : Fin 2) (r : Fin 736) (l : Fin 1024), i = ix3 L r l := ⟨i 0, i 1, i 2, by blk_ext []⟩
  exact refg x0 x1 L r l

end

set_option maxHeartbeats 1600000 in
/-- Kernel and reference compute the same over the extended reals. -/
theorem value : Cert.algebraic_Kernel18Ideal_Reference18Ideal := by
  intro m g m' g' _ hagree
  refine ⟨_, _, _, _, Cert.Kernel18Ideal.Value.run_blocks m g, ?_⟩
  refine (θ_run _ _ _).mono (fun r h c => ?_) (Cert.Reference18Ideal.Value.run m' g')
  obtain ⟨a0, a1, a2, a3, a4⟩ := hagree c
  refine ⟨(h c).1.trans ?_, (h c).2.1.trans ?_, (h c).2.2.1.trans ?_, (h c).2.2.2.1.trans ?_, (h c).2.2.2.2⟩
  · refine (Cert.Reference18Ideal.Read.val_main_v4_eq _ _).trans ?_
    rw [a0, a1]
    exact (ref_gs _ _).trans (final5 m _ _ c rfl rfl).symm
  · refine (Cert.Reference18Ideal.Read.val_main_v28_eq _ _ _ _ _).trans ?_
    rw [a0, a1, a2, a3, a4]
    exact (ref_d3 _ _ _ _ _).trans (final6 m _ _ _ _ _ c rfl rfl rfl rfl rfl).symm
  · refine (Cert.Reference18Ideal.Read.val_main_v9_eq _ _ _).trans ?_
    rw [a0, a1, a3]
    exact (ref_m3 _ _ _).trans (final7 m _ _ _ c rfl rfl rfl).symm
  · refine (Cert.Reference18Ideal.Read.val_main_v15_eq _ _ _).trans ?_
    rw [a0, a1, a4]
    exact (ref_v3 _ _ _).trans (final8 m _ _ _ c rfl rfl rfl).symm

end Cert.SumAdamValue
end
-- ==== Proof.RopeFKernel.lean ====
/- What the input projection stores: the products, and for the queries and keys of the dilated attentions the products turned by the angles of their positions. -/
module

public import proofs.«01_k».proof.Proof.NormMath
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopeFKernel

/-- The product of row `T` and column `k`. -/
def dot (x0 : Cert.Kernel22Ideal.S4096x1024.Idx → EReal) (x1 : Cert.Kernel22Ideal.S1024x5888.Idx → EReal) (T : Fin 4096) (k : Fin 5888) : EReal :=
  ∑ d : Fin 1024, x0 (ix2 T d) * x1 (ix2 d k)

/-- The cosine of position `s` at frequency `j`. -/
def cs (s : Fin 2048) (j : Fin 32) : EReal := Cert.Reference22Ideal.Read.val_main_v20 (F := Ideal) (ix2 s j)

/-- The sine of position `s` at frequency `j`. -/
def sn (s : Fin 2048) (j : Fin 32) : EReal := Cert.Reference22Ideal.Read.val_main_v21 (F := Ideal) (ix2 s j)

/-- The entry at row `T`, column `k`. -/
def spun (x0 : Cert.Kernel22Ideal.S4096x1024.Idx → EReal) (x1 : Cert.Kernel22Ideal.S1024x5888.Idx → EReal) (T : Fin 4096) (k : Fin 5888) : EReal :=
  if h : k.val < 1536 then
    if k.val % 64 < 32 then
      dot x0 x1 T k * cs ⟨T.val % 2048, by omega⟩ ⟨k.val % 32, by omega⟩ + dot x0 x1 T ⟨k.val + 32, by omega⟩ * -sn ⟨T.val % 2048, by omega⟩ ⟨k.val % 32, by omega⟩
    else dot x0 x1 T k * cs ⟨T.val % 2048, by omega⟩ ⟨k.val % 32, by omega⟩ + dot x0 x1 T ⟨k.val - 32, by omega⟩ * sn ⟨T.val % 2048, by omega⟩ ⟨k.val % 32, by omega⟩
  else dot x0 x1 T k

section

open Cert.Kernel22Ideal Cert.Kernel22Ideal.Gen

variable (m : (ℓ : Loc nD τ sig) → Buf (Elt Ideal) ℓ)

theorem idx : ∀ t : Fin cfg0.N, win0_0.index t = ![t.val % 4, 0] ∧ win0_1.index t = ![t.val / 4, 0] ∧ win0_2.index t = ![t.val % 2, 0]
    ∧ win0_3.index t = ![t.val % 2, 0] ∧ win0_4.index t = ![t.val % 4, t.val / 4] := (by decide +kernel : ∀ t : Fin grid0.N, _)

theorem lt (t : Fin cfg0.N) : t.val < 8 := t.isLt

variable (x0 : S4096x1024.Idx → EReal) (x1 : S1024x5888.Idx → EReal) (c : Dev nD)
  (h0 : m ((c : Thread nD τ).loc main_arg0) = x0) (h1 : m ((c : Thread nD τ).loc main_arg1) = x1)

include h0 in
theorem rd0 (t : Fin cfg0.N) (r : Fin 1024) (d : Fin 1024) : iblk m c 0 t (ix2 r d) = x0 (ix2 ⟨t.val % 4 * 1024 + r.val, by omega⟩ d) := by
  refine Eq.trans ?_ (congrFun h0 _)
  blk_simp [iblk]
  entry_read
  try pointwise
  blk_ext [idx t]

include h1 in
theorem rd1 (t : Fin cfg0.N) (q : Fin 2944) (d : Fin 1024) : iblk m c 1 t (ix2 q d) = x1 (ix2 d ⟨t.val / 4 * 2944 + q.val, by have := lt t; omega⟩) := by
  refine Eq.trans ?_ (congrFun h1 _)
  blk_simp [iblk]
  entry_read
  try pointwise
  blk_ext [idx t]

theorem mask (r : Fin 1024) (l : Fin 128) : k0_pay7 (ix2 r l) = if l.val % 64 < 32 then 1#1 else 0#1 := by
  pointwise [k0_pay7]
  revert l
  decide +kernel

theorem after_app {τ : Topo} {sig : RefSig} {Val : EltTy → Type} (l l' : List (HloOp τ sig Val)) (σ : Valuation τ sig Val) :
    StableHlo.after (l ++ l') σ = StableHlo.after l' (StableHlo.after l σ) := by
  induction l generalizing σ with
  | nil => rfl
  | cons a l ih => exact ih _

/-- The operations before the tables are put together. -/
def pre : Valuation τ sig (Elt Ideal) := StableHlo.after (hostOps0.take 20) (fun b => m (c, b))

theorem cut : StableHlo.after (hostOps0 (F := Ideal)) (fun b => m (c, b)) = StableHlo.after (hostOps0.drop 20) (pre m c) := by
  unfold pre
  rw [← after_app, List.take_append_drop]

theorem tail18 (σ : Valuation τ sig (Elt Ideal)) :
    StableHlo.after ((hostOps0 (F := Ideal)).drop 20) σ main_v18 = concatenate S2048x128 1 [⟨S2048x32, (σ main_v16 : (⟨S2048x32, .f32⟩ : BufTy).Contents (Elt Ideal))⟩, ⟨S2048x32, (σ main_v16 : (⟨S2048x32, .f32⟩ : BufTy).Contents (Elt Ideal))⟩, ⟨S2048x32, (σ main_v16 : (⟨S2048x32, .f32⟩ : BufTy).Contents (Elt Ideal))⟩, ⟨S2048x32, (σ main_v16 : (⟨S2048x32, .f32⟩ : BufTy).Contents (Elt Ideal))⟩] concatenates_S2048x32_S2048x32_S2048x32_S2048x32_S2048x128_d1 := by
  simp only [hostOps0, List.drop_succ_cons, List.drop_zero]
  after_results
  rfl

theorem tail21 (σ : Valuation τ sig (Elt Ideal)) :
    StableHlo.after ((hostOps0 (F := Ideal)).drop 20) σ main_v21 = concatenate S2048x128 1 [⟨S2048x32, (Host.negf (F := Ideal) (s := S2048x32) (φ := .f32) (σ main_v17) : (⟨S2048x32, .f32⟩ : BufTy).Contents (Elt Ideal))⟩, ⟨S2048x32, (σ main_v17 : (⟨S2048x32, .f32⟩ : BufTy).Contents (Elt Ideal))⟩, ⟨S2048x32, (Host.negf (F := Ideal) (s := S2048x32) (φ := .f32) (σ main_v17) : (⟨S2048x32, .f32⟩ : BufTy).Contents (Elt Ideal))⟩, ⟨S2048x32, (σ main_v17 : (⟨S2048x32, .f32⟩ : BufTy).Contents (Elt Ideal))⟩] concatenates_S2048x32_S2048x32_S2048x32_S2048x32_S2048x128_d1 := by
  simp only [hostOps0, List.drop_succ_cons, List.drop_zero]
  after_results
  rfl

theorem pre16 : pre m c main_v16 = Cert.Reference22Ideal.Read.val_main_v20 (F := Ideal) := by
  unfold pre
  simp only [hostOps0, List.take_succ_cons, List.take_zero]
  after_results_simp
  rfl

theorem pre17 : pre m c main_v17 = Cert.Reference22Ideal.Read.val_main_v21 (F := Ideal) := by
  unfold pre
  simp only [hostOps0, List.take_succ_cons, List.take_zero]
  after_results_simp
  rfl

set_option maxHeartbeats 1600000 in
theorem rd2 (t : Fin cfg0.N) (r : Fin 1024) (l : Fin 128) : iblk m c 2 t (ix2 r l)
    = cs ⟨t.val % 2 * 1024 + r.val, by omega⟩ ⟨l.val % 32, by omega⟩ := by
  have e : V m c main_v18 = _ := (congrFun (cut m c) main_v18).trans (tail18 (pre m c))
  blk_simp [iblk]
  have p : ((View.whole main_v18).slice (win0_2.rect t)).emb (ix2 r l) = ix2 ⟨t.val % 2 * 1024 + r.val, by omega⟩ l := by blk_ext [idx t]
  rw [p, e, pre16]
  pointwise
  unfold cs
  split_ifs
  all_goals first
    | omega
    | exact congrArg (fun j => Cert.Reference22Ideal.Read.val_main_v20 (F := Ideal) (ix2 _ j)) (Fin.ext (by first | (dsimp only; omega) | dsimp only))

set_option maxHeartbeats 1600000 in
theorem rd3 (t : Fin cfg0.N) (r : Fin 1024) (l : Fin 128) : iblk m c 3 t (ix2 r l)
    = if l.val % 64 < 32 then -sn ⟨t.val % 2 * 1024 + r.val, by omega⟩ ⟨l.val % 32, by omega⟩
      else sn ⟨t.val % 2 * 1024 + r.val, by omega⟩ ⟨l.val % 32, by omega⟩ := by
  have e : V m c main_v21 = _ := (congrFun (cut m c) main_v21).trans (tail21 (pre m c))
  blk_simp [iblk]
  have p : ((View.whole main_v21).slice (win0_3.rect t)).emb (ix2 r l) = ix2 ⟨t.val % 2 * 1024 + r.val, by omega⟩ l := by blk_ext [idx t]
  rw [p, e, pre17]
  pointwise
  unfold sn
  by_cases hl : l.val % 64 < 32
  all_goals first | rw [if_pos hl] | rw [if_neg hl]
  all_goals split_ifs
  all_goals first
    | omega
    | exact congrArg (fun j => Cert.Reference22Ideal.Read.val_main_v21 (F := Ideal) (ix2 _ j)) (Fin.ext (by first | (dsimp only; omega) | dsimp only))
    | exact congrArg (fun j => -Cert.Reference22Ideal.Read.val_main_v21 (F := Ideal) (ix2 _ j)) (Fin.ext (by first | (dsimp only; omega) | dsimp only))

theorem p1 (a : Vec Ideal S1024x1024 .bf16) (b : Vec Ideal S2944x1024 .bf16) (r : Fin 1024) (q : Fin 2944) :
    k0_pay1 a b (ix2 r q) = ∑ d : Fin 1024, a (ix2 r d) * b (ix2 q d) := by
  pointwise [k0_pay1]

/-- One tile turned: with its columns `v`, cosines `a` and sines `b`. -/
def tt (a b v : Vec Ideal S1024x128 .f32) (r : Fin 1024) (l : Fin 128) : EReal :=
  v (ix2 r l) * a (ix2 r l) + (if l.val % 64 < 32 then v (ix2 r ⟨(l.val + 32) % 128, by omega⟩) else v (ix2 r ⟨(l.val + 96) % 128, by omega⟩)) * b (ix2 r l)

theorem pays (a b v : Vec Ideal S1024x128 .f32) (r : Fin 1024) (l : Fin 128) :
    k0_pay8 a b v (ix2 r l) = tt a b v r l
    ∧ k0_pay12 (k0_pay6 b) (k0_pay10 a v) (k0_pay11 v) (ix2 r l) = tt a b v r l
    ∧ k0_pay13 (k0_pay5 a) (k0_pay6 b) k0_pay7 v (ix2 r l) = tt a b v r l
    ∧ k0_pay14 (k0_pay5 a) (k0_pay6 b) k0_pay7 v (ix2 r l) = tt a b v r l
    ∧ k0_pay15 (k0_pay5 a) (k0_pay6 b) k0_pay7 v (ix2 r l) = tt a b v r l
    ∧ k0_pay19 (k0_pay5 a) (k0_pay6 b) k0_pay7 v (ix2 r l) = tt a b v r l
    ∧ k0_pay20 (k0_pay5 a) (k0_pay6 b) k0_pay7 v (ix2 r l) = tt a b v r l
    ∧ k0_pay21 (k0_pay5 a) (k0_pay6 b) k0_pay7 v (ix2 r l) = tt a b v r l
    ∧ k0_pay2 (k0_pay5 a) (k0_pay6 b) k0_pay7 v (ix2 r l) = tt a b v r l
    ∧ k0_pay3 (k0_pay5 a) (k0_pay6 b) k0_pay7 v (ix2 r l) = tt a b v r l
    ∧ k0_pay4 (k0_pay5 a) (k0_pay6 b) k0_pay7 v (ix2 r l) = tt a b v r l
    ∧ k0_pay18 (k0_pay6 b) k0_pay7 (k0_pay16 v) (k0_pay17 (k0_pay5 a) v) 96#32 (ix2 r l) = tt a b v r l := by
  have key : v (ix2 r l) * a (ix2 r l) + Scalar.select (if l.val % 64 < 32 then 1#1 else 0#1) (v (ix2 r ⟨(l.val + 128 - 96) % 128, by omega⟩)) (v (ix2 r ⟨(l.val + 128 - 32) % 128, by omega⟩)) * b (ix2 r l) = tt a b v r l := by
    unfold tt
    refine congrArg (fun z => v (ix2 r l) * a (ix2 r l) + z * b (ix2 r l)) ?_
    by_cases hl : l.val % 64 < 32
    · rw [if_pos hl, if_pos hl, ValueIdx.select_one]
      exact congrArg (fun j => v (ix2 r j)) (Fin.ext (by dsimp only; omega))
    · rw [if_neg hl, if_neg hl, ValueIdx.select_zero]
      exact congrArg (fun j => v (ix2 r j)) (Fin.ext (by dsimp only; omega))
  refine ⟨?_, ?_, ?_, ?_, ?_, ?_, ?_, ?_, ?_, ?_, ?_, ?_⟩
  · refine Eq.trans ?_ key
    pointwise [k0_pay8, k0_pay5, k0_pay6, mask]
  · refine Eq.trans ?_ key
    pointwise [k0_pay12, k0_pay10, k0_pay11, k0_pay9, k0_pay5, k0_pay6, mask]
  · refine Eq.trans ?_ key
    pointwise [k0_pay13, k0_pay5, k0_pay6, mask]
  · refine Eq.trans ?_ key
    pointwise [k0_pay14, k0_pay5, k0_pay6, mask]
  · refine Eq.trans ?_ key
    pointwise [k0_pay15, k0_pay5, k0_pay6, mask]
  · refine Eq.trans ?_ key
    pointwise [k0_pay19, k0_pay5, k0_pay6, mask]
  · refine Eq.trans ?_ key
    pointwise [k0_pay20, k0_pay5, k0_pay6, mask]
  · refine Eq.trans ?_ key
    pointwise [k0_pay21, k0_pay5, k0_pay6, mask]
  · refine Eq.trans ?_ key
    pointwise [k0_pay2, k0_pay5, k0_pay6, mask]
  · refine Eq.trans ?_ key
    pointwise [k0_pay3, k0_pay5, k0_pay6, mask]
  · refine Eq.trans ?_ key
    pointwise [k0_pay4, k0_pay5, k0_pay6, mask]
  · refine Eq.trans ?_ key
    pointwise [k0_pay18, k0_pay16, k0_pay17, k0_pay5, k0_pay6, mask]

/-- What the array holds at row `r`, column `q` of the block of step `t`. -/
def goal (t : Fin cfg0.N) (y : S1024x2944.Idx) : EReal :=
  spun x0 x1 ⟨t.val % 4 * 1024 + (y 0 : ℕ), by have : (y 0 : ℕ) < 1024 := (y 0).isLt; omega⟩ ⟨t.val / 4 * 2944 + (y 1 : ℕ), by have : (y 1 : ℕ) < 2944 := (y 1).isLt; have := lt t; omega⟩

/-- A tile stored over others. -/
theorem step (G : S1024x2944.Idx → EReal) (o : ℕ) (inb : ∀ a, ![0, o] a + ![1024, 128] a ≤ S1024x2944.size a) (w : Vec Ideal S1024x128 .f32)
    (L : List (View.Piece (Elt Ideal) S1024x2944 .f32)) (y : S1024x2944.Idx)
    (hw : ∀ (r : Fin 1024) (l : Fin 128), w (ix2 r l) = G ((Rect.unit (s := S1024x2944) ![0, o] ![1024, 128] inb).emb (ix2 r l)))
    (hL : ¬(o ≤ (y 1 : ℕ) ∧ (y 1 : ℕ) < o + 128) → View.canon L y = G y) :
    View.canon (⟨Rect.unit (s := S1024x2944) ![0, o] ![1024, 128] inb, w⟩ :: L) y = G y := by
  have h0 : (y 0 : ℕ) < 1024 := (y 0).isLt
  by_cases h : o ≤ (y 1 : ℕ) ∧ (y 1 : ℕ) < o + 128
  · have e : y = (Rect.unit (s := S1024x2944) ![0, o] ![1024, 128] inb).emb (ix2 ⟨(y 0 : ℕ), h0⟩ ⟨(y 1 : ℕ) - o, by omega⟩) := by blk_ext []
    rw [e]
    exact (View.canon_cons_emb (Val := Elt Ideal) (Rect.unit (s := S1024x2944) ![0, o] ![1024, 128] inb) w L (ix2 ⟨(y 0 : ℕ), h0⟩ ⟨(y 1 : ℕ) - o, by omega⟩)).trans (hw _ _)
  · refine (View.canon_cons_of_not_mem _ L fun hm => h ?_).trans (hL h)
    have := ((Rect.mem_set_unit (s := S1024x2944) (off := ![0, o]) (size := ![1024, 128]) (inb := inb)).mp hm) 1
    exact this

include h0 h1 in
theorem prod (t : Fin cfg0.N) (r : Fin 1024) (q : Fin 2944) : k0_pay1 (iblk m c 0 t) (iblk m c 1 t) (ix2 r q)
    = dot x0 x1 ⟨t.val % 4 * 1024 + r.val, by omega⟩ ⟨t.val / 4 * 2944 + q.val, by have := lt t; omega⟩ := by
  rw [p1]
  unfold dot
  simp only [rd0 m x0 c h0, rd1 m x1 c h1]

include h0 h1 in
theorem tile (t : Fin cfg0.N) (ht : t.val < 4) (o : ℕ) (ho : o % 128 = 0 ∧ o < 1536) (inb : ∀ a, ![0, o] a + ![1024, 128] a ≤ S1024x2944.size a)
    (r : Fin 1024) (l : Fin 128) :
    tt (iblk m c 2 t) (iblk m c 3 t) (View.ld (Val := Elt Ideal) (e' := .f32) (k0_pay1 (iblk m c 0 t) (iblk m c 1 t)) (Rect.unit (s := S1024x2944) ![0, o] ![1024, 128] inb)) r l
    = goal x0 x1 t ((Rect.unit (s := S1024x2944) ![0, o] ![1024, 128] inb).emb (ix2 r l)) := by
  have hv : ∀ (l' : Fin 128), View.ld (Val := Elt Ideal) (e' := .f32) (k0_pay1 (iblk m c 0 t) (iblk m c 1 t)) (Rect.unit (s := S1024x2944) ![0, o] ![1024, 128] inb) (ix2 r l')
      = dot x0 x1 ⟨t.val % 4 * 1024 + r.val, by omega⟩ ⟨o + l'.val, by omega⟩ := by
    intro l'
    have e : (Rect.unit (s := S1024x2944) ![0, o] ![1024, 128] inb).emb (ix2 r l') = ix2 r ⟨o + l'.val, by omega⟩ := by blk_ext []
    refine (congrArg (k0_pay1 (iblk m c 0 t) (iblk m c 1 t)) e).trans ((prod m x0 x1 c h0 h1 t r _).trans ?_)
    exact congrArg (dot x0 x1 _) (Fin.ext (by dsimp only; omega))
  have e : (Rect.unit (s := S1024x2944) ![0, o] ![1024, 128] inb).emb (ix2 r l) = ix2 r ⟨o + l.val, by omega⟩ := by blk_ext []
  have eg : goal x0 x1 t (ix2 r ⟨o + l.val, by omega⟩) = spun x0 x1 ⟨t.val % 4 * 1024 + r.val, by omega⟩ ⟨t.val / 4 * 2944 + (o + l.val), by omega⟩ := rfl
  rw [e, eg]
  unfold tt spun
  rw [hv, hv, hv, rd2, rd3, dif_pos (show _ < 1536 by dsimp only; omega)]
  have z : t.val / 4 = 0 := by omega
  by_cases hl : l.val % 64 < 32
  · rw [if_pos hl, if_pos hl, if_pos (by dsimp only; omega)]
    refine congrArg₂ (· + ·) (congrArg₂ (· * ·) (congrArg (dot x0 x1 _) (Fin.ext ?_)) (congrArg₂ cs (Fin.ext ?_) (Fin.ext ?_)))
      (congrArg₂ (· * ·) (congrArg (dot x0 x1 _) (Fin.ext ?_)) (congrArg (- ·) (congrArg₂ sn (Fin.ext ?_) (Fin.ext ?_))))
    all_goals
      dsimp only
      omega
  · rw [if_neg hl, if_neg hl, if_neg (by dsimp only; omega)]
    refine congrArg₂ (· + ·) (congrArg₂ (· * ·) (congrArg (dot x0 x1 _) (Fin.ext ?_)) (congrArg₂ cs (Fin.ext ?_) (Fin.ext ?_)))
      (congrArg₂ (· * ·) (congrArg (dot x0 x1 _) (Fin.ext ?_)) (congrArg₂ sn (Fin.ext ?_) (Fin.ext ?_)))
    all_goals
      dsimp only
      omega

set_option maxHeartbeats 1600000 in
include h0 h1 in
theorem blockA (t : Fin cfg0.N) (ht : t.val < 4) (y : S1024x2944.Idx) : outsAt0 m c t.val t.isLt y = goal x0 x1 t y := by
  rw [outsAt0_A m c t ht]
  frame_open
  simp (disch := decide) only [↓View.readCov_skip, ↓View.readCov_fill]
  frame_out
  iterate 12 (refine step (goal x0 x1 t) _ _ _ _ _ ?_ fun _ => ?_; swap)
  · obtain ⟨r, q, rfl⟩ : ∃ (r : Fin 1024) (q : Fin 2944), y = ix2 r q := ⟨y 0, y 1, by blk_ext []⟩
    dsimp only [ix2] at *
    refine (congrFun (View.canon_cons_unit_lit _ _ [] (by decide)) _).trans ((prod m x0 x1 c h0 h1 t r q).trans ?_)
    unfold goal spun
    rw [dif_neg (show ¬_ < 1536 by dsimp only [ix2]; omega)]
    rfl
  · exact fun r l => (pays _ _ _ r l).1.trans (tile m x0 x1 c h0 h1 t ht 0 (by decide) _ r l)
  · exact fun r l => (pays _ _ _ r l).2.1.trans (tile m x0 x1 c h0 h1 t ht 128 (by decide) _ r l)
  · exact fun r l => (pays _ _ _ r l).2.2.1.trans (tile m x0 x1 c h0 h1 t ht 256 (by decide) _ r l)
  · exact fun r l => (pays _ _ _ r l).2.2.2.1.trans (tile m x0 x1 c h0 h1 t ht 384 (by decide) _ r l)
  · exact fun r l => (pays _ _ _ r l).2.2.2.2.1.trans (tile m x0 x1 c h0 h1 t ht 512 (by decide) _ r l)
  · exact fun r l => (pays _ _ _ r l).2.2.2.2.2.2.2.2.2.2.2.trans (tile m x0 x1 c h0 h1 t ht 640 (by decide) _ r l)
  · exact fun r l => (pays _ _ _ r l).2.2.2.2.2.1.trans (tile m x0 x1 c h0 h1 t ht 768 (by decide) _ r l)
  · exact fun r l => (pays _ _ _ r l).2.2.2.2.2.2.1.trans (tile m x0 x1 c h0 h1 t ht 896 (by decide) _ r l)
  · exact fun r l => (pays _ _ _ r l).2.2.2.2.2.2.2.1.trans (tile m x0 x1 c h0 h1 t ht 1024 (by decide) _ r l)
  · exact fun r l => (pays _ _ _ r l).2.2.2.2.2.2.2.2.1.trans (tile m x0 x1 c h0 h1 t ht 1152 (by decide) _ r l)
  · exact fun r l => (pays _ _ _ r l).2.2.2.2.2.2.2.2.2.1.trans (tile m x0 x1 c h0 h1 t ht 1280 (by decide) _ r l)
  · exact fun r l => (pays _ _ _ r l).2.2.2.2.2.2.2.2.2.2.1.trans (tile m x0 x1 c h0 h1 t ht 1408 (by decide) _ r l)

include h0 h1 in
theorem blockB (t : Fin cfg0.N) (ht : ¬t.val < 4) (y : S1024x2944.Idx) : outsAt0 m c t.val t.isLt y = goal x0 x1 t y := by
  obtain ⟨r, q, rfl⟩ : ∃ (r : Fin 1024) (q : Fin 2944), y = ix2 r q := ⟨y 0, y 1, by blk_ext []⟩
  rw [outsAt0_B m c t ht]
  frame_out
  refine (prod m x0 x1 c h0 h1 t r q).trans ?_
  unfold goal spun
  rw [dif_neg (show ¬_ < 1536 by dsimp only [ix2]; omega)]
  rfl

include h0 h1 in
theorem final4 : (dats m 0 c).arrAt 4 cfg0.N = fun i => spun x0 x1 (i 0) (i 1) := by
  refine (dats m 0 c).arrAt_eq_of_covers 4 _ (by decide +kernel) fun t _ y => ?_
  blk_simp
  rw [after0_4]
  have e : outsAt0 m c t.val t.isLt y = goal x0 x1 t y := by
    by_cases ht : t.val < 4
    · exact blockA m x0 x1 c h0 h1 t ht y
    · exact blockB m x0 x1 c h0 h1 t ht y
  refine e.trans ?_
  obtain ⟨r, q, rfl⟩ : ∃ (r : Fin 1024) (q : Fin 2944), y = ix2 r q := ⟨y 0, y 1, by blk_ext []⟩
  have p : ((win0_4.blk t).view.emb (ix2 r q) : S4096x5888.Idx) = ix2 ⟨t.val % 4 * 1024 + r.val, by omega⟩ ⟨t.val / 4 * 2944 + q.val, by have := lt t; omega⟩ := by blk_ext [idx t]
  exact (congrArg (fun i => spun x0 x1 (i 0) (i 1)) p).symm

end
end Cert.RopeFKernel
end
-- ==== Proof.RopeFValue.lean ====
/- The input projection over the extended reals, its queries and keys turned by the angles of their positions. -/
module

public import proofs.«01_k».proof.Defs
public import proofs.«01_k».proof.Proof.RopeFKernel

@[expose] public section

set_option maxRecDepth 16384

noncomputable section

open Idealize.ShloMosaic Idealize.ShloMosaic.TcCoe Idealize.SL.Sem
open Idealize.ShloMosaic.Pipeline (Dat)
open Cert.RopeFKernel

namespace Cert.RopeFValue

section

open Cert.Reference22Ideal Cert.Reference22Ideal.Gen Cert.Reference22Ideal.Read

variable (x0 : S4096x1024.Idx → EReal) (x1 : S1024x5888.Idx → EReal)

theorem prod (T : Fin 4096) (k : Fin 5888) : val_main_v0 (F := Ideal) x0 x1 (ix2 T k) = dot x0 x1 T k := by
  unfold dot
  pointwise [val_main_v0]

/-- The halves of a head, turned. -/
theorem halves (a b c s : EReal) : a * c - b * s = a * c + b * -s := by
  rw [sub_eq_add_neg, mul_neg]

theorem tabc (s : Fin 2048) (j : Fin 32) : val_main_v55 (F := Ideal) (ix2 s j) = cs s j := rfl

theorem tabs (s : Fin 2048) (j : Fin 32) : val_main_v56 (F := Ideal) (ix2 s j) = sn s j := rfl

theorem turn0 (T : Fin 4096) (k : Fin 768) : val_main_v40 (F := Ideal) x0 x1 (ix2 T k) = spun x0 x1 T ⟨k.val, by omega⟩ := by
  unfold spun
  rw [dif_pos (show _ < 1536 by dsimp only; omega)]
  pointwise [val_main_v40, val_main_v39, val_main_v38]
  split
  next h =>
    pointwise [val_main_v30, val_main_v29, val_main_v28, val_main_v27, val_main_v26, val_main_v25, val_main_v24, val_main_v23, val_main_v22, val_main_v7, val_main_v6, val_main_v2, val_main_v1, prod]
    rw [halves]
    refine congrArg₂ (· + ·) (congrArg₂ (· * ·) (congrArg (dot x0 x1 _) (Fin.ext ?_)) (congrArg₂ cs (Fin.ext ?_) (Fin.ext ?_)))
      (congrArg₂ (· * ·) (congrArg (dot x0 x1 _) (Fin.ext ?_)) (congrArg (- ·) (congrArg₂ sn (Fin.ext ?_) (Fin.ext ?_))))
    all_goals
      dsimp only
      try omega
  next h =>
    pointwise [val_main_v37, val_main_v36, val_main_v35, val_main_v34, val_main_v33, val_main_v32, val_main_v31, val_main_v23, val_main_v22, val_main_v7, val_main_v6, val_main_v2, val_main_v1, prod]
    refine congrArg₂ (· + ·) (congrArg₂ (· * ·) (congrArg (dot x0 x1 _) (Fin.ext ?_)) (congrArg₂ cs (Fin.ext ?_) (Fin.ext ?_)))
      (congrArg₂ (· * ·) (congrArg (dot x0 x1 _) (Fin.ext ?_)) (congrArg₂ sn (Fin.ext ?_) (Fin.ext ?_)))
    all_goals
      dsimp only
      try omega

theorem turn1 (T : Fin 4096) (k : Fin 768) : val_main_v75 (F := Ideal) x0 x1 (ix2 T k) = spun x0 x1 T ⟨k.val + 768, by omega⟩ := by
  unfold spun
  rw [dif_pos (show _ < 1536 by dsimp only; omega)]
  by_cases h : k.val % 64 < 32
  · rw [if_pos (show _ < 32 by dsimp only; omega)]
    pointwise [val_main_v75, val_main_v74, val_main_v73]
    split
    next _ =>
      pointwise [val_main_v65, val_main_v64, val_main_v63, val_main_v62, val_main_v61, val_main_v60, val_main_v59, val_main_v58, val_main_v57, val_main_v42, val_main_v41, val_main_v3, val_main_v1, prod, tabc, tabs]
      refine (halves _ _ _ _).trans ?_
      refine congrArg₂ (· + ·) (congrArg₂ (· * ·) (congrArg (dot x0 x1 _) (Fin.ext ?_)) (congrArg₂ cs (Fin.ext ?_) (Fin.ext ?_)))
        (congrArg₂ (· * ·) (congrArg (dot x0 x1 _) (Fin.ext ?_)) (congrArg (- ·) (congrArg₂ sn (Fin.ext ?_) (Fin.ext ?_))))
      all_goals
        dsimp only
        try omega
    next hn => exact absurd h hn
  · rw [if_neg (show ¬_ < 32 by dsimp only; omega)]
    pointwise [val_main_v75, val_main_v74, val_main_v73]
    split
    next hp => exact absurd hp h
    next _ =>
      pointwise [val_main_v72, val_main_v71, val_main_v70, val_main_v69, val_main_v68, val_main_v67, val_main_v66, val_main_v58, val_main_v57, val_main_v42, val_main_v41, val_main_v3, val_main_v1, prod, tabc, tabs]
      refine congrArg₂ (· + ·) (congrArg₂ (· * ·) (congrArg (dot x0 x1 _) (Fin.ext ?_)) (congrArg₂ cs (Fin.ext ?_) (Fin.ext ?_)))
        (congrArg₂ (· * ·) (congrArg (dot x0 x1 _) (Fin.ext ?_)) (congrArg₂ sn (Fin.ext ?_) (Fin.ext ?_)))
      all_goals
        dsimp only
        try omega

theorem ref (T : Fin 4096) (k : Fin 5888) : val_main_v77 (F := Ideal) x0 x1 (ix2 T k) = spun x0 x1 T k := by
  pointwise [val_main_v77]
  split
  next h => exact turn0 x0 x1 T ⟨k.val, h⟩
  next h =>
  split
  next h' => exact (turn1 x0 x1 T ⟨k.val - 768, h'⟩).trans (congrArg (spun x0 x1 T) (Fin.ext (by dsimp only; omega)))
  next h' =>
  unfold spun
  rw [dif_neg (show ¬k.val < 1536 by omega)]
  split
  next h'' =>
    pointwise [val_main_v4, val_main_v1, prod]
    exact congrArg (dot x0 x1 T) (Fin.ext (by dsimp only; omega))
  next h'' =>
    pointwise [val_main_v76, prod]
    exact congrArg (dot x0 x1 T) (Fin.ext (by dsimp only; omega))

theorem refs : val_main_v77 (F := Ideal) x0 x1 = fun i => spun x0 x1 (i 0) (i 1) := by
  funext i
  obtain ⟨T, k, rfl⟩ : ∃ (T : Fin 4096) (k : Fin 5888), i = ix2 T k := ⟨i 0, i 1, by blk_ext []⟩
  exact ref x0 x1 T k

end

set_option maxHeartbeats 1600000 in
/-- Kernel and reference compute the same over the extended reals. -/
theorem value : Cert.algebraic_Kernel22Ideal_Reference22Ideal := by
  intro m g m' g' _ hagree
  refine ⟨_, Cert.Kernel22Ideal.Value.run_blocks m g, ?_⟩
  refine (θ_run _ _ _).mono (fun r h c => ?_) (Cert.Reference22Ideal.Value.run m' g')
  obtain ⟨a0, a1⟩ := hagree c
  refine ⟨(h c).1.trans ?_, (h c).2⟩
  refine (Cert.Reference22Ideal.Read.val_main_v77_eq _ _).trans ?_
  rw [a0, a1]
  exact (refs _ _).trans (final4 m _ _ c rfl rfl).symm

end Cert.RopeFValue
end
-- ==== Proof.DbiasReads.lean ====
/- What the bias kernel reads: the masked table's gradient and the map of lanes. -/
module

public import proofs.«01_k».proof.Proof.Gen.Kernel23Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DbiasReads

open Cert.Kernel23Ideal Cert.Kernel23Ideal.Gen

variable (m : (ℓ : Loc nD τ sig) → Buf (Elt Ideal) ℓ)

theorem idx : ∀ t : Fin cfg0.N, win0_0.index t = ![t.val, 0, 0, 0] ∧ win0_1.index t = ![0, 0] ∧ win0_2.index t = ![t.val, 0, 0] := (by decide +kernel : ∀ t : Fin grid0.N, _)

theorem lt (t : Fin cfg0.N) : t.val < 4 := t.isLt

/-- Key column `j` is in the window of query column `q`. -/
def near (j q : ℕ) : Prop := min (q - 8) 48 ≤ j ∧ j < min (q - 8) 48 + 16

instance (j q : ℕ) : Decidable (near j q) := inferInstanceAs (Decidable (_ ∧ _))

theorem seen : ∀ j q : Fin 64, IntOp.andi (IntOp.cmpi .sge (BitVec.ofNat 32 j.val) (IntOp.minsi (IntOp.maxsi (IntOp.subi (BitVec.ofNat 32 q.val) 8#32) 0#32) 48#32))
    (IntOp.cmpi .slt (BitVec.ofNat 32 j.val) (IntOp.addi (IntOp.minsi (IntOp.maxsi (IntOp.subi (BitVec.ofNat 32 q.val) 8#32) 0#32) 48#32) 16#32))
      = if near j.val q.val then 1#1 else 0#1 := by
  decide +kernel

/-- The lane of the result that lane `p` of the row of sums goes to, if any. -/
def aim (p : ℕ) : BitVec 32 := Scalar.select (IntOp.cmpi .slt (BitVec.ofNat 32 (p % 64)) 16#32)
  (IntOp.addi (IntOp.addi (IntOp.muli (BitVec.ofNat 32 (p / 64)) 32#32) 15#32) (BitVec.ofNat 32 (p % 64)))
  (Scalar.select (IntOp.cmpi .sge (BitVec.ofNat 32 (p % 64)) 49#32)
    (IntOp.subi (IntOp.addi (Scalar.select (IntOp.cmpi .eq (BitVec.ofNat 32 (p / 64)) 7#32) 0#32 (IntOp.addi (IntOp.muli (BitVec.ofNat 32 (p / 64)) 32#32) 32#32))
      (BitVec.ofNat 32 (p % 64))) 49#32) 4294967295#32)

/-- Lane `p` of the row of sums goes to lane `u` of the result. -/
def goes (p u : ℕ) : Prop := u < 256 ∧ u % 32 < 31 ∧ p = (64 * (u / 32) + u % 32 + 497) % 512

instance (p u : ℕ) : Decidable (goes p u) := inferInstanceAs (Decidable (_ ∧ _))

theorem aims : ∀ p : Fin 512, aim p.val = if p.val % 64 < 16 then BitVec.ofNat 32 (p.val / 64 * 32 + 15 + p.val % 64)
    else if 49 ≤ p.val % 64 then BitVec.ofNat 32 ((p.val / 64 + 1) % 8 * 32 + p.val % 64 - 49) else 4294967295#32 := by
  decide +kernel

theorem hits (p u : Fin 512) : IntOp.cmpi .eq (aim p.val) (BitVec.ofNat 32 u.val) = if goes p.val u.val then 1#1 else 0#1 := by
  rw [aims]
  have e : ∀ a : ℕ, a < 512 → IntOp.cmpi .eq (BitVec.ofNat 32 a) (BitVec.ofNat 32 u.val) = if a = u.val then 1#1 else 0#1 := by
    intro a ha
    by_cases h : a = u.val
    · rw [if_pos h, h]; simp [IntOp.cmpi]
    · rw [if_neg h]
      have : ¬BitVec.ofNat 32 a = BitVec.ofNat 32 u.val := fun k => h (by
        have := congrArg BitVec.toNat k
        rwa [BitVec.toNat_ofNat, BitVec.toNat_ofNat, Nat.mod_eq_of_lt (by omega), Nat.mod_eq_of_lt (by omega)] at this)
      show BitVec.ofBool (_ == _) = 0#1
      rw [beq_eq_false_iff_ne.mpr this]
      rfl
  have hp := p.isLt
  have hu := u.isLt
  by_cases h1 : p.val % 64 < 16
  · rw [if_pos h1, e _ (by omega)]
    refine if_congr ?_ rfl rfl
    unfold goes
    omega
  · by_cases h2 : 49 ≤ p.val % 64
    · rw [if_neg h1, if_pos h2, e _ (by omega)]
      refine if_congr ?_ rfl rfl
      unfold goes
      omega
    · rw [if_neg h1, if_neg h2, if_neg (by unfold goes; omega)]
      have : ¬4294967295#32 = BitVec.ofNat 32 u.val := fun k => by
        have := congrArg BitVec.toNat k
        rw [BitVec.toNat_ofNat, BitVec.toNat_ofNat, Nat.mod_eq_of_lt (by omega), Nat.mod_eq_of_lt (by omega)] at this
        omega
      show BitVec.ofBool (_ == _) = 0#1
      rw [beq_eq_false_iff_ne.mpr this]
      rfl

variable (x0 : S4x8x512x128.Idx → EReal) (c : Dev nD) (h0 : m ((c : Thread nD τ).loc main_arg0) = x0)

include h0 in
theorem rd0 (t : Fin cfg0.N) (x : Fin 8) (p : Fin 512) (l : Fin 128) : iblk m c 0 t (ix4 0 x p l)
    = if near (p.val % 64) (l.val % 64) then x0 (ix4 ⟨t.val, lt t⟩ x p l) else (0 : EReal) := by
  rw [← h0]
  have e : ((win0_0.blk t).view.emb (ix4 0 x p l) : S4x8x512x128.Idx) = ix4 ⟨t.val, lt t⟩ x p l := by blk_ext [idx t]
  blk_simp [iblk]
  entry_read
  refine (congrArg _ e).trans ?_
  pointwise
  rw [seen ⟨p.val % 64, by omega⟩ ⟨l.val % 64, by omega⟩]
  split
  · exact ValueIdx.select_one ..
  · exact ValueIdx.select_zero ..

theorem rd1 (t : Fin cfg0.N) (p : Fin 512) (l : Fin 512) : iblk m c 1 t (ix2 p l) = (if goes p.val l.val then (1 : EReal) else (0 : EReal) : EReal) := by
  have e : ((win0_1.blk t).view.emb (ix2 p l) : S512x512.Idx) = ix2 p l := by blk_ext [idx t]
  blk_simp [iblk]
  entry_read
  refine (congrArg _ e).trans ?_
  pointwise
  refine (congrArg (FloatOps.uitofp (F := Ideal) FTy.bf16) (hits p l)).trans ?_
  split
  · simp [FloatOps.uitofp]
  · simp [FloatOps.uitofp]

end Cert.DbiasReads
end
-- ==== Proof.DbiasPays.lean ====
/- The rows of sums the bias kernel stores: each adds, for one class and one head, the 64 columns of a tile turned by their own number. -/
module

public import proofs.«01_k».proof.Proof.Gen.Kernel23Ideal.Skeleton
public import Idealize.ShloMosaic.Lib.Pipeline.ValueKit
public import Idealize.ShloMosaic.Lib.Pointwise

@[expose] public section

set_option maxRecDepth 65536

noncomputable section

open Idealize.ShloMosaic Idealize.ShloMosaic.TcCoe Idealize.SL.Sem

namespace Cert.DbiasPays

open Cert.Kernel23Ideal Cert.Kernel23Ideal.Gen

/-- What is stored for the first head of the block. -/
def z0 (v : Vec Ideal S1x1x512x128 .f32) : FVec Ideal S1x1x512 .f32 := k0_pay6 (k0_pay3 v) (k0_pay4 v) (k0_pay5 v)

/-- What is stored for the second head of the block. -/
def z1 (v : Vec Ideal S1x1x512x128 .f32) : FVec Ideal S1x1x512 .f32 := k0_pay10 (k0_pay7 (k0_pay2 v)) (k0_pay8 (k0_pay2 v)) (k0_pay9 (k0_pay2 v))

theorem cg (v : Vec Ideal S1x1x512x128 .f32) {p p' : Fin 512} {q q' : Fin 128} (h : p.val = p'.val) (k : q.val = q'.val) :
    v (ix4 0 0 p q) = v (ix4 0 0 p' q') := by
  rw [Fin.ext h, Fin.ext k]

theorem cr (v : FVec Ideal S8x512 .f32) (s : Fin 8) {p p' : Fin 512} (h : p.val = p'.val) : v (ix2 s p) = v (ix2 s p') := by
  rw [Fin.ext h]

theorem y0 (v : Vec Ideal S1x1x512x128 .f32) (s : Fin 8) (l : Fin 512) : k0_pay3 v (ix2 s l)
    = ∑ g : Fin 8, v (ix4 0 0 ⟨(l.val + 8 * g.val) % 512, by omega⟩ ⟨8 * g.val + s.val, by omega⟩) := by
  simp only [Fin.sum_univ_eight]
  pointwise [k0_pay3, k0_pay2]
  iterate 7 refine congrArg₂ (· + ·) ?_ ?_
  all_goals exact cg v (by dsimp only <;> omega) (by dsimp only <;> omega)

theorem y1 (v : Vec Ideal S1x1x512x128 .f32) (s : Fin 8) (l : Fin 512) : k0_pay7 (k0_pay2 v) (ix2 s l)
    = ∑ g : Fin 8, v (ix4 0 0 ⟨(l.val + 8 * g.val) % 512, by omega⟩ ⟨64 + (8 * g.val + s.val), by omega⟩) := by
  simp only [Fin.sum_univ_eight]
  pointwise [k0_pay7, k0_pay2]
  iterate 7 refine congrArg₂ (· + ·) ?_ ?_
  all_goals exact cg v (by dsimp only <;> omega) (by dsimp only <;> omega)

theorem zz0 (v : Vec Ideal S1x1x512x128 .f32) (l : Fin 512) : z0 v (ix3 0 0 l)
    = ∑ s : Fin 8, k0_pay3 v (ix2 s ⟨(l.val + s.val) % 512, by omega⟩) := by
  simp only [Fin.sum_univ_eight]
  unfold z0
  pointwise [k0_pay6, k0_pay4, k0_pay5]
  iterate 7 refine congrArg₂ (· + ·) ?_ ?_
  all_goals exact cr _ _ (by dsimp only; omega)

theorem zz1 (v : Vec Ideal S1x1x512x128 .f32) (l : Fin 512) : z1 v (ix3 0 0 l)
    = ∑ s : Fin 8, k0_pay7 (k0_pay2 v) (ix2 s ⟨(l.val + s.val) % 512, by omega⟩) := by
  simp only [Fin.sum_univ_eight]
  unfold z1
  pointwise [k0_pay10, k0_pay8, k0_pay9]
  iterate 7 refine congrArg₂ (· + ·) ?_ ?_
  all_goals exact cr _ _ (by dsimp only; omega)

/-- A sum of 64 terms, by its eight residues. -/
theorem split (f : Fin 64 → EReal) : ∑ q : Fin 64, f q = ∑ s : Fin 8, ∑ g : Fin 8, f ⟨8 * g.val + s.val, by omega⟩ := by
  rw [Finset.sum_comm, ← Fintype.sum_prod_type' (fun (g s : Fin 8) => f ⟨8 * g.val + s.val, by omega⟩)]
  refine (Fintype.sum_equiv (finProdFinEquiv (m := 8) (n := 8)) _ _ fun x => congrArg f (Fin.ext ?_)).symm
  show 8 * x.1.val + x.2.val = x.2.val + 8 * x.1.val
  omega

/-- The entry at lane `l` of the first head's row. -/
theorem row0 (v : Vec Ideal S1x1x512x128 .f32) (l : Fin 512) : z0 v (ix3 0 0 l)
    = ∑ q : Fin 64, v (ix4 0 0 ⟨(l.val + q.val) % 512, by omega⟩ ⟨q.val, by omega⟩) := by
  rw [zz0, split]
  refine Finset.sum_congr rfl fun s _ => (y0 v s _).trans (Finset.sum_congr rfl fun g _ => cg v ?_ rfl)
  dsimp only
  omega

/-- The entry at lane `l` of the second head's row. -/
theorem row1 (v : Vec Ideal S1x1x512x128 .f32) (l : Fin 512) : z1 v (ix3 0 0 l)
    = ∑ q : Fin 64, v (ix4 0 0 ⟨(l.val + q.val) % 512, by omega⟩ ⟨64 + q.val, by omega⟩) := by
  rw [zz1, split]
  refine Finset.sum_congr rfl fun s _ => (y1 v s _).trans (Finset.sum_congr rfl fun g _ => cg v ?_ rfl)
  dsimp only
  omega

variable (v : Vec Ideal S1x1x512x128 .f32)

theorem a1 : k0_pay15 (k0_pay12 v) (k0_pay13 v) (k0_pay14 v) 511#32 = z0 v := rfl
theorem b1 : k0_pay19 (k0_pay17 (k0_pay11 v)) (k0_pay18 (k0_pay11 v)) = z1 v := rfl
theorem a2 : k0_pay23 (k0_pay21 v) (k0_pay22 v) = z0 v := rfl
theorem b2 : k0_pay27 (k0_pay24 (k0_pay20 v)) (k0_pay25 (k0_pay20 v)) (k0_pay26 (k0_pay20 v)) 496#32 = z1 v := rfl
theorem a3 : k0_pay31 (k0_pay29 v) (k0_pay30 v) = z0 v := rfl
theorem b3 : k0_pay35 (k0_pay32 (k0_pay28 v)) (k0_pay33 (k0_pay28 v)) (k0_pay34 (k0_pay28 v)) 507#32 = z1 v := rfl
theorem a4 : k0_pay40 (k0_pay37 v) (k0_pay38 v) (k0_pay39 v) = z0 v := rfl
theorem b4 : k0_pay42 (k0_pay41 (k0_pay36 v)) = z1 v := rfl
theorem a5 : k0_pay47 (k0_pay44 v) (k0_pay45 v) (k0_pay46 v) = z0 v := rfl
theorem b5 : k0_pay51 (k0_pay48 (k0_pay43 v)) (k0_pay49 (k0_pay43 v)) (k0_pay50 (k0_pay43 v)) = z1 v := rfl
theorem a6 : k0_pay56 (k0_pay54 v) (k0_pay55 v) = z0 v := rfl
theorem b6 : k0_pay60 (k0_pay57 (k0_pay52 v)) (k0_pay58 (k0_pay52 v)) (k0_pay59 (k0_pay52 v)) = z1 v := rfl
theorem a7 : k0_pay64 (k0_pay62 v) (k0_pay63 v) = z0 v := rfl
theorem b7 : k0_pay68 (k0_pay65 (k0_pay61 v)) (k0_pay66 (k0_pay61 v)) (k0_pay67 (k0_pay61 v)) 511#32 = z1 v := rfl

end Cert.DbiasPays
end
-- ==== Proof.DbiasKernel.lean ====
/- What the bias kernel stores: for each head and lane, the sum over the eight classes of the rows of sums the lane map picks, each turned by 32 lanes per class. -/
module

public import proofs.«01_k».proof.Proof.DbiasReads
public import proofs.«01_k».proof.Proof.DbiasPays
public import proofs.«01_k».proof.Proof.Reals
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DbiasKernel

open Cert.Kernel23Ideal Cert.Kernel23Ideal.Gen Cert.DbiasReads Cert.DbiasPays

variable (m : (ℓ : Loc nD τ sig) → Buf (Elt Ideal) ℓ)

/-- What is stored for a head, from its eight rows of sums and the map of lanes. -/
def out (z : Fin 8 → Fin 512 → EReal) (M : Fin 512 → Fin 512 → EReal) (L : Fin 512) : EReal :=
  ∑ x : Fin 8, (∑ p : Fin 512, z x p * M p ⟨(L.val + 512 - 32 * x.val) % 512, by omega⟩
    + ∑ p : Fin 512, (z x p - z x p) * M p ⟨(L.val + 512 - 32 * x.val) % 512, by omega⟩)

theorem pe (v : Vec Ideal S1x8x512 .f32) (a b : Vec Ideal S512x512 .bf16) (x : Fin 8) (u : Fin 512) :
    k0_pay69 v a b (ix2 x u) = ∑ p : Fin 512, v (ix3 0 x p) * a (ix2 p u) + ∑ p : Fin 512, (v (ix3 0 x p) - v (ix3 0 x p)) * b (ix2 p u)
    ∧ k0_pay72 v a b (ix2 x u) = ∑ p : Fin 512, v (ix3 0 x p) * a (ix2 p u) + ∑ p : Fin 512, (v (ix3 0 x p) - v (ix3 0 x p)) * b (ix2 p u) := by
  refine ⟨?_, ?_⟩
  · pointwise [k0_pay69]
  · pointwise [k0_pay72]

theorem po (v : Vec Ideal S1x8x512 .f32) (a b : Vec Ideal S512x512 .bf16) (s : Fin 8) (L : Fin 512) :
    k0_pay71 (k0_pay69 v a b) (k0_pay70 v a b) (ix3 0 s L) = ∑ x : Fin 8, k0_pay69 v a b (ix2 x ⟨(L.val + 512 - 32 * x.val) % 512, by omega⟩)
    ∧ k0_pay1 (k0_pay72 v a b) (k0_pay73 v a b) (ix3 0 s L) = ∑ x : Fin 8, k0_pay72 v a b (ix2 x ⟨(L.val + 512 - 32 * x.val) % 512, by omega⟩) := by
  have e : ∀ w : FVec Ideal S8x512 .f32, w (ix2 0 L) = w (ix2 0 ⟨(L.val + 512) % 512, by omega⟩) := fun w => cr w 0 (by dsimp only; omega)
  simp only [Fin.sum_univ_eight]
  refine ⟨?_, ?_⟩
  · pointwise [k0_pay71, k0_pay70]
    iterate 7 refine congrArg₂ (· + ·) ?_ rfl
    exact e _
  · pointwise [k0_pay1, k0_pay73]
    iterate 7 refine congrArg₂ (· + ·) ?_ rfl
    exact e _

theorem a0 (v : Vec Ideal S1x1x512x128 .f32) : k0_pay6 (k0_pay3 v) (k0_pay4 v) (k0_pay5 v) = z0 v := rfl

theorem b0 (v : Vec Ideal S1x1x512x128 .f32) : k0_pay10 (k0_pay7 (k0_pay2 v)) (k0_pay8 (k0_pay2 v)) (k0_pay9 (k0_pay2 v)) = z1 v := rfl

variable (X : Vec Ideal S1x8x512x128 .f32) (M : Vec Ideal S512x512 .bf16)

attribute [local irreducible] z0 z1

/-- The row of sums of head `h` and class `x`: 64 columns, each turned by its own number. -/
def zrow (h : Fin 2) (x : Fin 8) (p : Fin 512) : EReal :=
  ∑ q : Fin 64, (X (ix4 0 x ⟨(p.val + q.val) % 512, by omega⟩ ⟨64 * h.val + q.val, by omega⟩) : EReal)

/-- The rows of sums as one array. -/
def rows (i : S2x8x512.Idx) : EReal := zrow X (i 0) (i 1) (i 2)

theorem tile0 (x : ℕ) (hx : x < 8) (inb : ∀ a, ![0, x, 0, 0] a + ![1, 1, 512, 128] a ≤ S1x8x512x128.size a)
    (inb' : ∀ a, ![0, x, 0] a + ![1, 1, 512] a ≤ S2x8x512.size a) (l : Fin 512) :
    z0 (View.ld (Val := Elt Ideal) (e' := .f32) (X) (Rect.unit (s := S1x8x512x128) ![0, x, 0, 0] ![1, 1, 512, 128] inb)) (ix3 0 0 l)
      = rows X ((Rect.unit (s := S2x8x512) ![0, x, 0] ![1, 1, 512] inb').emb (ix3 0 0 l)) := by
  have e : (Rect.unit (s := S2x8x512) ![0, x, 0] ![1, 1, 512] inb').emb (ix3 0 0 l) = ix3 0 ⟨x, hx⟩ l := by blk_ext []
  refine ((row0 _ l).trans ?_).trans (congrArg (rows X) e).symm
  show _ = zrow X 0 ⟨x, hx⟩ l
  unfold zrow
  refine Finset.sum_congr rfl fun q _ => ?_
  have k : (Rect.unit (s := S1x8x512x128) ![0, x, 0, 0] ![1, 1, 512, 128] inb).emb (ix4 0 0 ⟨(l.val + q.val) % 512, by omega⟩ ⟨q.val, by omega⟩)
      = ix4 0 ⟨x, hx⟩ ⟨(l.val + q.val) % 512, by omega⟩ ⟨q.val, by omega⟩ := by blk_ext []
  refine (congrArg X k).trans ?_
  exact congrArg (fun o => X (ix4 0 ⟨x, hx⟩ ⟨(l.val + q.val) % 512, by omega⟩ o)) (Fin.ext (by show _ = 64 * 0 + q.val; dsimp only <;> omega))

theorem tile1 (x : ℕ) (hx : x < 8) (inb : ∀ a, ![0, x, 0, 0] a + ![1, 1, 512, 128] a ≤ S1x8x512x128.size a)
    (inb' : ∀ a, ![1, x, 0] a + ![1, 1, 512] a ≤ S2x8x512.size a) (l : Fin 512) :
    z1 (View.ld (Val := Elt Ideal) (e' := .f32) (X) (Rect.unit (s := S1x8x512x128) ![0, x, 0, 0] ![1, 1, 512, 128] inb)) (ix3 0 0 l)
      = rows X ((Rect.unit (s := S2x8x512) ![1, x, 0] ![1, 1, 512] inb').emb (ix3 0 0 l)) := by
  have e : (Rect.unit (s := S2x8x512) ![1, x, 0] ![1, 1, 512] inb').emb (ix3 0 0 l) = ix3 1 ⟨x, hx⟩ l := by blk_ext []
  refine ((row1 _ l).trans ?_).trans (congrArg (rows X) e).symm
  show _ = zrow X 1 ⟨x, hx⟩ l
  unfold zrow
  refine Finset.sum_congr rfl fun q _ => ?_
  have k : (Rect.unit (s := S1x8x512x128) ![0, x, 0, 0] ![1, 1, 512, 128] inb).emb (ix4 0 0 ⟨(l.val + q.val) % 512, by omega⟩ ⟨64 + q.val, by omega⟩)
      = ix4 0 ⟨x, hx⟩ ⟨(l.val + q.val) % 512, by omega⟩ ⟨64 + q.val, by omega⟩ := by blk_ext []
  refine (congrArg X k).trans ?_
  exact congrArg (fun o => X (ix4 0 ⟨x, hx⟩ ⟨(l.val + q.val) % 512, by omega⟩ o)) (Fin.ext (by show _ = 64 * 1 + q.val; dsimp only <;> omega))

/-- A row stored over others. -/
theorem step (G : S2x8x512.Idx → EReal) (h x : ℕ) (inb : ∀ a, ![h, x, 0] a + ![1, 1, 512] a ≤ S2x8x512.size a) (w : Vec Ideal S1x1x512 .f32)
    (L : List (View.Piece (Elt Ideal) S2x8x512 .f32)) (y : S2x8x512.Idx)
    (hw : ∀ l : Fin 512, w (ix3 0 0 l) = G ((Rect.unit (s := S2x8x512) ![h, x, 0] ![1, 1, 512] inb).emb (ix3 0 0 l)))
    (hL : ¬((y 0 : ℕ) = h ∧ (y 1 : ℕ) = x) → View.canon L y = G y) :
    View.canon (⟨Rect.unit (s := S2x8x512) ![h, x, 0] ![1, 1, 512] inb, w⟩ :: L) y = G y := by
  have h2 : (y 2 : ℕ) < 512 := (y 2).isLt
  by_cases k : (y 0 : ℕ) = h ∧ (y 1 : ℕ) = x
  · have e : y = (Rect.unit (s := S2x8x512) ![h, x, 0] ![1, 1, 512] inb).emb (ix3 0 0 ⟨(y 2 : ℕ), h2⟩) := by blk_ext []
    rw [e]
    exact (View.canon_cons_emb (Val := Elt Ideal) (Rect.unit (s := S2x8x512) ![h, x, 0] ![1, 1, 512] inb) w L (ix3 0 0 ⟨(y 2 : ℕ), h2⟩)).trans (hw _)
  · refine (View.canon_cons_of_not_mem _ L fun hm => k ?_).trans (hL k)
    have m0 := ((Rect.mem_set_unit (s := S2x8x512) (off := ![h, x, 0]) (size := ![1, 1, 512]) (inb := inb)).mp hm) 0
    have m1 := ((Rect.mem_set_unit (s := S2x8x512) (off := ![h, x, 0]) (size := ![1, 1, 512]) (inb := inb)).mp hm) 1
    dsimp at m0 m1
    omega

/-- A head's rows stored over others. -/
theorem stepH (G : S2x8x512.Idx → EReal) (h : ℕ) (inb : ∀ a, ![h, 0, 0] a + ![1, 8, 512] a ≤ S2x8x512.size a) (w : Vec Ideal S1x8x512 .f32)
    (L : List (View.Piece (Elt Ideal) S2x8x512 .f32)) (y : S2x8x512.Idx)
    (hw : ∀ (s : Fin 8) (l : Fin 512), w (ix3 0 s l) = G ((Rect.unit (s := S2x8x512) ![h, 0, 0] ![1, 8, 512] inb).emb (ix3 0 s l)))
    (hL : ¬(y 0 : ℕ) = h → View.canon L y = G y) :
    View.canon (⟨Rect.unit (s := S2x8x512) ![h, 0, 0] ![1, 8, 512] inb, w⟩ :: L) y = G y := by
  have h1 : (y 1 : ℕ) < 8 := (y 1).isLt
  have h2 : (y 2 : ℕ) < 512 := (y 2).isLt
  by_cases k : (y 0 : ℕ) = h
  · have e : y = (Rect.unit (s := S2x8x512) ![h, 0, 0] ![1, 8, 512] inb).emb (ix3 0 ⟨(y 1 : ℕ), h1⟩ ⟨(y 2 : ℕ), h2⟩) := by blk_ext []
    rw [e]
    exact (View.canon_cons_emb (Val := Elt Ideal) (Rect.unit (s := S2x8x512) ![h, 0, 0] ![1, 8, 512] inb) w L (ix3 0 ⟨(y 1 : ℕ), h1⟩ ⟨(y 2 : ℕ), h2⟩)).trans (hw _ _)
  · refine (View.canon_cons_of_not_mem _ L fun hm => k ?_).trans (hL k)
    have m0 := ((Rect.mem_set_unit (s := S2x8x512) (off := ![h, 0, 0]) (size := ![1, 8, 512]) (inb := inb)).mp hm) 0
    dsimp at m0
    omega

/-- What the block of step `t` holds. -/
def goal (y : S2x8x512.Idx) : EReal := out (zrow X (y 0)) (fun p u => (M (ix2 p u) : EReal)) (y 2)

theorem stored (h : Fin 2) (v : Vec Ideal S1x8x512 .f32) (hv : ∀ (x : Fin 8) (p : Fin 512), v (ix3 0 x p) = zrow X h x p) (s : Fin 8) (L : Fin 512) :
    k0_pay71 (k0_pay69 v M M) (k0_pay70 v M M) (ix3 0 s L) = out (zrow X h) (fun p u => (M (ix2 p u) : EReal)) L
    ∧ k0_pay1 (k0_pay72 v M M) (k0_pay73 v M M) (ix3 0 s L) = out (zrow X h) (fun p u => (M (ix2 p u) : EReal)) L := by
  refine ⟨(po _ _ _ s L).1.trans ?_, (po _ _ _ s L).2.trans ?_⟩
  · refine Finset.sum_congr rfl fun x _ => (pe _ _ _ _ _).1.trans ?_
    simp only [hv]
  · refine Finset.sum_congr rfl fun x _ => (pe _ _ _ _ _).2.trans ?_
    simp only [hv]

/-- The sixteen rows as they lie after the last store. -/
def pieces : List (View.Piece (Elt Ideal) S2x8x512 .f32) := [
  ⟨Rect.unit (s := S2x8x512) ![1, 7, 0] ![1, 1, 512] inb_S2x8x512_S1x1x512_1_7_0, z1 (View.ld (Val := Elt Ideal) (e' := .f32) X (Rect.unit (s := S1x8x512x128) ![0, 7, 0, 0] ![1, 1, 512, 128] inb_S1x8x512x128_S1x1x512x128_0_7_0_0))⟩,
  ⟨Rect.unit (s := S2x8x512) ![0, 7, 0] ![1, 1, 512] inb_S2x8x512_S1x1x512_0_7_0, z0 (View.ld (Val := Elt Ideal) (e' := .f32) X (Rect.unit (s := S1x8x512x128) ![0, 7, 0, 0] ![1, 1, 512, 128] inb_S1x8x512x128_S1x1x512x128_0_7_0_0))⟩,
  ⟨Rect.unit (s := S2x8x512) ![1, 6, 0] ![1, 1, 512] inb_S2x8x512_S1x1x512_1_6_0, z1 (View.ld (Val := Elt Ideal) (e' := .f32) X (Rect.unit (s := S1x8x512x128) ![0, 6, 0, 0] ![1, 1, 512, 128] inb_S1x8x512x128_S1x1x512x128_0_6_0_0))⟩,
  ⟨Rect.unit (s := S2x8x512) ![0, 6, 0] ![1, 1, 512] inb_S2x8x512_S1x1x512_0_6_0, z0 (View.ld (Val := Elt Ideal) (e' := .f32) X (Rect.unit (s := S1x8x512x128) ![0, 6, 0, 0] ![1, 1, 512, 128] inb_S1x8x512x128_S1x1x512x128_0_6_0_0))⟩,
  ⟨Rect.unit (s := S2x8x512) ![1, 5, 0] ![1, 1, 512] inb_S2x8x512_S1x1x512_1_5_0, z1 (View.ld (Val := Elt Ideal) (e' := .f32) X (Rect.unit (s := S1x8x512x128) ![0, 5, 0, 0] ![1, 1, 512, 128] inb_S1x8x512x128_S1x1x512x128_0_5_0_0))⟩,
  ⟨Rect.unit (s := S2x8x512) ![0, 5, 0] ![1, 1, 512] inb_S2x8x512_S1x1x512_0_5_0, z0 (View.ld (Val := Elt Ideal) (e' := .f32) X (Rect.unit (s := S1x8x512x128) ![0, 5, 0, 0] ![1, 1, 512, 128] inb_S1x8x512x128_S1x1x512x128_0_5_0_0))⟩,
  ⟨Rect.unit (s := S2x8x512) ![1, 4, 0] ![1, 1, 512] inb_S2x8x512_S1x1x512_1_4_0, z1 (View.ld (Val := Elt Ideal) (e' := .f32) X (Rect.unit (s := S1x8x512x128) ![0, 4, 0, 0] ![1, 1, 512, 128] inb_S1x8x512x128_S1x1x512x128_0_4_0_0))⟩,
  ⟨Rect.unit (s := S2x8x512) ![0, 4, 0] ![1, 1, 512] inb_S2x8x512_S1x1x512_0_4_0, z0 (View.ld (Val := Elt Ideal) (e' := .f32) X (Rect.unit (s := S1x8x512x128) ![0, 4, 0, 0] ![1, 1, 512, 128] inb_S1x8x512x128_S1x1x512x128_0_4_0_0))⟩,
  ⟨Rect.unit (s := S2x8x512) ![1, 3, 0] ![1, 1, 512] inb_S2x8x512_S1x1x512_1_3_0, z1 (View.ld (Val := Elt Ideal) (e' := .f32) X (Rect.unit (s := S1x8x512x128) ![0, 3, 0, 0] ![1, 1, 512, 128] inb_S1x8x512x128_S1x1x512x128_0_3_0_0))⟩,
  ⟨Rect.unit (s := S2x8x512) ![0, 3, 0] ![1, 1, 512] inb_S2x8x512_S1x1x512_0_3_0, z0 (View.ld (Val := Elt Ideal) (e' := .f32) X (Rect.unit (s := S1x8x512x128) ![0, 3, 0, 0] ![1, 1, 512, 128] inb_S1x8x512x128_S1x1x512x128_0_3_0_0))⟩,
  ⟨Rect.unit (s := S2x8x512) ![1, 2, 0] ![1, 1, 512] inb_S2x8x512_S1x1x512_1_2_0, z1 (View.ld (Val := Elt Ideal) (e' := .f32) X (Rect.unit (s := S1x8x512x128) ![0, 2, 0, 0] ![1, 1, 512, 128] inb_S1x8x512x128_S1x1x512x128_0_2_0_0))⟩,
  ⟨Rect.unit (s := S2x8x512) ![0, 2, 0] ![1, 1, 512] inb_S2x8x512_S1x1x512_0_2_0, z0 (View.ld (Val := Elt Ideal) (e' := .f32) X (Rect.unit (s := S1x8x512x128) ![0, 2, 0, 0] ![1, 1, 512, 128] inb_S1x8x512x128_S1x1x512x128_0_2_0_0))⟩,
  ⟨Rect.unit (s := S2x8x512) ![1, 1, 0] ![1, 1, 512] inb_S2x8x512_S1x1x512_1_1_0, z1 (View.ld (Val := Elt Ideal) (e' := .f32) X (Rect.unit (s := S1x8x512x128) ![0, 1, 0, 0] ![1, 1, 512, 128] inb_S1x8x512x128_S1x1x512x128_0_1_0_0))⟩,
  ⟨Rect.unit (s := S2x8x512) ![0, 1, 0] ![1, 1, 512] inb_S2x8x512_S1x1x512_0_1_0, z0 (View.ld (Val := Elt Ideal) (e' := .f32) X (Rect.unit (s := S1x8x512x128) ![0, 1, 0, 0] ![1, 1, 512, 128] inb_S1x8x512x128_S1x1x512x128_0_1_0_0))⟩,
  ⟨Rect.unit (s := S2x8x512) ![1, 0, 0] ![1, 1, 512] inb_S2x8x512_S1x1x512_1_0_0, z1 (View.ld (Val := Elt Ideal) (e' := .f32) X (Rect.unit (s := S1x8x512x128) ![0, 0, 0, 0] ![1, 1, 512, 128] inb_S1x8x512x128_S1x1x512x128_0_0_0_0))⟩,
  ⟨Rect.unit (s := S2x8x512) ![0, 0, 0] ![1, 1, 512] inb_S2x8x512_S1x1x512_0_0_0, z0 (View.ld (Val := Elt Ideal) (e' := .f32) X (Rect.unit (s := S1x8x512x128) ![0, 0, 0, 0] ![1, 1, 512, 128] inb_S1x8x512x128_S1x1x512x128_0_0_0_0))⟩
]

set_option maxHeartbeats 1600000 in
theorem held (y : S2x8x512.Idx) : View.canon (pieces X) y = rows X y := by
  have y0 : (y 0 : ℕ) < 2 := (y 0).isLt
  have y1 : (y 1 : ℕ) < 8 := (y 1).isLt
  unfold pieces
  iterate 16 (refine step (rows X) _ _ _ _ _ _ ?_ fun _ => ?_; swap)
  · omega
  all_goals
    intro l
    first | exact tile0 X _ (by decide) _ _ l | exact tile1 X _ (by decide) _ _ l

theorem held0 (x : Fin 8) (p : Fin 512) : View.canon (pieces X).tail (ix3 0 x p) = rows X (ix3 0 x p) := by
  refine Eq.trans (Eq.symm ?_) (held X _)
  unfold pieces
  refine View.canon_cons_of_not_mem _ _ fun hm => ?_
  have m0 := ((Rect.mem_set_unit (s := S2x8x512) (off := ![1, 7, 0]) (size := ![1, 1, 512]) (inb := inb_S2x8x512_S1x1x512_1_7_0)).mp hm) 0
  exact absurd (show 1 ≤ 0 from m0.1) (by decide)

set_option maxHeartbeats 1600000 in
theorem block (c : Dev nD) (t : Fin cfg0.N) (y : S2x8x512.Idx) :
    out0_A_2 c (grid0.coords t) (ms0_0 t) (hs0_0 t) (ms0_1 t) (hs0_1 t) (ms0_2 t) (hs0_2 t) scM0_0 (Memref.isWhole_whole _) X M y = goal X M y := by
  frame_open
  simp (disch := decide) only [↓View.readCov_skip, ↓View.readCov_fill]
  frame_out
  simp only [a0, b0, a1, b1, a2, b2, a3, b3, a4, b4, a5, b5, a6, b6, a7, b7]
  have y0 : (y 0 : ℕ) < 2 := (y 0).isLt
  refine stepH (goal X M) 1 _ _ _ _ ?_ fun k1 => stepH (goal X M) 0 _ _ _ _ ?_ fun k0 => absurd y0 (by omega)
  · intro s L
    have e : (Rect.unit (s := S2x8x512) ![1, 0, 0] ![1, 8, 512] inb_S2x8x512_S1x8x512_1_0_0).emb (ix3 0 s L) = ix3 1 s L := by blk_ext []
    refine Eq.trans ((stored X M 1 _ ?_ s L).2) (congrArg (goal X M) e).symm
    intro x p
    rw [View.readCov_eq_canon']
    refine Eq.trans ?_ (congrArg (rows X) (show (Rect.unit (s := S2x8x512) ![1, 0, 0] ![1, 8, 512] inb_S2x8x512_S1x8x512_1_0_0).emb (ix3 0 x p) = ix3 1 x p by blk_ext []))
    exact held X _
  · intro s L
    have e : (Rect.unit (s := S2x8x512) ![0, 0, 0] ![1, 8, 512] inb_S2x8x512_S1x8x512_0_0_0).emb (ix3 0 s L) = ix3 0 s L := by blk_ext []
    refine Eq.trans ((stored X M 0 _ ?_ s L).1) (congrArg (goal X M) e).symm
    intro x p
    rw [View.readCov_eq_canon']
    refine Eq.trans ?_ (congrArg (rows X) (show (Rect.unit (s := S2x8x512) ![0, 0, 0] ![1, 8, 512] inb_S2x8x512_S1x8x512_0_0_0).emb (ix3 0 x p) = ix3 0 x p by blk_ext []))
    have k : (Rect.unit (s := S2x8x512) ![0, 0, 0] ![1, 8, 512] inb_S2x8x512_S1x8x512_0_0_0).emb (ix3 0 x p) = ix3 0 x p := by blk_ext []
    rw [k]
    exact (congrArg (View.canon (pieces X).tail) k).trans (held0 X x p)

end Cert.DbiasKernel
end
-- ==== Proof.DbiasFinal.lean ====
/- The bias kernel's result as one function of the table's gradient: each entry of a head's bias sums the table's entries at its offset. -/
module

public import proofs.«01_k».proof.Proof.DbiasKernel
public import proofs.«01_k».proof.Proof.Reals
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DbiasFinal

open Cert.Kernel23Ideal Cert.Kernel23Ideal.Gen Cert.DbiasReads Cert.DbiasKernel

/-- The table's gradient at head `hd`, class `x`, key row `k`, key column `j`, query column `q`, inside the window. -/
def W (x0 : S4x8x512x128.Idx → EReal) (hd : Fin 8) (x k : Fin 8) (j q : Fin 64) : EReal :=
  if near j.val q.val then x0 (ix4 ⟨hd.val / 2, by omega⟩ x ⟨64 * k.val + j.val, by omega⟩ ⟨64 * (hd.val % 2) + q.val, by omega⟩) else 0

/-- The sum over the query columns at column offset `c`. -/
def E (x0 : S4x8x512x128.Idx → EReal) (hd : Fin 8) (x k : Fin 8) (c : ℕ) : EReal :=
  ∑ q : Fin 64, if h : 15 ≤ c + q.val ∧ c + q.val < 79 then W x0 hd x k ⟨c + q.val - 15, by omega⟩ q else 0

/-- The gradient of head `hd`'s bias at lane `L`: row offset `L / 32`, column offset `L % 32`. -/
def tab (x0 : S4x8x512x128.Idx → EReal) (hd : Fin 8) (L : Fin 512) : EReal :=
  ∑ x : Fin 8, if h : x.val ≤ L.val / 32 ∧ L.val / 32 < x.val + 8 ∧ L.val % 32 < 31 then E x0 hd x ⟨L.val / 32 - x.val, by omega⟩ (L.val % 32) else 0

variable (x0 : S4x8x512x128.Idx → EReal) (X : Vec Ideal S1x8x512x128 .f32) (t : Fin 4)
  (hX : ∀ (x : Fin 8) (p : Fin 512) (l : Fin 128), X (ix4 0 x p l) = if near (p.val % 64) (l.val % 64) then x0 (ix4 t x p l) else (0 : EReal))

include hX in
theorem zreal (f : S4x8x512x128.Idx → ℝ) (hf : x0 = fun i => (f i : EReal)) (h : Fin 2) (x : Fin 8) (p : Fin 512) : ∃ r : ℝ, zrow X h x p = (r : EReal) := by
  refine ⟨∑ q : Fin 64, if near ((p.val + q.val) % 512 % 64) ((64 * h.val + q.val) % 64) then f (ix4 t x ⟨(p.val + q.val) % 512, by omega⟩ ⟨64 * h.val + q.val, by omega⟩) else 0, ?_⟩
  unfold zrow
  rw [← Reals.coe_sum']
  refine Finset.sum_congr rfl fun q _ => (hX _ _ _).trans ?_
  rw [hf]
  dsimp only
  split
  · rfl
  · rfl

include hX in
theorem zpick (h : Fin 2) (x k : Fin 8) (c : ℕ) (hc : c < 31) (p : Fin 512) (hp : p.val = (64 * k.val + c + 497) % 512) :
    zrow X h x p = E x0 ⟨2 * t.val + h.val, by omega⟩ x k c := by
  unfold zrow E
  refine Finset.sum_congr rfl fun q _ => (hX _ _ _).trans ?_
  dsimp only
  have hq := q.isLt
  have hk := k.isLt
  have hh := h.isLt
  by_cases hb : 15 ≤ c + q.val ∧ c + q.val < 79
  · rw [dif_pos hb]
    unfold W
    dsimp only
    have e1 : (p.val + q.val) % 512 % 64 = c + q.val - 15 := by omega
    have e2 : (64 * h.val + q.val) % 64 = q.val := by omega
    rw [e1, e2]
    refine if_congr Iff.rfl ?_ rfl
    refine congrArg x0 ?_
    have f0 : t = (⟨(2 * t.val + h.val) / 2, by omega⟩ : Fin 4) := Fin.ext (by dsimp only; omega)
    have f2 : (⟨(p.val + q.val) % 512, by omega⟩ : Fin 512) = ⟨64 * k.val + (c + q.val - 15), by omega⟩ := Fin.ext (by dsimp only; omega)
    have f3 : (⟨64 * h.val + q.val, by omega⟩ : Fin 128) = ⟨64 * ((2 * t.val + h.val) % 2) + q.val, by omega⟩ := Fin.ext (by dsimp only; omega)
    rw [f2, f3]
    exact congrArg (fun o => ix4 o x _ _) f0
  · rw [dif_neg hb, if_neg]
    unfold near
    omega

include hX in
theorem picked (f : S4x8x512x128.Idx → ℝ) (hf : x0 = fun i => (f i : EReal)) (M : Vec Ideal S512x512 .bf16)
    (hM : ∀ p u : Fin 512, M (ix2 p u) = (if goes p.val u.val then (1 : EReal) else (0 : EReal) : EReal)) (h : Fin 2) (L : Fin 512) :
    out (zrow X h) (fun p u => (M (ix2 p u) : EReal)) L = tab x0 ⟨2 * t.val + h.val, by omega⟩ L := by
  unfold out tab
  refine Finset.sum_congr rfl fun x _ => ?_
  have e2 : ∑ p : Fin 512, (zrow X h x p - zrow X h x p) * (M (ix2 p ⟨(L.val + 512 - 32 * x.val) % 512, by omega⟩) : EReal) = 0 := by
    refine Finset.sum_eq_zero fun p _ => ?_
    obtain ⟨r, hr⟩ := zreal x0 X t hX f hf h x p
    rw [hr, Reals.coe_sub', sub_self, EReal.coe_zero, zero_mul]
  rw [e2, add_zero]
  beta_reduce
  have hx := x.isLt
  have hL := L.isLt
  by_cases hb : x.val ≤ L.val / 32 ∧ L.val / 32 < x.val + 8 ∧ L.val % 32 < 31
  · rw [dif_pos hb, Finset.sum_eq_single (⟨(64 * (L.val / 32 - x.val) + L.val % 32 + 497) % 512, by omega⟩ : Fin 512)]
    · rw [hM, if_pos (by unfold goes; dsimp only; omega), mul_one]
      exact zpick x0 X t hX h x _ _ hb.2.2 _ rfl
    · intro p _ hp
      rw [hM, if_neg (fun hg => hp (Fin.ext ?_)), mul_zero]
      unfold goes at hg
      dsimp only at hg ⊢
      omega
    · exact fun hn => absurd (Finset.mem_univ _) hn
  · rw [dif_neg hb]
    refine Finset.sum_eq_zero fun p _ => ?_
    rw [hM, if_neg, mul_zero]
    unfold goes
    dsimp only
    omega

/-- The bias's gradient, every entry. -/
theorem final2 (m : (ℓ : Loc nD τ sig) → Buf (Elt Ideal) ℓ) (c : Dev nD) (h0 : m ((c : Thread nD τ).loc main_arg0) = x0)
    (f : S4x8x512x128.Idx → ℝ) (hf : x0 = fun i => (f i : EReal)) :
    (dats m 0 c).arrAt 2 cfg0.N = fun i => tab x0 (i 0) (i 2) := by
  refine (dats m 0 c).arrAt_eq_of_covers 2 _ (by decide +kernel) fun t _ y => ?_
  blk_simp
  rw [after0_2]
  have e : outsAt0 m c t y = goal (iblk m c 0 t) (iblk m c 1 t) y := by
    unfold outsAt0
    exact block (iblk m c 0 t) (iblk m c 1 t) c t y
  refine e.trans ?_
  obtain ⟨h, s, L, rfl⟩ : ∃ (h : Fin 2) (s : Fin 8) (L : Fin 512), y = ix3 h s L := ⟨y 0, y 1, y 2, by blk_ext []⟩
  have p : ((win0_2.blk t).view.emb (ix3 h s L) : S8x8x512.Idx) = ix3 ⟨2 * t.val + h.val, by have := lt t; omega⟩ s L := by blk_ext [idx t]
  refine Eq.trans ?_ (congrArg (fun i : S8x8x512.Idx => tab x0 (i 0) (i 2)) p).symm
  unfold goal
  exact picked x0 _ ⟨t.val, lt t⟩ (rd0 m x0 c h0 t) f hf _ (rd1 m c t) h L

end Cert.DbiasFinal
end
-- ==== Proof.DbiasValue.lean ====
/- The bias kernel and the reference's lookup of the bias, over the extended reals: the same gradient of the bias. -/
module

public import proofs.«01_k».proof.Defs
public import proofs.«01_k».proof.Proof.DbiasFinal
public import proofs.«01_k».proof.Proof.Gen.Reference23Ideal.Read
public import proofs.«01_k».proof.Proof.Gen.Pre_finite_dbias
public import Idealize.ShloMosaic.Lib.ValueIdxRank6

@[expose] public section

set_option maxRecDepth 16384

noncomputable section

open Idealize.ShloMosaic Idealize.ShloMosaic.TcCoe Idealize.SL.Sem
open Idealize.ShloMosaic.Pipeline (Dat)
open Cert.DbiasReads (near seen)
open Cert.DbiasFinal (W E tab)

namespace Cert.DbiasValue

/-- The predicate says that the argument holds reals. -/
theorem arg_real (x0 : FVec Ideal Cert.Pre_finite_dbias.S4x8x512x128 .f32) (h : Cert.Pre_finite_dbias.fn (F := Ideal) x0 = fun _ => 1#1) :
    ∃ f : Cert.Pre_finite_dbias.S4x8x512x128.Idx → ℝ, x0 = fun i => (f i : EReal) := by
  haveI : Subsingleton Cert.Pre_finite_dbias.S_.Idx := ⟨fun a b => funext fun k => k.elim0⟩
  have e := congrFun h ix0
  unfold Cert.Pre_finite_dbias.fn at e
  dsimp only at e
  exact Cert.Reals.real_of_all x0 _ _ _ _ _ ix0 (fun _ => rfl) e

section

open Cert.Reference23Ideal Cert.Reference23Ideal.Gen Cert.Reference23Ideal.Read

/-- The column offset of a pair inside the window, clamped to the bias's columns. -/
theorem shift : ∀ j q : Fin 64, near j.val q.val → IntOp.minsi 30#32 (IntOp.maxsi 0#32 (IntOp.addi (IntOp.subi (BitVec.ofNat 32 j.val) (BitVec.ofNat 32 q.val)) 15#32))
    = BitVec.ofNat 32 (j.val + 15 - q.val) := by
  decide +kernel

theorem close (j q : Fin 64) (h : near j.val q.val) : q.val ≤ j.val + 15 := by
  unfold near at h
  omega

theorem same (a b : ℕ) (ha : a < 512) (hb : b < 512) : IntOp.cmpi .eq (BitVec.ofNat 32 a) (BitVec.ofNat 32 b) = if a = b then 1#1 else 0#1 := by
  by_cases h : a = b
  · rw [if_pos h, h]; simp [IntOp.cmpi]
  · rw [if_neg h]
    have : ¬BitVec.ofNat 32 a = BitVec.ofNat 32 b := fun k => h (by
      have := congrArg BitVec.toNat k
      rwa [BitVec.toNat_ofNat, BitVec.toNat_ofNat, Nat.mod_eq_of_lt (by omega), Nat.mod_eq_of_lt (by omega)] at this)
    show BitVec.ofBool (_ == _) = 0#1
    rw [beq_eq_false_iff_ne.mpr this]
    rfl

theorem rows : ∀ (x k : Fin 8) (r : Fin 15), IntOp.cmpi .eq (IntOp.addi (BitVec.ofNat 32 x.val) (BitVec.ofNat 32 k.val)) (BitVec.ofNat 32 r.val)
    = if x.val + k.val = r.val then 1#1 else 0#1 := by
  decide +kernel

theorem onehot (b : BitVec 1) (p : Prop) [Decidable p] (h : b = if p then 1#1 else 0#1) : FloatOps.uitofp (F := Ideal) FTy.f32 b = (if p then (1 : EReal) else (0 : EReal) : EReal) := by
  rw [h]
  split
  · simp [FloatOps.uitofp]
  · simp [FloatOps.uitofp]

theorem hotcol (j q : Fin 64) (c : Fin 31) (h : near j.val q.val) : val_main_v31 (F := Ideal) (ix3 j q c) = (if j.val + 15 = c.val + q.val then (1 : EReal) else (0 : EReal) : EReal) := by
  refine onehot (val_main_v30 (F := Ideal) (ix3 j q c)) _ ?_
  have e : val_main_v30 (F := Ideal) (ix3 j q c) = IntOp.cmpi .eq (IntOp.minsi 30#32 (IntOp.maxsi 0#32 (IntOp.addi (IntOp.subi (BitVec.ofNat 32 j.val) (BitVec.ofNat 32 q.val)) 15#32))) (BitVec.ofNat 32 c.val) := by
    rw [val_main_v30_apply, val_main_v28_apply, val_main_v25_apply, val_main_v17_apply, val_main_call0_v4_apply, val_main_call0_v3_apply, val_main_c_1_apply, val_main_call0_v2_apply, val_main_call0_v1_apply, val_main_call0_v0_apply, val_main_c_0_apply, val_main_v16_apply, val_main_v15_apply, val_main_c_apply, val_main_v14_apply, val_main_v12_apply, val_main_v9_apply, val_main_v8_apply, val_main_v13_apply, val_main_v11_apply, val_main_v10_apply, val_main_v29_apply, val_main_v27_apply, val_main_v26_apply]
    rfl
  refine e.trans ?_
  rw [shift j q h, same _ _ (by omega) (by omega)]
  have := close j q h
  exact if_congr (by omega) rfl rfl

theorem hotrow (x k : Fin 8) (r : Fin 15) : val_main_v24 (F := Ideal) (ix3 x k r) = (if x.val + k.val = r.val then (1 : EReal) else (0 : EReal) : EReal) := by
  refine onehot (val_main_v23 (F := Ideal) (ix3 x k r)) _ ?_
  have e : val_main_v23 (F := Ideal) (ix3 x k r) = IntOp.cmpi .eq (IntOp.addi (BitVec.ofNat 32 x.val) (BitVec.ofNat 32 k.val)) (BitVec.ofNat 32 r.val) := by
    rw [val_main_v23_apply, val_main_v21_apply, val_main_v18_apply, val_main_v7_apply, val_main_v5_apply, val_main_v2_apply, val_main_v1_apply, val_main_v6_apply, val_main_v4_apply, val_main_v3_apply, val_main_v22_apply, val_main_v20_apply, val_main_v19_apply]
    rfl
  exact e.trans (rows x k r)

theorem inwin (H x k : Fin 8) (j q : Fin 64) : val_main_v54_1 (F := Ideal) (ix5 H x k j q) = if near j.val q.val then 1#1 else 0#1 := by
  refine Eq.trans ?_ (seen j q)
  rw [val_main_v54_1_apply, val_main_v53_apply, val_main_v47_apply, val_main_v45_apply, val_main_v38_apply, val_main_v37_apply, val_main_v46_apply, val_main_v44_apply, val_main_v42_apply, val_main_v40_apply, val_main_v36_apply, val_main_v35_apply, val_main_v39_apply, val_main_c_2_apply, val_main_v41_apply, val_main_c_3_apply, val_main_v43_apply, val_main_c_4_apply, val_main_v52_apply, val_main_v50_apply, val_main_v38_apply, val_main_v37_apply, val_main_v51_apply, val_main_v49_apply, val_main_v44_apply, val_main_v42_apply, val_main_v40_apply, val_main_v36_apply, val_main_v35_apply, val_main_v39_apply, val_main_c_2_apply, val_main_v41_apply, val_main_c_3_apply, val_main_v43_apply, val_main_c_4_apply, val_main_v48_apply, val_main_c_5_apply]
  rfl

variable (x0 : S4x8x512x128.Idx → EReal)

theorem cell (H x k : Fin 8) (j q : Fin 64) : val_main_v60 (F := Ideal) x0 (ix5 H x k j q)
    = x0 (ix4 ⟨H.val / 2, by omega⟩ x ⟨64 * k.val + j.val, by omega⟩ ⟨64 * (H.val % 2) + q.val, by omega⟩) := by
  have hH := H.isLt
  have hx := x.isLt
  have hk := k.isLt
  have hj := j.isLt
  have hq := q.isLt
  unfold val_main_v60
  refine (shapeCast_apply _ _ _ (ValueIdx.ix6 (⟨H.val / 2, by omega⟩ : Fin 4) (⟨H.val % 2, by omega⟩ : Fin 2) x k j q) ?_).trans ?_
  · rw [Shape.rowMajor_val_six, Shape.rowMajor_val_five]
    show (((((H.val / 2) * 2 + H.val % 2) * 8 + x.val) * 8 + k.val) * 64 + j.val) * 64 + q.val = (((H.val * 8 + x.val) * 8 + k.val) * 64 + j.val) * 64 + q.val
    omega
  refine (val_main_v59_apply (F := Ideal) x0 _).trans ?_
  unfold val_main_v58
  refine shapeCast_apply _ _ _ _ ?_
  rw [Shape.rowMajor_val_six, Shape.rowMajor_val_four]
  show (((H.val / 2) * 8 + x.val) * 512 + (64 * k.val + j.val)) * 128 + (64 * (H.val % 2) + q.val) = (((((H.val / 2) * 8 + x.val) * 8 + k.val) * 64 + j.val) * 2 + H.val % 2) * 64 + q.val
  omega

theorem masked (H x k : Fin 8) (j q : Fin 64) : val_main_v61 (F := Ideal) x0 (ix5 H x k j q) = W x0 H x k j q := by
  rw [val_main_v61_apply, inwin]
  unfold W
  split
  · exact (ValueIdx.select_one ..).trans (cell x0 H x k j q)
  · refine (ValueIdx.select_zero ..).trans ?_
    rw [val_main_call2_v0_apply, val_main_call2_cst_apply]
    pointwise

theorem term (H x k : Fin 8) (j q : Fin 64) (c : Fin 31) : W x0 H x k j q * (val_main_v31 (F := Ideal) (ix3 j q c) : EReal) = if j.val + 15 = c.val + q.val then W x0 H x k j q else 0 := by
  by_cases h : near j.val q.val
  · rw [hotcol j q c h]
    split
    · rw [mul_one]
    · rw [mul_zero]
  · have e : W x0 H x k j q = 0 := by
      unfold W
      rw [if_neg h]
    rw [e, zero_mul, ite_self]

/-- A sum over the key columns of what the offset picks. -/
theorem pick (g : Fin 64 → EReal) (a : ℕ) : ∑ j : Fin 64, (if j.val + 15 = a then g j else 0) = if h : 15 ≤ a ∧ a < 79 then g ⟨a - 15, by omega⟩ else 0 := by
  by_cases h : 15 ≤ a ∧ a < 79
  · rw [dif_pos h, Finset.sum_eq_single (⟨a - 15, by omega⟩ : Fin 64)]
    · rw [if_pos (by dsimp only; omega)]
    · intro j _ hj
      rw [if_neg fun k => hj (Fin.ext (by dsimp only; omega))]
    · exact fun hn => absurd (Finset.mem_univ _) hn
  · rw [dif_neg h]
    exact Finset.sum_eq_zero fun j _ => if_neg (by omega)

theorem cols (H x k : Fin 8) (c : Fin 31) : val_main_v62 (F := Ideal) x0 (ix4 H x k c) = E x0 H x k c.val := by
  have e : val_main_v62 (F := Ideal) x0 (ix4 H x k c) = ∑ j : Fin 64, ∑ q : Fin 64, (val_main_v61 (F := Ideal) x0 (ix5 H x k j q) : EReal) * (val_main_v31 (F := Ideal) (ix3 j q c) : EReal) := by
    pointwise [val_main_v62]
  refine e.trans ?_
  rw [Finset.sum_comm]
  unfold E
  refine Finset.sum_congr rfl fun q _ => Eq.trans ?_ (pick (fun j => W x0 H x k j q) (c.val + q.val))
  refine Finset.sum_congr rfl fun j _ => ?_
  rw [masked]
  exact term x0 H x k j q c

/-- A sum over the key rows of what the offset picks. -/
theorem pickr (g : Fin 8 → EReal) (x : Fin 8) (r : Fin 15) : ∑ k : Fin 8, g k * (if x.val + k.val = r.val then (1 : EReal) else (0 : EReal) : EReal)
    = if h : x.val ≤ r.val ∧ r.val < x.val + 8 then g ⟨r.val - x.val, by omega⟩ else 0 := by
  by_cases h : x.val ≤ r.val ∧ r.val < x.val + 8
  · rw [dif_pos h, Finset.sum_eq_single (⟨r.val - x.val, by omega⟩ : Fin 8)]
    · rw [if_pos (by dsimp only; omega), mul_one]
    · intro k _ hk
      rw [if_neg fun hh => hk (Fin.ext (by dsimp only; omega)), mul_zero]
    · exact fun hn => absurd (Finset.mem_univ _) hn
  · rw [dif_neg h]
    refine Finset.sum_eq_zero fun k _ => ?_
    rw [if_neg (by omega), mul_zero]

theorem bias (H : Fin 8) (r : Fin 15) (c : Fin 31) (L : Fin 512) (hr : L.val / 32 = r.val) (hc : L.val % 32 = c.val) :
    val_main_v65 (F := Ideal) x0 (ix3 H r c) = tab x0 H L := by
  have e : val_main_v65 (F := Ideal) x0 (ix3 H r c) = ∑ x : Fin 8, ∑ k : Fin 8, (val_main_v62 (F := Ideal) x0 (ix4 H x k c) : EReal) * (val_main_v24 (F := Ideal) (ix3 x k r) : EReal) := by
    pointwise [val_main_v65, val_main_v64, val_main_v63]
  refine e.trans ?_
  unfold tab
  refine Finset.sum_congr rfl fun x _ => ?_
  refine (Finset.sum_congr rfl fun k _ => (by rw [cols, hotrow])).trans ((pickr (fun k => E x0 H x k c.val) x r).trans ?_)
  have hc' := c.isLt
  by_cases h : x.val ≤ r.val ∧ r.val < x.val + 8
  · rw [dif_pos h, dif_pos (by omega)]
    have f : (⟨r.val - x.val, by omega⟩ : Fin 8) = ⟨L.val / 32 - x.val, by omega⟩ := Fin.ext (by dsimp only; omega)
    exact congrArg₂ (fun k n => E x0 H x k n) f hc.symm
  · rw [dif_neg h, dif_neg (by omega)]

theorem ref (H s : Fin 8) (L : Fin 512) : val_main_v68 (F := Ideal) x0 (ix3 H s L) = tab x0 H L := by
  pointwise [val_main_v68, val_main_v67, val_main_v66]
  split
  next h => exact bias x0 H ⟨L.val / 32, h.1⟩ ⟨L.val % 32, h.2⟩ L rfl rfl
  next h =>
    have z : val_main_call3_v0 (F := Ideal) (Shape.Idx.first h_S_) = (0 : EReal) := by
      rw [val_main_call3_v0_apply, val_main_c_7_apply]
      simp [FloatOps.sitofp]
    refine z.trans (Finset.sum_eq_zero fun x _ => dif_neg ?_).symm
    have := x.isLt
    have := L.isLt
    omega

theorem refs : val_main_v68 (F := Ideal) x0 = fun i => tab x0 (i 0) (i 2) := by
  funext i
  obtain ⟨H, s, L, rfl⟩ : ∃ (H s : Fin 8) (L : Fin 512), i = ix3 H s L := ⟨i 0, i 1, i 2, by blk_ext []⟩
  exact ref x0 H s L

end

set_option maxHeartbeats 1600000 in
/-- Kernel and reference take the same gradient of the bias, of a table's gradient without infinities. -/
theorem value : Cert.algebraic_Kernel23Ideal_Reference23Ideal_pre_finite_dbias := by
  intro m g m' g' hpre hagree
  refine ⟨_, Cert.Kernel23Ideal.Value.run_blocks m g, ?_⟩
  refine (θ_run _ _ _).mono (fun r h c => ?_) (Cert.Reference23Ideal.Value.run m' g')
  obtain ⟨f, hf⟩ := arg_real _ (hpre c)
  refine ⟨(h c).1.trans ?_, (h c).2⟩
  refine (Cert.Reference23Ideal.Read.val_main_v68_eq _).trans ?_
  rw [hagree c]
  exact (refs _).trans (Cert.DbiasFinal.final2 _ m c rfl f hf).symm

end Cert.DbiasValue
end
-- ==== Proof.Safe.lean ====
/-
  Programs that only load from and store into buffers which are held at some contents keep holding them. This is what
  a frame asks of a kernel body whose results no frame names: a body of loads, stores and counted loops is safe when
  each of its buffers is among those held.
-/
module

public import Idealize.ShloMosaic.Lib.Pipeline.FrameBody
public import Idealize.ShloMosaic.Lib.Scf

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

namespace Cert.Safe

variable {U : Type} [URA U] {nD : Nat} {τ : Topo} {sig : RefSig} {Val : EltTy → Type} {Λ : Labels}

variable (defs : Defs nD τ sig Val Λ) (c : Dev nD) (R : sProp (MT nD τ sig Unit Val ℕ U ℕ))

/-- The core holds the buffer at some contents. -/
def Held {sp : Space} {s : Shape} {e : EltTy} (m : Memref sig .tc sp s e) : sProp (MT nD τ sig Unit Val ℕ U ℕ) :=
  iprop(∃ X, owns (c : Thread nD τ) m fullShare X)

/-- `R` has the buffer in it. -/
def Has {sp : Space} {s : Shape} {e : EltTy} (m : Memref sig .tc sp s e) : Prop :=
  R ⊢ iprop(Held c m ∗ (Held c m -∗ R))

/-- From `R` the program runs to `R`. -/
def Safe {α : Type} (p : Prog (TpuEff nD τ sig Val Λ .tc) α) : Prop :=
  R ⊢ wp frame (wpE defs Variants.none (c : Thread nD τ) none) Set.univ p (fun _ => R)

variable {defs c R}

theorem has_last {sp : Space} {s : Shape} {e : EltTy} (m : Memref sig .tc sp s e) : Has c (Held (U := U) (Val := Val) (τ := τ) c m) m := by
  unfold Has
  iintro H
  isplitl [H]; · iexact H
  iintro H; iexact H

theorem has_head {sp : Space} {s : Shape} {e : EltTy} (m : Memref sig .tc sp s e) : Has c iprop(Held c m ∗ R) m := by
  unfold Has
  iintro ⟨H, Hr⟩
  isplitl [H]; · iexact H
  iintro H
  isplitl [H]; · iexact H
  iexact Hr

theorem has_tail {sp : Space} {s : Shape} {e : EltTy} {m : Memref sig .tc sp s e} {X : sProp (MT nD τ sig Unit Val ℕ U ℕ)} (h : Has c R m) :
    Has c iprop(X ∗ R) m := by
  unfold Has at h ⊢
  refine (sep_mono_right h).trans ?_
  iintro ⟨Hx, H, Hk⟩
  isplitl [H]; · iexact H
  iintro H
  isplitl [Hx]; · iexact Hx
  iapply Hk; iexact H

theorem safe_pure {α : Type} (a : α) : Safe defs c R (pure a) := by
  unfold Safe
  rw [wp_pure]
  exact fupd_intro

theorem safe_bind {α β : Type} {p : Prog (TpuEff nD τ sig Val Λ .tc) α} {k : α → Prog (TpuEff nD τ sig Val Λ .tc) β}
    (hp : Safe defs c R p) (hk : ∀ a, Safe defs c R (k a)) : Safe defs c R (p >>= k) := by
  unfold Safe
  rw [wp_bind]
  exact hp.trans (wp_mono _ _ _ hk)

theorem safe_load {cs : CoreSpace} {s : Shape} {e : EltTy} {m : Memref sig .tc cs s e} (h : Has c R m) {r : LoadRect s} {hl : m.view.LoadsAt r} :
    Safe defs c R (Prog.lift (.load m r hl)) := by
  unfold Safe Prog.lift
  refine h.trans ?_
  unfold Held owns
  iintro ⟨⟨%X, %f, %hf, H⟩, Hk⟩
  iapply (wp_load Variants.none (c : Thread nD τ) none Set.univ (m := m) (m.view.setOn_subset_set _)) $$ H
  iintro H
  rw [wp_ret]; imodintro
  iapply Hk
  iexists _; iexists _
  isplitr; · ipureintro; exact hf
  iexact H

theorem safe_store {cs : CoreSpace} {s : Shape} {e : EltTy} {m : Memref sig .tc cs s e} (h : Has c R m) {r : Rect s} {w : r.shape.Idx → Val e}
    {Mk : Finset r.shape.Idx} {hx : (m.access r).Stores Mk} {hm : Mk = Finset.univ ∨ ∀ a, r.stride a = 1} :
    Safe defs c R (Prog.lift (.store m r w Mk hx hm)) := by
  unfold Safe Prog.lift
  refine h.trans ?_
  unfold Held owns
  iintro ⟨⟨%X, %f, %hf, H⟩, Hk⟩
  iapply (wp_store Variants.none (c : Thread nD τ) none Set.univ (m := m) (r := r) ((View.setOn_subset_set _ _).trans (View.set_slice_subset _ r))) $$ H
  iintro H
  rw [wp_ret]; imodintro
  iapply Hk
  iexists _; iexists ((m.access r).write Val f w Mk)
  isplitr; · ipureintro; rfl
  iexact H

theorem safe_for {w : Nat} {σ : Type} (l : Scf.Loop w) (hok : l.OK) (init : σ) {body : Fin l.trips → σ → Prog (TpuEff nD τ sig Val Λ .tc) σ}
    (h : ∀ k acc, Safe defs c R (body k acc)) : Safe defs c R (Scf.Loop.for l hok init body) := by
  unfold Safe
  refine BI.BIBase.Entails.trans ?_ (Scf.wp_for _ _ _ l.lb l.ub l.st hok init body (fun _ _ => R) h)
  iintro H
  isplitl [H]; · iexact H
  iintro %a H
  iexact H

end Cert.Safe

end
-- ==== Proof.Dil0RunI.lean ====
/-
  What `Kernel2Ideal` computes it stores in its three result windows; it loads from and stores into its nine windows only.
  So its argument arrays end unchanged and its semaphores at zero, whatever the windows hold.
-/
module

public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.Safe

@[expose] public section

set_option maxRecDepth 16384

noncomputable section

namespace Cert.Kernel2Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Safe

variable {F : FTy → Type} [FloatOps F]

section
variable {c : Dev nD} {R : sProp (MT nD τ sig Unit (Elt F) ℕ (UR sig nD τ) ℕ)} {D : Defs nD τ sig (Elt F) Λ₀}

/-- The kernel body keeps the nine windows it is called with. -/
theorem safe_body (i : grid0.Coords) (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg10 : Memref sig .tc .vmem S2048x128 .f32) (harg10 : arg10.IsWhole)
    (h2 : Has c R arg2) (h3 : Has c R arg3) (h4 : Has c R arg4) (h5 : Has c R arg5) (h6 : Has c R arg6) (h7 : Has c R arg7)
    (h8 : Has c R arg8) (h9 : Has c R arg9) (h10 : Has c R arg10) :
    Safe D c R (cc0_dil_bwd_0 (F := F) i arg2 harg2 arg3 harg3 arg4 harg4 arg5 harg5 arg6 harg6 arg7 harg7 arg8 harg8 arg9 harg9 arg10 harg10) := by
  rw [cc0_dil_bwd_0_eq_skeleton]
  unfold cc0_dil_bwd_0_skel k0_t1_body
  repeat' first
    | assumption
    | with_reducible refine safe_bind ?_ fun _ => ?_
    | with_reducible exact safe_pure _
    | with_reducible refine safe_load ?_
    | with_reducible refine safe_store ?_
    | with_reducible refine safe_for _ _ _ fun _ _ => ?_
    | rw [k0_part1_eq_skeleton]; unfold k0_part1_skel | rw [k0_part2_eq_skeleton]; unfold k0_part2_skel | rw [k0_part3_eq_skeleton]; unfold k0_part3_skel | rw [k0_part4_eq_skeleton]; unfold k0_part4_skel | rw [k0_part5_eq_skeleton]; unfold k0_part5_skel | rw [k0_part6_eq_skeleton]; unfold k0_part6_skel | rw [k0_part7_eq_skeleton]; unfold k0_part7_skel | rw [k0_part8_eq_skeleton]; unfold k0_part8_skel | rw [k0_part9_eq_skeleton]; unfold k0_part9_skel | rw [k0_part10_eq_skeleton]; unfold k0_part10_skel | rw [k0_part11_eq_skeleton]; unfold k0_part11_skel
    | split

end

variable (m : (ℓ : Loc nD τ sig) → Buf (Elt F) ℓ) (ρ : Dev nD → PrngReg)

/-- The proof data of the run: nothing is said of what the windows hold. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What the core holds at a point, before and after the body. -/
def keep (c : Dev nD) (t : Fin cfg0.N) : sProp (MT nD τ sig Unit (Elt F) ℕ (UR sig nD τ) ℕ) :=
  iprop((dats m 0 c).Φ t.castSucc ∗ (dats m 0 c).owesAt () t.castSucc
    ∗ Held c (st0_0 t) ∗ Held c (st0_1 t) ∗ Held c (st0_2 t) ∗ Held c (st0_3 t) ∗ Held c (st0_4 t) ∗ Held c (st0_5 t)
    ∗ Held c (st0_6 t) ∗ Held c (st0_7 t) ∗ Held c (st0_8 t))

theorem sound_body (c : Dev nD) (t : Fin cfg0.N) :
    keep m c t ⊢ wp frame (wpE (defs₀ (F := F)) Variants.none (c : Thread nD τ) none) Set.univ (bodyAt0 t) (fun _ => keep m c t) := by
  refine safe_body (c := c) (R := keep m c t) (D := defs₀ (F := F)) _ _ _ _ _ _ _ _ _ _ _ _ _ _ _ _ _ _ _ ?_ ?_ ?_ ?_ ?_ ?_ ?_ ?_ ?_ <;>
    unfold keep <;> repeat first | exact has_last _ | exact has_head _ | refine has_tail ?_

set_option backward.isDefEq.respectTransparency.types false in
theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel2Ideal.Gen

end
-- ==== Proof.Dil1RunI.lean ====
/-
  What `Kernel3Ideal` computes it stores in its three result windows; it loads from and stores into its nine windows only.
  So its argument arrays end unchanged and its semaphores at zero, whatever the windows hold.
-/
module

public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.Safe

@[expose] public section

set_option maxRecDepth 16384

noncomputable section

namespace Cert.Kernel3Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Safe

variable {F : FTy → Type} [FloatOps F]

section
variable {c : Dev nD} {R : sProp (MT nD τ sig Unit (Elt F) ℕ (UR sig nD τ) ℕ)} {D : Defs nD τ sig (Elt F) Λ₀}

/-- The kernel body keeps the nine windows it is called with. -/
theorem safe_body (i : grid0.Coords) (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg10 : Memref sig .tc .vmem S2048x128 .f32) (harg10 : arg10.IsWhole)
    (h2 : Has c R arg2) (h3 : Has c R arg3) (h4 : Has c R arg4) (h5 : Has c R arg5) (h6 : Has c R arg6) (h7 : Has c R arg7)
    (h8 : Has c R arg8) (h9 : Has c R arg9) (h10 : Has c R arg10) :
    Safe D c R (cc0_dil_bwd_1 (F := F) i arg2 harg2 arg3 harg3 arg4 harg4 arg5 harg5 arg6 harg6 arg7 harg7 arg8 harg8 arg9 harg9 arg10 harg10) := by
  rw [cc0_dil_bwd_1_eq_skeleton]
  unfold cc0_dil_bwd_1_skel k0_t1_body
  repeat' first
    | assumption
    | with_reducible refine safe_bind ?_ fun _ => ?_
    | with_reducible exact safe_pure _
    | with_reducible refine safe_load ?_
    | with_reducible refine safe_store ?_
    | with_reducible refine safe_for _ _ _ fun _ _ => ?_
    | rw [k0_part1_eq_skeleton]; unfold k0_part1_skel | rw [k0_part2_eq_skeleton]; unfold k0_part2_skel | rw [k0_part3_eq_skeleton]; unfold k0_part3_skel | rw [k0_part4_eq_skeleton]; unfold k0_part4_skel | rw [k0_part5_eq_skeleton]; unfold k0_part5_skel | rw [k0_part6_eq_skeleton]; unfold k0_part6_skel | rw [k0_part7_eq_skeleton]; unfold k0_part7_skel | rw [k0_part8_eq_skeleton]; unfold k0_part8_skel | rw [k0_part9_eq_skeleton]; unfold k0_part9_skel | rw [k0_part10_eq_skeleton]; unfold k0_part10_skel | rw [k0_part11_eq_skeleton]; unfold k0_part11_skel | rw [k0_part12_eq_skeleton]; unfold k0_part12_skel | rw [k0_part13_eq_skeleton]; unfold k0_part13_skel
    | split

end

variable (m : (ℓ : Loc nD τ sig) → Buf (Elt F) ℓ) (ρ : Dev nD → PrngReg)

/-- The proof data of the run: nothing is said of what the windows hold. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What the core holds at a point, before and after the body. -/
def keep (c : Dev nD) (t : Fin cfg0.N) : sProp (MT nD τ sig Unit (Elt F) ℕ (UR sig nD τ) ℕ) :=
  iprop((dats m 0 c).Φ t.castSucc ∗ (dats m 0 c).owesAt () t.castSucc
    ∗ Held c (st0_0 t) ∗ Held c (st0_1 t) ∗ Held c (st0_2 t) ∗ Held c (st0_3 t) ∗ Held c (st0_4 t) ∗ Held c (st0_5 t)
    ∗ Held c (st0_6 t) ∗ Held c (st0_7 t) ∗ Held c (st0_8 t))

theorem sound_body (c : Dev nD) (t : Fin cfg0.N) :
    keep m c t ⊢ wp frame (wpE (defs₀ (F := F)) Variants.none (c : Thread nD τ) none) Set.univ (bodyAt0 t) (fun _ => keep m c t) := by
  refine safe_body (c := c) (R := keep m c t) (D := defs₀ (F := F)) _ _ _ _ _ _ _ _ _ _ _ _ _ _ _ _ _ _ _ ?_ ?_ ?_ ?_ ?_ ?_ ?_ ?_ ?_ <;>
    unfold keep <;> repeat first | exact has_last _ | exact has_head _ | refine has_tail ?_

set_option backward.isDefEq.respectTransparency.types false in
theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel3Ideal.Gen

end
-- ==== Proof.Dil2RunI.lean ====
/-
  What `Kernel4Ideal` computes it stores in its three result windows; it loads from and stores into its nine windows only.
  So its argument arrays end unchanged and its semaphores at zero, whatever the windows hold.
-/
module

public import proofs.«01_k».proof.Proof.Gen.Kernel4Ideal.Frame
public import proofs.«01_k».proof.Proof.Gen.Kernel4Ideal.Skeleton
public import proofs.«01_k».proof.Proof.Gen.Kernel4Ideal.Points
public import proofs.«01_k».proof.Proof.Safe

@[expose] public section

set_option maxRecDepth 16384

noncomputable section

namespace Cert.Kernel4Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Safe

variable {F : FTy → Type} [FloatOps F]

section
variable {c : Dev nD} {R : sProp (MT nD τ sig Unit (Elt F) ℕ (UR sig nD τ) ℕ)} {D : Defs nD τ sig (Elt F) Λ₀}

/-- The kernel body keeps the nine windows it is called with. -/
theorem safe_body (i : grid0.Coords) (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x128 .f32) (harg8 : arg8.IsWhole) (arg9 : Memref sig .tc .vmem S2048x128 .f32) (harg9 : arg9.IsWhole)
    (arg10 : Memref sig .tc .vmem S2048x128 .f32) (harg10 : arg10.IsWhole)
    (h2 : Has c R arg2) (h3 : Has c R arg3) (h4 : Has c R arg4) (h5 : Has c R arg5) (h6 : Has c R arg6) (h7 : Has c R arg7)
    (h8 : Has c R arg8) (h9 : Has c R arg9) (h10 : Has c R arg10) :
    Safe D c R (cc0_dil_bwd_2 (F := F) i arg2 harg2 arg3 harg3 arg4 harg4 arg5 harg5 arg6 harg6 arg7 harg7 arg8 harg8 arg9 harg9 arg10 harg10) := by
  rw [cc0_dil_bwd_2_eq_skeleton]
  unfold cc0_dil_bwd_2_skel k0_t1_body
  repeat' first
    | assumption
    | with_reducible refine safe_bind ?_ fun _ => ?_
    | with_reducible exact safe_pure _
    | with_reducible refine safe_load ?_
    | with_reducible refine safe_store ?_
    | with_reducible refine safe_for _ _ _ fun _ _ => ?_
    | rw [k0_part1_eq_skeleton]; unfold k0_part1_skel | rw [k0_part2_eq_skeleton]; unfold k0_part2_skel | rw [k0_part3_eq_skeleton]; unfold k0_part3_skel | rw [k0_part4_eq_skeleton]; unfold k0_part4_skel | rw [k0_part5_eq_skeleton]; unfold k0_part5_skel | rw [k0_part6_eq_skeleton]; unfold k0_part6_skel | rw [k0_part7_eq_skeleton]; unfold k0_part7_skel | rw [k0_part8_eq_skeleton]; unfold k0_part8_skel | rw [k0_part9_eq_skeleton]; unfold k0_part9_skel | rw [k0_part10_eq_skeleton]; unfold k0_part10_skel | rw [k0_part11_eq_skeleton]; unfold k0_part11_skel | rw [k0_part12_eq_skeleton]; unfold k0_part12_skel | rw [k0_part13_eq_skeleton]; unfold k0_part13_skel
    | split

end

variable (m : (ℓ : Loc nD τ sig) → Buf (Elt F) ℓ) (ρ : Dev nD → PrngReg)

/-- The proof data of the run: nothing is said of what the windows hold. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What the core holds at a point, before and after the body. -/
def keep (c : Dev nD) (t : Fin cfg0.N) : sProp (MT nD τ sig Unit (Elt F) ℕ (UR sig nD τ) ℕ) :=
  iprop((dats m 0 c).Φ t.castSucc ∗ (dats m 0 c).owesAt () t.castSucc
    ∗ Held c (st0_0 t) ∗ Held c (st0_1 t) ∗ Held c (st0_2 t) ∗ Held c (st0_3 t) ∗ Held c (st0_4 t) ∗ Held c (st0_5 t)
    ∗ Held c (st0_6 t) ∗ Held c (st0_7 t) ∗ Held c (st0_8 t))

theorem sound_body (c : Dev nD) (t : Fin cfg0.N) :
    keep m c t ⊢ wp frame (wpE (defs₀ (F := F)) Variants.none (c : Thread nD τ) none) Set.univ (bodyAt0 t) (fun _ => keep m c t) := by
  refine safe_body (c := c) (R := keep m c t) (D := defs₀ (F := F)) _ _ _ _ _ _ _ _ _ _ _ _ _ _ _ _ _ _ _ ?_ ?_ ?_ ?_ ?_ ?_ ?_ ?_ ?_ <;>
    unfold keep <;> repeat first | exact has_last _ | exact has_head _ | refine has_tail ?_

set_option backward.isDefEq.respectTransparency.types false in
theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel4Ideal.Gen

end
-- ==== Proof.NaRun.lean ====
/-
  What `Kernel5Ideal` computes it stores in its two result windows; it loads from and stores into its nine windows only.
  So its argument arrays end unchanged and its semaphores at zero, whatever the windows hold.
-/
module

public import proofs.«01_k».proof.Proof.Gen.Kernel5Ideal.Frame
public import proofs.«01_k».proof.Proof.Gen.Kernel5Ideal.Skeleton
public import proofs.«01_k».proof.Proof.Gen.Kernel5Ideal.Points
public import proofs.«01_k».proof.Proof.Safe

@[expose] public section

set_option maxRecDepth 16384

noncomputable section

namespace Cert.Kernel5Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Safe

variable {F : FTy → Type} [FloatOps F]

section
variable {c : Dev nD} {R : sProp (MT nD τ sig Unit (Elt F) ℕ (UR sig nD τ) ℕ)} {D : Defs nD τ sig (Elt F) Λ₀}

set_option maxHeartbeats 4000000 in
/-- The kernel body keeps the nine windows it is called with. -/
theorem safe_body (i : grid0.Coords) (arg2 : Memref sig .tc .vmem S2048x128 .f32) (harg2 : arg2.IsWhole) (arg3 : Memref sig .tc .vmem S2048x128 .f32) (harg3 : arg3.IsWhole)
    (arg4 : Memref sig .tc .vmem S2048x128 .f32) (harg4 : arg4.IsWhole) (arg5 : Memref sig .tc .vmem S1x8x512x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S1x1x32x128 .f32) (harg8 : arg8.IsWhole) (arg9 : Memref sig .tc .vmem S3x2048x128 .f32) (harg9 : arg9.IsWhole)
    (arg10 : Memref sig .tc .vmem S1x8x512x128 .f32) (harg10 : arg10.IsWhole)
    (h2 : Has c R arg2) (h3 : Has c R arg3) (h4 : Has c R arg4) (h5 : Has c R arg5) (h6 : Has c R arg6) (h7 : Has c R arg7)
    (h8 : Has c R arg8) (h9 : Has c R arg9) (h10 : Has c R arg10) :
    Safe D c R (cc0_na_bwd (F := F) i arg2 harg2 arg3 harg3 arg4 harg4 arg5 harg5 arg6 harg6 arg7 harg7 arg8 harg8 arg9 harg9 arg10 harg10) := by
  rw [cc0_na_bwd_eq_skeleton]
  unfold cc0_na_bwd_skel k0_t1_body
  repeat' first
    | assumption
    | with_reducible refine safe_bind ?_ fun _ => ?_
    | with_reducible exact safe_pure _
    | with_reducible refine safe_load ?_
    | with_reducible refine safe_store ?_
    | with_reducible refine safe_for _ _ _ fun _ _ => ?_
    | rw [k0_part1_eq_skeleton]; unfold k0_part1_skel | rw [k0_part2_eq_skeleton]; unfold k0_part2_skel | rw [k0_part3_eq_skeleton]; unfold k0_part3_skel | rw [k0_part4_eq_skeleton]; unfold k0_part4_skel | rw [k0_part5_eq_skeleton]; unfold k0_part5_skel | rw [k0_part6_eq_skeleton]; unfold k0_part6_skel | rw [k0_part7_eq_skeleton]; unfold k0_part7_skel | rw [k0_part8_eq_skeleton]; unfold k0_part8_skel | rw [k0_part9_eq_skeleton]; unfold k0_part9_skel | rw [k0_part10_eq_skeleton]; unfold k0_part10_skel | rw [k0_part11_eq_skeleton]; unfold k0_part11_skel
    | split
    | dsimp only

end

variable (m : (ℓ : Loc nD τ sig) → Buf (Elt F) ℓ) (ρ : Dev nD → PrngReg)

/-- The proof data of the run: nothing is said of what the windows hold. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What the core holds at a point, before and after the body. -/
def keep (c : Dev nD) (t : Fin cfg0.N) : sProp (MT nD τ sig Unit (Elt F) ℕ (UR sig nD τ) ℕ) :=
  iprop((dats m 0 c).Φ t.castSucc ∗ (dats m 0 c).owesAt () t.castSucc
    ∗ Held c (st0_0 t) ∗ Held c (st0_1 t) ∗ Held c (st0_2 t) ∗ Held c (st0_3 t) ∗ Held c (st0_4 t) ∗ Held c (st0_5 t)
    ∗ Held c (st0_6 t) ∗ Held c (st0_7 t) ∗ Held c (st0_8 t))

theorem sound_body (c : Dev nD) (t : Fin cfg0.N) :
    keep m c t ⊢ wp frame (wpE (defs₀ (F := F)) Variants.none (c : Thread nD τ) none) Set.univ (bodyAt0 t) (fun _ => keep m c t) := by
  refine safe_body (c := c) (R := keep m c t) (D := defs₀ (F := F)) _ _ _ _ _ _ _ _ _ _ _ _ _ _ _ _ _ _ _ ?_ ?_ ?_ ?_ ?_ ?_ ?_ ?_ ?_ <;>
    unfold keep <;> repeat first | exact has_last _ | exact has_head _ | refine has_tail ?_

set_option backward.isDefEq.respectTransparency.types false in
theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel5Ideal.Gen

end
-- ==== Proof.LoopFrame.lean ====
/- The attentions' calls have the text of their readings over the extended reals, so those readings' runs are their own. -/
module

public import proofs.«01_k».proof.Defs
public import proofs.«01_k».proof.Proof.Dil0RunI
public import proofs.«01_k».proof.Proof.Dil1RunI
public import proofs.«01_k».proof.Proof.Dil2RunI
public import proofs.«01_k».proof.Proof.NaRun
public import proofs.«01_k».proof.Proof.Gen.Kernel2
public import proofs.«01_k».proof.Proof.Gen.Kernel3
public import proofs.«01_k».proof.Proof.Gen.Kernel4
public import proofs.«01_k».proof.Proof.Gen.Kernel5

@[expose] public section

set_option maxRecDepth 16384

noncomputable section

open Idealize.ShloMosaic Idealize.ShloMosaic.TcCoe Idealize.SL.Sem

namespace Cert.LoopFrame

set_option maxHeartbeats 4000000 in
/-- The dilated attention of step 1: its arguments end unchanged and its semaphores at zero. -/
theorem dil0 : Cert.quiescent_Kernel2 := fun m g _ => cast (by sl_kernel_rfl) (Cert.Kernel2Ideal.Gen.frame (F := Bits) m g)

set_option maxHeartbeats 4000000 in
/-- The dilated attention of step 4: its arguments end unchanged and its semaphores at zero. -/
theorem dil1 : Cert.quiescent_Kernel3 := fun m g _ => cast (by sl_kernel_rfl) (Cert.Kernel3Ideal.Gen.frame (F := Bits) m g)

set_option maxHeartbeats 4000000 in
/-- The dilated attention of step 16: its arguments end unchanged and its semaphores at zero. -/
theorem dil2 : Cert.quiescent_Kernel4 := fun m g _ => cast (by sl_kernel_rfl) (Cert.Kernel4Ideal.Gen.frame (F := Bits) m g)

set_option maxHeartbeats 4000000 in
/-- The neighbourhood attention: its arguments end unchanged and its semaphores at zero. -/
theorem near : Cert.quiescent_Kernel5 := fun m g _ => cast (by sl_kernel_rfl) (Cert.Kernel5Ideal.Gen.frame (F := Bits) m g)

end Cert.LoopFrame
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_mix
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_ffn
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Loops
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Loops
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Loops
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Loops
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Loops
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Loops
public import proofs.«01_k».proof.Proof.Gen.Kernel4Ideal.Frame
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Pre_finite_ffnf
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Loops
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Loops
public import proofs.«01_k».proof.Proof.Gen.Kernel5Ideal.Frame
public import proofs.«01_k».proof.Proof.Gen.Pre_finite_dbias
public import proofs.«01_k».proof.Proof.CombValue
public import proofs.«01_k».proof.Proof.Norm1Value
public import proofs.«01_k».proof.Proof.Norm2Value
public import proofs.«01_k».proof.Proof.LossValue
public import proofs.«01_k».proof.Proof.RopeValue
public import proofs.«01_k».proof.Proof.MergeValue
public import proofs.«01_k».proof.Proof.FfnValue
public import proofs.«01_k».proof.Proof.NormFValue
public import proofs.«01_k».proof.Proof.CombFValue
public import proofs.«01_k».proof.Proof.MergeFValue
public import proofs.«01_k».proof.Proof.FfnFValue
public import proofs.«01_k».proof.Proof.DownValue
public import proofs.«01_k».proof.Proof.OutPValue
public import proofs.«01_k».proof.Proof.MmRowsValue
public import proofs.«01_k».proof.Proof.MmColsValue
public import proofs.«01_k».proof.Proof.AdamValue
public import proofs.«01_k».proof.Proof.SumAdamValue
public import proofs.«01_k».proof.Proof.RopeFValue
public import proofs.«01_k».proof.Proof.DbiasValue
public import proofs.«01_k».proof.Proof.LoopFrame
public import Idealize.ShloMosaic.Adequacy
public import Idealize.ShloMosaic.Init

@[expose] public section

noncomputable section

namespace Cert.Proof

open Idealize.ShloMosaic Idealize.SL.Sem Cert.Kernel

/-- The mixture's reference runs, its arguments unchanged and every counter at zero. -/
theorem frame_ref : Cert.quiescent_ReferenceIdeal := by
  intro m g _
  exact (θ_run _ _ _).mono (fun r h => ⟨fun c => (h c).2.2.2.2.2.2, sem_eq_zero_of_no_sems (by decide) r.2⟩) (Cert.ReferenceIdeal.Value.run m g)

/-- The first norm's reference runs, its arguments unchanged and every counter at zero. -/
theorem frame_ref10 : Cert.quiescent_Reference10Ideal := by
  intro m g _
  exact (θ_run _ _ _).mono (fun r h => ⟨fun c => (h c).2.2.2, sem_eq_zero_of_no_sems (by decide) r.2⟩) (Cert.Reference10Ideal.Value.run m g)

/-- The second norm's reference runs, its arguments unchanged and every counter at zero. -/
theorem frame_ref11 : Cert.quiescent_Reference11Ideal := by
  intro m g _
  exact (θ_run _ _ _).mono (fun r h => ⟨fun c => (h c).2.2.2, sem_eq_zero_of_no_sems (by decide) r.2⟩) (Cert.Reference11Ideal.Value.run m g)

/-- The loss's reference runs, its arguments unchanged and every counter at zero. -/
theorem frame_ref8 : Cert.quiescent_Reference8Ideal := by
  intro m g _
  exact (θ_run _ _ _).mono (fun r h => ⟨fun c => (h c).2.2.2.2, sem_eq_zero_of_no_sems (by decide) r.2⟩) (Cert.Reference8Ideal.Value.run m g)

/-- The rotary positions' reference runs, its arguments unchanged and every counter at zero. -/
theorem frame_ref9 : Cert.quiescent_Reference9Ideal := by
  intro m g _
  exact (θ_run _ _ _).mono (fun r h => ⟨fun c => (h c).2, sem_eq_zero_of_no_sems (by decide) r.2⟩) (Cert.Reference9Ideal.Value.run m g)

/-- The gated merge's reference runs, its arguments unchanged and every counter at zero. -/
theorem frame_ref6 : Cert.quiescent_Reference6Ideal := by
  intro m g _
  exact (θ_run _ _ _).mono (fun r h => ⟨fun c => (h c).2.2.2, sem_eq_zero_of_no_sems (by decide) r.2⟩) (Cert.Reference6Ideal.Value.run m g)

/-- The feed-forward gate's reference runs, its arguments unchanged and every counter at zero. -/
theorem frame_ref7 : Cert.quiescent_Reference7Ideal := by
  intro m g _
  exact (θ_run _ _ _).mono (fun r h => ⟨fun c => (h c).2, sem_eq_zero_of_no_sems (by decide) r.2⟩) (Cert.Reference7Ideal.Value.run m g)

/-- The forward norm's reference runs, its arguments unchanged and every counter at zero. -/
theorem frame_ref13 : Cert.quiescent_Reference13Ideal := by
  intro m g _
  exact (θ_run _ _ _).mono (fun r h => ⟨fun c => (h c).2, sem_eq_zero_of_no_sems (by decide) r.2⟩) (Cert.Reference13Ideal.Value.run m g)

/-- The forward mixture's reference runs, its arguments unchanged and every counter at zero. -/
theorem frame_ref16 : Cert.quiescent_Reference16Ideal := by
  intro m g _
  exact (θ_run _ _ _).mono (fun r h => ⟨fun c => (h c).2, sem_eq_zero_of_no_sems (by decide) r.2⟩) (Cert.Reference16Ideal.Value.run m g)

/-- The forward merge's reference runs, its arguments unchanged and every counter at zero. -/
theorem frame_ref14 : Cert.quiescent_Reference14Ideal := by
  intro m g _
  exact (θ_run _ _ _).mono (fun r h => ⟨fun c => (h c).2.2.2, sem_eq_zero_of_no_sems (by decide) r.2⟩) (Cert.Reference14Ideal.Value.run m g)

/-- The forward activation's reference runs, its arguments unchanged and every counter at zero. -/
theorem frame_ref15 : Cert.quiescent_Reference15Ideal := by
  intro m g _
  exact (θ_run _ _ _).mono (fun r h => ⟨fun c => (h c).2.2, sem_eq_zero_of_no_sems (by decide) r.2⟩) (Cert.Reference15Ideal.Value.run m g)

/-- The output product's reference runs, its arguments unchanged and every counter at zero. -/
theorem frame_ref17 : Cert.quiescent_Reference17Ideal := by
  intro m g _
  exact (θ_run _ _ _).mono (fun r h => ⟨fun c => (h c).2.2, sem_eq_zero_of_no_sems (by decide) r.2⟩) (Cert.Reference17Ideal.Value.run m g)

/-- The mixer product's reference runs, its arguments unchanged and every counter at zero. -/
theorem frame_ref21 : Cert.quiescent_Reference21Ideal := by
  intro m g _
  exact (θ_run _ _ _).mono (fun r h => ⟨fun c => (h c).2.2, sem_eq_zero_of_no_sems (by decide) r.2⟩) (Cert.Reference21Ideal.Value.run m g)

/-- The plain product's reference runs, its arguments unchanged and every counter at zero. -/
theorem frame_ref19 : Cert.quiescent_Reference19Ideal := by
  intro m g _
  exact (θ_run _ _ _).mono (fun r h => ⟨fun c => (h c).2, sem_eq_zero_of_no_sems (by decide) r.2⟩) (Cert.Reference19Ideal.Value.run m g)

/-- The product over the rows' reference runs, its arguments unchanged and every counter at zero. -/
theorem frame_ref20 : Cert.quiescent_Reference20Ideal := by
  intro m g _
  exact (θ_run _ _ _).mono (fun r h => ⟨fun c => (h c).2, sem_eq_zero_of_no_sems (by decide) r.2⟩) (Cert.Reference20Ideal.Value.run m g)

/-- The optimiser's reference runs, its arguments unchanged and every counter at zero. -/
theorem frame_ref12 : Cert.quiescent_Reference12Ideal := by
  intro m g _
  exact (θ_run _ _ _).mono (fun r h => ⟨fun c => (h c).2.2.2, sem_eq_zero_of_no_sems (by decide) r.2⟩) (Cert.Reference12Ideal.Value.run m g)

/-- The summed optimiser's reference runs, its arguments unchanged and every counter at zero. -/
theorem frame_ref18 : Cert.quiescent_Reference18Ideal := by
  intro m g _
  exact (θ_run _ _ _).mono (fun r h => ⟨fun c => (h c).2.2.2.2, sem_eq_zero_of_no_sems (by decide) r.2⟩) (Cert.Reference18Ideal.Value.run m g)

/-- The input projection's reference runs, its arguments unchanged and every counter at zero. -/
theorem frame_ref22 : Cert.quiescent_Reference22Ideal := by
  intro m g _
  exact (θ_run _ _ _).mono (fun r h => ⟨fun c => (h c).2, sem_eq_zero_of_no_sems (by decide) r.2⟩) (Cert.Reference22Ideal.Value.run m g)

/-- The bias lookup's reference runs, its argument unchanged and every counter at zero. -/
theorem frame_ref23 : Cert.quiescent_Reference23Ideal := by
  intro m g _
  exact (θ_run _ _ _).mono (fun r h => ⟨fun c => (h c).2, sem_eq_zero_of_no_sems (by decide) r.2⟩) (Cert.Reference23Ideal.Value.run m g)

theorem claim : Cert.Claim := ⟨
  Cert.Kernel.Gen.facts,
  Cert.KernelIdeal.Gen.facts,
  Cert.ReferenceIdeal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel13.Gen.facts,
  Cert.Kernel13Ideal.Gen.facts,
  Cert.Reference13Ideal.Gen.facts,
  Cert.Kernel16.Gen.facts,
  Cert.Kernel16Ideal.Gen.facts,
  Cert.Reference16Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel17.Gen.facts,
  Cert.Kernel17Ideal.Gen.facts,
  Cert.Reference17Ideal.Gen.facts,
  Cert.Kernel21.Gen.facts,
  Cert.Kernel21Ideal.Gen.facts,
  Cert.Reference21Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel12.Gen.facts,
  Cert.Kernel12Ideal.Gen.facts,
  Cert.Reference12Ideal.Gen.facts,
  Cert.Kernel18.Gen.facts,
  Cert.Kernel18Ideal.Gen.facts,
  Cert.Reference18Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel2.Gen.facts,
  Cert.Kernel2Ideal.Gen.facts,
  Cert.Kernel3.Gen.facts,
  Cert.Kernel3Ideal.Gen.facts,
  Cert.Kernel4.Gen.facts,
  Cert.Kernel4Ideal.Gen.facts,
  Cert.Kernel5.Gen.facts,
  Cert.Kernel5Ideal.Gen.facts,
  Cert.Pre_finite_mix.Gen.facts,
  Cert.Pre_finite_ffn.Gen.facts,
  Cert.Pre_finite_ffnf.Gen.facts,
  Cert.Pre_finite_dbias.Gen.facts,
  fun m g _ => Cert.Kernel.Gen.frame m g,
  fun m g _ => Cert.KernelIdeal.Gen.frame m g,
  fun m g _ => Cert.KernelIdeal.Gen.frame m g,
  frame_ref,
  fun m g _ => frame_ref m g trivial,
  fun m g _ => Cert.Kernel10.Gen.frame m g,
  fun m g _ => Cert.Kernel10Ideal.Gen.frame m g,
  frame_ref10,
  fun m g _ => Cert.Kernel11.Gen.frame m g,
  fun m g _ => Cert.Kernel11Ideal.Gen.frame m g,
  frame_ref11,
  fun m g _ => Cert.Kernel8.Gen.frame m g,
  fun m g _ => Cert.Kernel8Ideal.Gen.frame m g,
  frame_ref8,
  fun m g _ => Cert.Kernel9.Gen.frame m g,
  fun m g _ => Cert.Kernel9Ideal.Gen.frame m g,
  frame_ref9,
  fun m g _ => Cert.Kernel6.Gen.frame m g,
  fun m g _ => Cert.Kernel6Ideal.Gen.frame m g,
  frame_ref6,
  fun m g _ => Cert.Kernel7.Gen.frame m g,
  fun m g _ => Cert.Kernel7Ideal.Gen.frame m g,
  fun m g _ => Cert.Kernel7Ideal.Gen.frame m g,
  frame_ref7,
  fun m g _ => frame_ref7 m g trivial,
  fun m g _ => Cert.Kernel13.Gen.frame m g,
  fun m g _ => Cert.Kernel13Ideal.Gen.frame m g,
  frame_ref13,
  fun m g _ => Cert.Kernel16.Gen.frame m g,
  fun m g _ => Cert.Kernel16Ideal.Gen.frame m g,
  frame_ref16,
  fun m g _ => Cert.Kernel14.Gen.frame m g,
  fun m g _ => Cert.Kernel14Ideal.Gen.frame m g,
  frame_ref14,
  fun m g _ => Cert.Kernel15.Gen.frame m g,
  fun m g _ => Cert.Kernel15Ideal.Gen.frame m g,
  fun m g _ => Cert.Kernel15Ideal.Gen.frame m g,
  frame_ref15,
  fun m g _ => frame_ref15 m g trivial,
  fun m g _ => Cert.Kernel17.Gen.frame m g,
  fun m g _ => Cert.Kernel17Ideal.Gen.frame m g,
  frame_ref17,
  fun m g _ => Cert.Kernel21.Gen.frame m g,
  fun m g _ => Cert.Kernel21Ideal.Gen.frame m g,
  frame_ref21,
  fun m g _ => Cert.Kernel19.Gen.frame m g,
  fun m g _ => Cert.Kernel19Ideal.Gen.frame m g,
  frame_ref19,
  fun m g _ => Cert.Kernel20.Gen.frame m g,
  fun m g _ => Cert.Kernel20Ideal.Gen.frame m g,
  frame_ref20,
  fun m g _ => Cert.Kernel12.Gen.frame m g,
  fun m g _ => Cert.Kernel12Ideal.Gen.frame m g,
  frame_ref12,
  fun m g _ => Cert.Kernel18.Gen.frame m g,
  fun m g _ => Cert.Kernel18Ideal.Gen.frame m g,
  frame_ref18,
  fun m g _ => Cert.Kernel22.Gen.frame m g,
  fun m g _ => Cert.Kernel22Ideal.Gen.frame m g,
  frame_ref22,
  fun m g _ => Cert.Kernel23.Gen.frame m g,
  fun m g _ => Cert.Kernel23Ideal.Gen.frame m g,
  fun m g _ => Cert.Kernel23Ideal.Gen.frame m g,
  frame_ref23,
  fun m g _ => frame_ref23 m g trivial,
  Cert.LoopFrame.dil0,
  fun m g _ => Cert.Kernel2Ideal.Gen.frame m g,
  Cert.LoopFrame.dil1,
  fun m g _ => Cert.Kernel3Ideal.Gen.frame m g,
  Cert.LoopFrame.dil2,
  fun m g _ => Cert.Kernel4Ideal.Gen.frame m g,
  Cert.LoopFrame.near,
  fun m g _ => Cert.Kernel5Ideal.Gen.frame m g,
  trivial,
  Cert.CombValue.value,
  trivial,
  Cert.Norm1Value.value,
  trivial,
  Cert.Norm2Value.value,
  trivial,
  Cert.LossValue.value,
  trivial,
  Cert.RopeValue.value,
  trivial,
  Cert.MergeValue.value,
  trivial,
  Cert.FfnValue.value,
  trivial,
  Cert.NormFValue.value,
  trivial,
  Cert.CombFValue.value,
  trivial,
  Cert.MergeFValue.value,
  trivial,
  Cert.FfnFValue.value,
  trivial,
  Cert.DownValue.value,
  trivial,
  Cert.OutPValue.value,
  trivial,
  Cert.MmRowsValue.value,
  trivial,
  Cert.MmColsValue.value,
  trivial,
  Cert.AdamValue.value,
  trivial,
  Cert.SumAdamValue.value,
  trivial,
  Cert.RopeFValue.value,
  trivial,
  Cert.DbiasValue.value,
  trivial,
  trivial,
  trivial,
  trivial⟩

end Cert.Proof

end
